-- ==== Defs.lean ====
def Pre_Sketch (m : (ℓ : Loc Cert.Sketch.nD Cert.Sketch.τ Cert.Sketch.sig) → Buf (Elt Bits) ℓ) : Prop :=
  True

def Pre_SketchIdeal (m : (ℓ : Loc Cert.SketchIdeal.nD Cert.SketchIdeal.τ Cert.SketchIdeal.sig) → Buf (Elt Ideal) ℓ) : Prop :=
  True

def Pre_SketchIdeal_full_rank [hPre_full_rank : Cert.Pre_full_rank.Facts] (m : (ℓ : Loc Cert.SketchIdeal.nD Cert.SketchIdeal.τ Cert.SketchIdeal.sig) → Buf (Elt Ideal) ℓ) : Prop :=
  ∀ c : Dev Cert.SketchIdeal.nD,
    (Cert.Pre_full_rank.fn (F := Ideal) (m ((c.tc : Thread Cert.SketchIdeal.nD Cert.SketchIdeal.τ).loc Cert.SketchIdeal.main_arg0)) (m ((c.tc : Thread Cert.SketchIdeal.nD Cert.SketchIdeal.τ).loc Cert.SketchIdeal.main_arg1)) (m ((c.tc : Thread Cert.SketchIdeal.nD Cert.SketchIdeal.τ).loc Cert.SketchIdeal.main_arg2)) (m ((c.tc : Thread Cert.SketchIdeal.nD Cert.SketchIdeal.τ).loc Cert.SketchIdeal.main_arg3)) (m ((c.tc : Thread Cert.SketchIdeal.nD Cert.SketchIdeal.τ).loc Cert.SketchIdeal.main_arg4))).1 = (fun _ => 1#1)
    ∧ (Cert.Pre_full_rank.fn (F := Ideal) (m ((c.tc : Thread Cert.SketchIdeal.nD Cert.SketchIdeal.τ).loc Cert.SketchIdeal.main_arg0)) (m ((c.tc : Thread Cert.SketchIdeal.nD Cert.SketchIdeal.τ).loc Cert.SketchIdeal.main_arg1)) (m ((c.tc : Thread Cert.SketchIdeal.nD Cert.SketchIdeal.τ).loc Cert.SketchIdeal.main_arg2)) (m ((c.tc : Thread Cert.SketchIdeal.nD Cert.SketchIdeal.τ).loc Cert.SketchIdeal.main_arg3)) (m ((c.tc : Thread Cert.SketchIdeal.nD Cert.SketchIdeal.τ).loc Cert.SketchIdeal.main_arg4))).2.1 = (fun _ => 1#1)
    ∧ (Cert.Pre_full_rank.fn (F := Ideal) (m ((c.tc : Thread Cert.SketchIdeal.nD Cert.SketchIdeal.τ).loc Cert.SketchIdeal.main_arg0)) (m ((c.tc : Thread Cert.SketchIdeal.nD Cert.SketchIdeal.τ).loc Cert.SketchIdeal.main_arg1)) (m ((c.tc : Thread Cert.SketchIdeal.nD Cert.SketchIdeal.τ).loc Cert.SketchIdeal.main_arg2)) (m ((c.tc : Thread Cert.SketchIdeal.nD Cert.SketchIdeal.τ).loc Cert.SketchIdeal.main_arg3)) (m ((c.tc : Thread Cert.SketchIdeal.nD Cert.SketchIdeal.τ).loc Cert.SketchIdeal.main_arg4))).2.2.1 = (fun _ => 1#1)
    ∧ (Cert.Pre_full_rank.fn (F := Ideal) (m ((c.tc : Thread Cert.SketchIdeal.nD Cert.SketchIdeal.τ).loc Cert.SketchIdeal.main_arg0)) (m ((c.tc : Thread Cert.SketchIdeal.nD Cert.SketchIdeal.τ).loc Cert.SketchIdeal.main_arg1)) (m ((c.tc : Thread Cert.SketchIdeal.nD Cert.SketchIdeal.τ).loc Cert.SketchIdeal.main_arg2)) (m ((c.tc : Thread Cert.SketchIdeal.nD Cert.SketchIdeal.τ).loc Cert.SketchIdeal.main_arg3)) (m ((c.tc : Thread Cert.SketchIdeal.nD Cert.SketchIdeal.τ).loc Cert.SketchIdeal.main_arg4))).2.2.2.1 = (fun _ => 1#1)
    ∧ (Cert.Pre_full_rank.fn (F := Ideal) (m ((c.tc : Thread Cert.SketchIdeal.nD Cert.SketchIdeal.τ).loc Cert.SketchIdeal.main_arg0)) (m ((c.tc : Thread Cert.SketchIdeal.nD Cert.SketchIdeal.τ).loc Cert.SketchIdeal.main_arg1)) (m ((c.tc : Thread Cert.SketchIdeal.nD Cert.SketchIdeal.τ).loc Cert.SketchIdeal.main_arg2)) (m ((c.tc : Thread Cert.SketchIdeal.nD Cert.SketchIdeal.τ).loc Cert.SketchIdeal.main_arg3)) (m ((c.tc : Thread Cert.SketchIdeal.nD Cert.SketchIdeal.τ).loc Cert.SketchIdeal.main_arg4))).2.2.2.2.1 = (fun _ => 1#1)
    ∧ (Cert.Pre_full_rank.fn (F := Ideal) (m ((c.tc : Thread Cert.SketchIdeal.nD Cert.SketchIdeal.τ).loc Cert.SketchIdeal.main_arg0)) (m ((c.tc : Thread Cert.SketchIdeal.nD Cert.SketchIdeal.τ).loc Cert.SketchIdeal.main_arg1)) (m ((c.tc : Thread Cert.SketchIdeal.nD Cert.SketchIdeal.τ).loc Cert.SketchIdeal.main_arg2)) (m ((c.tc : Thread Cert.SketchIdeal.nD Cert.SketchIdeal.τ).loc Cert.SketchIdeal.main_arg3)) (m ((c.tc : Thread Cert.SketchIdeal.nD Cert.SketchIdeal.τ).loc Cert.SketchIdeal.main_arg4))).2.2.2.2.2 = (fun _ => 1#1)

def Pre_RefIdeal (m : (ℓ : Loc Cert.RefIdeal.nD Cert.RefIdeal.τ Cert.RefIdeal.sig) → Buf (Elt Ideal) ℓ) : Prop :=
  True

def Pre_RefIdeal_full_rank [hPre_full_rank : Cert.Pre_full_rank.Facts] (m : (ℓ : Loc Cert.RefIdeal.nD Cert.RefIdeal.τ Cert.RefIdeal.sig) → Buf (Elt Ideal) ℓ) : Prop :=
  ∀ c : Dev Cert.RefIdeal.nD,
    (Cert.Pre_full_rank.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4))).1 = (fun _ => 1#1)
    ∧ (Cert.Pre_full_rank.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4))).2.1 = (fun _ => 1#1)
    ∧ (Cert.Pre_full_rank.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4))).2.2.1 = (fun _ => 1#1)
    ∧ (Cert.Pre_full_rank.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4))).2.2.2.1 = (fun _ => 1#1)
    ∧ (Cert.Pre_full_rank.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4))).2.2.2.2.1 = (fun _ => 1#1)
    ∧ (Cert.Pre_full_rank.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4))).2.2.2.2.2 = (fun _ => 1#1)

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Power (m : (ℓ : Loc Cert.Power.nD Cert.Power.τ Cert.Power.sig) → Buf (Elt Bits) ℓ) : Prop :=
  True

def Pre_PowerIdeal (m : (ℓ : Loc Cert.PowerIdeal.nD Cert.PowerIdeal.τ Cert.PowerIdeal.sig) → Buf (Elt Ideal) ℓ) : Prop :=
  True

def Pre_PowerRefIdeal (m : (ℓ : Loc Cert.PowerRefIdeal.nD Cert.PowerRefIdeal.τ Cert.PowerRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def quiescent_Sketch [hSketch : Cert.Sketch.Facts] : Prop :=
  ∀ (m : (ℓ : Loc Cert.Sketch.nD Cert.Sketch.τ Cert.Sketch.sig) → Buf (Elt Bits) ℓ) (g : Dev Cert.Sketch.nD → PrngReg), Pre_Sketch m →
    θ_run (Cert.Sketch.defs (F := Bits)) (onTc (τ := Cert.Sketch.τ) (Cert.Sketch.main (F := Bits))) ⟨m, fun _ => 0, g⟩ (fun r => (∀ c : Dev Cert.Sketch.nD,
      r.2.mem ((c.tc : Thread Cert.Sketch.nD Cert.Sketch.τ).loc Cert.Sketch.main_arg0) = m ((c.tc : Thread Cert.Sketch.nD Cert.Sketch.τ).loc Cert.Sketch.main_arg0)
      ∧ r.2.mem ((c.tc : Thread Cert.Sketch.nD Cert.Sketch.τ).loc Cert.Sketch.main_arg1) = m ((c.tc : Thread Cert.Sketch.nD Cert.Sketch.τ).loc Cert.Sketch.main_arg1)
      ∧ r.2.mem ((c.tc : Thread Cert.Sketch.nD Cert.Sketch.τ).loc Cert.Sketch.main_arg2) = m ((c.tc : Thread Cert.Sketch.nD Cert.Sketch.τ).loc Cert.Sketch.main_arg2)
      ∧ r.2.mem ((c.tc : Thread Cert.Sketch.nD Cert.Sketch.τ).loc Cert.Sketch.main_arg3) = m ((c.tc : Thread Cert.Sketch.nD Cert.Sketch.τ).loc Cert.Sketch.main_arg3)
      ∧ r.2.mem ((c.tc : Thread Cert.Sketch.nD Cert.Sketch.τ).loc Cert.Sketch.main_arg4) = m ((c.tc : Thread Cert.Sketch.nD Cert.Sketch.τ).loc Cert.Sketch.main_arg4))
      ∧ r.2.sem = fun _ => 0)

def quiescent_SketchIdeal [hSketchIdeal : Cert.SketchIdeal.Facts] : Prop :=
  ∀ (m : (ℓ : Loc Cert.SketchIdeal.nD Cert.SketchIdeal.τ Cert.SketchIdeal.sig) → Buf (Elt Ideal) ℓ) (g : Dev Cert.SketchIdeal.nD → PrngReg), Pre_SketchIdeal m →
    θ_run (Cert.SketchIdeal.defs (F := Ideal)) (onTc (τ := Cert.SketchIdeal.τ) (Cert.SketchIdeal.main (F := Ideal))) ⟨m, fun _ => 0, g⟩ (fun r => (∀ c : Dev Cert.SketchIdeal.nD,
      r.2.mem ((c.tc : Thread Cert.SketchIdeal.nD Cert.SketchIdeal.τ).loc Cert.SketchIdeal.main_arg0) = m ((c.tc : Thread Cert.SketchIdeal.nD Cert.SketchIdeal.τ).loc Cert.SketchIdeal.main_arg0)
      ∧ r.2.mem ((c.tc : Thread Cert.SketchIdeal.nD Cert.SketchIdeal.τ).loc Cert.SketchIdeal.main_arg1) = m ((c.tc : Thread Cert.SketchIdeal.nD Cert.SketchIdeal.τ).loc Cert.SketchIdeal.main_arg1)
      ∧ r.2.mem ((c.tc : Thread Cert.SketchIdeal.nD Cert.SketchIdeal.τ).loc Cert.SketchIdeal.main_arg2) = m ((c.tc : Thread Cert.SketchIdeal.nD Cert.SketchIdeal.τ).loc Cert.SketchIdeal.main_arg2)
      ∧ r.2.mem ((c.tc : Thread Cert.SketchIdeal.nD Cert.SketchIdeal.τ).loc Cert.SketchIdeal.main_arg3) = m ((c.tc : Thread Cert.SketchIdeal.nD Cert.SketchIdeal.τ).loc Cert.SketchIdeal.main_arg3)
      ∧ r.2.mem ((c.tc : Thread Cert.SketchIdeal.nD Cert.SketchIdeal.τ).loc Cert.SketchIdeal.main_arg4) = m ((c.tc : Thread Cert.SketchIdeal.nD Cert.SketchIdeal.τ).loc Cert.SketchIdeal.main_arg4))
      ∧ r.2.sem = fun _ => 0)

def quiescent_SketchIdeal_pre_full_rank [hSketchIdeal : Cert.SketchIdeal.Facts] [hPre_full_rank : Cert.Pre_full_rank.Facts] : Prop :=
  ∀ (m : (ℓ : Loc Cert.SketchIdeal.nD Cert.SketchIdeal.τ Cert.SketchIdeal.sig) → Buf (Elt Ideal) ℓ) (g : Dev Cert.SketchIdeal.nD → PrngReg), Pre_SketchIdeal_full_rank m →
    θ_run (Cert.SketchIdeal.defs (F := Ideal)) (onTc (τ := Cert.SketchIdeal.τ) (Cert.SketchIdeal.main (F := Ideal))) ⟨m, fun _ => 0, g⟩ (fun r => (∀ c : Dev Cert.SketchIdeal.nD,
      r.2.mem ((c.tc : Thread Cert.SketchIdeal.nD Cert.SketchIdeal.τ).loc Cert.SketchIdeal.main_arg0) = m ((c.tc : Thread Cert.SketchIdeal.nD Cert.SketchIdeal.τ).loc Cert.SketchIdeal.main_arg0)
      ∧ r.2.mem ((c.tc : Thread Cert.SketchIdeal.nD Cert.SketchIdeal.τ).loc Cert.SketchIdeal.main_arg1) = m ((c.tc : Thread Cert.SketchIdeal.nD Cert.SketchIdeal.τ).loc Cert.SketchIdeal.main_arg1)
      ∧ r.2.mem ((c.tc : Thread Cert.SketchIdeal.nD Cert.SketchIdeal.τ).loc Cert.SketchIdeal.main_arg2) = m ((c.tc : Thread Cert.SketchIdeal.nD Cert.SketchIdeal.τ).loc Cert.SketchIdeal.main_arg2)
      ∧ r.2.mem ((c.tc : Thread Cert.SketchIdeal.nD Cert.SketchIdeal.τ).loc Cert.SketchIdeal.main_arg3) = m ((c.tc : Thread Cert.SketchIdeal.nD Cert.SketchIdeal.τ).loc Cert.SketchIdeal.main_arg3)
      ∧ r.2.mem ((c.tc : Thread Cert.SketchIdeal.nD Cert.SketchIdeal.τ).loc Cert.SketchIdeal.main_arg4) = m ((c.tc : Thread Cert.SketchIdeal.nD Cert.SketchIdeal.τ).loc Cert.SketchIdeal.main_arg4))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4))
      ∧ r.2.sem = fun _ => 0)

def quiescent_RefIdeal_pre_full_rank [hRefIdeal : Cert.RefIdeal.Facts] [hPre_full_rank : Cert.Pre_full_rank.Facts] : Prop :=
  ∀ (m : (ℓ : Loc Cert.RefIdeal.nD Cert.RefIdeal.τ Cert.RefIdeal.sig) → Buf (Elt Ideal) ℓ) (g : Dev Cert.RefIdeal.nD → PrngReg), Pre_RefIdeal_full_rank m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4))
      ∧ r.2.sem = fun _ => 0)

def quiescent_Power [hPower : Cert.Power.Facts] : Prop :=
  ∀ (m : (ℓ : Loc Cert.Power.nD Cert.Power.τ Cert.Power.sig) → Buf (Elt Bits) ℓ) (g : Dev Cert.Power.nD → PrngReg), Pre_Power m →
    θ_run (Cert.Power.defs (F := Bits)) (onTc (τ := Cert.Power.τ) (Cert.Power.main (F := Bits))) ⟨m, fun _ => 0, g⟩ (fun r => (∀ c : Dev Cert.Power.nD,
      r.2.mem ((c.tc : Thread Cert.Power.nD Cert.Power.τ).loc Cert.Power.main_arg0) = m ((c.tc : Thread Cert.Power.nD Cert.Power.τ).loc Cert.Power.main_arg0)
      ∧ r.2.mem ((c.tc : Thread Cert.Power.nD Cert.Power.τ).loc Cert.Power.main_arg1) = m ((c.tc : Thread Cert.Power.nD Cert.Power.τ).loc Cert.Power.main_arg1)
      ∧ r.2.mem ((c.tc : Thread Cert.Power.nD Cert.Power.τ).loc Cert.Power.main_arg2) = m ((c.tc : Thread Cert.Power.nD Cert.Power.τ).loc Cert.Power.main_arg2)
      ∧ r.2.mem ((c.tc : Thread Cert.Power.nD Cert.Power.τ).loc Cert.Power.main_arg3) = m ((c.tc : Thread Cert.Power.nD Cert.Power.τ).loc Cert.Power.main_arg3)
      ∧ r.2.mem ((c.tc : Thread Cert.Power.nD Cert.Power.τ).loc Cert.Power.main_arg4) = m ((c.tc : Thread Cert.Power.nD Cert.Power.τ).loc Cert.Power.main_arg4)
      ∧ r.2.mem ((c.tc : Thread Cert.Power.nD Cert.Power.τ).loc Cert.Power.main_arg5) = m ((c.tc : Thread Cert.Power.nD Cert.Power.τ).loc Cert.Power.main_arg5))
      ∧ r.2.sem = fun _ => 0)

def quiescent_PowerIdeal [hPowerIdeal : Cert.PowerIdeal.Facts] : Prop :=
  ∀ (m : (ℓ : Loc Cert.PowerIdeal.nD Cert.PowerIdeal.τ Cert.PowerIdeal.sig) → Buf (Elt Ideal) ℓ) (g : Dev Cert.PowerIdeal.nD → PrngReg), Pre_PowerIdeal m →
    θ_run (Cert.PowerIdeal.defs (F := Ideal)) (onTc (τ := Cert.PowerIdeal.τ) (Cert.PowerIdeal.main (F := Ideal))) ⟨m, fun _ => 0, g⟩ (fun r => (∀ c : Dev Cert.PowerIdeal.nD,
      r.2.mem ((c.tc : Thread Cert.PowerIdeal.nD Cert.PowerIdeal.τ).loc Cert.PowerIdeal.main_arg0) = m ((c.tc : Thread Cert.PowerIdeal.nD Cert.PowerIdeal.τ).loc Cert.PowerIdeal.main_arg0)
      ∧ r.2.mem ((c.tc : Thread Cert.PowerIdeal.nD Cert.PowerIdeal.τ).loc Cert.PowerIdeal.main_arg1) = m ((c.tc : Thread Cert.PowerIdeal.nD Cert.PowerIdeal.τ).loc Cert.PowerIdeal.main_arg1)
      ∧ r.2.mem ((c.tc : Thread Cert.PowerIdeal.nD Cert.PowerIdeal.τ).loc Cert.PowerIdeal.main_arg2) = m ((c.tc : Thread Cert.PowerIdeal.nD Cert.PowerIdeal.τ).loc Cert.PowerIdeal.main_arg2)
      ∧ r.2.mem ((c.tc : Thread Cert.PowerIdeal.nD Cert.PowerIdeal.τ).loc Cert.PowerIdeal.main_arg3) = m ((c.tc : Thread Cert.PowerIdeal.nD Cert.PowerIdeal.τ).loc Cert.PowerIdeal.main_arg3)
      ∧ r.2.mem ((c.tc : Thread Cert.PowerIdeal.nD Cert.PowerIdeal.τ).loc Cert.PowerIdeal.main_arg4) = m ((c.tc : Thread Cert.PowerIdeal.nD Cert.PowerIdeal.τ).loc Cert.PowerIdeal.main_arg4)
      ∧ r.2.mem ((c.tc : Thread Cert.PowerIdeal.nD Cert.PowerIdeal.τ).loc Cert.PowerIdeal.main_arg5) = m ((c.tc : Thread Cert.PowerIdeal.nD Cert.PowerIdeal.τ).loc Cert.PowerIdeal.main_arg5))
      ∧ r.2.sem = fun _ => 0)

def quiescent_PowerRefIdeal [hPowerRefIdeal : Cert.PowerRefIdeal.Facts] : Prop :=
  ∀ (m : (ℓ : Loc Cert.PowerRefIdeal.nD Cert.PowerRefIdeal.τ Cert.PowerRefIdeal.sig) → Buf (Elt Ideal) ℓ) (g : Dev Cert.PowerRefIdeal.nD → PrngReg), Pre_PowerRefIdeal m →
    θ_run (Cert.PowerRefIdeal.defs (F := Ideal)) (onTc (τ := Cert.PowerRefIdeal.τ) (Cert.PowerRefIdeal.main (F := Ideal))) ⟨m, fun _ => 0, g⟩ (fun r => (∀ c : Dev Cert.PowerRefIdeal.nD,
      r.2.mem ((c.tc : Thread Cert.PowerRefIdeal.nD Cert.PowerRefIdeal.τ).loc Cert.PowerRefIdeal.main_arg0) = m ((c.tc : Thread Cert.PowerRefIdeal.nD Cert.PowerRefIdeal.τ).loc Cert.PowerRefIdeal.main_arg0)
      ∧ r.2.mem ((c.tc : Thread Cert.PowerRefIdeal.nD Cert.PowerRefIdeal.τ).loc Cert.PowerRefIdeal.main_arg1) = m ((c.tc : Thread Cert.PowerRefIdeal.nD Cert.PowerRefIdeal.τ).loc Cert.PowerRefIdeal.main_arg1)
      ∧ r.2.mem ((c.tc : Thread Cert.PowerRefIdeal.nD Cert.PowerRefIdeal.τ).loc Cert.PowerRefIdeal.main_arg2) = m ((c.tc : Thread Cert.PowerRefIdeal.nD Cert.PowerRefIdeal.τ).loc Cert.PowerRefIdeal.main_arg2)
      ∧ r.2.mem ((c.tc : Thread Cert.PowerRefIdeal.nD Cert.PowerRefIdeal.τ).loc Cert.PowerRefIdeal.main_arg3) = m ((c.tc : Thread Cert.PowerRefIdeal.nD Cert.PowerRefIdeal.τ).loc Cert.PowerRefIdeal.main_arg3)
      ∧ r.2.mem ((c.tc : Thread Cert.PowerRefIdeal.nD Cert.PowerRefIdeal.τ).loc Cert.PowerRefIdeal.main_arg4) = m ((c.tc : Thread Cert.PowerRefIdeal.nD Cert.PowerRefIdeal.τ).loc Cert.PowerRefIdeal.main_arg4)
      ∧ r.2.mem ((c.tc : Thread Cert.PowerRefIdeal.nD Cert.PowerRefIdeal.τ).loc Cert.PowerRefIdeal.main_arg5) = m ((c.tc : Thread Cert.PowerRefIdeal.nD Cert.PowerRefIdeal.τ).loc Cert.PowerRefIdeal.main_arg5))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def preserves_Sketch_SketchIdeal : Prop :=
  True

def algebraic_SketchIdeal_RefIdeal_pre_full_rank [hSketchIdeal : Cert.SketchIdeal.Facts] [hRefIdeal : Cert.RefIdeal.Facts] [hPre_full_rank : Cert.Pre_full_rank.Facts] : Prop :=
  ∀ (m : (ℓ : Loc Cert.SketchIdeal.nD Cert.SketchIdeal.τ Cert.SketchIdeal.sig) → Buf (Elt Ideal) ℓ) (g : Dev Cert.SketchIdeal.nD → PrngReg)
    (m' : (ℓ : Loc Cert.RefIdeal.nD Cert.RefIdeal.τ Cert.RefIdeal.sig) → Buf (Elt Ideal) ℓ) (g' : Dev Cert.RefIdeal.nD → PrngReg), Pre_SketchIdeal_full_rank m →
    (∀ c : Dev Cert.SketchIdeal.nD,
      m' ((c.tc : Thread Cert.RefIdeal.nD Cert.RefIdeal.τ).loc Cert.RefIdeal.main_arg0) = m ((c.tc : Thread Cert.SketchIdeal.nD Cert.SketchIdeal.τ).loc Cert.SketchIdeal.main_arg0)
      ∧ m' ((c.tc : Thread Cert.RefIdeal.nD Cert.RefIdeal.τ).loc Cert.RefIdeal.main_arg1) = m ((c.tc : Thread Cert.SketchIdeal.nD Cert.SketchIdeal.τ).loc Cert.SketchIdeal.main_arg1)
      ∧ m' ((c.tc : Thread Cert.RefIdeal.nD Cert.RefIdeal.τ).loc Cert.RefIdeal.main_arg2) = m ((c.tc : Thread Cert.SketchIdeal.nD Cert.SketchIdeal.τ).loc Cert.SketchIdeal.main_arg2)
      ∧ m' ((c.tc : Thread Cert.RefIdeal.nD Cert.RefIdeal.τ).loc Cert.RefIdeal.main_arg3) = m ((c.tc : Thread Cert.SketchIdeal.nD Cert.SketchIdeal.τ).loc Cert.SketchIdeal.main_arg3)
      ∧ m' ((c.tc : Thread Cert.RefIdeal.nD Cert.RefIdeal.τ).loc Cert.RefIdeal.main_arg4) = m ((c.tc : Thread Cert.SketchIdeal.nD Cert.SketchIdeal.τ).loc Cert.SketchIdeal.main_arg4)) →
    ∃ (v0 : (c : Dev Cert.SketchIdeal.nD) → Buf (Elt Ideal) ((c.tc : Thread Cert.SketchIdeal.nD Cert.SketchIdeal.τ).loc Cert.SketchIdeal.main_v22)) (v1 : (c : Dev Cert.SketchIdeal.nD) → Buf (Elt Ideal) ((c.tc : Thread Cert.SketchIdeal.nD Cert.SketchIdeal.τ).loc Cert.SketchIdeal.main_v21_1)) (v2 : (c : Dev Cert.SketchIdeal.nD) → Buf (Elt Ideal) ((c.tc : Thread Cert.SketchIdeal.nD Cert.SketchIdeal.τ).loc Cert.SketchIdeal.main_v23)) (v3 : (c : Dev Cert.SketchIdeal.nD) → Buf (Elt Ideal) ((c.tc : Thread Cert.SketchIdeal.nD Cert.SketchIdeal.τ).loc Cert.SketchIdeal.main_v24)),
      θ_run (Cert.SketchIdeal.defs (F := Ideal)) (onTc (τ := Cert.SketchIdeal.τ) (Cert.SketchIdeal.main (F := Ideal))) ⟨m, fun _ => 0, g⟩ (fun r => ∀ c : Dev Cert.SketchIdeal.nD,
          r.2.mem ((c.tc : Thread Cert.SketchIdeal.nD Cert.SketchIdeal.τ).loc Cert.SketchIdeal.main_v22) = v0 c
          ∧ r.2.mem ((c.tc : Thread Cert.SketchIdeal.nD Cert.SketchIdeal.τ).loc Cert.SketchIdeal.main_v21_1) = v1 c
          ∧ r.2.mem ((c.tc : Thread Cert.SketchIdeal.nD Cert.SketchIdeal.τ).loc Cert.SketchIdeal.main_v23) = v2 c
          ∧ r.2.mem ((c.tc : Thread Cert.SketchIdeal.nD Cert.SketchIdeal.τ).loc Cert.SketchIdeal.main_v24) = v3 c
          ∧ r.2.mem ((c.tc : Thread Cert.SketchIdeal.nD Cert.SketchIdeal.τ).loc Cert.SketchIdeal.main_arg0) = m ((c.tc : Thread Cert.SketchIdeal.nD Cert.SketchIdeal.τ).loc Cert.SketchIdeal.main_arg0)
          ∧ r.2.mem ((c.tc : Thread Cert.SketchIdeal.nD Cert.SketchIdeal.τ).loc Cert.SketchIdeal.main_arg1) = m ((c.tc : Thread Cert.SketchIdeal.nD Cert.SketchIdeal.τ).loc Cert.SketchIdeal.main_arg1)
          ∧ r.2.mem ((c.tc : Thread Cert.SketchIdeal.nD Cert.SketchIdeal.τ).loc Cert.SketchIdeal.main_arg2) = m ((c.tc : Thread Cert.SketchIdeal.nD Cert.SketchIdeal.τ).loc Cert.SketchIdeal.main_arg2)
          ∧ r.2.mem ((c.tc : Thread Cert.SketchIdeal.nD Cert.SketchIdeal.τ).loc Cert.SketchIdeal.main_arg3) = m ((c.tc : Thread Cert.SketchIdeal.nD Cert.SketchIdeal.τ).loc Cert.SketchIdeal.main_arg3)
          ∧ r.2.mem ((c.tc : Thread Cert.SketchIdeal.nD Cert.SketchIdeal.τ).loc Cert.SketchIdeal.main_arg4) = m ((c.tc : Thread Cert.SketchIdeal.nD Cert.SketchIdeal.τ).loc Cert.SketchIdeal.main_arg4))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v2_0) = v0 c
          ∧ r.2.mem ((c.tc : Thread Cert.RefIdeal.nD Cert.RefIdeal.τ).loc Cert.RefIdeal.main_v2_1) = v1 c
          ∧ r.2.mem ((c.tc : Thread Cert.RefIdeal.nD Cert.RefIdeal.τ).loc Cert.RefIdeal.main_v2_2) = v2 c
          ∧ r.2.mem ((c.tc : Thread Cert.RefIdeal.nD Cert.RefIdeal.τ).loc Cert.RefIdeal.main_v2_3) = v3 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)) →
    ∃ (v0 : (c : Dev Cert.FirstIdeal.nD) → Buf (Elt Ideal) ((c.tc : Thread Cert.FirstIdeal.nD Cert.FirstIdeal.τ).loc Cert.FirstIdeal.main_v7_0)) (v1 : (c : Dev Cert.FirstIdeal.nD) → Buf (Elt Ideal) ((c.tc : Thread Cert.FirstIdeal.nD Cert.FirstIdeal.τ).loc Cert.FirstIdeal.main_v7_1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v7_0) = v0 c
          ∧ r.2.mem ((c.tc : Thread Cert.FirstIdeal.nD Cert.FirstIdeal.τ).loc Cert.FirstIdeal.main_v7_1) = v1 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v0_0) = v0 c
          ∧ r.2.mem ((c.tc : Thread Cert.FirstRefIdeal.nD Cert.FirstRefIdeal.τ).loc Cert.FirstRefIdeal.main_v0_1) = v1 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4))

def preserves_Power_PowerIdeal : Prop :=
  True

def algebraic_PowerIdeal_PowerRefIdeal [hPowerIdeal : Cert.PowerIdeal.Facts] [hPowerRefIdeal : Cert.PowerRefIdeal.Facts] : Prop :=
  ∀ (m : (ℓ : Loc Cert.PowerIdeal.nD Cert.PowerIdeal.τ Cert.PowerIdeal.sig) → Buf (Elt Ideal) ℓ) (g : Dev Cert.PowerIdeal.nD → PrngReg)
    (m' : (ℓ : Loc Cert.PowerRefIdeal.nD Cert.PowerRefIdeal.τ Cert.PowerRefIdeal.sig) → Buf (Elt Ideal) ℓ) (g' : Dev Cert.PowerRefIdeal.nD → PrngReg), Pre_PowerIdeal m →
    (∀ c : Dev Cert.PowerIdeal.nD,
      m' ((c.tc : Thread Cert.PowerRefIdeal.nD Cert.PowerRefIdeal.τ).loc Cert.PowerRefIdeal.main_arg0) = m ((c.tc : Thread Cert.PowerIdeal.nD Cert.PowerIdeal.τ).loc Cert.PowerIdeal.main_arg0)
      ∧ m' ((c.tc : Thread Cert.PowerRefIdeal.nD Cert.PowerRefIdeal.τ).loc Cert.PowerRefIdeal.main_arg1) = m ((c.tc : Thread Cert.PowerIdeal.nD Cert.PowerIdeal.τ).loc Cert.PowerIdeal.main_arg1)
      ∧ m' ((c.tc : Thread Cert.PowerRefIdeal.nD Cert.PowerRefIdeal.τ).loc Cert.PowerRefIdeal.main_arg2) = m ((c.tc : Thread Cert.PowerIdeal.nD Cert.PowerIdeal.τ).loc Cert.PowerIdeal.main_arg2)
      ∧ m' ((c.tc : Thread Cert.PowerRefIdeal.nD Cert.PowerRefIdeal.τ).loc Cert.PowerRefIdeal.main_arg3) = m ((c.tc : Thread Cert.PowerIdeal.nD Cert.PowerIdeal.τ).loc Cert.PowerIdeal.main_arg3)
      ∧ m' ((c.tc : Thread Cert.PowerRefIdeal.nD Cert.PowerRefIdeal.τ).loc Cert.PowerRefIdeal.main_arg4) = m ((c.tc : Thread Cert.PowerIdeal.nD Cert.PowerIdeal.τ).loc Cert.PowerIdeal.main_arg4)
      ∧ m' ((c.tc : Thread Cert.PowerRefIdeal.nD Cert.PowerRefIdeal.τ).loc Cert.PowerRefIdeal.main_arg5) = m ((c.tc : Thread Cert.PowerIdeal.nD Cert.PowerIdeal.τ).loc Cert.PowerIdeal.main_arg5)) →
    ∃ (v0 : (c : Dev Cert.PowerIdeal.nD) → Buf (Elt Ideal) ((c.tc : Thread Cert.PowerIdeal.nD Cert.PowerIdeal.τ).loc Cert.PowerIdeal.main_v6_0)) (v1 : (c : Dev Cert.PowerIdeal.nD) → Buf (Elt Ideal) ((c.tc : Thread Cert.PowerIdeal.nD Cert.PowerIdeal.τ).loc Cert.PowerIdeal.main_v6_1)) (v2 : (c : Dev Cert.PowerIdeal.nD) → Buf (Elt Ideal) ((c.tc : Thread Cert.PowerIdeal.nD Cert.PowerIdeal.τ).loc Cert.PowerIdeal.main_v6_2)),
      θ_run (Cert.PowerIdeal.defs (F := Ideal)) (onTc (τ := Cert.PowerIdeal.τ) (Cert.PowerIdeal.main (F := Ideal))) ⟨m, fun _ => 0, g⟩ (fun r => ∀ c : Dev Cert.PowerIdeal.nD,
          r.2.mem ((c.tc : Thread Cert.PowerIdeal.nD Cert.PowerIdeal.τ).loc Cert.PowerIdeal.main_v6_0) = v0 c
          ∧ r.2.mem ((c.tc : Thread Cert.PowerIdeal.nD Cert.PowerIdeal.τ).loc Cert.PowerIdeal.main_v6_1) = v1 c
          ∧ r.2.mem ((c.tc : Thread Cert.PowerIdeal.nD Cert.PowerIdeal.τ).loc Cert.PowerIdeal.main_v6_2) = v2 c
          ∧ r.2.mem ((c.tc : Thread Cert.PowerIdeal.nD Cert.PowerIdeal.τ).loc Cert.PowerIdeal.main_arg0) = m ((c.tc : Thread Cert.PowerIdeal.nD Cert.PowerIdeal.τ).loc Cert.PowerIdeal.main_arg0)
          ∧ r.2.mem ((c.tc : Thread Cert.PowerIdeal.nD Cert.PowerIdeal.τ).loc Cert.PowerIdeal.main_arg1) = m ((c.tc : Thread Cert.PowerIdeal.nD Cert.PowerIdeal.τ).loc Cert.PowerIdeal.main_arg1)
          ∧ r.2.mem ((c.tc : Thread Cert.PowerIdeal.nD Cert.PowerIdeal.τ).loc Cert.PowerIdeal.main_arg2) = m ((c.tc : Thread Cert.PowerIdeal.nD Cert.PowerIdeal.τ).loc Cert.PowerIdeal.main_arg2)
          ∧ r.2.mem ((c.tc : Thread Cert.PowerIdeal.nD Cert.PowerIdeal.τ).loc Cert.PowerIdeal.main_arg3) = m ((c.tc : Thread Cert.PowerIdeal.nD Cert.PowerIdeal.τ).loc Cert.PowerIdeal.main_arg3)
          ∧ r.2.mem ((c.tc : Thread Cert.PowerIdeal.nD Cert.PowerIdeal.τ).loc Cert.PowerIdeal.main_arg4) = m ((c.tc : Thread Cert.PowerIdeal.nD Cert.PowerIdeal.τ).loc Cert.PowerIdeal.main_arg4)
          ∧ r.2.mem ((c.tc : Thread Cert.PowerIdeal.nD Cert.PowerIdeal.τ).loc Cert.PowerIdeal.main_arg5) = m ((c.tc : Thread Cert.PowerIdeal.nD Cert.PowerIdeal.τ).loc Cert.PowerIdeal.main_arg5))
      ∧ θ_run (Cert.PowerRefIdeal.defs (F := Ideal)) (onTc (τ := Cert.PowerRefIdeal.τ) (Cert.PowerRefIdeal.main (F := Ideal))) ⟨m', fun _ => 0, g'⟩ (fun r => ∀ c : Dev Cert.PowerRefIdeal.nD,
          r.2.mem ((c.tc : Thread Cert.PowerRefIdeal.nD Cert.PowerRefIdeal.τ).loc Cert.PowerRefIdeal.main_v0_0) = v0 c
          ∧ r.2.mem ((c.tc : Thread Cert.PowerRefIdeal.nD Cert.PowerRefIdeal.τ).loc Cert.PowerRefIdeal.main_v0_1) = v1 c
          ∧ r.2.mem ((c.tc : Thread Cert.PowerRefIdeal.nD Cert.PowerRefIdeal.τ).loc Cert.PowerRefIdeal.main_v0_2) = v2 c
          ∧ r.2.mem ((c.tc : Thread Cert.PowerRefIdeal.nD Cert.PowerRefIdeal.τ).loc Cert.PowerRefIdeal.main_arg0) = m' ((c.tc : Thread Cert.PowerRefIdeal.nD Cert.PowerRefIdeal.τ).loc Cert.PowerRefIdeal.main_arg0)
          ∧ r.2.mem ((c.tc : Thread Cert.PowerRefIdeal.nD Cert.PowerRefIdeal.τ).loc Cert.PowerRefIdeal.main_arg1) = m' ((c.tc : Thread Cert.PowerRefIdeal.nD Cert.PowerRefIdeal.τ).loc Cert.PowerRefIdeal.main_arg1)
          ∧ r.2.mem ((c.tc : Thread Cert.PowerRefIdeal.nD Cert.PowerRefIdeal.τ).loc Cert.PowerRefIdeal.main_arg2) = m' ((c.tc : Thread Cert.PowerRefIdeal.nD Cert.PowerRefIdeal.τ).loc Cert.PowerRefIdeal.main_arg2)
          ∧ r.2.mem ((c.tc : Thread Cert.PowerRefIdeal.nD Cert.PowerRefIdeal.τ).loc Cert.PowerRefIdeal.main_arg3) = m' ((c.tc : Thread Cert.PowerRefIdeal.nD Cert.PowerRefIdeal.τ).loc Cert.PowerRefIdeal.main_arg3)
          ∧ r.2.mem ((c.tc : Thread Cert.PowerRefIdeal.nD Cert.PowerRefIdeal.τ).loc Cert.PowerRefIdeal.main_arg4) = m' ((c.tc : Thread Cert.PowerRefIdeal.nD Cert.PowerRefIdeal.τ).loc Cert.PowerRefIdeal.main_arg4)
          ∧ r.2.mem ((c.tc : Thread Cert.PowerRefIdeal.nD Cert.PowerRefIdeal.τ).loc Cert.PowerRefIdeal.main_arg5) = m' ((c.tc : Thread Cert.PowerRefIdeal.nD Cert.PowerRefIdeal.τ).loc Cert.PowerRefIdeal.main_arg5))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v6_0)) (v1 : (c : Dev Cert.LastIdeal.nD) → Buf (Elt Ideal) ((c.tc : Thread Cert.LastIdeal.nD Cert.LastIdeal.τ).loc Cert.LastIdeal.main_v6_1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v6_0) = v0 c
          ∧ r.2.mem ((c.tc : Thread Cert.LastIdeal.nD Cert.LastIdeal.τ).loc Cert.LastIdeal.main_v6_1) = v1 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v0_0) = v0 c
          ∧ r.2.mem ((c.tc : Thread Cert.LastRefIdeal.nD Cert.LastRefIdeal.τ).loc Cert.LastRefIdeal.main_v0_1) = v1 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5))

def Claim : Prop :=
  ∃ (hSketch : Cert.Sketch.Facts) (hSketchIdeal : Cert.SketchIdeal.Facts) (hRefIdeal : Cert.RefIdeal.Facts) (hFirst : Cert.First.Facts) (hFirstIdeal : Cert.FirstIdeal.Facts) (hFirstRefIdeal : Cert.FirstRefIdeal.Facts) (hPower : Cert.Power.Facts) (hPowerIdeal : Cert.PowerIdeal.Facts) (hPowerRefIdeal : Cert.PowerRefIdeal.Facts) (hLast : Cert.Last.Facts) (hLastIdeal : Cert.LastIdeal.Facts) (hLastRefIdeal : Cert.LastRefIdeal.Facts) (hPre_full_rank : Cert.Pre_full_rank.Facts),
    quiescent_Sketch (hSketch := hSketch)
    ∧ quiescent_SketchIdeal (hSketchIdeal := hSketchIdeal)
    ∧ quiescent_SketchIdeal_pre_full_rank (hSketchIdeal := hSketchIdeal) (hPre_full_rank := hPre_full_rank)
    ∧ quiescent_RefIdeal (hRefIdeal := hRefIdeal)
    ∧ quiescent_RefIdeal_pre_full_rank (hRefIdeal := hRefIdeal) (hPre_full_rank := hPre_full_rank)
    ∧ quiescent_First (hFirst := hFirst)
    ∧ quiescent_FirstIdeal (hFirstIdeal := hFirstIdeal)
    ∧ quiescent_FirstRefIdeal (hFirstRefIdeal := hFirstRefIdeal)
    ∧ quiescent_Power (hPower := hPower)
    ∧ quiescent_PowerIdeal (hPowerIdeal := hPowerIdeal)
    ∧ quiescent_PowerRefIdeal (hPowerRefIdeal := hPowerRefIdeal)
    ∧ quiescent_Last (hLast := hLast)
    ∧ quiescent_LastIdeal (hLastIdeal := hLastIdeal)
    ∧ quiescent_LastRefIdeal (hLastRefIdeal := hLastRefIdeal)
    ∧ preserves_Sketch_SketchIdeal
    ∧ algebraic_SketchIdeal_RefIdeal_pre_full_rank (hSketchIdeal := hSketchIdeal) (hRefIdeal := hRefIdeal) (hPre_full_rank := hPre_full_rank)
    ∧ preserves_First_FirstIdeal
    ∧ algebraic_FirstIdeal_FirstRefIdeal (hFirstIdeal := hFirstIdeal) (hFirstRefIdeal := hFirstRefIdeal)
    ∧ preserves_Power_PowerIdeal
    ∧ algebraic_PowerIdeal_PowerRefIdeal (hPowerIdeal := hPowerIdeal) (hPowerRefIdeal := hPowerRefIdeal)
    ∧ preserves_Last_LastIdeal
    ∧ algebraic_LastIdeal_LastRefIdeal (hLastIdeal := hLastIdeal) (hLastRefIdeal := hLastRefIdeal)
-- ==== Pre_full_rank.lean ====
abbrev S64x1024x2048 : Shape := ⟨3, ![64, 1024, 2048]⟩
abbrev S64x8x16 : Shape := ⟨3, ![64, 8, 16]⟩
abbrev S64x2048x104 : Shape := ⟨3, ![64, 2048, 104]⟩
abbrev S64x8x128x16x128 : Shape := ⟨5, ![64, 8, 128, 16, 128]⟩
abbrev S64x8x1x16x1 : Shape := ⟨5, ![64, 8, 1, 16, 1]⟩
abbrev S64x1024x104 : Shape := ⟨3, ![64, 1024, 104]⟩
abbrev S64x104x104 : Shape := ⟨3, ![64, 104, 104]⟩
abbrev S_ : Shape := ⟨0, ![]⟩
abbrev S64x1x1 : Shape := ⟨3, ![64, 1, 1]⟩
abbrev S64x103x103 : Shape := ⟨3, ![64, 103, 103]⟩
abbrev S64x103x1 : Shape := ⟨3, ![64, 103, 1]⟩
abbrev S64x1x103 : Shape := ⟨3, ![64, 1, 103]⟩

class Facts : Prop where
  bitsLt_bf16_f32 : FTy.bits .bf16 < FTy.bits .f32
  shapeCasts_S64x1024x2048_S64x8x128x16x128 : S64x1024x2048.ShapeCasts S64x8x128x16x128
  bcast_S64x8x16_S64x8x1x16x1_0_1_3 : S64x8x16.BroadcastsInDim S64x8x1x16x1 (![0, 1, 3] : Fin 3 → Fin S64x8x1x16x1.rank)
  bcast_S64x8x1x16x1_S64x8x128x16x128_0_1_2_3_4 : S64x8x1x16x1.BroadcastsInDim S64x8x128x16x128 (![0, 1, 2, 3, 4] : Fin 5 → Fin S64x8x128x16x128.rank)
  shapeCasts_S64x8x128x16x128_S64x1024x2048 : S64x8x128x16x128.ShapeCasts S64x1024x2048
  bcast_S_S64x1x1 : S_.BroadcastsInDim S64x1x1 (![] : Fin 0 → Fin S64x1x1.rank)
  slices_S64x104x104_S64x1x1_0_0_0 : S64x104x104.Slices ![0, 0, 0] S64x1x1
  slices_S64x104x104_S64x103x103_0_1_1 : S64x104x104.Slices ![0, 1, 1] S64x103x103
  slices_S64x104x104_S64x103x1_0_1_0 : S64x104x104.Slices ![0, 1, 0] S64x103x1
  bcast_S64x1x1_S64x103x1_0_1_2 : S64x1x1.BroadcastsInDim S64x103x1 (![0, 1, 2] : Fin 3 → Fin S64x103x1.rank)
  slices_S64x104x104_S64x1x103_0_0_1 : S64x104x104.Slices ![0, 0, 1] S64x1x103
  bcast_S64x103x1_S64x103x103_0_1_2 : S64x103x1.BroadcastsInDim S64x103x103 (![0, 1, 2] : Fin 3 → Fin S64x103x103.rank)
  bcast_S64x1x103_S64x103x103_0_1_2 : S64x1x103.BroadcastsInDim S64x103x103 (![0, 1, 2] : Fin 3 → Fin S64x103x103.rank)
  pads_S64x103x103_S64x104x104_000_010_010 : S64x103x103.Pads (![0, 0, 0] : Fin 3 → Nat) ![0, 1, 1] ![0, 0, 0] S64x104x104
  h_S_ : 0 < S_.numel
  bcast_S_S64x1024x2048 : S_.BroadcastsInDim S64x1024x2048 (![] : Fin 0 → Fin S64x1024x2048.rank)
  bcast_S_S64x8x16 : S_.BroadcastsInDim S64x8x16 (![] : Fin 0 → Fin S64x8x16.rank)
  bcast_S_S64x2048x104 : S_.BroadcastsInDim S64x2048x104 (![] : Fin 0 → Fin S64x2048x104.rank)
  dot_S64x1024x2048_S64x2048x104_S64x1024x104_2_1_1_2_0_0_wf : DotDims.WF S64x1024x2048 S64x2048x104 S64x1024x104 [2] [1] [1] [2] [0] [0]
  dot_S64x1024x104_S64x1024x104_S64x104x104_1_1_2_2_0_0_wf : DotDims.WF S64x1024x104 S64x1024x104 S64x104x104 [1] [1] [2] [2] [0] [0]

variable [Facts]

def dot_S64x1024x2048_S64x2048x104_S64x1024x104_2_1_1_2_0_0 : DotDims S64x1024x2048 S64x2048x104 S64x1024x104 where
  lhsContracting := [2]
  rhsContracting := [1]
  lhsNonContracting := [1]
  rhsNonContracting := [2]
  lhsBatch := [0]
  rhsBatch := [0]
  wf := dot_S64x1024x2048_S64x2048x104_S64x1024x104_2_1_1_2_0_0_wf
def dot_S64x1024x104_S64x1024x104_S64x104x104_1_1_2_2_0_0 : DotDims S64x1024x104 S64x1024x104 S64x104x104 where
  lhsContracting := [1]
  rhsContracting := [1]
  lhsNonContracting := [2]
  rhsNonContracting := [2]
  lhsBatch := [0]
  rhsBatch := [0]
  wf := dot_S64x1024x104_S64x1024x104_S64x104x104_1_1_2_2_0_0_wf
def fn_gram0 {F : FTy → Type} [FloatOps F] (arg0 : FVec F S64x1024x2048 .f32) (arg1 : FVec F S64x8x16 .f32) (arg2 : FVec F S64x1024x2048 .f32) (arg3 : FVec F S64x8x16 .f32) (arg4 : FVec F S64x2048x104 .bf16) : FVec F S64x104x104 .f32 :=
  let v0 : FVec F S64x1024x2048 .bf16 := (truncf .bf16 · bitsLt_bf16_f32) arg0
  let v1 : FVec F S64x8x128x16x128 .bf16 := shapeCast S64x8x128x16x128 v0 shapeCasts_S64x1024x2048_S64x8x128x16x128
  let v2 : FVec F S64x8x16 .bf16 := (truncf .bf16 · bitsLt_bf16_f32) arg1
  let v3 : FVec F S64x8x1x16x1 .bf16 := broadcastInDim S64x8x1x16x1 ![0, 1, 3] bcast_S64x8x16_S64x8x1x16x1_0_1_3 v2
  let v4 : FVec F S64x8x128x16x128 .bf16 := broadcastInDim S64x8x128x16x128 ![0, 1, 2, 3, 4] bcast_S64x8x1x16x1_S64x8x128x16x128_0_1_2_3_4 v3
  let v5 : FVec F S64x8x128x16x128 .bf16 := mulf v1 v4
  let v6 : FVec F S64x1024x2048 .bf16 := shapeCast S64x1024x2048 v5 shapeCasts_S64x8x128x16x128_S64x1024x2048
  let v7 : FVec F S64x1024x2048 .bf16 := (truncf .bf16 · bitsLt_bf16_f32) arg2
  let v8 : FVec F S64x8x128x16x128 .bf16 := shapeCast S64x8x128x16x128 v7 shapeCasts_S64x1024x2048_S64x8x128x16x128
  let v9 : FVec F S64x8x16 .bf16 := (truncf .bf16 · bitsLt_bf16_f32) arg3
  let v10 : FVec F S64x8x1x16x1 .bf16 := broadcastInDim S64x8x1x16x1 ![0, 1, 3] bcast_S64x8x16_S64x8x1x16x1_0_1_3 v9
  let v11 : FVec F S64x8x128x16x128 .bf16 := broadcastInDim S64x8x128x16x128 ![0, 1, 2, 3, 4] bcast_S64x8x1x16x1_S64x8x128x16x128_0_1_2_3_4 v10
  let v12 : FVec F S64x8x128x16x128 .bf16 := mulf v8 v11
  let v13 : FVec F S64x1024x2048 .bf16 := shapeCast S64x1024x2048 v12 shapeCasts_S64x8x128x16x128_S64x1024x2048
  let v14 : FVec F S64x1024x104 .f32 := (fun l r => Host.dotGeneral dot_S64x1024x2048_S64x2048x104_S64x1024x104_2_1_1_2_0_0 none l r) v6 arg4
  let v15 : FVec F S64x1024x104 .f32 := (fun l r => Host.dotGeneral dot_S64x1024x2048_S64x2048x104_S64x1024x104_2_1_1_2_0_0 none l r) v13 arg4
  let v16 : FVec F S64x1024x104 .f32 := subf v14 v15
  let v17 : FVec F S64x104x104 .f32 := (fun l r => Host.dotGeneral dot_S64x1024x104_S64x1024x104_S64x104x104_1_1_2_2_0_0 (some .fp32) l r) v16 v16
  v17

def fn_pad {F : FTy → Type} [FloatOps F] (arg0 : FVec F S64x103x103 .f32) (arg1 : IVec S_ 32) : FVec F S64x104x104 .f32 :=
  let v0 : FVec F S_ .f32 := sitofp .f32 arg1
  let v1 : FVec F S64x104x104 .f32 := (fun x v => pad S64x104x104 ![0, 0, 0] ![0, 1, 1] ![0, 0, 0] x v pads_S64x103x103_S64x104x104_000_010_010 h_S_) arg0 v0
  v1

def fn_eliminate {F : FTy → Type} [FloatOps F] (arg0 : FVec F S64x104x104 .f32) (arg1 : IVec S64x1x1 1) : FVec F S64x104x104 .f32 × IVec S64x1x1 1 :=
  let v0 : FVec F S64x1x1 .f32 := (extractStridedSlice S64x1x1 ![0, 0, 0] · slices_S64x104x104_S64x1x1_0_0_0) arg0
  let v1 : FVec F S64x103x103 .f32 := (extractStridedSlice S64x103x103 ![0, 1, 1] · slices_S64x104x104_S64x103x103_0_1_1) arg0
  let v2 : FVec F S64x103x1 .f32 := (extractStridedSlice S64x103x1 ![0, 1, 0] · slices_S64x104x104_S64x103x1_0_1_0) arg0
  let v3 : FVec F S64x103x1 .f32 := broadcastInDim S64x103x1 ![0, 1, 2] bcast_S64x1x1_S64x103x1_0_1_2 v0
  let v4 : FVec F S64x103x1 .f32 := Host.divf v2 v3
  let v5 : FVec F S64x1x103 .f32 := (extractStridedSlice S64x1x103 ![0, 0, 1] · slices_S64x104x104_S64x1x103_0_0_1) arg0
  let v6 : FVec F S64x103x103 .f32 := broadcastInDim S64x103x103 ![0, 1, 2] bcast_S64x103x1_S64x103x103_0_1_2 v4
  let v7 : FVec F S64x103x103 .f32 := broadcastInDim S64x103x103 ![0, 1, 2] bcast_S64x1x103_S64x103x103_0_1_2 v5
  let v8 : FVec F S64x103x103 .f32 := mulf v6 v7
  let v9 : FVec F S64x103x103 .f32 := subf v1 v8
  let c : IVec S_ 32 := constantI S_ 32 0#32
  let v10 : FVec F S64x104x104 .f32 := fn_pad (F := F) v9 c
  let cst : FVec F S_ .f32 := constant S_ .f32 0x00000000#32
  let v11 : FVec F S64x1x1 .f32 := broadcastInDim S64x1x1 ![] bcast_S_S64x1x1 cst
  let v12 : IVec S64x1x1 1 := cmpf .ogt v0 v11
  let v13 : IVec S64x1x1 1 := andi arg1 v12
  (v10, v13)

def fn_eliminate8 {F : FTy → Type} [FloatOps F] (arg0 : FVec F S64x104x104 .f32) (arg1 : IVec S64x1x1 1) : FVec F S64x104x104 .f32 × IVec S64x1x1 1 :=
  let v0_0 : FVec F S64x104x104 .f32 := (fn_eliminate (F := F) arg0 arg1).1
  let v0_1 : IVec S64x1x1 1 := (fn_eliminate (F := F) arg0 arg1).2
  let v1_0 : FVec F S64x104x104 .f32 := (fn_eliminate (F := F) v0_0 v0_1).1
  let v1_1 : IVec S64x1x1 1 := (fn_eliminate (F := F) v0_0 v0_1).2
  let v2_0 : FVec F S64x104x104 .f32 := (fn_eliminate (F := F) v1_0 v1_1).1
  let v2_1 : IVec S64x1x1 1 := (fn_eliminate (F := F) v1_0 v1_1).2
  let v3_0 : FVec F S64x104x104 .f32 := (fn_eliminate (F := F) v2_0 v2_1).1
  let v3_1 : IVec S64x1x1 1 := (fn_eliminate (F := F) v2_0 v2_1).2
  let v4_0 : FVec F S64x104x104 .f32 := (fn_eliminate (F := F) v3_0 v3_1).1
  let v4_1 : IVec S64x1x1 1 := (fn_eliminate (F := F) v3_0 v3_1).2
  let v5_0 : FVec F S64x104x104 .f32 := (fn_eliminate (F := F) v4_0 v4_1).1
  let v5_1 : IVec S64x1x1 1 := (fn_eliminate (F := F) v4_0 v4_1).2
  let v6_0 : FVec F S64x104x104 .f32 := (fn_eliminate (F := F) v5_0 v5_1).1
  let v6_1 : IVec S64x1x1 1 := (fn_eliminate (F := F) v5_0 v5_1).2
  let v7_0 : FVec F S64x104x104 .f32 := (fn_eliminate (F := F) v6_0 v6_1).1
  let v7_1 : IVec S64x1x1 1 := (fn_eliminate (F := F) v6_0 v6_1).2
  (v7_0, v7_1)

def fn_finite {F : FTy → Type} [FloatOps F] (arg0 : FVec F S64x1024x2048 .f32) : IVec S64x1024x2048 1 :=
  let v0 : FVec F S64x1024x2048 .f32 := Host.absf arg0
  let cst : FVec F S_ .f32 := constant S_ .f32 0x7F800000#32
  let v1 : FVec F S64x1024x2048 .f32 := broadcastInDim S64x1024x2048 ![] bcast_S_S64x1024x2048 cst
  let v2 : IVec S64x1024x2048 1 := cmpf .olt v0 v1
  v2

def fn_finite_0 {F : FTy → Type} [FloatOps F] (arg0 : FVec F S64x8x16 .f32) : IVec S64x8x16 1 :=
  let v0 : FVec F S64x8x16 .f32 := Host.absf arg0
  let cst : FVec F S_ .f32 := constant S_ .f32 0x7F800000#32
  let v1 : FVec F S64x8x16 .f32 := broadcastInDim S64x8x16 ![] bcast_S_S64x8x16 cst
  let v2 : IVec S64x8x16 1 := cmpf .olt v0 v1
  v2

def fn_finite_1 {F : FTy → Type} [FloatOps F] (arg0 : FVec F S64x2048x104 .bf16) : IVec S64x2048x104 1 :=
  let v0 : FVec F S64x2048x104 .f32 := (extf .f32 · bitsLt_bf16_f32) arg0
  let v1 : FVec F S64x2048x104 .f32 := Host.absf v0
  let cst : FVec F S_ .f32 := constant S_ .f32 0x7F800000#32
  let v2 : FVec F S64x2048x104 .f32 := broadcastInDim S64x2048x104 ![] bcast_S_S64x2048x104 cst
  let v3 : IVec S64x2048x104 1 := cmpf .olt v1 v2
  v3

def fn_part1 {F : FTy → Type} [FloatOps F] (main_arg0 : FVec F S64x1024x2048 .f32) (main_arg1 : FVec F S64x8x16 .f32) (main_arg2 : FVec F S64x1024x2048 .f32) (main_arg3 : FVec F S64x8x16 .f32) (main_arg4 : FVec F S64x2048x104 .bf16) (main_v11_0 : FVec F S64x104x104 .f32) (main_v11_1 : IVec S64x1x1 1) (main_v12_0 : FVec F S64x104x104 .f32) : IVec S64x1024x2048 1 × IVec S64x8x16 1 × IVec S64x1024x2048 1 × IVec S64x8x16 1 × IVec S64x2048x104 1 × IVec S64x1x1 1 :=
  let main_v12_1 : IVec S64x1x1 1 := (fn_eliminate8 (F := F) main_v11_0 main_v11_1).2
  let main_v13_0 : FVec F S64x104x104 .f32 := (fn_eliminate8 (F := F) main_v12_0 main_v12_1).1
  let main_v13_1 : IVec S64x1x1 1 := (fn_eliminate8 (F := F) main_v12_0 main_v12_1).2
  let main_v14_0 : FVec F S64x104x104 .f32 := (fn_eliminate8 (F := F) main_v13_0 main_v13_1).1
  let main_v14_1 : IVec S64x1x1 1 := (fn_eliminate8 (F := F) main_v13_0 main_v13_1).2
  let main_v15 : IVec S64x1024x2048 1 := fn_finite (F := F) main_arg0
  let main_v16 : IVec S64x8x16 1 := fn_finite_0 (F := F) main_arg1
  let main_v17 : IVec S64x1024x2048 1 := fn_finite (F := F) main_arg2
  let main_v18 : IVec S64x8x16 1 := fn_finite_0 (F := F) main_arg3
  let main_v19 : IVec S64x2048x104 1 := fn_finite_1 (F := F) main_arg4
  (main_v15, main_v16, main_v17, main_v18, main_v19, main_v14_1)

def fn {F : FTy → Type} [FloatOps F] (main_arg0 : FVec F S64x1024x2048 .f32) (main_arg1 : FVec F S64x8x16 .f32) (main_arg2 : FVec F S64x1024x2048 .f32) (main_arg3 : FVec F S64x8x16 .f32) (main_arg4 : FVec F S64x2048x104 .bf16) : IVec S64x1024x2048 1 × IVec S64x8x16 1 × IVec S64x1024x2048 1 × IVec S64x8x16 1 × IVec S64x2048x104 1 × IVec S64x1x1 1 :=
  let main_v0 : FVec F S64x104x104 .f32 := fn_gram0 (F := F) main_arg0 main_arg1 main_arg2 main_arg3 main_arg4
  let main_c : IVec S_ 1 := constantI S_ 1 1#1
  let main_v1 : IVec S64x1x1 1 := broadcastInDim S64x1x1 ![] bcast_S_S64x1x1 main_c
  let main_v2_0 : FVec F S64x104x104 .f32 := (fn_eliminate8 (F := F) main_v0 main_v1).1
  let main_v2_1 : IVec S64x1x1 1 := (fn_eliminate8 (F := F) main_v0 main_v1).2
  let main_v3_0 : FVec F S64x104x104 .f32 := (fn_eliminate8 (F := F) main_v2_0 main_v2_1).1
  let main_v3_1 : IVec S64x1x1 1 := (fn_eliminate8 (F := F) main_v2_0 main_v2_1).2
  let main_v4_0 : FVec F S64x104x104 .f32 := (fn_eliminate8 (F := F) main_v3_0 main_v3_1).1
  let main_v4_1 : IVec S64x1x1 1 := (fn_eliminate8 (F := F) main_v3_0 main_v3_1).2
  let main_v5_0 : FVec F S64x104x104 .f32 := (fn_eliminate8 (F := F) main_v4_0 main_v4_1).1
  let main_v5_1 : IVec S64x1x1 1 := (fn_eliminate8 (F := F) main_v4_0 main_v4_1).2
  let main_v6_0 : FVec F S64x104x104 .f32 := (fn_eliminate8 (F := F) main_v5_0 main_v5_1).1
  let main_v6_1 : IVec S64x1x1 1 := (fn_eliminate8 (F := F) main_v5_0 main_v5_1).2
  let main_v7_0 : FVec F S64x104x104 .f32 := (fn_eliminate8 (F := F) main_v6_0 main_v6_1).1
  let main_v7_1 : IVec S64x1x1 1 := (fn_eliminate8 (F := F) main_v6_0 main_v6_1).2
  let main_v8_0 : FVec F S64x104x104 .f32 := (fn_eliminate8 (F := F) main_v7_0 main_v7_1).1
  let main_v8_1 : IVec S64x1x1 1 := (fn_eliminate8 (F := F) main_v7_0 main_v7_1).2
  let main_v9_0 : FVec F S64x104x104 .f32 := (fn_eliminate8 (F := F) main_v8_0 main_v8_1).1
  let main_v9_1 : IVec S64x1x1 1 := (fn_eliminate8 (F := F) main_v8_0 main_v8_1).2
  let main_v10_0 : FVec F S64x104x104 .f32 := (fn_eliminate8 (F := F) main_v9_0 main_v9_1).1
  let main_v10_1 : IVec S64x1x1 1 := (fn_eliminate8 (F := F) main_v9_0 main_v9_1).2
  let main_v11_0 : FVec F S64x104x104 .f32 := (fn_eliminate8 (F := F) main_v10_0 main_v10_1).1
  let main_v11_1 : IVec S64x1x1 1 := (fn_eliminate8 (F := F) main_v10_0 main_v10_1).2
  let main_v12_0 : FVec F S64x104x104 .f32 := (fn_eliminate8 (F := F) main_v11_0 main_v11_1).1
  fn_part1 (F := F) main_arg0 main_arg1 main_arg2 main_arg3 main_arg4 main_v11_0 main_v11_1 main_v12_0
-- ==== Sketch.lean ====
abbrev S64x1024x2048 : Shape := ⟨3, ![64, 1024, 2048]⟩
abbrev S64x8x16 : Shape := ⟨3, ![64, 8, 16]⟩
abbrev S64x2048x104 : Shape := ⟨3, ![64, 2048, 104]⟩
abbrev S64x8x16x128 : Shape := ⟨4, ![64, 8, 16, 128]⟩
abbrev S64x8x2048 : Shape := ⟨3, ![64, 8, 2048]⟩
abbrev S64x104x2048 : Shape := ⟨3, ![64, 104, 2048]⟩
abbrev S64x104x1024 : Shape := ⟨3, ![64, 104, 1024]⟩
abbrev S64x104x104 : Shape := ⟨3, ![64, 104, 104]⟩
abbrev S1x104x2048 : Shape := ⟨3, ![1, 104, 2048]⟩
abbrev S1x1024x2048 : Shape := ⟨3, ![1, 1024, 2048]⟩
abbrev S1x8x2048 : Shape := ⟨3, ![1, 8, 2048]⟩
abbrev S1x104x1024 : Shape := ⟨3, ![1, 104, 1024]⟩
abbrev S1x104x104 : Shape := ⟨3, ![1, 104, 104]⟩
abbrev S1024x2048 : Shape := ⟨2, ![1024, 2048]⟩
abbrev S1x128x2048 : Shape := ⟨3, ![1, 128, 2048]⟩
abbrev S128x2048 : Shape := ⟨2, ![128, 2048]⟩
abbrev S1x1x2048 : Shape := ⟨3, ![1, 1, 2048]⟩
abbrev S1x2048 : Shape := ⟨2, ![1, 2048]⟩
abbrev S104x2048 : Shape := ⟨2, ![104, 2048]⟩
abbrev S104x1024 : Shape := ⟨2, ![104, 1024]⟩
abbrev S104x104 : Shape := ⟨2, ![104, 104]⟩
abbrev S104x104x64 : Shape := ⟨3, ![104, 104, 64]⟩
abbrev S1x104x64 : Shape := ⟨3, ![1, 104, 64]⟩
abbrev S104x64 : Shape := ⟨2, ![104, 64]⟩
abbrev S1x1x64 : Shape := ⟨3, ![1, 1, 64]⟩
abbrev S1x64 : Shape := ⟨2, ![1, 64]⟩
abbrev S64x1024x104 : Shape := ⟨3, ![64, 1024, 104]⟩

abbrev nBuf : Space → Nat
  | .hbm => 36
  | .vmem => 83
  | .smem => 0
  | _ => 0

abbrev bufTy : (tb : Table) → Fin (tcTables nBuf tb) → BufTy
  | .hbm, ⟨0, _⟩ => ⟨S64x1024x2048, .f32⟩
  | .hbm, ⟨1, _⟩ => ⟨S64x8x16, .f32⟩
  | .hbm, ⟨2, _⟩ => ⟨S64x1024x2048, .f32⟩
  | .hbm, ⟨3, _⟩ => ⟨S64x8x16, .f32⟩
  | .hbm, ⟨4, _⟩ => ⟨S64x2048x104, .bf16⟩
  | .hbm, ⟨5, _⟩ => ⟨S64x1024x2048, .fp8e4m3⟩
  | .hbm, ⟨6, _⟩ => ⟨S64x1024x2048, .fp8e4m3⟩
  | .hbm, ⟨7, _⟩ => ⟨S64x8x16, .bf16⟩
  | .hbm, ⟨8, _⟩ => ⟨S64x8x16x128, .bf16⟩
  | .hbm, ⟨9, _⟩ => ⟨S64x8x2048, .bf16⟩
  | .hbm, ⟨10, _⟩ => ⟨S64x8x16, .bf16⟩
  | .hbm, ⟨11, _⟩ => ⟨S64x8x16x128, .bf16⟩
  | .hbm, ⟨12, _⟩ => ⟨S64x8x2048, .bf16⟩
  | .hbm, ⟨13, _⟩ => ⟨S64x104x2048, .bf16⟩
  | .hbm, ⟨14, _⟩ => ⟨S64x104x1024, .f32⟩
  | .hbm, ⟨15, _⟩ => ⟨S64x104x104, .f32⟩
  | .hbm, ⟨16, _⟩ => ⟨S104x104x64, .f32⟩
  | .hbm, ⟨17, _⟩ => ⟨S104x104x64, .f32⟩
  | .hbm, ⟨18, _⟩ => ⟨S64x104x104, .f32⟩
  | .hbm, ⟨19, _⟩ => ⟨S64x104x1024, .f32⟩
  | .hbm, ⟨20, _⟩ => ⟨S64x104x1024, .f32⟩
  | .hbm, ⟨21, _⟩ => ⟨S64x104x104, .f32⟩
  | .hbm, ⟨22, _⟩ => ⟨S104x104x64, .f32⟩
  | .hbm, ⟨23, _⟩ => ⟨S104x104x64, .f32⟩
  | .hbm, ⟨24, _⟩ => ⟨S64x104x104, .f32⟩
  | .hbm, ⟨25, _⟩ => ⟨S64x104x1024, .f32⟩
  | .hbm, ⟨26, _⟩ => ⟨S64x104x1024, .f32⟩
  | .hbm, ⟨27, _⟩ => ⟨S64x104x104, .f32⟩
  | .hbm, ⟨28, _⟩ => ⟨S104x104x64, .f32⟩
  | .hbm, ⟨29, _⟩ => ⟨S104x104x64, .f32⟩
  | .hbm, ⟨30, _⟩ => ⟨S64x104x104, .f32⟩
  | .hbm, ⟨31, _⟩ => ⟨S64x104x1024, .f32⟩
  | .hbm, ⟨32, _⟩ => ⟨S64x104x2048, .f32⟩
  | .hbm, ⟨33, _⟩ => ⟨S64x1024x104, .f32⟩
  | .hbm, ⟨34, _⟩ => ⟨S64x1024x104, .f32⟩
  | .hbm, ⟨35, _⟩ => ⟨S64x1024x104, .f32⟩
  | .local _ .vmem, ⟨0, _⟩ => ⟨S1x104x2048, .bf16⟩
  | .local _ .vmem, ⟨1, _⟩ => ⟨S1x104x2048, .bf16⟩
  | .local _ .vmem, ⟨2, _⟩ => ⟨S1x1024x2048, .fp8e4m3⟩
  | .local _ .vmem, ⟨3, _⟩ => ⟨S1x1024x2048, .fp8e4m3⟩
  | .local _ .vmem, ⟨4, _⟩ => ⟨S1x8x2048, .bf16⟩
  | .local _ .vmem, ⟨5, _⟩ => ⟨S1x8x2048, .bf16⟩
  | .local _ .vmem, ⟨6, _⟩ => ⟨S1x1024x2048, .fp8e4m3⟩
  | .local _ .vmem, ⟨7, _⟩ => ⟨S1x1024x2048, .fp8e4m3⟩
  | .local _ .vmem, ⟨8, _⟩ => ⟨S1x8x2048, .bf16⟩
  | .local _ .vmem, ⟨9, _⟩ => ⟨S1x8x2048, .bf16⟩
  | .local _ .vmem, ⟨10, _⟩ => ⟨S1x104x1024, .f32⟩
  | .local _ .vmem, ⟨11, _⟩ => ⟨S1x104x1024, .f32⟩
  | .local _ .vmem, ⟨12, _⟩ => ⟨S1x104x104, .f32⟩
  | .local _ .vmem, ⟨13, _⟩ => ⟨S1x104x104, .f32⟩
  | .local _ .vmem, ⟨14, _⟩ => ⟨S1024x2048, .bf16⟩
  | .local _ .vmem, ⟨15, _⟩ => ⟨S1024x2048, .bf16⟩
  | .local _ .vmem, ⟨16, _⟩ => ⟨S104x104x64, .f32⟩
  | .local _ .vmem, ⟨17, _⟩ => ⟨S104x104x64, .f32⟩
  | .local _ .vmem, ⟨18, _⟩ => ⟨S104x104x64, .f32⟩
  | .local _ .vmem, ⟨19, _⟩ => ⟨S1x104x1024, .f32⟩
  | .local _ .vmem, ⟨20, _⟩ => ⟨S1x104x1024, .f32⟩
  | .local _ .vmem, ⟨21, _⟩ => ⟨S1x104x104, .f32⟩
  | .local _ .vmem, ⟨22, _⟩ => ⟨S1x104x104, .f32⟩
  | .local _ .vmem, ⟨23, _⟩ => ⟨S1x1024x2048, .fp8e4m3⟩
  | .local _ .vmem, ⟨24, _⟩ => ⟨S1x1024x2048, .fp8e4m3⟩
  | .local _ .vmem, ⟨25, _⟩ => ⟨S1x8x2048, .bf16⟩
  | .local _ .vmem, ⟨26, _⟩ => ⟨S1x8x2048, .bf16⟩
  | .local _ .vmem, ⟨27, _⟩ => ⟨S1x1024x2048, .fp8e4m3⟩
  | .local _ .vmem, ⟨28, _⟩ => ⟨S1x1024x2048, .fp8e4m3⟩
  | .local _ .vmem, ⟨29, _⟩ => ⟨S1x8x2048, .bf16⟩
  | .local _ .vmem, ⟨30, _⟩ => ⟨S1x8x2048, .bf16⟩
  | .local _ .vmem, ⟨31, _⟩ => ⟨S1x104x1024, .f32⟩
  | .local _ .vmem, ⟨32, _⟩ => ⟨S1x104x1024, .f32⟩
  | .local _ .vmem, ⟨33, _⟩ => ⟨S1x104x1024, .f32⟩
  | .local _ .vmem, ⟨34, _⟩ => ⟨S1x104x1024, .f32⟩
  | .local _ .vmem, ⟨35, _⟩ => ⟨S1x104x104, .f32⟩
  | .local _ .vmem, ⟨36, _⟩ => ⟨S1x104x104, .f32⟩
  | .local _ .vmem, ⟨37, _⟩ => ⟨S1024x2048, .bf16⟩
  | .local _ .vmem, ⟨38, _⟩ => ⟨S1024x2048, .bf16⟩
  | .local _ .vmem, ⟨39, _⟩ => ⟨S104x104x64, .f32⟩
  | .local _ .vmem, ⟨40, _⟩ => ⟨S104x104x64, .f32⟩
  | .local _ .vmem, ⟨41, _⟩ => ⟨S104x104x64, .f32⟩
  | .local _ .vmem, ⟨42, _⟩ => ⟨S1x104x1024, .f32⟩
  | .local _ .vmem, ⟨43, _⟩ => ⟨S1x104x1024, .f32⟩
  | .local _ .vmem, ⟨44, _⟩ => ⟨S1x104x104, .f32⟩
  | .local _ .vmem, ⟨45, _⟩ => ⟨S1x104x104, .f32⟩
  | .local _ .vmem, ⟨46, _⟩ => ⟨S1x1024x2048, .fp8e4m3⟩
  | .local _ .vmem, ⟨47, _⟩ => ⟨S1x1024x2048, .fp8e4m3⟩
  | .local _ .vmem, ⟨48, _⟩ => ⟨S1x8x2048, .bf16⟩
  | .local _ .vmem, ⟨49, _⟩ => ⟨S1x8x2048, .bf16⟩
  | .local _ .vmem, ⟨50, _⟩ => ⟨S1x1024x2048, .fp8e4m3⟩
  | .local _ .vmem, ⟨51, _⟩ => ⟨S1x1024x2048, .fp8e4m3⟩
  | .local _ .vmem, ⟨52, _⟩ => ⟨S1x8x2048, .bf16⟩
  | .local _ .vmem, ⟨53, _⟩ => ⟨S1x8x2048, .bf16⟩
  | .local _ .vmem, ⟨54, _⟩ => ⟨S1x104x1024, .f32⟩
  | .local _ .vmem, ⟨55, _⟩ => ⟨S1x104x1024, .f32⟩
  | .local _ .vmem, ⟨56, _⟩ => ⟨S1x104x1024, .f32⟩
  | .local _ .vmem, ⟨57, _⟩ => ⟨S1x104x1024, .f32⟩
  | .local _ .vmem, ⟨58, _⟩ => ⟨S1x104x104, .f32⟩
  | .local _ .vmem, ⟨59, _⟩ => ⟨S1x104x104, .f32⟩
  | .local _ .vmem, ⟨60, _⟩ => ⟨S1024x2048, .bf16⟩
  | .local _ .vmem, ⟨61, _⟩ => ⟨S1024x2048, .bf16⟩
  | .local _ .vmem, ⟨62, _⟩ => ⟨S104x104x64, .f32⟩
  | .local _ .vmem, ⟨63, _⟩ => ⟨S104x104x64, .f32⟩
  | .local _ .vmem, ⟨64, _⟩ => ⟨S104x104x64, .f32⟩
  | .local _ .vmem, ⟨65, _⟩ => ⟨S1x104x1024, .f32⟩
  | .local _ .vmem, ⟨66, _⟩ => ⟨S1x104x1024, .f32⟩
  | .local _ .vmem, ⟨67, _⟩ => ⟨S1x104x104, .f32⟩
  | .local _ .vmem, ⟨68, _⟩ => ⟨S1x104x104, .f32⟩
  | .local _ .vmem, ⟨69, _⟩ => ⟨S1x1024x2048, .fp8e4m3⟩
  | .local _ .vmem, ⟨70, _⟩ => ⟨S1x1024x2048, .fp8e4m3⟩
  | .local _ .vmem, ⟨71, _⟩ => ⟨S1x8x2048, .bf16⟩
  | .local _ .vmem, ⟨72, _⟩ => ⟨S1x8x2048, .bf16⟩
  | .local _ .vmem, ⟨73, _⟩ => ⟨S1x1024x2048, .fp8e4m3⟩
  | .local _ .vmem, ⟨74, _⟩ => ⟨S1x1024x2048, .fp8e4m3⟩
  | .local _ .vmem, ⟨75, _⟩ => ⟨S1x8x2048, .bf16⟩
  | .local _ .vmem, ⟨76, _⟩ => ⟨S1x8x2048, .bf16⟩
  | .local _ .vmem, ⟨77, _⟩ => ⟨S1x104x1024, .f32⟩
  | .local _ .vmem, ⟨78, _⟩ => ⟨S1x104x1024, .f32⟩
  | .local _ .vmem, ⟨79, _⟩ => ⟨S1x104x2048, .f32⟩
  | .local _ .vmem, ⟨80, _⟩ => ⟨S1x104x2048, .f32⟩
  | .local _ .vmem, ⟨81, _⟩ => ⟨S1024x2048, .bf16⟩
  | .local _ .vmem, ⟨82, _⟩ => ⟨S1024x2048, .bf16⟩
  | _, _ => ⟨S64x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc2_stg7_0 : Ref sig .tc := ⟨.vmem, 33, rfl⟩
abbrev cc2_stg7_1 : Ref sig .tc := ⟨.vmem, 34, rfl⟩
abbrev cc2_stg8_0 : Ref sig .tc := ⟨.vmem, 35, rfl⟩
abbrev cc2_stg8_1 : Ref sig .tc := ⟨.vmem, 36, rfl⟩
abbrev cc2_scratch0 : Ref sig .tc := ⟨.vmem, 37, rfl⟩
abbrev cc2_scratch1 : Ref sig .tc := ⟨.vmem, 38, rfl⟩
abbrev cc3_stg0_0 : Ref sig .tc := ⟨.vmem, 39, rfl⟩
abbrev cc3_stg1_0 : Ref sig .tc := ⟨.vmem, 40, rfl⟩
abbrev cc3_scratch0 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg3_1 : Ref sig .tc := ⟨.vmem, 49, rfl⟩
abbrev cc4_stg4_0 : Ref sig .tc := ⟨.vmem, 50, rfl⟩
abbrev cc4_stg4_1 : Ref sig .tc := ⟨.vmem, 51, rfl⟩
abbrev cc4_stg5_0 : Ref sig .tc := ⟨.vmem, 52, rfl⟩
abbrev cc4_stg5_1 : Ref sig .tc := ⟨.vmem, 53, rfl⟩
abbrev cc4_stg6_0 : Ref sig .tc := ⟨.vmem, 54, rfl⟩
abbrev cc4_stg6_1 : Ref sig .tc := ⟨.vmem, 55, rfl⟩
abbrev cc4_stg7_0 : Ref sig .tc := ⟨.vmem, 56, rfl⟩
abbrev cc4_stg7_1 : Ref sig .tc := ⟨.vmem, 57, rfl⟩
abbrev cc4_stg8_0 : Ref sig .tc := ⟨.vmem, 58, rfl⟩
abbrev cc4_stg8_1 : Ref sig .tc := ⟨.vmem, 59, rfl⟩
abbrev cc4_scratch0 : Ref sig .tc := ⟨.vmem, 60, rfl⟩
abbrev cc4_scratch1 : Ref sig .tc := ⟨.vmem, 61, rfl⟩
abbrev cc5_stg0_0 : Ref sig .tc := ⟨.vmem, 62, rfl⟩
abbrev cc5_stg1_0 : Ref sig .tc := ⟨.vmem, 63, rfl⟩
abbrev cc5_scratch0 : Ref sig .tc := ⟨.vmem, 64, rfl⟩
abbrev cc6_stg0_0 : Ref sig .tc := ⟨.vmem, 65, rfl⟩
abbrev cc6_stg0_1 : Ref sig .tc := ⟨.vmem, 66, rfl⟩
abbrev cc6_stg1_0 : Ref sig .tc := ⟨.vmem, 67, rfl⟩
abbrev cc6_stg1_1 : Ref sig .tc := ⟨.vmem, 68, rfl⟩
abbrev cc6_stg2_0 : Ref sig .tc := ⟨.vmem, 69, rfl⟩
abbrev cc6_stg2_1 : Ref sig .tc := ⟨.vmem, 70, rfl⟩
abbrev cc6_stg3_0 : Ref sig .tc := ⟨.vmem, 71, rfl⟩
abbrev cc6_stg3_1 : Ref sig .tc := ⟨.vmem, 72, rfl⟩
abbrev cc6_stg4_0 : Ref sig .tc := ⟨.vmem, 73, rfl⟩
abbrev cc6_stg4_1 : Ref sig .tc := ⟨.vmem, 74, rfl⟩
abbrev cc6_stg5_0 : Ref sig .tc := ⟨.vmem, 75, rfl⟩
abbrev cc6_stg5_1 : Ref sig .tc := ⟨.vmem, 76, rfl⟩
abbrev cc6_stg6_0 : Ref sig .tc := ⟨.vmem, 77, rfl⟩
abbrev cc6_stg6_1 : Ref sig .tc := ⟨.vmem, 78, rfl⟩
abbrev cc6_stg7_0 : Ref sig .tc := ⟨.vmem, 79, rfl⟩
abbrev cc6_stg7_1 : Ref sig .tc := ⟨.vmem, 80, rfl⟩
abbrev cc6_scratch0 : Ref sig .tc := ⟨.vmem, 81, rfl⟩
abbrev cc6_scratch1 : Ref sig .tc := ⟨.vmem, 82, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem1_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem7_1 : DmaSem sig := 31
abbrev cc2_sem8_0 : DmaSem sig := 32
abbrev cc2_sem8_1 : DmaSem sig := 33
abbrev cc3_sem0_0 : DmaSem sig := 34
abbrev cc3_sem1_0 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem3_1 : DmaSem sig := 43
abbrev cc4_sem4_0 : DmaSem sig := 44
abbrev cc4_sem4_1 : DmaSem sig := 45
abbrev cc4_sem5_0 : DmaSem sig := 46
abbrev cc4_sem5_1 : DmaSem sig := 47
abbrev cc4_sem6_0 : DmaSem sig := 48
abbrev cc4_sem6_1 : DmaSem sig := 49
abbrev cc4_sem7_0 : DmaSem sig := 50
abbrev cc4_sem7_1 : DmaSem sig := 51
abbrev cc4_sem8_0 : DmaSem sig := 52
abbrev cc4_sem8_1 : DmaSem sig := 53
abbrev cc5_sem0_0 : DmaSem sig := 54
abbrev cc5_sem1_0 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem2_1 : DmaSem sig := 61
abbrev cc6_sem3_0 : DmaSem sig := 62
abbrev cc6_sem3_1 : DmaSem sig := 63
abbrev cc6_sem4_0 : DmaSem sig := 64
abbrev cc6_sem4_1 : DmaSem sig := 65
abbrev cc6_sem5_0 : DmaSem sig := 66
abbrev cc6_sem5_1 : DmaSem sig := 67
abbrev cc6_sem6_0 : DmaSem sig := 68
abbrev cc6_sem6_1 : DmaSem sig := 69
abbrev cc6_sem7_0 : DmaSem sig := 70
abbrev cc6_sem7_1 : DmaSem sig := 71

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x104x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x104x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x104x104 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := .none

@[reducible] def k1_t1_loop : Scf.Loop 32 :=
  let c0_i32_5 : BitVec 32 := 0#32
  let c104_i32 : BitVec 32 := 104#32
  let v5 : BitVec 32 := Scalar.addi c0_i32_5 c104_i32
  let c1_i32 : BitVec 32 := 1#32
  ⟨c0_i32_5, v5, c1_i32⟩
def k1_off1 (k1_t1 : Fin k1_t1_loop.trips) : Fin 3 → Nat :=
  let c0_i32_5 : BitVec 32 := 0#32
  let c1_i32 : BitVec 32 := 1#32
  let arg3 : BitVec 32 := Scf.iv c0_i32_5 c1_i32 k1_t1
  let v8 : Index := Scalar.indexCast arg3
  let c0_11 : Index := 0#32
  let c0_12 : Index := 0#32
  ![v8.toNat, 0, 0]
def k1_off2 (k1_t1 : Fin k1_t1_loop.trips) : Fin 3 → Nat :=
  let c0_i32_5 : BitVec 32 := 0#32
  let c1_i32 : BitVec 32 := 1#32
  let arg3 : BitVec 32 := Scf.iv c0_i32_5 c1_i32 k1_t1
  let v11 : Index := Scalar.indexCast arg3
  let v12 : Index := Scalar.indexCast arg3
  let c0_13 : Index := 0#32
  ![v11.toNat, v12.toNat, 0]
@[reducible] def k1_t2_loop (k1_t1 : Fin k1_t1_loop.trips) : Scf.Loop 32 :=
  let c0_i32_5 : BitVec 32 := 0#32
  let c1_i32 : BitVec 32 := 1#32
  let arg3 : BitVec 32 := Scf.iv c0_i32_5 c1_i32 k1_t1
  let c1_i32_14 : BitVec 32 := 1#32
  let v17 : BitVec 32 := Scalar.addi arg3 c1_i32_14
  let c104_i32_15 : BitVec 32 := 104#32
  let v18 : BitVec 32 := Scalar.subi c104_i32_15 v17
  let c1_i32_16 : BitVec 32 := 1#32
  let v20 : BitVec 32 := Scalar.divsi v18 c1_i32_16
  let v21 : BitVec 32 := Scalar.muli v20 c1_i32_16
  let v22 : BitVec 32 := Scalar.addi v17 v21
  let c1_i32_17 : BitVec 32 := 1#32
  ⟨v17, v22, c1_i32_17⟩
def k1_off3 (k1_t1 : Fin k1_t1_loop.trips) (k1_t2 : Fin (k1_t2_loop k1_t1).trips) : Fin 3 → Nat :=
  let c0_i32_5 : BitVec 32 := 0#32
  let c1_i32 : BitVec 32 := 1#32
  let arg3 : BitVec 32 := Scf.iv c0_i32_5 c1_i32 k1_t1
  let c1_i32_14 : BitVec 32 := 1#32
  let v17 : BitVec 32 := Scalar.addi arg3 c1_i32_14
  let c1_i32_17 : BitVec 32 := 1#32
  let arg4 : BitVec 32 := Scf.iv v17 c1_i32_17 k1_t2
  let v23 : Index := Scalar.indexCast arg4
  let v24 : Index := Scalar.indexCast arg3
  let c0_19 : Index := 0#32
  ![v23.toNat, v24.toNat, 0]
def k1_off4 (k1_t1 : Fin k1_t1_loop.trips) (k1_t2 : Fin (k1_t2_loop k1_t1).trips) : Fin 3 → Nat :=
  let c0_i32_5 : BitVec 32 := 0#32
  let c1_i32 : BitVec 32 := 1#32
  let arg3 : BitVec 32 := Scf.iv c0_i32_5 c1_i32 k1_t1
  let c1_i32_14 : BitVec 32 := 1#32
  let v17 : BitVec 32 := Scalar.addi arg3 c1_i32_14
  let c1_i32_17 : BitVec 32 := 1#32
  let arg4 : BitVec 32 := Scf.iv v17 c1_i32_17 k1_t2
  let v28 : Index := Scalar.indexCast arg4
  let c0_20 : Index := 0#32
  let c0_21 : Index := 0#32
  ![v28.toNat, 0, 0]
@[reducible] def k1_t3_loop (k1_t1 : Fin k1_t1_loop.trips) : Scf.Loop 32 :=
  let c0_i32_5 : BitVec 32 := 0#32
  let c1_i32 : BitVec 32 := 1#32
  let arg3 : BitVec 32 := Scf.iv c0_i32_5 c1_i32 k1_t1
  let c1_i32_14 : BitVec 32 := 1#32
  let v17 : BitVec 32 := Scalar.addi arg3 c1_i32_14
  let c104_i32_15 : BitVec 32 := 104#32
  let v18 : BitVec 32 := Scalar.subi c104_i32_15 v17
  let c1_i32_16 : BitVec 32 := 1#32
  let v20 : BitVec 32 := Scalar.divsi v18 c1_i32_16
  let v21 : BitVec 32 := Scalar.muli v20 c1_i32_16
  let v22 : BitVec 32 := Scalar.addi v17 v21
  let v19 : BitVec 32 := Scalar.addi v17 v18
  let c1_i32_18 : BitVec 32 := 1#32
  ⟨v22, v19, c1_i32_18⟩
def k1_off5 (k1_t1 : Fin k1_t1_loop.trips) (k1_t3 : Fin (k1_t3_loop k1_t1).trips) : Fin 3 → Nat :=
  let c0_i32_5 : BitVec 32 := 0#32
  let c1_i32 : BitVec 32 := 1#32
  let arg3 : BitVec 32 := Scf.iv c0_i32_5 c1_i32 k1_t1
  let c1_i32_14 : BitVec 32 := 1#32
  let v17 : BitVec 32 := Scalar.addi arg3 c1_i32_14
  let c104_i32_15 : BitVec 32 := 104#32
  let v18 : BitVec 32 := Scalar.subi c104_i32_15 v17
  let c1_i32_16 : BitVec 32 := 1#32
  let v20 : BitVec 32 := Scalar.divsi v18 c1_i32_16
  let v21 : BitVec 32 := Scalar.muli v20 c1_i32_16
  let v22 : BitVec 32 := Scalar.addi v17 v21
  let c1_i32_18 : BitVec 32 := 1#32
  let arg4 : BitVec 32 := Scf.iv v22 c1_i32_18 k1_t3
  let v23 : Index := Scalar.indexCast arg4
  let v24 : Index := Scalar.indexCast arg3
  let c0_19 : Index := 0#32
  ![v23.toNat, v24.toNat, 0]
def k1_off6 (k1_t1 : Fin k1_t1_loop.trips) (k1_t3 : Fin (k1_t3_loop k1_t1).trips) : Fin 3 → Nat :=
  let c0_i32_5 : BitVec 32 := 0#32
  let c1_i32 : BitVec 32 := 1#32
  let arg3 : BitVec 32 := Scf.iv c0_i32_5 c1_i32 k1_t1
  let c1_i32_14 : BitVec 32 := 1#32
  let v17 : BitVec 32 := Scalar.addi arg3 c1_i32_14
  let c104_i32_15 : BitVec 32 := 104#32
  let v18 : BitVec 32 := Scalar.subi c104_i32_15 v17
  let c1_i32_16 : BitVec 32 := 1#32
  let v20 : BitVec 32 := Scalar.divsi v18 c1_i32_16
  let v21 : BitVec 32 := Scalar.muli v20 c1_i32_16
  let v22 : BitVec 32 := Scalar.addi v17 v21
  let c1_i32_18 : BitVec 32 := 1#32
  let arg4 : BitVec 32 := Scf.iv v22 c1_i32_18 k1_t3
  let v28 : Index := Scalar.indexCast arg4
  let c0_20 : Index := 0#32
  let c0_21 : Index := 0#32
  ![v28.toNat, 0, 0]
@[reducible] def k1_t4_loop : Scf.Loop 32 :=
  let c0_i32_7 : BitVec 32 := 0#32
  let c104_i32_8 : BitVec 32 := 104#32
  let v7 : BitVec 32 := Scalar.addi c0_i32_7 c104_i32_8
  let c1_i32_9 : BitVec 32 := 1#32
  ⟨c0_i32_7, v7, c1_i32_9⟩
def k1_off7 (k1_t4 : Fin k1_t4_loop.trips) : Fin 3 → Nat :=
  let c0_i32_7 : BitVec 32 := 0#32
  let c1_i32_9 : BitVec 32 := 1#32
  let arg3 : BitVec 32 := Scf.iv c0_i32_7 c1_i32_9 k1_t4
  let v8 : Index := Scalar.indexCast arg3
  let v9 : Index := Scalar.indexCast arg3
  let c0_11 : Index := 0#32
  ![v8.toNat, v9.toNat, 0]
def k1_off8 (k1_t4 : Fin k1_t4_loop.trips) : Fin 3 → Nat :=
  let c0_i32_7 : BitVec 32 := 0#32
  let c1_i32_9 : BitVec 32 := 1#32
  let arg3 : BitVec 32 := Scf.iv c0_i32_7 c1_i32_9 k1_t4
  let v15 : Index := Scalar.indexCast arg3
  let c0_12 : Index := 0#32
  let c0_13 : Index := 0#32
  ![v15.toNat, 0, 0]
abbrev stage1_0 : Fin 1 → Memref sig .tc .vmem S104x104x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S104x104x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨1, ![64], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x104x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x104x104 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024x2048 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x8x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1024x2048 .fp8e4m3 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x8x2048 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x104x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x104x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x104x104 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := .none

@[reducible] def k3_t1_loop : Scf.Loop 32 :=
  let c0_i32_5 : BitVec 32 := 0#32
  let c104_i32 : BitVec 32 := 104#32
  let v5 : BitVec 32 := Scalar.addi c0_i32_5 c104_i32
  let c1_i32 : BitVec 32 := 1#32
  ⟨c0_i32_5, v5, c1_i32⟩
def k3_off1 (k3_t1 : Fin k3_t1_loop.trips) : Fin 3 → Nat :=
  let c0_i32_5 : BitVec 32 := 0#32
  let c1_i32 : BitVec 32 := 1#32
  let arg3 : BitVec 32 := Scf.iv c0_i32_5 c1_i32 k3_t1
  let v8 : Index := Scalar.indexCast arg3
  let c0_11 : Index := 0#32
  let c0_12 : Index := 0#32
  ![v8.toNat, 0, 0]
def k3_off2 (k3_t1 : Fin k3_t1_loop.trips) : Fin 3 → Nat :=
  let c0_i32_5 : BitVec 32 := 0#32
  let c1_i32 : BitVec 32 := 1#32
  let arg3 : BitVec 32 := Scf.iv c0_i32_5 c1_i32 k3_t1
  let v11 : Index := Scalar.indexCast arg3
  let v12 : Index := Scalar.indexCast arg3
  let c0_13 : Index := 0#32
  ![v11.toNat, v12.toNat, 0]
@[reducible] def k3_t2_loop (k3_t1 : Fin k3_t1_loop.trips) : Scf.Loop 32 :=
  let c0_i32_5 : BitVec 32 := 0#32
  let c1_i32 : BitVec 32 := 1#32
  let arg3 : BitVec 32 := Scf.iv c0_i32_5 c1_i32 k3_t1
  let c1_i32_14 : BitVec 32 := 1#32
  let v17 : BitVec 32 := Scalar.addi arg3 c1_i32_14
  let c104_i32_15 : BitVec 32 := 104#32
  let v18 : BitVec 32 := Scalar.subi c104_i32_15 v17
  let c1_i32_16 : BitVec 32 := 1#32
  let v20 : BitVec 32 := Scalar.divsi v18 c1_i32_16
  let v21 : BitVec 32 := Scalar.muli v20 c1_i32_16
  let v22 : BitVec 32 := Scalar.addi v17 v21
  let c1_i32_17 : BitVec 32 := 1#32
  ⟨v17, v22, c1_i32_17⟩
def k3_off3 (k3_t1 : Fin k3_t1_loop.trips) (k3_t2 : Fin (k3_t2_loop k3_t1).trips) : Fin 3 → Nat :=
  let c0_i32_5 : BitVec 32 := 0#32
  let c1_i32 : BitVec 32 := 1#32
  let arg3 : BitVec 32 := Scf.iv c0_i32_5 c1_i32 k3_t1
  let c1_i32_14 : BitVec 32 := 1#32
  let v17 : BitVec 32 := Scalar.addi arg3 c1_i32_14
  let c1_i32_17 : BitVec 32 := 1#32
  let arg4 : BitVec 32 := Scf.iv v17 c1_i32_17 k3_t2
  let v23 : Index := Scalar.indexCast arg4
  let v24 : Index := Scalar.indexCast arg3
  let c0_19 : Index := 0#32
  ![v23.toNat, v24.toNat, 0]
def k3_off4 (k3_t1 : Fin k3_t1_loop.trips) (k3_t2 : Fin (k3_t2_loop k3_t1).trips) : Fin 3 → Nat :=
  let c0_i32_5 : BitVec 32 := 0#32
  let c1_i32 : BitVec 32 := 1#32
  let arg3 : BitVec 32 := Scf.iv c0_i32_5 c1_i32 k3_t1
  let c1_i32_14 : BitVec 32 := 1#32
  let v17 : BitVec 32 := Scalar.addi arg3 c1_i32_14
  let c1_i32_17 : BitVec 32 := 1#32
  let arg4 : BitVec 32 := Scf.iv v17 c1_i32_17 k3_t2
  let v28 : Index := Scalar.indexCast arg4
  let c0_20 : Index := 0#32
  let c0_21 : Index := 0#32
  ![v28.toNat, 0, 0]
@[reducible] def k3_t3_loop (k3_t1 : Fin k3_t1_loop.trips) : Scf.Loop 32 :=
  let c0_i32_5 : BitVec 32 := 0#32
  let c1_i32 : BitVec 32 := 1#32
  let arg3 : BitVec 32 := Scf.iv c0_i32_5 c1_i32 k3_t1
  let c1_i32_14 : BitVec 32 := 1#32
  let v17 : BitVec 32 := Scalar.addi arg3 c1_i32_14
  let c104_i32_15 : BitVec 32 := 104#32
  let v18 : BitVec 32 := Scalar.subi c104_i32_15 v17
  let c1_i32_16 : BitVec 32 := 1#32
  let v20 : BitVec 32 := Scalar.divsi v18 c1_i32_16
  let v21 : BitVec 32 := Scalar.muli v20 c1_i32_16
  let v22 : BitVec 32 := Scalar.addi v17 v21
  let v19 : BitVec 32 := Scalar.addi v17 v18
  let c1_i32_18 : BitVec 32 := 1#32
  ⟨v22, v19, c1_i32_18⟩
def k3_off5 (k3_t1 : Fin k3_t1_loop.trips) (k3_t3 : Fin (k3_t3_loop k3_t1).trips) : Fin 3 → Nat :=
  let c0_i32_5 : BitVec 32 := 0#32
  let c1_i32 : BitVec 32 := 1#32
  let arg3 : BitVec 32 := Scf.iv c0_i32_5 c1_i32 k3_t1
  let c1_i32_14 : BitVec 32 := 1#32
  let v17 : BitVec 32 := Scalar.addi arg3 c1_i32_14
  let c104_i32_15 : BitVec 32 := 104#32
  let v18 : BitVec 32 := Scalar.subi c104_i32_15 v17
  let c1_i32_16 : BitVec 32 := 1#32
  let v20 : BitVec 32 := Scalar.divsi v18 c1_i32_16
  let v21 : BitVec 32 := Scalar.muli v20 c1_i32_16
  let v22 : BitVec 32 := Scalar.addi v17 v21
  let c1_i32_18 : BitVec 32 := 1#32
  let arg4 : BitVec 32 := Scf.iv v22 c1_i32_18 k3_t3
  let v23 : Index := Scalar.indexCast arg4
  let v24 : Index := Scalar.indexCast arg3
  let c0_19 : Index := 0#32
  ![v23.toNat, v24.toNat, 0]
def k3_off6 (k3_t1 : Fin k3_t1_loop.trips) (k3_t3 : Fin (k3_t3_loop k3_t1).trips) : Fin 3 → Nat :=
  let c0_i32_5 : BitVec 32 := 0#32
  let c1_i32 : BitVec 32 := 1#32
  let arg3 : BitVec 32 := Scf.iv c0_i32_5 c1_i32 k3_t1
  let c1_i32_14 : BitVec 32 := 1#32
  let v17 : BitVec 32 := Scalar.addi arg3 c1_i32_14
  let c104_i32_15 : BitVec 32 := 104#32
  let v18 : BitVec 32 := Scalar.subi c104_i32_15 v17
  let c1_i32_16 : BitVec 32 := 1#32
  let v20 : BitVec 32 := Scalar.divsi v18 c1_i32_16
  let v21 : BitVec 32 := Scalar.muli v20 c1_i32_16
  let v22 : BitVec 32 := Scalar.addi v17 v21
  let c1_i32_18 : BitVec 32 := 1#32
  let arg4 : BitVec 32 := Scf.iv v22 c1_i32_18 k3_t3
  let v28 : Index := Scalar.indexCast arg4
  let c0_20 : Index := 0#32
  let c0_21 : Index := 0#32
  ![v28.toNat, 0, 0]
@[reducible] def k3_t4_loop : Scf.Loop 32 :=
  let c0_i32_7 : BitVec 32 := 0#32
  let c104_i32_8 : BitVec 32 := 104#32
  let v7 : BitVec 32 := Scalar.addi c0_i32_7 c104_i32_8
  let c1_i32_9 : BitVec 32 := 1#32
  ⟨c0_i32_7, v7, c1_i32_9⟩
def k3_off7 (k3_t4 : Fin k3_t4_loop.trips) : Fin 3 → Nat :=
  let c0_i32_7 : BitVec 32 := 0#32
  let c1_i32_9 : BitVec 32 := 1#32
  let arg3 : BitVec 32 := Scf.iv c0_i32_7 c1_i32_9 k3_t4
  let v8 : Index := Scalar.indexCast arg3
  let v9 : Index := Scalar.indexCast arg3
  let c0_11 : Index := 0#32
  ![v8.toNat, v9.toNat, 0]
def k3_off8 (k3_t4 : Fin k3_t4_loop.trips) : Fin 3 → Nat :=
  let c0_i32_7 : BitVec 32 := 0#32
  let c1_i32_9 : BitVec 32 := 1#32
  let arg3 : BitVec 32 := Scf.iv c0_i32_7 c1_i32_9 k3_t4
  let v15 : Index := Scalar.indexCast arg3
  let c0_12 : Index := 0#32
  let c0_13 : Index := 0#32
  ![v15.toNat, 0, 0]
abbrev stage3_0 : Fin 1 → Memref sig .tc .vmem S104x104x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S104x104x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev grid4 : Pipeline.Grid := ⟨1, ![64], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x104x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x104x104 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x1024x2048 .fp8e4m3 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x8x2048 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x1024x2048 .fp8e4m3 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x8x2048 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x104x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x104x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x104x104 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := .none

@[reducible] def k5_t1_loop : Scf.Loop 32 :=
  let c0_i32_5 : BitVec 32 := 0#32
  let c104_i32 : BitVec 32 := 104#32
  let v5 : BitVec 32 := Scalar.addi c0_i32_5 c104_i32
  let c1_i32 : BitVec 32 := 1#32
  ⟨c0_i32_5, v5, c1_i32⟩
def k5_off1 (k5_t1 : Fin k5_t1_loop.trips) : Fin 3 → Nat :=
  let c0_i32_5 : BitVec 32 := 0#32
  let c1_i32 : BitVec 32 := 1#32
  let arg3 : BitVec 32 := Scf.iv c0_i32_5 c1_i32 k5_t1
  let v8 : Index := Scalar.indexCast arg3
  let c0_11 : Index := 0#32
  let c0_12 : Index := 0#32
  ![v8.toNat, 0, 0]
def k5_off2 (k5_t1 : Fin k5_t1_loop.trips) : Fin 3 → Nat :=
  let c0_i32_5 : BitVec 32 := 0#32
  let c1_i32 : BitVec 32 := 1#32
  let arg3 : BitVec 32 := Scf.iv c0_i32_5 c1_i32 k5_t1
  let v11 : Index := Scalar.indexCast arg3
  let v12 : Index := Scalar.indexCast arg3
  let c0_13 : Index := 0#32
  ![v11.toNat, v12.toNat, 0]
@[reducible] def k5_t2_loop (k5_t1 : Fin k5_t1_loop.trips) : Scf.Loop 32 :=
  let c0_i32_5 : BitVec 32 := 0#32
  let c1_i32 : BitVec 32 := 1#32
  let arg3 : BitVec 32 := Scf.iv c0_i32_5 c1_i32 k5_t1
  let c1_i32_14 : BitVec 32 := 1#32
  let v17 : BitVec 32 := Scalar.addi arg3 c1_i32_14
  let c104_i32_15 : BitVec 32 := 104#32
  let v18 : BitVec 32 := Scalar.subi c104_i32_15 v17
  let c1_i32_16 : BitVec 32 := 1#32
  let v20 : BitVec 32 := Scalar.divsi v18 c1_i32_16
  let v21 : BitVec 32 := Scalar.muli v20 c1_i32_16
  let v22 : BitVec 32 := Scalar.addi v17 v21
  let c1_i32_17 : BitVec 32 := 1#32
  ⟨v17, v22, c1_i32_17⟩
def k5_off3 (k5_t1 : Fin k5_t1_loop.trips) (k5_t2 : Fin (k5_t2_loop k5_t1).trips) : Fin 3 → Nat :=
  let c0_i32_5 : BitVec 32 := 0#32
  let c1_i32 : BitVec 32 := 1#32
  let arg3 : BitVec 32 := Scf.iv c0_i32_5 c1_i32 k5_t1
  let c1_i32_14 : BitVec 32 := 1#32
  let v17 : BitVec 32 := Scalar.addi arg3 c1_i32_14
  let c1_i32_17 : BitVec 32 := 1#32
  let arg4 : BitVec 32 := Scf.iv v17 c1_i32_17 k5_t2
  let v23 : Index := Scalar.indexCast arg4
  let v24 : Index := Scalar.indexCast arg3
  let c0_19 : Index := 0#32
  ![v23.toNat, v24.toNat, 0]
def k5_off4 (k5_t1 : Fin k5_t1_loop.trips) (k5_t2 : Fin (k5_t2_loop k5_t1).trips) : Fin 3 → Nat :=
  let c0_i32_5 : BitVec 32 := 0#32
  let c1_i32 : BitVec 32 := 1#32
  let arg3 : BitVec 32 := Scf.iv c0_i32_5 c1_i32 k5_t1
  let c1_i32_14 : BitVec 32 := 1#32
  let v17 : BitVec 32 := Scalar.addi arg3 c1_i32_14
  let c1_i32_17 : BitVec 32 := 1#32
  let arg4 : BitVec 32 := Scf.iv v17 c1_i32_17 k5_t2
  let v28 : Index := Scalar.indexCast arg4
  let c0_20 : Index := 0#32
  let c0_21 : Index := 0#32
  ![v28.toNat, 0, 0]
@[reducible] def k5_t3_loop (k5_t1 : Fin k5_t1_loop.trips) : Scf.Loop 32 :=
  let c0_i32_5 : BitVec 32 := 0#32
  let c1_i32 : BitVec 32 := 1#32
  let arg3 : BitVec 32 := Scf.iv c0_i32_5 c1_i32 k5_t1
  let c1_i32_14 : BitVec 32 := 1#32
  let v17 : BitVec 32 := Scalar.addi arg3 c1_i32_14
  let c104_i32_15 : BitVec 32 := 104#32
  let v18 : BitVec 32 := Scalar.subi c104_i32_15 v17
  let c1_i32_16 : BitVec 32 := 1#32
  let v20 : BitVec 32 := Scalar.divsi v18 c1_i32_16
  let v21 : BitVec 32 := Scalar.muli v20 c1_i32_16
  let v22 : BitVec 32 := Scalar.addi v17 v21
  let v19 : BitVec 32 := Scalar.addi v17 v18
  let c1_i32_18 : BitVec 32 := 1#32
  ⟨v22, v19, c1_i32_18⟩
def k5_off5 (k5_t1 : Fin k5_t1_loop.trips) (k5_t3 : Fin (k5_t3_loop k5_t1).trips) : Fin 3 → Nat :=
  let c0_i32_5 : BitVec 32 := 0#32
  let c1_i32 : BitVec 32 := 1#32
  let arg3 : BitVec 32 := Scf.iv c0_i32_5 c1_i32 k5_t1
  let c1_i32_14 : BitVec 32 := 1#32
  let v17 : BitVec 32 := Scalar.addi arg3 c1_i32_14
  let c104_i32_15 : BitVec 32 := 104#32
  let v18 : BitVec 32 := Scalar.subi c104_i32_15 v17
  let c1_i32_16 : BitVec 32 := 1#32
  let v20 : BitVec 32 := Scalar.divsi v18 c1_i32_16
  let v21 : BitVec 32 := Scalar.muli v20 c1_i32_16
  let v22 : BitVec 32 := Scalar.addi v17 v21
  let c1_i32_18 : BitVec 32 := 1#32
  let arg4 : BitVec 32 := Scf.iv v22 c1_i32_18 k5_t3
  let v23 : Index := Scalar.indexCast arg4
  let v24 : Index := Scalar.indexCast arg3
  let c0_19 : Index := 0#32
  ![v23.toNat, v24.toNat, 0]
def k5_off6 (k5_t1 : Fin k5_t1_loop.trips) (k5_t3 : Fin (k5_t3_loop k5_t1).trips) : Fin 3 → Nat :=
  let c0_i32_5 : BitVec 32 := 0#32
  let c1_i32 : BitVec 32 := 1#32
  let arg3 : BitVec 32 := Scf.iv c0_i32_5 c1_i32 k5_t1
  let c1_i32_14 : BitVec 32 := 1#32
  let v17 : BitVec 32 := Scalar.addi arg3 c1_i32_14
  let c104_i32_15 : BitVec 32 := 104#32
  let v18 : BitVec 32 := Scalar.subi c104_i32_15 v17
  let c1_i32_16 : BitVec 32 := 1#32
  let v20 : BitVec 32 := Scalar.divsi v18 c1_i32_16
  let v21 : BitVec 32 := Scalar.muli v20 c1_i32_16
  let v22 : BitVec 32 := Scalar.addi v17 v21
  let c1_i32_18 : BitVec 32 := 1#32
  let arg4 : BitVec 32 := Scf.iv v22 c1_i32_18 k5_t3
  let v28 : Index := Scalar.indexCast arg4
  let c0_20 : Index := 0#32
  let c0_21 : Index := 0#32
  ![v28.toNat, 0, 0]
@[reducible] def k5_t4_loop : Scf.Loop 32 :=
  let c0_i32_7 : BitVec 32 := 0#32
  let c104_i32_8 : BitVec 32 := 104#32
  let v7 : BitVec 32 := Scalar.addi c0_i32_7 c104_i32_8
  let c1_i32_9 : BitVec 32 := 1#32
  ⟨c0_i32_7, v7, c1_i32_9⟩
def k5_off7 (k5_t4 : Fin k5_t4_loop.trips) : Fin 3 → Nat :=
  let c0_i32_7 : BitVec 32 := 0#32
  let c1_i32_9 : BitVec 32 := 1#32
  let arg3 : BitVec 32 := Scf.iv c0_i32_7 c1_i32_9 k5_t4
  let v8 : Index := Scalar.indexCast arg3
  let v9 : Index := Scalar.indexCast arg3
  let c0_11 : Index := 0#32
  ![v8.toNat, v9.toNat, 0]
def k5_off8 (k5_t4 : Fin k5_t4_loop.trips) : Fin 3 → Nat :=
  let c0_i32_7 : BitVec 32 := 0#32
  let c1_i32_9 : BitVec 32 := 1#32
  let arg3 : BitVec 32 := Scf.iv c0_i32_7 c1_i32_9 k5_t4
  let v15 : Index := Scalar.indexCast arg3
  let c0_12 : Index := 0#32
  let c0_13 : Index := 0#32
  ![v15.toNat, 0, 0]
abbrev stage5_0 : Fin 1 → Memref sig .tc .vmem S104x104x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S104x104x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev grid6 : Pipeline.Grid := ⟨1, ![64], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_5 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_6 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_7 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x104x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x104x104 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x1024x2048 .fp8e4m3 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1x8x2048 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1x1024x2048 .fp8e4m3 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S1x8x2048 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S1x104x1024 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S1x104x2048 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]
-- ==== RefIdeal.lean ====
abbrev S64x1024x2048 : Shape := ⟨3, ![64, 1024, 2048]⟩
abbrev S64x8x16 : Shape := ⟨3, ![64, 8, 16]⟩
abbrev S64x2048x104 : Shape := ⟨3, ![64, 2048, 104]⟩
abbrev S64x1024x104 : Shape := ⟨3, ![64, 1024, 104]⟩
abbrev S64x104x2048 : Shape := ⟨3, ![64, 104, 2048]⟩
abbrev S64x8x128x16x128 : Shape := ⟨5, ![64, 8, 128, 16, 128]⟩
abbrev S64x8x1x16x1 : Shape := ⟨5, ![64, 8, 1, 16, 1]⟩
abbrev S64x104x104 : Shape := ⟨3, ![64, 104, 104]⟩
abbrev S64 : Shape := ⟨1, ![64]⟩
abbrev S64x1x1 : Shape := ⟨3, ![64, 1, 1]⟩

abbrev nBuf : Space → Nat
  | .hbm => 11
  | .vmem => 9
  | .smem => 0
  | _ => 0

abbrev bufTy : (tb : Table) → Fin (tcTables nBuf tb) → BufTy
  | .hbm, ⟨0, _⟩ => ⟨S64x1024x2048, .f32⟩
  | .hbm, ⟨1, _⟩ => ⟨S64x8x16, .f32⟩
  | .hbm, ⟨2, _⟩ => ⟨S64x1024x2048, .f32⟩
  | .hbm, ⟨3, _⟩ => ⟨S64x8x16, .f32⟩
  | .hbm, ⟨4, _⟩ => ⟨S64x2048x104, .bf16⟩
  | .hbm, ⟨5, _⟩ => ⟨S64x1024x2048, .fp8e4m3⟩
  | .hbm, ⟨6, _⟩ => ⟨S64x1024x2048, .fp8e4m3⟩
  | .hbm, ⟨7, _⟩ => ⟨S64x1024x104, .f32⟩
  | .hbm, ⟨8, _⟩ => ⟨S64x104x2048, .f32⟩
  | .hbm, ⟨9, _⟩ => ⟨S64x1024x104, .f32⟩
  | .hbm, ⟨10, _⟩ => ⟨S64x1024x104, .f32⟩
  | .local _ .vmem, ⟨0, _⟩ => ⟨S64x1024x2048, .fp8e4m3⟩
  | .local _ .vmem, ⟨1, _⟩ => ⟨S64x8x16, .f32⟩
  | .local _ .vmem, ⟨2, _⟩ => ⟨S64x1024x2048, .fp8e4m3⟩
  | .local _ .vmem, ⟨3, _⟩ => ⟨S64x8x16, .f32⟩
  | .local _ .vmem, ⟨4, _⟩ => ⟨S64x2048x104, .bf16⟩
  | .local _ .vmem, ⟨5, _⟩ => ⟨S64x1024x104, .f32⟩
  | .local _ .vmem, ⟨6, _⟩ => ⟨S64x104x2048, .f32⟩
  | .local _ .vmem, ⟨7, _⟩ => ⟨S64x1024x104, .f32⟩
  | .local _ .vmem, ⟨8, _⟩ => ⟨S64x1024x104, .f32⟩
  | _, _ => ⟨S64x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c104_i32 : BitVec 32 := 104#32
  let v28 : BitVec 32 := Scalar.addi c0_i32 c104_i32
  let c1_i32 : BitVec 32 := 1#32
  ⟨c0_i32, v28, c1_i32⟩
@[reducible] def k0_t2_loop : Scf.Loop 32 :=
  let c0_i32_19 : BitVec 32 := 0#32
  let c104_i32_20 : BitVec 32 := 104#32
  let v34 : BitVec 32 := Scalar.addi c0_i32_19 c104_i32_20
  let c1_i32_21 : BitVec 32 := 1#32
  ⟨c0_i32_19, v34, c1_i32_21⟩
@[reducible] def k0_t3_loop : Scf.Loop 32 :=
  let c0_i32_29 : BitVec 32 := 0#32
  let c104_i32_30 : BitVec 32 := 104#32
  let v48 : BitVec 32 := Scalar.addi c0_i32_29 c104_i32_30
  let c1_i32_31 : BitVec 32 := 1#32
  ⟨c0_i32_29, v48, c1_i32_31⟩
@[reducible] def k0_t4_loop : Scf.Loop 32 :=
  let c0_i32_34 : BitVec 32 := 0#32
  let c104_i32_35 : BitVec 32 := 104#32
  let v54 : BitVec 32 := Scalar.addi c0_i32_34 c104_i32_35
  let c1_i32_36 : BitVec 32 := 1#32
  ⟨c0_i32_34, v54, c1_i32_36⟩
@[reducible] def k0_t5_loop : Scf.Loop 32 :=
  let c0_i32_44 : BitVec 32 := 0#32
  let c104_i32_45 : BitVec 32 := 104#32
  let v68 : BitVec 32 := Scalar.addi c0_i32_44 c104_i32_45
  let c1_i32_46 : BitVec 32 := 1#32
  ⟨c0_i32_44, v68, c1_i32_46⟩
@[reducible] def k0_t6_loop : Scf.Loop 32 :=
  let c0_i32_49 : BitVec 32 := 0#32
  let c104_i32_50 : BitVec 32 := 104#32
  let v74 : BitVec 32 := Scalar.addi c0_i32_49 c104_i32_50
  let c1_i32_51 : BitVec 32 := 1#32
  ⟨c0_i32_49, v74, c1_i32_51⟩
abbrev stage0_0 : Fin 1 → Memref sig .tc .vmem S64x1024x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x8x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x8x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048x104 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1024x104 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x104x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1024x104 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x1024x104 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== First.lean ====
abbrev S64x1024x2048 : Shape := ⟨3, ![64, 1024, 2048]⟩
abbrev S64x8x16 : Shape := ⟨3, ![64, 8, 16]⟩
abbrev S64x2048x104 : Shape := ⟨3, ![64, 2048, 104]⟩
abbrev S64x8x16x128 : Shape := ⟨4, ![64, 8, 16, 128]⟩
abbrev S64x8x2048 : Shape := ⟨3, ![64, 8, 2048]⟩
abbrev S64x104x2048 : Shape := ⟨3, ![64, 104, 2048]⟩
abbrev S64x104x1024 : Shape := ⟨3, ![64, 104, 1024]⟩
abbrev S64x104x104 : Shape := ⟨3, ![64, 104, 104]⟩
abbrev S1x104x2048 : Shape := ⟨3, ![1, 104, 2048]⟩
abbrev S1x1024x2048 : Shape := ⟨3, ![1, 1024, 2048]⟩
abbrev S1x8x2048 : Shape := ⟨3, ![1, 8, 2048]⟩
abbrev S1x104x1024 : Shape := ⟨3, ![1, 104, 1024]⟩
abbrev S1x104x104 : Shape := ⟨3, ![1, 104, 104]⟩
abbrev S1024x2048 : Shape := ⟨2, ![1024, 2048]⟩
abbrev S1x128x2048 : Shape := ⟨3, ![1, 128, 2048]⟩
abbrev S128x2048 : Shape := ⟨2, ![128, 2048]⟩
abbrev S1x1x2048 : Shape := ⟨3, ![1, 1, 2048]⟩
abbrev S1x2048 : Shape := ⟨2, ![1, 2048]⟩
abbrev S104x2048 : Shape := ⟨2, ![104, 2048]⟩
abbrev S104x1024 : Shape := ⟨2, ![104, 1024]⟩
abbrev S104x104 : Shape := ⟨2, ![104, 104]⟩

abbrev nBuf : Space → Nat
  | .hbm => 14
  | .vmem => 16
  | .smem => 0
  | _ => 0

abbrev bufTy : (tb : Table) → Fin (tcTables nBuf tb) → BufTy
  | .hbm, ⟨0, _⟩ => ⟨S64x1024x2048, .fp8e4m3⟩
  | .hbm, ⟨1, _⟩ => ⟨S64x8x16, .f32⟩
  | .hbm, ⟨2, _⟩ => ⟨S64x1024x2048, .fp8e4m3⟩
  | .hbm, ⟨3, _⟩ => ⟨S64x8x16, .f32⟩
  | .hbm, ⟨4, _⟩ => ⟨S64x2048x104, .bf16⟩
  | .hbm, ⟨5, _⟩ => ⟨S64x8x16, .bf16⟩
  | .hbm, ⟨6, _⟩ => ⟨S64x8x16x128, .bf16⟩
  | .hbm, ⟨7, _⟩ => ⟨S64x8x2048, .bf16⟩
  | .hbm, ⟨8, _⟩ => ⟨S64x8x16, .bf16⟩
  | .hbm, ⟨9, _⟩ => ⟨S64x8x16x128, .bf16⟩
  | .hbm, ⟨10, _⟩ => ⟨S64x8x2048, .bf16⟩
  | .hbm, ⟨11, _⟩ => ⟨S64x104x2048, .bf16⟩
  | .hbm, ⟨12, _⟩ => ⟨S64x104x1024, .f32⟩
  | .hbm, ⟨13, _⟩ => ⟨S64x104x104, .f32⟩
  | .local _ .vmem, ⟨0, _⟩ => ⟨S1x104x2048, .bf16⟩
  | .local _ .vmem, ⟨1, _⟩ => ⟨S1x104x2048, .bf16⟩
  | .local _ .vmem, ⟨2, _⟩ => ⟨S1x1024x2048, .fp8e4m3⟩
  | .local _ .vmem, ⟨3, _⟩ => ⟨S1x1024x2048, .fp8e4m3⟩
  | .local _ .vmem, ⟨4, _⟩ => ⟨S1x8x2048, .bf16⟩
  | .local _ .vmem, ⟨5, _⟩ => ⟨S1x8x2048, .bf16⟩
  | .local _ .vmem, ⟨6, _⟩ => ⟨S1x1024x2048, .fp8e4m3⟩
  | .local _ .vmem, ⟨7, _⟩ => ⟨S1x1024x2048, .fp8e4m3⟩
  | .local _ .vmem, ⟨8, _⟩ => ⟨S1x8x2048, .bf16⟩
  | .local _ .vmem, ⟨9, _⟩ => ⟨S1x8x2048, .bf16⟩
  | .local _ .vmem, ⟨10, _⟩ => ⟨S1x104x1024, .f32⟩
  | .local _ .vmem, ⟨11, _⟩ => ⟨S1x104x1024, .f32⟩
  | .local _ .vmem, ⟨12, _⟩ => ⟨S1x104x104, .f32⟩
  | .local _ .vmem, ⟨13, _⟩ => ⟨S1x104x104, .f32⟩
  | .local _ .vmem, ⟨14, _⟩ => ⟨S1024x2048, .bf16⟩
  | .local _ .vmem, ⟨15, _⟩ => ⟨S1024x2048, .bf16⟩
  | _, _ => ⟨S64x1024x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x104x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x104x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x104x104 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FirstRefIdeal.lean ====
abbrev S64x1024x2048 : Shape := ⟨3, ![64, 1024, 2048]⟩
abbrev S64x8x16 : Shape := ⟨3, ![64, 8, 16]⟩
abbrev S64x2048x104 : Shape := ⟨3, ![64, 2048, 104]⟩
abbrev S64x104x1024 : Shape := ⟨3, ![64, 104, 1024]⟩
abbrev S64x104x104 : Shape := ⟨3, ![64, 104, 104]⟩
abbrev S64x8x128x16x128 : Shape := ⟨5, ![64, 8, 128, 16, 128]⟩
abbrev S64x8x1x16x1 : Shape := ⟨5, ![64, 8, 1, 16, 1]⟩
abbrev S64x1024x104 : Shape := ⟨3, ![64, 1024, 104]⟩

abbrev nBuf : Space → Nat
  | .hbm => 7
  | .vmem => 7
  | .smem => 0
  | _ => 0

abbrev bufTy : (tb : Table) → Fin (tcTables nBuf tb) → BufTy
  | .hbm, ⟨0, _⟩ => ⟨S64x1024x2048, .fp8e4m3⟩
  | .hbm, ⟨1, _⟩ => ⟨S64x8x16, .f32⟩
  | .hbm, ⟨2, _⟩ => ⟨S64x1024x2048, .fp8e4m3⟩
  | .hbm, ⟨3, _⟩ => ⟨S64x8x16, .f32⟩
  | .hbm, ⟨4, _⟩ => ⟨S64x2048x104, .bf16⟩
  | .hbm, ⟨5, _⟩ => ⟨S64x104x1024, .f32⟩
  | .hbm, ⟨6, _⟩ => ⟨S64x104x104, .f32⟩
  | .local _ .vmem, ⟨0, _⟩ => ⟨S64x1024x2048, .fp8e4m3⟩
  | .local _ .vmem, ⟨1, _⟩ => ⟨S64x8x16, .f32⟩
  | .local _ .vmem, ⟨2, _⟩ => ⟨S64x1024x2048, .fp8e4m3⟩
  | .local _ .vmem, ⟨3, _⟩ => ⟨S64x8x16, .f32⟩
  | .local _ .vmem, ⟨4, _⟩ => ⟨S64x2048x104, .bf16⟩
  | .local _ .vmem, ⟨5, _⟩ => ⟨S64x104x1024, .f32⟩
  | .local _ .vmem, ⟨6, _⟩ => ⟨S64x104x104, .f32⟩
  | _, _ => ⟨S64x1024x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S64x1024x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x8x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x8x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048x104 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x104x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x104x104 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Power.lean ====
abbrev S64x1024x2048 : Shape := ⟨3, ![64, 1024, 2048]⟩
abbrev S64x8x16 : Shape := ⟨3, ![64, 8, 16]⟩
abbrev S64x104x1024 : Shape := ⟨3, ![64, 104, 1024]⟩
abbrev S64x104x104 : Shape := ⟨3, ![64, 104, 104]⟩
abbrev S64x8x16x128 : Shape := ⟨4, ![64, 8, 16, 128]⟩
abbrev S64x8x2048 : Shape := ⟨3, ![64, 8, 2048]⟩
abbrev S1x104x1024 : Shape := ⟨3, ![1, 104, 1024]⟩
abbrev S1x104x104 : Shape := ⟨3, ![1, 104, 104]⟩
abbrev S1x1024x2048 : Shape := ⟨3, ![1, 1024, 2048]⟩
abbrev S1x8x2048 : Shape := ⟨3, ![1, 8, 2048]⟩
abbrev S1024x2048 : Shape := ⟨2, ![1024, 2048]⟩
abbrev S1x128x2048 : Shape := ⟨3, ![1, 128, 2048]⟩
abbrev S128x2048 : Shape := ⟨2, ![128, 2048]⟩
abbrev S1x1x2048 : Shape := ⟨3, ![1, 1, 2048]⟩
abbrev S1x2048 : Shape := ⟨2, ![1, 2048]⟩
abbrev S104x104 : Shape := ⟨2, ![104, 104]⟩
abbrev S104x1024 : Shape := ⟨2, ![104, 1024]⟩
abbrev S104x2048 : Shape := ⟨2, ![104, 2048]⟩

abbrev nBuf : Space → Nat
  | .hbm => 15
  | .vmem => 20
  | .smem => 0
  | _ => 0

abbrev bufTy : (tb : Table) → Fin (tcTables nBuf tb) → BufTy
  | .hbm, ⟨0, _⟩ => ⟨S64x1024x2048, .fp8e4m3⟩
  | .hbm, ⟨1, _⟩ => ⟨S64x8x16, .f32⟩
  | .hbm, ⟨2, _⟩ => ⟨S64x1024x2048, .fp8e4m3⟩
  | .hbm, ⟨3, _⟩ => ⟨S64x8x16, .f32⟩
  | .hbm, ⟨4, _⟩ => ⟨S64x104x1024, .f32⟩
  | .hbm, ⟨5, _⟩ => ⟨S64x104x104, .f32⟩
  | .hbm, ⟨6, _⟩ => ⟨S64x8x16, .bf16⟩
  | .hbm, ⟨7, _⟩ => ⟨S64x8x16x128, .bf16⟩
  | .hbm, ⟨8, _⟩ => ⟨S64x8x2048, .bf16⟩
  | .hbm, ⟨9, _⟩ => ⟨S64x8x16, .bf16⟩
  | .hbm, ⟨10, _⟩ => ⟨S64x8x16x128, .bf16⟩
  | .hbm, ⟨11, _⟩ => ⟨S64x8x2048, .bf16⟩
  | .hbm, ⟨12, _⟩ => ⟨S64x104x1024, .f32⟩
  | .hbm, ⟨13, _⟩ => ⟨S64x104x1024, .f32⟩
  | .hbm, ⟨14, _⟩ => ⟨S64x104x104, .f32⟩
  | .local _ .vmem, ⟨0, _⟩ => ⟨S1x104x1024, .f32⟩
  | .local _ .vmem, ⟨1, _⟩ => ⟨S1x104x1024, .f32⟩
  | .local _ .vmem, ⟨2, _⟩ => ⟨S1x104x104, .f32⟩
  | .local _ .vmem, ⟨3, _⟩ => ⟨S1x104x104, .f32⟩
  | .local _ .vmem, ⟨4, _⟩ => ⟨S1x1024x2048, .fp8e4m3⟩
  | .local _ .vmem, ⟨5, _⟩ => ⟨S1x1024x2048, .fp8e4m3⟩
  | .local _ .vmem, ⟨6, _⟩ => ⟨S1x8x2048, .bf16⟩
  | .local _ .vmem, ⟨7, _⟩ => ⟨S1x8x2048, .bf16⟩
  | .local _ .vmem, ⟨8, _⟩ => ⟨S1x1024x2048, .fp8e4m3⟩
  | .local _ .vmem, ⟨9, _⟩ => ⟨S1x1024x2048, .fp8e4m3⟩
  | .local _ .vmem, ⟨10, _⟩ => ⟨S1x8x2048, .bf16⟩
  | .local _ .vmem, ⟨11, _⟩ => ⟨S1x8x2048, .bf16⟩
  | .local _ .vmem, ⟨12, _⟩ => ⟨S1x104x1024, .f32⟩
  | .local _ .vmem, ⟨13, _⟩ => ⟨S1x104x1024, .f32⟩
  | .local _ .vmem, ⟨14, _⟩ => ⟨S1x104x1024, .f32⟩
  | .local _ .vmem, ⟨15, _⟩ => ⟨S1x104x1024, .f32⟩
  | .local _ .vmem, ⟨16, _⟩ => ⟨S1x104x104, .f32⟩
  | .local _ .vmem, ⟨17, _⟩ => ⟨S1x104x104, .f32⟩
  | .local _ .vmem, ⟨18, _⟩ => ⟨S1024x2048, .bf16⟩
  | .local _ .vmem, ⟨19, _⟩ => ⟨S1024x2048, .bf16⟩
  | _, _ => ⟨S64x1024x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x104x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x104x104 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x104x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x104x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x104x104 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PowerRefIdeal.lean ====
abbrev S64x1024x2048 : Shape := ⟨3, ![64, 1024, 2048]⟩
abbrev S64x8x16 : Shape := ⟨3, ![64, 8, 16]⟩
abbrev S64x104x1024 : Shape := ⟨3, ![64, 104, 1024]⟩
abbrev S64x104x104 : Shape := ⟨3, ![64, 104, 104]⟩
abbrev S64x8x128x16x128 : Shape := ⟨5, ![64, 8, 128, 16, 128]⟩
abbrev S64x8x1x16x1 : Shape := ⟨5, ![64, 8, 1, 16, 1]⟩
abbrev S64x1024x104 : Shape := ⟨3, ![64, 1024, 104]⟩
abbrev S64x2048x104 : Shape := ⟨3, ![64, 2048, 104]⟩

abbrev nBuf : Space → Nat
  | .hbm => 9
  | .vmem => 9
  | .smem => 0
  | _ => 0

abbrev bufTy : (tb : Table) → Fin (tcTables nBuf tb) → BufTy
  | .hbm, ⟨0, _⟩ => ⟨S64x1024x2048, .fp8e4m3⟩
  | .hbm, ⟨1, _⟩ => ⟨S64x8x16, .f32⟩
  | .hbm, ⟨2, _⟩ => ⟨S64x1024x2048, .fp8e4m3⟩
  | .hbm, ⟨3, _⟩ => ⟨S64x8x16, .f32⟩
  | .hbm, ⟨4, _⟩ => ⟨S64x104x1024, .f32⟩
  | .hbm, ⟨5, _⟩ => ⟨S64x104x104, .f32⟩
  | .hbm, ⟨6, _⟩ => ⟨S64x104x1024, .f32⟩
  | .hbm, ⟨7, _⟩ => ⟨S64x104x1024, .f32⟩
  | .hbm, ⟨8, _⟩ => ⟨S64x104x104, .f32⟩
  | .local _ .vmem, ⟨0, _⟩ => ⟨S64x1024x2048, .fp8e4m3⟩
  | .local _ .vmem, ⟨1, _⟩ => ⟨S64x8x16, .f32⟩
  | .local _ .vmem, ⟨2, _⟩ => ⟨S64x1024x2048, .fp8e4m3⟩
  | .local _ .vmem, ⟨3, _⟩ => ⟨S64x8x16, .f32⟩
  | .local _ .vmem, ⟨4, _⟩ => ⟨S64x104x1024, .f32⟩
  | .local _ .vmem, ⟨5, _⟩ => ⟨S64x104x104, .f32⟩
  | .local _ .vmem, ⟨6, _⟩ => ⟨S64x104x1024, .f32⟩
  | .local _ .vmem, ⟨7, _⟩ => ⟨S64x104x1024, .f32⟩
  | .local _ .vmem, ⟨8, _⟩ => ⟨S64x104x104, .f32⟩
  | _, _ => ⟨S64x1024x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S64x1024x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x8x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x8x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x104x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x104x104 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x104x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x104x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x104x104 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Last.lean ====
abbrev S64x1024x2048 : Shape := ⟨3, ![64, 1024, 2048]⟩
abbrev S64x8x16 : Shape := ⟨3, ![64, 8, 16]⟩
abbrev S64x104x1024 : Shape := ⟨3, ![64, 104, 1024]⟩
abbrev S64x104x104 : Shape := ⟨3, ![64, 104, 104]⟩
abbrev S64x8x16x128 : Shape := ⟨4, ![64, 8, 16, 128]⟩
abbrev S64x8x2048 : Shape := ⟨3, ![64, 8, 2048]⟩
abbrev S64x104x2048 : Shape := ⟨3, ![64, 104, 2048]⟩
abbrev S1x104x1024 : Shape := ⟨3, ![1, 104, 1024]⟩
abbrev S1x104x104 : Shape := ⟨3, ![1, 104, 104]⟩
abbrev S1x1024x2048 : Shape := ⟨3, ![1, 1024, 2048]⟩
abbrev S1x8x2048 : Shape := ⟨3, ![1, 8, 2048]⟩
abbrev S1x104x2048 : Shape := ⟨3, ![1, 104, 2048]⟩
abbrev S1024x2048 : Shape := ⟨2, ![1024, 2048]⟩
abbrev S1x128x2048 : Shape := ⟨3, ![1, 128, 2048]⟩
abbrev S128x2048 : Shape := ⟨2, ![128, 2048]⟩
abbrev S1x1x2048 : Shape := ⟨3, ![1, 1, 2048]⟩
abbrev S1x2048 : Shape := ⟨2, ![1, 2048]⟩
abbrev S104x104 : Shape := ⟨2, ![104, 104]⟩
abbrev S104x1024 : Shape := ⟨2, ![104, 1024]⟩
abbrev S104x2048 : Shape := ⟨2, ![104, 2048]⟩

abbrev nBuf : Space → Nat
  | .hbm => 14
  | .vmem => 18
  | .smem => 0
  | _ => 0

abbrev bufTy : (tb : Table) → Fin (tcTables nBuf tb) → BufTy
  | .hbm, ⟨0, _⟩ => ⟨S64x1024x2048, .fp8e4m3⟩
  | .hbm, ⟨1, _⟩ => ⟨S64x8x16, .f32⟩
  | .hbm, ⟨2, _⟩ => ⟨S64x1024x2048, .fp8e4m3⟩
  | .hbm, ⟨3, _⟩ => ⟨S64x8x16, .f32⟩
  | .hbm, ⟨4, _⟩ => ⟨S64x104x1024, .f32⟩
  | .hbm, ⟨5, _⟩ => ⟨S64x104x104, .f32⟩
  | .hbm, ⟨6, _⟩ => ⟨S64x8x16, .bf16⟩
  | .hbm, ⟨7, _⟩ => ⟨S64x8x16x128, .bf16⟩
  | .hbm, ⟨8, _⟩ => ⟨S64x8x2048, .bf16⟩
  | .hbm, ⟨9, _⟩ => ⟨S64x8x16, .bf16⟩
  | .hbm, ⟨10, _⟩ => ⟨S64x8x16x128, .bf16⟩
  | .hbm, ⟨11, _⟩ => ⟨S64x8x2048, .bf16⟩
  | .hbm, ⟨12, _⟩ => ⟨S64x104x1024, .f32⟩
  | .hbm, ⟨13, _⟩ => ⟨S64x104x2048, .f32⟩
  | .local _ .vmem, ⟨0, _⟩ => ⟨S1x104x1024, .f32⟩
  | .local _ .vmem, ⟨1, _⟩ => ⟨S1x104x1024, .f32⟩
  | .local _ .vmem, ⟨2, _⟩ => ⟨S1x104x104, .f32⟩
  | .local _ .vmem, ⟨3, _⟩ => ⟨S1x104x104, .f32⟩
  | .local _ .vmem, ⟨4, _⟩ => ⟨S1x1024x2048, .fp8e4m3⟩
  | .local _ .vmem, ⟨5, _⟩ => ⟨S1x1024x2048, .fp8e4m3⟩
  | .local _ .vmem, ⟨6, _⟩ => ⟨S1x8x2048, .bf16⟩
  | .local _ .vmem, ⟨7, _⟩ => ⟨S1x8x2048, .bf16⟩
  | .local _ .vmem, ⟨8, _⟩ => ⟨S1x1024x2048, .fp8e4m3⟩
  | .local _ .vmem, ⟨9, _⟩ => ⟨S1x1024x2048, .fp8e4m3⟩
  | .local _ .vmem, ⟨10, _⟩ => ⟨S1x8x2048, .bf16⟩
  | .local _ .vmem, ⟨11, _⟩ => ⟨S1x8x2048, .bf16⟩
  | .local _ .vmem, ⟨12, _⟩ => ⟨S1x104x1024, .f32⟩
  | .local _ .vmem, ⟨13, _⟩ => ⟨S1x104x1024, .f32⟩
  | .local _ .vmem, ⟨14, _⟩ => ⟨S1x104x2048, .f32⟩
  | .local _ .vmem, ⟨15, _⟩ => ⟨S1x104x2048, .f32⟩
  | .local _ .vmem, ⟨16, _⟩ => ⟨S1024x2048, .bf16⟩
  | .local _ .vmem, ⟨17, _⟩ => ⟨S1024x2048, .bf16⟩
  | _, _ => ⟨S64x1024x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x104x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x104x104 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x104x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x104x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LastRefIdeal.lean ====
abbrev S64x1024x2048 : Shape := ⟨3, ![64, 1024, 2048]⟩
abbrev S64x8x16 : Shape := ⟨3, ![64, 8, 16]⟩
abbrev S64x104x1024 : Shape := ⟨3, ![64, 104, 1024]⟩
abbrev S64x104x104 : Shape := ⟨3, ![64, 104, 104]⟩
abbrev S64x104x2048 : Shape := ⟨3, ![64, 104, 2048]⟩
abbrev S64x8x128x16x128 : Shape := ⟨5, ![64, 8, 128, 16, 128]⟩
abbrev S64x8x1x16x1 : Shape := ⟨5, ![64, 8, 1, 16, 1]⟩
abbrev S64x1024x104 : Shape := ⟨3, ![64, 1024, 104]⟩

abbrev nBuf : Space → Nat
  | .hbm => 8
  | .vmem => 8
  | .smem => 0
  | _ => 0

abbrev bufTy : (tb : Table) → Fin (tcTables nBuf tb) → BufTy
  | .hbm, ⟨0, _⟩ => ⟨S64x1024x2048, .fp8e4m3⟩
  | .hbm, ⟨1, _⟩ => ⟨S64x8x16, .f32⟩
  | .hbm, ⟨2, _⟩ => ⟨S64x1024x2048, .fp8e4m3⟩
  | .hbm, ⟨3, _⟩ => ⟨S64x8x16, .f32⟩
  | .hbm, ⟨4, _⟩ => ⟨S64x104x1024, .f32⟩
  | .hbm, ⟨5, _⟩ => ⟨S64x104x104, .f32⟩
  | .hbm, ⟨6, _⟩ => ⟨S64x104x1024, .f32⟩
  | .hbm, ⟨7, _⟩ => ⟨S64x104x2048, .f32⟩
  | .local _ .vmem, ⟨0, _⟩ => ⟨S64x1024x2048, .fp8e4m3⟩
  | .local _ .vmem, ⟨1, _⟩ => ⟨S64x8x16, .f32⟩
  | .local _ .vmem, ⟨2, _⟩ => ⟨S64x1024x2048, .fp8e4m3⟩
  | .local _ .vmem, ⟨3, _⟩ => ⟨S64x8x16, .f32⟩
  | .local _ .vmem, ⟨4, _⟩ => ⟨S64x104x1024, .f32⟩
  | .local _ .vmem, ⟨5, _⟩ => ⟨S64x104x104, .f32⟩
  | .local _ .vmem, ⟨6, _⟩ => ⟨S64x104x1024, .f32⟩
  | .local _ .vmem, ⟨7, _⟩ => ⟨S64x104x2048, .f32⟩
  | _, _ => ⟨S64x1024x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S64x1024x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x8x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x8x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x104x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x104x104 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x104x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x104x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Sketch.InvChol.lean ====
/-
  The Cholesky kernel's run, for any floats: its two loops as plain functions of the arrays they rewrite. The
  scratch array `A` (rows, columns, batch) starts as the Gram array. Step `j` of the elimination rewrites the rows below `j`
  (`rowPut`, one row; `elimPut`, all of them); then row `i` of the result is computed from row `i` of what is left (`outPut`).
-/
module

public import proofs.«01_k».proof.Proof.Gen.Sketch.Skeleton
public import Idealize.ShloMosaic.Lib.Pipeline.FrameBody
public import Idealize.ShloMosaic.Lib.VecWindow
public import Idealize.ShloMosaic.Lib.LaneScatter.Fold
public import Idealize.ShloMosaic.Lib.Tactic
public import Idealize.ShloMosaic.Lib.Pointwise
public import Idealize.ShloMosaic.Lib.Exec
public import Idealize.ShloMosaic.Lib.Pipeline.Kit

@[expose] public section

noncomputable section

namespace Cert.Sketch.InvChol

open Cert.Sketch Cert.Sketch.Gen
open Idealize.ShloMosaic Idealize.ShloMosaic.TcCoe Idealize.ShloMosaic.Tactic Idealize.ShloMosaic.LaneScatter
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {U : Type} [URA U] {Lvl : Type} [Preorder Lvl]

local notation "𝕄" => MT nD τ sig Ix (Elt F) ℕ U Lvl
/-- An array of the Gram's shape in the core's memory. -/
abbrev M3 := Memref sig .tc .vmem S104x104x64 .f32

/-- Row `r` lies in the array. -/
theorem rowInb {r : ℕ} (h : r < 104) : ∀ a, (![r, 0, 0] : Fin 3 → ℕ) a + S1x104x64.size a ≤ S104x104x64.size a := by
  intro a
  fin_cases a
  · show r + 1 ≤ 104; omega
  · show 0 + 104 ≤ 104; omega
  · show 0 + 64 ≤ 64; omega

/-- Entry `(r, k)` lies in the array. -/
theorem eltInb {r k : ℕ} (h : r < 104) (h' : k < 104) :
    ∀ a, (![r, k, 0] : Fin 3 → ℕ) a + S1x1x64.size a ≤ S104x104x64.size a := by
  intro a
  fin_cases a
  · show r + 1 ≤ 104; omega
  · show k + 1 ≤ 104; omega
  · show 0 + 64 ≤ 64; omega

/-- Row `r`, over the batch. -/
def row (A : Vec F S104x104x64 .f32) (r : ℕ) (h : r < 104) : Vec F S1x104x64 .f32 :=
  VecWindow.window A ![r, 0, 0] S1x104x64.size (rowInb h)

/-- Entry `(r, k)`, over the batch. -/
def elt (A : Vec F S104x104x64 .f32) (r k : ℕ) (h : r < 104) (h' : k < 104) : Vec F S1x1x64 .f32 :=
  VecWindow.window A ![r, k, 0] S1x1x64.size (eltInb h h')

/-- One row of step `j`: with pivot row `v9` and pivot `v13`, the `n`-th row below `j` less its multiple of the pivot row, and that
    multiplier, negated, in column `j`. -/
def rowPut (j : ℕ) (hj : j < 104) (v9 : Vec F S1x104x64 .f32) (v13 : Vec F S1x1x64 .f32) (n : ℕ) (A : Vec F S104x104x64 .f32) :
    Vec F S104x104x64 .f32 :=
  if h : j + n + 1 < 104 then
    VecWindow.put (VecWindow.put A ![j + n + 1, 0, 0] S1x104x64.size (k1_pay5 v9 v13 (elt A (j + n + 1) j h hj) (row A (j + n + 1) h)))
      ![j + n + 1, j, 0] S1x1x64.size (k1_pay6 v13 (elt A (j + n + 1) j h hj))
  else A

/-- Step `j`: every row below `j`. -/
def elimPut (j : ℕ) (A : Vec F S104x104x64 .f32) : Vec F S104x104x64 .f32 :=
  if h : j < 104 then iter (rowPut j h (row A j h) (elt A j j h h)) (103 - j) A else A

/-- Row `i` of the result, from the eliminated array `A`. -/
def outPut (A : Vec F S104x104x64 .f32) (i : ℕ) (O : Vec F S104x104x64 .f32) : Vec F S104x104x64 .f32 :=
  if h : i < k1_t4_loop.trips then
    VecWindow.put O ![i, 0, 0] S1x104x64.size
      (k1_pay10 ⟨i, h⟩ (elt A i i (lt_of_lt_of_le h k1_t4_abs.2.1) (lt_of_lt_of_le h k1_t4_abs.2.1)) (row A i (lt_of_lt_of_le h k1_t4_abs.2.1)))
  else O

theorem trips1 : k1_t1_loop.trips = 104 := by decide +kernel
theorem trips4 : k1_t4_loop.trips = 104 := by decide +kernel
theorem trips2 : ∀ j : Fin k1_t1_loop.trips, (k1_t2_loop j).trips = 103 - j.val := by decide +kernel

variable (𝒱₀ : Variants) (c : Dev nD) (E : Set ℕ)

/-- One trip of the inner loop is `rowPut`. -/
theorem run2 (a0 : M3) (h0 : a0.IsWhole) (a1 : M3) (h1 : a1.IsWhole) (a2 : M3) (h2 : a2.IsWhole) (j : Fin k1_t1_loop.trips)
    (hj : j.val < 104) (v9 : Vec F S1x104x64 .f32) (v13 : Vec F S1x1x64 .f32) (k : Fin (k1_t2_loop j).trips) (A : Vec F S104x104x64 .f32) :
    (owns (c : Thread nD τ) a2 fullShare A : sProp 𝕄) ⊢ wp frame (wpE (defs₀ (F := F)) 𝒱₀ c none) E (k1_t2_body a0 h0 a1 h1 a2 h2 j v9 v13 k ())
      (fun _ => owns (c : Thread nD τ) a2 fullShare (rowPut j.val hj v9 v13 k.val A)) := by
  have hk : j.val + k.val + 1 < 104 := by have := lt_of_lt_of_eq k.isLt (trips2 j); omega
  unfold k1_t2_body
  simp only [owns]
  iintro ⟨%f, %hf, H⟩
  sl_exec
  sl_step
  iexists _
  isplitr
  swap; · iexact H
  ipureintro
  unfold rowPut
  rw [dif_pos hk, View.read_writes_cons_put _ _ _ _ _ (k1_off3_eq j k), View.read_writes_cons_put _ _ _ _ _ (k1_off4_eq j k), View.writes_nil,
    hf, View.readAt_unit _ _ _ (k1_off3_eq j k) (eltInb hk hj), View.readAt_unit _ _ _ (k1_off4_eq j k) (rowInb hk), hf]
  rfl

/-- The inner loop: every row below `j`. -/
theorem loop2 (a0 : M3) (h0 : a0.IsWhole) (a1 : M3) (h1 : a1.IsWhole) (a2 : M3) (h2 : a2.IsWhole) (j : Fin k1_t1_loop.trips)
    (hj : j.val < 104) (v9 : Vec F S1x104x64 .f32) (v13 : Vec F S1x1x64 .f32) (A : Vec F S104x104x64 .f32) :
    (owns (c : Thread nD τ) a2 fullShare A : sProp 𝕄) ⊢ wp frame (wpE (defs₀ (F := F)) 𝒱₀ c none) E
      (Scf.Loop.for (k1_t2_loop j) (k1_t2_ok j) ⟨⟩ (k1_t2_body a0 h0 a1 h1 a2 h2 j v9 v13))
      (fun _ => owns (c : Thread nD τ) a2 fullShare (iter (rowPut j.val hj v9 v13) (103 - j.val) A)) := by
  iintro H
  iapply (Scf.wp_for frame (wpE (defs₀ (F := F)) 𝒱₀ c none) E _ _ _ (k1_t2_ok j) () (k1_t2_body a0 h0 a1 h1 a2 h2 j v9 v13)
    (fun n _ => owns (c : Thread nD τ) a2 fullShare (iter (rowPut j.val hj v9 v13) n A))
    (fun k _ => run2 𝒱₀ c E a0 h0 a1 h1 a2 h2 j hj v9 v13 k _))
  isplitl [H]
  · iexact H
  · iintro %_ H
    rw [show Scf.trips (k1_t2_loop j).lb (k1_t2_loop j).ub (k1_t2_loop j).st = 103 - j.val from trips2 j]
    iexact H

/-- The remainder loop of the inner loop has no trip. -/
theorem loop3 (a0 : M3) (h0 : a0.IsWhole) (a1 : M3) (h1 : a1.IsWhole) (a2 : M3) (h2 : a2.IsWhole) (j : Fin k1_t1_loop.trips)
    (v9 : Vec F S1x104x64 .f32) (v13 : Vec F S1x1x64 .f32) (A : Vec F S104x104x64 .f32) :
    (owns (c : Thread nD τ) a2 fullShare A : sProp 𝕄) ⊢ wp frame (wpE (defs₀ (F := F)) 𝒱₀ c none) E
      (Scf.Loop.for (k1_t3_loop j) (k1_t3_ok j) ⟨⟩ (k1_t3_body a0 h0 a1 h1 a2 h2 j v9 v13))
      (fun _ => owns (c : Thread nD τ) a2 fullShare A) := by
  iintro H
  iapply (Scf.wp_for frame (wpE (defs₀ (F := F)) 𝒱₀ c none) E _ _ _ (k1_t3_ok j) () (k1_t3_body a0 h0 a1 h1 a2 h2 j v9 v13)
    (fun n _ => owns (c : Thread nD τ) a2 fullShare A)
    (fun k _ => absurd k.isLt (Nat.not_lt.2 (Nat.le_trans (k1_t3_abs j).2.1 (Nat.zero_le _)))))
  isplitl [H]
  · iexact H
  · iintro %_ H
    iexact H

/-- One trip of the outer loop is `elimPut`. -/
theorem run1 (a0 : M3) (h0 : a0.IsWhole) (a1 : M3) (h1 : a1.IsWhole) (a2 : M3) (h2 : a2.IsWhole) (j : Fin k1_t1_loop.trips)
    (A : Vec F S104x104x64 .f32) :
    (owns (c : Thread nD τ) a2 fullShare A : sProp 𝕄) ⊢ wp frame (wpE (defs₀ (F := F)) 𝒱₀ c none) E (k1_t1_body a0 h0 a1 h1 a2 h2 j ())
      (fun _ => owns (c : Thread nD τ) a2 fullShare (elimPut j.val A)) := by
  have hj : j.val < 104 := lt_of_lt_of_eq j.isLt trips1
  unfold k1_t1_body elimPut
  rw [dif_pos hj]
  have e1 : ∀ f, a2.view.read (Elt F) f = A → a2.view.readAt (Elt F) (Rect.unit (s := S104x104x64) (k1_off1 j) S1x104x64.size (k1_off1_inb j)).toLoadRect f = row A j.val hj :=
    fun f hf => by rw [View.readAt_unit _ _ _ (k1_off1_eq j) (rowInb hj), hf]; rfl
  have e2 : ∀ f, a2.view.read (Elt F) f = A → a2.view.readAt (Elt F) (Rect.unit (s := S104x104x64) (k1_off2 j) S1x1x64.size (k1_off2_inb j)).toLoadRect f = elt A j.val j.val hj hj :=
    fun f hf => by rw [View.readAt_unit _ _ _ (k1_off2_eq j) (eltInb hj hj), hf]; rfl
  unfold owns
  iintro ⟨%f, %hf, H⟩
  sl_exec
  rw [e1 f hf, e2 f hf]
  iapply (bind_of_run frame (wpE (defs₀ (F := F)) 𝒱₀ c none) E
    (loop2 𝒱₀ c E a0 h0 a1 h1 a2 h2 j hj (row A j.val hj) (elt A j.val j.val hj hj) A))
  isplitl [H]
  · unfold owns
    iexists f
    isplitr
    · ipureintro; exact hf
    iexact H
  iintro H
  iapply (bind_of_run frame (wpE (defs₀ (F := F)) 𝒱₀ c none) E
    (loop3 𝒱₀ c E a0 h0 a1 h1 a2 h2 j (row A j.val hj) (elt A j.val j.val hj hj) _))
  isplitl [H]
  · iexact H
  iintro H
  sl_step
  unfold owns
  iexact H

/-- The elimination: its 104 steps. -/
theorem loop1 (a0 : M3) (h0 : a0.IsWhole) (a1 : M3) (h1 : a1.IsWhole) (a2 : M3) (h2 : a2.IsWhole) (A : Vec F S104x104x64 .f32) :
    (owns (c : Thread nD τ) a2 fullShare A : sProp 𝕄) ⊢ wp frame (wpE (defs₀ (F := F)) 𝒱₀ c none) E
      (Scf.Loop.for k1_t1_loop k1_t1_ok ⟨⟩ (k1_t1_body a0 h0 a1 h1 a2 h2))
      (fun _ => owns (c : Thread nD τ) a2 fullShare (iter elimPut 104 A)) := by
  iintro H
  iapply (Scf.wp_for frame (wpE (defs₀ (F := F)) 𝒱₀ c none) E _ _ _ k1_t1_ok () (k1_t1_body a0 h0 a1 h1 a2 h2)
    (fun n _ => owns (c : Thread nD τ) a2 fullShare (iter elimPut n A))
    (fun k _ => run1 𝒱₀ c E a0 h0 a1 h1 a2 h2 k _))
  isplitl [H]
  · iexact H
  · iintro %_ H
    rw [show Scf.trips k1_t1_loop.lb k1_t1_loop.ub k1_t1_loop.st = 104 from trips1]
    iexact H

/-- One trip of the second loop is `outPut`. -/
theorem run4 (a0 : M3) (h0 : a0.IsWhole) (a1 : M3) (h1 : a1.IsWhole) (a2 : M3) (h2 : a2.IsWhole) (i : Fin k1_t4_loop.trips)
    (A O : Vec F S104x104x64 .f32) :
    (iprop(owns (c : Thread nD τ) a2 fullShare A ∗ owns (c : Thread nD τ) a1 fullShare O) : sProp 𝕄) ⊢
      wp frame (wpE (defs₀ (F := F)) 𝒱₀ c none) E (k1_t4_body a0 h0 a1 h1 a2 h2 i ())
      (fun _ => iprop(owns (c : Thread nD τ) a2 fullShare A ∗ owns (c : Thread nD τ) a1 fullShare (outPut A i.val O))) := by
  have hi : i.val < 104 := lt_of_lt_of_eq i.isLt trips4
  unfold k1_t4_body
  simp only [owns]
  iintro ⟨⟨%f, %hf, H⟩, ⟨%g, %hg, G⟩⟩
  sl_exec
  sl_step
  isplitl [H]
  · iexists f
    isplitr
    · ipureintro; exact hf
    iexact H
  iexists _
  isplitr
  swap; · iexact G
  ipureintro
  unfold outPut
  rw [dif_pos i.isLt, View.read_writes_cons_put _ _ _ _ _ (k1_off8_eq i), View.writes_nil, hg,
    View.readAt_unit _ _ _ (k1_off7_eq i) (eltInb hi hi), View.readAt_unit _ _ _ (k1_off8_eq i) (rowInb hi), hf]
  rfl

/-- The second loop: its 104 rows. -/
theorem loop4 (a0 : M3) (h0 : a0.IsWhole) (a1 : M3) (h1 : a1.IsWhole) (a2 : M3) (h2 : a2.IsWhole) (A O : Vec F S104x104x64 .f32) :
    (iprop(owns (c : Thread nD τ) a2 fullShare A ∗ owns (c : Thread nD τ) a1 fullShare O) : sProp 𝕄) ⊢
      wp frame (wpE (defs₀ (F := F)) 𝒱₀ c none) E (Scf.Loop.for k1_t4_loop k1_t4_ok ⟨⟩ (k1_t4_body a0 h0 a1 h1 a2 h2))
      (fun _ => iprop(owns (c : Thread nD τ) a2 fullShare A ∗ owns (c : Thread nD τ) a1 fullShare (iter (outPut A) 104 O))) := by
  iintro H
  iapply (Scf.wp_for frame (wpE (defs₀ (F := F)) 𝒱₀ c none) E _ _ _ k1_t4_ok () (k1_t4_body a0 h0 a1 h1 a2 h2)
    (fun n _ => iprop(owns (c : Thread nD τ) a2 fullShare A ∗ owns (c : Thread nD τ) a1 fullShare (iter (outPut A) n O)))
    (fun k _ => run4 𝒱₀ c E a0 h0 a1 h1 a2 h2 k _ _))
  isplitl [H]
  · iexact H
  · iintro %_ H
    rw [show Scf.trips k1_t4_loop.lb k1_t4_loop.ub k1_t4_loop.st = 104 from trips4]
    iexact H

/-- What the kernel leaves in its output for the Gram array `G`, at `(i, k, b)`: row `i` of the eliminated array, scaled. -/
def value (G : Vec F S104x104x64 .f32) : Vec F S104x104x64 .f32 := fun y =>
  k1_pay10 ⟨(y 0).val, lt_of_lt_of_eq (y 0).isLt trips4.symm⟩
    (elt (iter elimPut 104 (k1_pay1 G)) (y 0).val (y 0).val (y 0).isLt (y 0).isLt) (row (iter elimPut 104 (k1_pay1 G)) (y 0).val (y 0).isLt)
    (ix3 (0 : Fin 1) (y 1) (y 2))

/-- After `n` rows, the first `n` rows hold the result. -/
theorem iter_outPut (A O : Vec F S104x104x64 .f32) (n : ℕ) (y : S104x104x64.Idx) (h : (y 0).val < n) :
    iter (outPut A) n O y = k1_pay10 ⟨(y 0).val, lt_of_lt_of_eq (y 0).isLt trips4.symm⟩
      (elt A (y 0).val (y 0).val (y 0).isLt (y 0).isLt) (row A (y 0).val (y 0).isLt) (ix3 (0 : Fin 1) (y 1) (y 2)) := by
  induction n with
  | zero => omega
  | succ n ih =>
    show outPut A n (iter (outPut A) n O) y = _
    unfold outPut
    by_cases hn : n < k1_t4_loop.trips
    · rw [dif_pos hn]
      unfold VecWindow.put
      by_cases e : (y 0).val = n
      · subst e
        rw [dif_pos (by
          intro a
          fin_cases a
          · exact ⟨le_refl _, Nat.lt_succ_self _⟩
          · exact ⟨Nat.zero_le _, lt_of_lt_of_eq (y 1).isLt (Nat.zero_add _).symm⟩
          · exact ⟨Nat.zero_le _, lt_of_lt_of_eq (y 2).isLt (Nat.zero_add _).symm⟩)]
        refine congrArg _ (funext fun a => Fin.ext ?_)
        fin_cases a
        · exact Nat.sub_self _
        · exact Nat.sub_zero _
        · exact Nat.sub_zero _
      · rw [dif_neg (fun hall => e (by have := hall 0; exact Nat.le_antisymm (Nat.lt_succ_iff.mp this.2) this.1))]
        exact ih (by omega)
    · have h0 : (y 0).val < 104 := (y 0).isLt
      have := trips4
      rw [dif_neg hn]
      exact ih (by omega)

/-- The kernel's run: its output holds `value` of its input. -/
theorem run (a0 : M3) (h0 : a0.IsWhole) (a1 : M3) (h1 : a1.IsWhole) (a2 : M3) (h2 : a2.IsWhole) (G : Vec F S104x104x64 .f32) :
    (iprop(owns (c : Thread nD τ) a0 fullShare G ∗ (∃ d, owns (c : Thread nD τ) a1 fullShare d) ∗ (∃ d, owns (c : Thread nD τ) a2 fullShare d)) : sProp 𝕄) ⊢
      wp frame (wpE (defs₀ (F := F)) 𝒱₀ c none) E (cc1_inv_chol a0 h0 a1 h1 a2 h2)
      (fun _ => iprop(owns (c : Thread nD τ) a0 fullShare G ∗ owns (c : Thread nD τ) a1 fullShare (value G) ∗ (∃ d, owns (c : Thread nD τ) a2 fullShare d))) := by
  simp only [cc1_inv_chol_eq_skeleton]; unfold cc1_inv_chol_skel
  simp only [owns]
  iintro ⟨⟨%f, %hf, H0⟩, ⟨%o, %fo, %ho, H1⟩, ⟨%s, %fs, -, H2⟩⟩
  sl_exec
  iapply (bind_of_run frame (wpE (defs₀ (F := F)) 𝒱₀ c none) E (loop1 𝒱₀ c E a0 h0 a1 h1 a2 h2 (k1_pay1 G)))
  isplitl [H2]
  · unfold owns
    iexists _
    isplitr
    swap; · iexact H2
    ipureintro
    unfold run.sl.H2_1
    rw [View.read_writes_full, View.readAt_full, hf]
  iintro H2
  iapply (bind_of_run frame (wpE (defs₀ (F := F)) 𝒱₀ c none) E (loop4 𝒱₀ c E a0 h0 a1 h1 a2 h2 (iter elimPut 104 (k1_pay1 G)) o))
  isplitl [H2 H1]
  · isplitl [H2]
    · iexact H2
    unfold owns
    iexists fo
    isplitr
    · ipureintro; exact ho
    iexact H1
  iintro ⟨H2, H1⟩
  rw [show iter (outPut (iter elimPut 104 (k1_pay1 G))) 104 o = value G from
    funext fun y => iter_outPut _ _ 104 y (y 0).isLt]
  sl_step
  isplitl [H0]
  · iexists f
    isplitr
    · ipureintro; exact hf
    iexact H0
  unfold owns
  isplitl [H1]
  · iexact H1
  iexists _
  iexact H2

/-- The three calls of the kernel are one program. -/
theorem cc3_eq : cc3_inv_chol (F := F) = cc1_inv_chol (F := F) := rfl
theorem cc5_eq : cc5_inv_chol (F := F) = cc1_inv_chol (F := F) := rfl

end Cert.Sketch.InvChol

end
-- ==== Proof.Sketch.K1.lean ====
/-
  Custom call 1, the Cholesky kernel on whole arrays: the proof data and the body obligation, for any index type, level type,
  algebra, variants, entry contents and owed tally, from the kernel's run.
-/
module

public import proofs.«01_k».proof.Proof.Gen.Sketch.Launch
public import proofs.«01_k».proof.Proof.Gen.Sketch.Points
public import proofs.«01_k».proof.Proof.Sketch.InvChol
public import Idealize.ShloMosaic.Lib.Pipeline.FrameSuffix
public import Idealize.ShloMosaic.Lib.Ring

@[expose] public section

noncomputable section

namespace Cert.Sketch.Own.K1

open Cert.Sketch Cert.Sketch.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: its scoped buffers and the random-number register. -/
def ΦK (c : Dev nD) : sProp 𝕄 :=
  iprop(Pipeline.scopedRest (Ix := Ix) (Name := ℕ) (U := U) (Lvl := Lvl) (Val := Elt F) spec1 c ∗ ∃ r, prngReg c r)

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block, for any proof data whose array is `V`'s and whose body leaves the block in place. -/
theorem before_0_of {c : Dev nD} (dat : Dat τ (Elt F) Ix ℕ U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging memrefs, as the pipeline passes them, and their wholeness. -/
abbrev ms_0 (t : Fin cfg1.N) : Memref sig .tc .vmem S104x104x64 .f32 := win1_0.stage (cfg1.slots t 0)
abbrev ms_1 (t : Fin cfg1.N) : Memref sig .tc .vmem S104x104x64 .f32 := win1_1.stage (cfg1.slots t 1)
abbrev scM : Memref sig .tc .vmem S104x104x64 .f32 := Memref.whole cc1_scratch0

/-- The invariant with the scratch buffer as a memref owned at some contents. -/
theorem PhiA_eq (c : Dev nD) :
    (ΦK (F := F) (Ix := Ix) (U := U) (Lvl := Lvl) c : sProp 𝕄)
      = iprop(iprop((∃ d, owns (c : Thread nD τ) scM fullShare d) ∗ Pipeline.scopedRestBut spec1 c [cc1_scratch0]) ∗ (∃ r, prngReg c r)) := by
  unfold ΦK; rw [scopedRest1_split]; simp only [scM, owns_whole]; try rfl

/-- What the output holds after the call. -/
def outAt (c : Dev nD) (t : Fin cfg1.N) : Vec F S104x104x64 .f32 := InvChol.value (iblk V c 0 t)

/-- The proof data of the call's pipeline on core `c`. -/
def dat (c : Dev nD) : Dat τ (Elt F) Ix ℕ U Lvl cfg1 c where
  A w := V c (Pipeline.arrRef spec1 w)
  after w t := match w with
    | ⟨0, _⟩ => iblk V c 0 t
    | ⟨1, _⟩ => outAt V c t
  Φ _ := ΦK (F := F) (Ix := Ix) (U := U) (Lvl := Lvl) c
  q _ := fullShare
  owed _ := D c

variable (ι : Ix)

/-- The proof data's arrays are the region-entry contents `V`. -/
theorem A_eq (c : Dev nD) (w : Fin cfg1.W) : ((dat (Ix := Ix) (U := U) (Lvl := Lvl) V D) c).A w = V c (Pipeline.arrRef spec1 w) := by
  dsimp only [dat]

theorem after_0 (c : Dev nD) (t : Fin cfg1.N) : ((dat (Ix := Ix) (U := U) (Lvl := Lvl) V D) c).after 0 t = iblk V c 0 t := by dsimp only [dat]
theorem after_1 (c : Dev nD) (t : Fin cfg1.N) : ((dat (Ix := Ix) (U := U) (Lvl := Lvl) V D) c).after 1 t = outAt V c t := by dsimp only [dat]

theorem before_0 (c : Dev nD) (t : Fin cfg1.N) (d) : ((dat (Ix := Ix) (U := U) (Lvl := Lvl) V D) c).before 0 t d = iblk V c 0 t :=
  before_0_of V ((dat (Ix := Ix) (U := U) (Lvl := Lvl) V D) c) (A_eq V D c 0) (after_0 V D c) t d

/-- What the body is called with at point `t`, -/
def bodyPre (c : Dev nD) (t : Fin cfg1.N) : sProp 𝕄 :=
  iprop(((dat (Ix := Ix) (U := U) (Lvl := Lvl) V D) c).Φ t.castSucc ∗ ((dat (Ix := Ix) (U := U) (Lvl := Lvl) V D) c).owesAt ι t.castSucc
    ∗ (∃ d, owns (c : Thread nD τ) (ms_0 t) fullShare (((dat (Ix := Ix) (U := U) (Lvl := Lvl) V D) c).before 0 t d))
    ∗ (∃ d, owns (c : Thread nD τ) (ms_1 t) fullShare (((dat (Ix := Ix) (U := U) (Lvl := Lvl) V D) c).before 1 t d)))

/-- and what it returns. -/
def bodyPost (c : Dev nD) (t : Fin cfg1.N) : sProp 𝕄 :=
  iprop(((dat (Ix := Ix) (U := U) (Lvl := Lvl) V D) c).Φ t.succ ∗ ((dat (Ix := Ix) (U := U) (Lvl := Lvl) V D) c).owesAt ι t.succ
    ∗ owns (c : Thread nD τ) (ms_0 t) fullShare (((dat (Ix := Ix) (U := U) (Lvl := Lvl) V D) c).after 0 t)
    ∗ owns (c : Thread nD τ) (ms_1 t) fullShare (((dat (Ix := Ix) (U := U) (Lvl := Lvl) V D) c).after 1 t))

/-- The call runs the one printed program. -/
theorem cc_eq : cc1_inv_chol (F := F) = cc1_inv_chol (F := F) := rfl

set_option maxHeartbeats 800000 in
/-- The body: the run applies. -/
theorem sound_body (c : Dev nD) (t : Fin cfg1.N) :
    bodyPre (U := U) (Lvl := Lvl) V D ι c t ⊢ wp frame (wpE (defs₀ (F := F)) 𝒱₀ c none) Set.univ (bodyAt1 t) (fun _ => bodyPost (U := U) (Lvl := Lvl) V D ι c t) := by
  unfold bodyPre bodyPost bodyAt1
  simp only [before_0]
  rw [show ((dat (Ix := Ix) (U := U) (Lvl := Lvl) V D) c).Φ t.succ = ((dat (Ix := Ix) (U := U) (Lvl := Lvl) V D) c).Φ t.castSucc from rfl,
    show ((dat (Ix := Ix) (U := U) (Lvl := Lvl) V D) c).owesAt ι t.succ = ((dat (Ix := Ix) (U := U) (Lvl := Lvl) V D) c).owesAt ι t.castSucc from rfl, after_0, after_1]
  rw [show ((dat (Ix := Ix) (U := U) (Lvl := Lvl) V D) c).Φ t.castSucc = ΦK (F := F) (Ix := Ix) (U := U) (Lvl := Lvl) c from rfl, PhiA_eq, cc_eq]
  unfold outAt
  iintro ⟨⟨⟨HS0, HR⟩, Hg⟩, Ho, ⟨%d0, H0⟩, ⟨%d1, H1⟩⟩
  iapply (wp_wand_r frame (wpE (defs₀ (F := F)) 𝒱₀ c none) Set.univ)
  isplitl [H0 H1 HS0]
  · iapply (InvChol.run 𝒱₀ c Set.univ (ms_0 t) _ (ms_1 t) _ scM _ (iblk V c 0 t))
    isplitl [H0]; · iexact H0
    isplitl [H1]; · iexists _; iexact H1
    iexact HS0
  iintro %_ ⟨H0, H1, HS0⟩
  isplitl [HS0 HR Hg]
  · isplitl [HS0 HR]
    · isplitl [HS0]
      · iexact HS0
      iexact HR
    iexact Hg
  isplitl [Ho]; · iexact Ho
  isplitl [H0]; · iexact H0
  iexact H1

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation. -/
theorem body_obligation (c : Dev nD) : BodyObligation ((dat (Ix := Ix) (U := U) (Lvl := Lvl) V D) c) (defs₀ (F := F)) 𝒱₀ ι Set.univ := fun t => by
  rw [bigSep_W1, bigSep_W1, defs₀_row]
  exact triple_restated (sound_body (U := U) (Lvl := Lvl) 𝒱₀ V D ι c t) rfl .rfl fun _ => .rfl

end Cert.Sketch.Own.K1

end
-- ==== Proof.Sketch.K3.lean ====
/-
  Custom call 3, the Cholesky kernel on whole arrays: the proof data and the body obligation, for any index type, level type,
  algebra, variants, entry contents and owed tally, from the kernel's run.
-/
module

public import proofs.«01_k».proof.Proof.Gen.Sketch.Launch
public import proofs.«01_k».proof.Proof.Gen.Sketch.Points
public import proofs.«01_k».proof.Proof.Sketch.InvChol
public import Idealize.ShloMosaic.Lib.Pipeline.FrameSuffix
public import Idealize.ShloMosaic.Lib.Ring

@[expose] public section

noncomputable section

namespace Cert.Sketch.Own.K3

open Cert.Sketch Cert.Sketch.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: its scoped buffers and the random-number register. -/
def ΦK (c : Dev nD) : sProp 𝕄 :=
  iprop(Pipeline.scopedRest (Ix := Ix) (Name := ℕ) (U := U) (Lvl := Lvl) (Val := Elt F) spec3 c ∗ ∃ r, prngReg c r)

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's staging buffer holds its block, for any proof data whose array is `V`'s and whose body leaves the block in place. -/
theorem before_0_of {c : Dev nD} (dat : Dat τ (Elt F) Ix ℕ U Lvl cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging memrefs, as the pipeline passes them, and their wholeness. -/
abbrev ms_0 (t : Fin cfg3.N) : Memref sig .tc .vmem S104x104x64 .f32 := win3_0.stage (cfg3.slots t 0)
abbrev ms_1 (t : Fin cfg3.N) : Memref sig .tc .vmem S104x104x64 .f32 := win3_1.stage (cfg3.slots t 1)
abbrev scM : Memref sig .tc .vmem S104x104x64 .f32 := Memref.whole cc3_scratch0

/-- The invariant with the scratch buffer as a memref owned at some contents. -/
theorem PhiA_eq (c : Dev nD) :
    (ΦK (F := F) (Ix := Ix) (U := U) (Lvl := Lvl) c : sProp 𝕄)
      = iprop(iprop((∃ d, owns (c : Thread nD τ) scM fullShare d) ∗ Pipeline.scopedRestBut spec3 c [cc3_scratch0]) ∗ (∃ r, prngReg c r)) := by
  unfold ΦK; rw [scopedRest3_split]; simp only [scM, owns_whole]; try rfl

/-- What the output holds after the call. -/
def outAt (c : Dev nD) (t : Fin cfg3.N) : Vec F S104x104x64 .f32 := InvChol.value (iblk V c 0 t)

/-- The proof data of the call's pipeline on core `c`. -/
def dat (c : Dev nD) : Dat τ (Elt F) Ix ℕ U Lvl cfg3 c where
  A w := V c (Pipeline.arrRef spec3 w)
  after w t := match w with
    | ⟨0, _⟩ => iblk V c 0 t
    | ⟨1, _⟩ => outAt V c t
  Φ _ := ΦK (F := F) (Ix := Ix) (U := U) (Lvl := Lvl) c
  q _ := fullShare
  owed _ := D c

variable (ι : Ix)

/-- The proof data's arrays are the region-entry contents `V`. -/
theorem A_eq (c : Dev nD) (w : Fin cfg3.W) : ((dat (Ix := Ix) (U := U) (Lvl := Lvl) V D) c).A w = V c (Pipeline.arrRef spec3 w) := by
  dsimp only [dat]

theorem after_0 (c : Dev nD) (t : Fin cfg3.N) : ((dat (Ix := Ix) (U := U) (Lvl := Lvl) V D) c).after 0 t = iblk V c 0 t := by dsimp only [dat]
theorem after_1 (c : Dev nD) (t : Fin cfg3.N) : ((dat (Ix := Ix) (U := U) (Lvl := Lvl) V D) c).after 1 t = outAt V c t := by dsimp only [dat]

theorem before_0 (c : Dev nD) (t : Fin cfg3.N) (d) : ((dat (Ix := Ix) (U := U) (Lvl := Lvl) V D) c).before 0 t d = iblk V c 0 t :=
  before_0_of V ((dat (Ix := Ix) (U := U) (Lvl := Lvl) V D) c) (A_eq V D c 0) (after_0 V D c) t d

/-- What the body is called with at point `t`, -/
def bodyPre (c : Dev nD) (t : Fin cfg3.N) : sProp 𝕄 :=
  iprop(((dat (Ix := Ix) (U := U) (Lvl := Lvl) V D) c).Φ t.castSucc ∗ ((dat (Ix := Ix) (U := U) (Lvl := Lvl) V D) c).owesAt ι t.castSucc
    ∗ (∃ d, owns (c : Thread nD τ) (ms_0 t) fullShare (((dat (Ix := Ix) (U := U) (Lvl := Lvl) V D) c).before 0 t d))
    ∗ (∃ d, owns (c : Thread nD τ) (ms_1 t) fullShare (((dat (Ix := Ix) (U := U) (Lvl := Lvl) V D) c).before 1 t d)))

/-- and what it returns. -/
def bodyPost (c : Dev nD) (t : Fin cfg3.N) : sProp 𝕄 :=
  iprop(((dat (Ix := Ix) (U := U) (Lvl := Lvl) V D) c).Φ t.succ ∗ ((dat (Ix := Ix) (U := U) (Lvl := Lvl) V D) c).owesAt ι t.succ
    ∗ owns (c : Thread nD τ) (ms_0 t) fullShare (((dat (Ix := Ix) (U := U) (Lvl := Lvl) V D) c).after 0 t)
    ∗ owns (c : Thread nD τ) (ms_1 t) fullShare (((dat (Ix := Ix) (U := U) (Lvl := Lvl) V D) c).after 1 t))

/-- The call runs the one printed program. -/
theorem cc_eq : cc3_inv_chol (F := F) = cc1_inv_chol (F := F) := rfl

set_option maxHeartbeats 800000 in
/-- The body: the run applies. -/
theorem sound_body (c : Dev nD) (t : Fin cfg3.N) :
    bodyPre (U := U) (Lvl := Lvl) V D ι c t ⊢ wp frame (wpE (defs₀ (F := F)) 𝒱₀ c none) Set.univ (bodyAt3 t) (fun _ => bodyPost (U := U) (Lvl := Lvl) V D ι c t) := by
  unfold bodyPre bodyPost bodyAt3
  simp only [before_0]
  rw [show ((dat (Ix := Ix) (U := U) (Lvl := Lvl) V D) c).Φ t.succ = ((dat (Ix := Ix) (U := U) (Lvl := Lvl) V D) c).Φ t.castSucc from rfl,
    show ((dat (Ix := Ix) (U := U) (Lvl := Lvl) V D) c).owesAt ι t.succ = ((dat (Ix := Ix) (U := U) (Lvl := Lvl) V D) c).owesAt ι t.castSucc from rfl, after_0, after_1]
  rw [show ((dat (Ix := Ix) (U := U) (Lvl := Lvl) V D) c).Φ t.castSucc = ΦK (F := F) (Ix := Ix) (U := U) (Lvl := Lvl) c from rfl, PhiA_eq, cc_eq]
  unfold outAt
  iintro ⟨⟨⟨HS0, HR⟩, Hg⟩, Ho, ⟨%d0, H0⟩, ⟨%d1, H1⟩⟩
  iapply (wp_wand_r frame (wpE (defs₀ (F := F)) 𝒱₀ c none) Set.univ)
  isplitl [H0 H1 HS0]
  · iapply (InvChol.run 𝒱₀ c Set.univ (ms_0 t) _ (ms_1 t) _ scM _ (iblk V c 0 t))
    isplitl [H0]; · iexact H0
    isplitl [H1]; · iexists _; iexact H1
    iexact HS0
  iintro %_ ⟨H0, H1, HS0⟩
  isplitl [HS0 HR Hg]
  · isplitl [HS0 HR]
    · isplitl [HS0]
      · iexact HS0
      iexact HR
    iexact Hg
  isplitl [Ho]; · iexact Ho
  isplitl [H0]; · iexact H0
  iexact H1

/-- The body table's row at point `t`'s slots is the body as `bodyAt3` spells it. -/
theorem defs₀_row (t : Fin cfg3.N) :
    defs₀ (F := F) .tc cfg3.body (cfg3.bodyArgs t (cfg3.slots t)) = bodyAt3 t := by
  unfold defs₀; rw [Defs.onTc_tc]

/-- The library's body obligation. -/
theorem body_obligation (c : Dev nD) : BodyObligation ((dat (Ix := Ix) (U := U) (Lvl := Lvl) V D) c) (defs₀ (F := F)) 𝒱₀ ι Set.univ := fun t => by
  rw [bigSep_W3, bigSep_W3, defs₀_row]
  exact triple_restated (sound_body (U := U) (Lvl := Lvl) 𝒱₀ V D ι c t) rfl .rfl fun _ => .rfl

end Cert.Sketch.Own.K3

end
-- ==== Proof.Sketch.K5.lean ====
/-
  Custom call 5, the Cholesky kernel on whole arrays: the proof data and the body obligation, for any index type, level type,
  algebra, variants, entry contents and owed tally, from the kernel's run.
-/
module

public import proofs.«01_k».proof.Proof.Gen.Sketch.Launch
public import proofs.«01_k».proof.Proof.Gen.Sketch.Points
public import proofs.«01_k».proof.Proof.Sketch.InvChol
public import Idealize.ShloMosaic.Lib.Pipeline.FrameSuffix
public import Idealize.ShloMosaic.Lib.Ring

@[expose] public section

noncomputable section

namespace Cert.Sketch.Own.K5

open Cert.Sketch Cert.Sketch.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: its scoped buffers and the random-number register. -/
def ΦK (c : Dev nD) : sProp 𝕄 :=
  iprop(Pipeline.scopedRest (Ix := Ix) (Name := ℕ) (U := U) (Lvl := Lvl) (Val := Elt F) spec5 c ∗ ∃ r, prngReg c r)

/-- Window `w`'s block at point `t`, read off its array as the region finds it (`V`). -/
def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The input window's staging buffer holds its block, for any proof data whose array is `V`'s and whose body leaves the block in place. -/
theorem before_0_of {c : Dev nD} (dat : Dat τ (Elt F) Ix ℕ U Lvl cfg5 c) (hA : dat.A 0 = V c (Pipeline.arrRef spec5 0))
    (hafter : ∀ t, dat.after 0 t = iblk V c 0 t) (t : Fin cfg5.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging memrefs, as the pipeline passes them, and their wholeness. -/
abbrev ms_0 (t : Fin cfg5.N) : Memref sig .tc .vmem S104x104x64 .f32 := win5_0.stage (cfg5.slots t 0)
abbrev ms_1 (t : Fin cfg5.N) : Memref sig .tc .vmem S104x104x64 .f32 := win5_1.stage (cfg5.slots t 1)
abbrev scM : Memref sig .tc .vmem S104x104x64 .f32 := Memref.whole cc5_scratch0

/-- The invariant with the scratch buffer as a memref owned at some contents. -/
theorem PhiA_eq (c : Dev nD) :
    (ΦK (F := F) (Ix := Ix) (U := U) (Lvl := Lvl) c : sProp 𝕄)
      = iprop(iprop((∃ d, owns (c : Thread nD τ) scM fullShare d) ∗ Pipeline.scopedRestBut spec5 c [cc5_scratch0]) ∗ (∃ r, prngReg c r)) := by
  unfold ΦK; rw [scopedRest5_split]; simp only [scM, owns_whole]; try rfl

/-- What the output holds after the call. -/
def outAt (c : Dev nD) (t : Fin cfg5.N) : Vec F S104x104x64 .f32 := InvChol.value (iblk V c 0 t)

/-- The proof data of the call's pipeline on core `c`. -/
def dat (c : Dev nD) : Dat τ (Elt F) Ix ℕ U Lvl cfg5 c where
  A w := V c (Pipeline.arrRef spec5 w)
  after w t := match w with
    | ⟨0, _⟩ => iblk V c 0 t
    | ⟨1, _⟩ => outAt V c t
  Φ _ := ΦK (F := F) (Ix := Ix) (U := U) (Lvl := Lvl) c
  q _ := fullShare
  owed _ := D c

variable (ι : Ix)

/-- The proof data's arrays are the region-entry contents `V`. -/
theorem A_eq (c : Dev nD) (w : Fin cfg5.W) : ((dat (Ix := Ix) (U := U) (Lvl := Lvl) V D) c).A w = V c (Pipeline.arrRef spec5 w) := by
  dsimp only [dat]

theorem after_0 (c : Dev nD) (t : Fin cfg5.N) : ((dat (Ix := Ix) (U := U) (Lvl := Lvl) V D) c).after 0 t = iblk V c 0 t := by dsimp only [dat]
theorem after_1 (c : Dev nD) (t : Fin cfg5.N) : ((dat (Ix := Ix) (U := U) (Lvl := Lvl) V D) c).after 1 t = outAt V c t := by dsimp only [dat]

theorem before_0 (c : Dev nD) (t : Fin cfg5.N) (d) : ((dat (Ix := Ix) (U := U) (Lvl := Lvl) V D) c).before 0 t d = iblk V c 0 t :=
  before_0_of V ((dat (Ix := Ix) (U := U) (Lvl := Lvl) V D) c) (A_eq V D c 0) (after_0 V D c) t d

/-- What the body is called with at point `t`, -/
def bodyPre (c : Dev nD) (t : Fin cfg5.N) : sProp 𝕄 :=
  iprop(((dat (Ix := Ix) (U := U) (Lvl := Lvl) V D) c).Φ t.castSucc ∗ ((dat (Ix := Ix) (U := U) (Lvl := Lvl) V D) c).owesAt ι t.castSucc
    ∗ (∃ d, owns (c : Thread nD τ) (ms_0 t) fullShare (((dat (Ix := Ix) (U := U) (Lvl := Lvl) V D) c).before 0 t d))
    ∗ (∃ d, owns (c : Thread nD τ) (ms_1 t) fullShare (((dat (Ix := Ix) (U := U) (Lvl := Lvl) V D) c).before 1 t d)))

/-- and what it returns. -/
def bodyPost (c : Dev nD) (t : Fin cfg5.N) : sProp 𝕄 :=
  iprop(((dat (Ix := Ix) (U := U) (Lvl := Lvl) V D) c).Φ t.succ ∗ ((dat (Ix := Ix) (U := U) (Lvl := Lvl) V D) c).owesAt ι t.succ
    ∗ owns (c : Thread nD τ) (ms_0 t) fullShare (((dat (Ix := Ix) (U := U) (Lvl := Lvl) V D) c).after 0 t)
    ∗ owns (c : Thread nD τ) (ms_1 t) fullShare (((dat (Ix := Ix) (U := U) (Lvl := Lvl) V D) c).after 1 t))

/-- The call runs the one printed program. -/
theorem cc_eq : cc5_inv_chol (F := F) = cc1_inv_chol (F := F) := rfl

set_option maxHeartbeats 800000 in
/-- The body: the run applies. -/
theorem sound_body (c : Dev nD) (t : Fin cfg5.N) :
    bodyPre (U := U) (Lvl := Lvl) V D ι c t ⊢ wp frame (wpE (defs₀ (F := F)) 𝒱₀ c none) Set.univ (bodyAt5 t) (fun _ => bodyPost (U := U) (Lvl := Lvl) V D ι c t) := by
  unfold bodyPre bodyPost bodyAt5
  simp only [before_0]
  rw [show ((dat (Ix := Ix) (U := U) (Lvl := Lvl) V D) c).Φ t.succ = ((dat (Ix := Ix) (U := U) (Lvl := Lvl) V D) c).Φ t.castSucc from rfl,
    show ((dat (Ix := Ix) (U := U) (Lvl := Lvl) V D) c).owesAt ι t.succ = ((dat (Ix := Ix) (U := U) (Lvl := Lvl) V D) c).owesAt ι t.castSucc from rfl, after_0, after_1]
  rw [show ((dat (Ix := Ix) (U := U) (Lvl := Lvl) V D) c).Φ t.castSucc = ΦK (F := F) (Ix := Ix) (U := U) (Lvl := Lvl) c from rfl, PhiA_eq, cc_eq]
  unfold outAt
  iintro ⟨⟨⟨HS0, HR⟩, Hg⟩, Ho, ⟨%d0, H0⟩, ⟨%d1, H1⟩⟩
  iapply (wp_wand_r frame (wpE (defs₀ (F := F)) 𝒱₀ c none) Set.univ)
  isplitl [H0 H1 HS0]
  · iapply (InvChol.run 𝒱₀ c Set.univ (ms_0 t) _ (ms_1 t) _ scM _ (iblk V c 0 t))
    isplitl [H0]; · iexact H0
    isplitl [H1]; · iexists _; iexact H1
    iexact HS0
  iintro %_ ⟨H0, H1, HS0⟩
  isplitl [HS0 HR Hg]
  · isplitl [HS0 HR]
    · isplitl [HS0]
      · iexact HS0
      iexact HR
    iexact Hg
  isplitl [Ho]; · iexact Ho
  isplitl [H0]; · iexact H0
  iexact H1

/-- The body table's row at point `t`'s slots is the body as `bodyAt5` spells it. -/
theorem defs₀_row (t : Fin cfg5.N) :
    defs₀ (F := F) .tc cfg5.body (cfg5.bodyArgs t (cfg5.slots t)) = bodyAt5 t := by
  unfold defs₀; rw [Defs.onTc_tc]

/-- The library's body obligation. -/
theorem body_obligation (c : Dev nD) : BodyObligation ((dat (Ix := Ix) (U := U) (Lvl := Lvl) V D) c) (defs₀ (F := F)) 𝒱₀ ι Set.univ := fun t => by
  rw [bigSep_W5, bigSep_W5, defs₀_row]
  exact triple_restated (sound_body (U := U) (Lvl := Lvl) 𝒱₀ V D ι c t) rfl .rfl fun _ => .rfl

end Cert.Sketch.Own.K5

end
-- ==== Proof.Sketch.Run.lean ====
/-
  The whole program's run: what every buffer holds after each stretch of host code and each kernel, the seven kernels'
  records, and the run of @main from any memory: it terminates, leaves its arguments as they were, every semaphore at
  zero and each result at the last contents below.
-/
module

public import proofs.«01_k».proof.Proof.Gen.Sketch.Regions
public import proofs.«01_k».proof.Proof.Gen.Own.Sketch.K0.Frame
public import proofs.«01_k».proof.Proof.Sketch.K1
public import proofs.«01_k».proof.Proof.Gen.Own.Sketch.K2.Frame
public import proofs.«01_k».proof.Proof.Sketch.K3
public import proofs.«01_k».proof.Proof.Gen.Own.Sketch.K4.Frame
public import proofs.«01_k».proof.Proof.Sketch.K5
public import proofs.«01_k».proof.Proof.Gen.Own.Sketch.K6.Frame
public import Idealize.ShloMosaic.Lib.Pipeline.RegionArrays

@[expose] public section

noncomputable section

namespace Cert.Sketch.Run

open Cert.Sketch Cert.Sketch.Gen Cert.Sketch.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents after each item -/

/-- At launch. -/
def W0 (c : Dev nD) : Valuation τ sig (Elt F) := fun b => m (c, b)

/-- After the host stretch before kernel 0. -/
def W1 (c : Dev nD) : Valuation τ sig (Elt F) := StableHlo.after hostOps0 (W0 m c)

/-- Kernel 0's proof data, entered there. -/
def d0 (c : Dev nD) : Dat τ (Elt F) Unit ℕ (UR sig nD τ) ℕ cfg0 c :=
  K0.dat Variants.none (fun c b => W1 m c (Proc.devRef .tc b)) (fun _ => 0) c

/-- After kernel 0. -/
def W2 (c : Dev nD) : Valuation τ sig (Elt F) :=
  (Function.update (Function.update (W1 m c) main_v9_0 ((d0 m c).arrAt 5 cfg0.N)) main_v9_1 ((d0 m c).arrAt 6 cfg0.N))

/-- After the host stretch before kernel 1. -/
def W3 (c : Dev nD) : Valuation τ sig (Elt F) := StableHlo.after hostOps1 (W2 m c)

/-- Kernel 1's proof data, entered there. -/
def d1 (c : Dev nD) : Dat τ (Elt F) Unit ℕ (UR sig nD τ) ℕ cfg1 c :=
  K1.dat (fun c b => W3 m c (Proc.devRef .tc b)) (fun _ => 0) c

/-- After kernel 1. -/
def W4 (c : Dev nD) : Valuation τ sig (Elt F) :=
  (Function.update (W3 m c) main_v11 ((d1 m c).arrAt 1 cfg1.N))

/-- After the host stretch before kernel 2. -/
def W5 (c : Dev nD) : Valuation τ sig (Elt F) := StableHlo.after hostOps2 (W4 m c)

/-- Kernel 2's proof data, entered there. -/
def d2 (c : Dev nD) : Dat τ (Elt F) Unit ℕ (UR sig nD τ) ℕ cfg2 c :=
  K2.dat Variants.none (fun c b => W5 m c (Proc.devRef .tc b)) (fun _ => 0) c

/-- After kernel 2. -/
def W6 (c : Dev nD) : Valuation τ sig (Elt F) :=
  (Function.update (Function.update (Function.update (W5 m c) main_v13_0 ((d2 m c).arrAt 6 cfg2.N)) main_v13_1 ((d2 m c).arrAt 7 cfg2.N)) main_v13_2 ((d2 m c).arrAt 8 cfg2.N))

/-- After the host stretch before kernel 3. -/
def W7 (c : Dev nD) : Valuation τ sig (Elt F) := StableHlo.after hostOps3 (W6 m c)

/-- Kernel 3's proof data, entered there. -/
def d3 (c : Dev nD) : Dat τ (Elt F) Unit ℕ (UR sig nD τ) ℕ cfg3 c :=
  K3.dat (fun c b => W7 m c (Proc.devRef .tc b)) (fun _ => 0) c

/-- After kernel 3. -/
def W8 (c : Dev nD) : Valuation τ sig (Elt F) :=
  (Function.update (W7 m c) main_v15 ((d3 m c).arrAt 1 cfg3.N))

/-- After the host stretch before kernel 4. -/
def W9 (c : Dev nD) : Valuation τ sig (Elt F) := StableHlo.after hostOps4 (W8 m c)

/-- Kernel 4's proof data, entered there. -/
def d4 (c : Dev nD) : Dat τ (Elt F) Unit ℕ (UR sig nD τ) ℕ cfg4 c :=
  K4.dat Variants.none (fun c b => W9 m c (Proc.devRef .tc b)) (fun _ => 0) c

/-- After kernel 4. -/
def W10 (c : Dev nD) : Valuation τ sig (Elt F) :=
  (Function.update (Function.update (Function.update (W9 m c) main_v17_0 ((d4 m c).arrAt 6 cfg4.N)) main_v17_1 ((d4 m c).arrAt 7 cfg4.N)) main_v17_2 ((d4 m c).arrAt 8 cfg4.N))

/-- After the host stretch before kernel 5. -/
def W11 (c : Dev nD) : Valuation τ sig (Elt F) := StableHlo.after hostOps5 (W10 m c)

/-- Kernel 5's proof data, entered there. -/
def d5 (c : Dev nD) : Dat τ (Elt F) Unit ℕ (UR sig nD τ) ℕ cfg5 c :=
  K5.dat (fun c b => W11 m c (Proc.devRef .tc b)) (fun _ => 0) c

/-- After kernel 5. -/
def W12 (c : Dev nD) : Valuation τ sig (Elt F) :=
  (Function.update (W11 m c) main_v19 ((d5 m c).arrAt 1 cfg5.N))

/-- After the host stretch before kernel 6. -/
def W13 (c : Dev nD) : Valuation τ sig (Elt F) := StableHlo.after hostOps6 (W12 m c)

/-- Kernel 6's proof data, entered there. -/
def d6 (c : Dev nD) : Dat τ (Elt F) Unit ℕ (UR sig nD τ) ℕ cfg6 c :=
  K6.dat Variants.none (fun c b => W13 m c (Proc.devRef .tc b)) (fun _ => 0) c

/-- After kernel 6. -/
def W14 (c : Dev nD) : Valuation τ sig (Elt F) :=
  (Function.update (Function.update (W13 m c) main_v21_0 ((d6 m c).arrAt 6 cfg6.N)) main_v21_1 ((d6 m c).arrAt 7 cfg6.N))

/-- At the end. -/
def W15 (c : Dev nD) : Valuation τ sig (Elt F) := StableHlo.after hostOps7 (W14 m c)

/-! ## What each item leaves alone and what it writes -/

theorem W1_of (c : Dev nD) (r : Ref sig .tc) (h : r ∉ hostOps0_W) : W1 m c r = W0 m c r :=
  StableHlo.after_of_writes_sub hostOps0 _ hostOps0_writes h
theorem W2_off (c : Dev nD) (b : DevRef τ sig) (h0 : b ≠ Proc.devRef .tc main_v9_0) (h1 : b ≠ Proc.devRef .tc main_v9_1) : W2 m c b = W1 m c b := by
  unfold W2
  rw [Function.update_of_ne h1, Function.update_of_ne h0]
theorem W2_of (c : Dev nD) (r : Ref sig .tc) (h : r ∉ ([main_v9_0, main_v9_1] : List (Ref sig .tc))) : W2 m c r = W1 m c r :=
  W2_off m c _ (StableHlo.devRef_ne_of_ne fun e => h (by rw [e]; decide)) (StableHlo.devRef_ne_of_ne fun e => h (by rw [e]; decide))
theorem W2_main_v9_0 (c : Dev nD) : W2 m c (Proc.devRef .tc main_v9_0) = (d0 m c).arrAt 5 cfg0.N := by
  unfold W2
  rw [Function.update_of_ne (StableHlo.devRef_ne_of_ne (by decide : (main_v9_0 : Ref sig .tc) ≠ main_v9_1)), Function.update_self]
theorem W2_main_v9_1 (c : Dev nD) : W2 m c (Proc.devRef .tc main_v9_1) = (d0 m c).arrAt 6 cfg0.N := by
  unfold W2
  rw [Function.update_self]
theorem W3_of (c : Dev nD) (r : Ref sig .tc) (h : r ∉ hostOps1_W) : W3 m c r = W2 m c r :=
  StableHlo.after_of_writes_sub hostOps1 _ hostOps1_writes h
theorem W4_off (c : Dev nD) (b : DevRef τ sig) (h0 : b ≠ Proc.devRef .tc main_v11) : W4 m c b = W3 m c b := by
  unfold W4
  rw [Function.update_of_ne h0]
theorem W4_of (c : Dev nD) (r : Ref sig .tc) (h : r ∉ ([main_v11] : List (Ref sig .tc))) : W4 m c r = W3 m c r :=
  W4_off m c _ (StableHlo.devRef_ne_of_ne fun e => h (by rw [e]; decide))
theorem W4_main_v11 (c : Dev nD) : W4 m c (Proc.devRef .tc main_v11) = (d1 m c).arrAt 1 cfg1.N := by
  unfold W4
  rw [Function.update_self]
theorem W5_of (c : Dev nD) (r : Ref sig .tc) (h : r ∉ hostOps2_W) : W5 m c r = W4 m c r :=
  StableHlo.after_of_writes_sub hostOps2 _ hostOps2_writes h
theorem W6_off (c : Dev nD) (b : DevRef τ sig) (h0 : b ≠ Proc.devRef .tc main_v13_0) (h1 : b ≠ Proc.devRef .tc main_v13_1) (h2 : b ≠ Proc.devRef .tc main_v13_2) : W6 m c b = W5 m c b := by
  unfold W6
  rw [Function.update_of_ne h2, Function.update_of_ne h1, Function.update_of_ne h0]
theorem W6_of (c : Dev nD) (r : Ref sig .tc) (h : r ∉ ([main_v13_0, main_v13_1, main_v13_2] : List (Ref sig .tc))) : W6 m c r = W5 m c r :=
  W6_off m c _ (StableHlo.devRef_ne_of_ne fun e => h (by rw [e]; decide)) (StableHlo.devRef_ne_of_ne fun e => h (by rw [e]; decide)) (StableHlo.devRef_ne_of_ne fun e => h (by rw [e]; decide))
theorem W6_main_v13_0 (c : Dev nD) : W6 m c (Proc.devRef .tc main_v13_0) = (d2 m c).arrAt 6 cfg2.N := by
  unfold W6
  rw [Function.update_of_ne (StableHlo.devRef_ne_of_ne (by decide : (main_v13_0 : Ref sig .tc) ≠ main_v13_2)), Function.update_of_ne (StableHlo.devRef_ne_of_ne (by decide : (main_v13_0 : Ref sig .tc) ≠ main_v13_1)), Function.update_self]
theorem W6_main_v13_1 (c : Dev nD) : W6 m c (Proc.devRef .tc main_v13_1) = (d2 m c).arrAt 7 cfg2.N := by
  unfold W6
  rw [Function.update_of_ne (StableHlo.devRef_ne_of_ne (by decide : (main_v13_1 : Ref sig .tc) ≠ main_v13_2)), Function.update_self]
theorem W6_main_v13_2 (c : Dev nD) : W6 m c (Proc.devRef .tc main_v13_2) = (d2 m c).arrAt 8 cfg2.N := by
  unfold W6
  rw [Function.update_self]
theorem W7_of (c : Dev nD) (r : Ref sig .tc) (h : r ∉ hostOps3_W) : W7 m c r = W6 m c r :=
  StableHlo.after_of_writes_sub hostOps3 _ hostOps3_writes h
theorem W8_off (c : Dev nD) (b : DevRef τ sig) (h0 : b ≠ Proc.devRef .tc main_v15) : W8 m c b = W7 m c b := by
  unfold W8
  rw [Function.update_of_ne h0]
theorem W8_of (c : Dev nD) (r : Ref sig .tc) (h : r ∉ ([main_v15] : List (Ref sig .tc))) : W8 m c r = W7 m c r :=
  W8_off m c _ (StableHlo.devRef_ne_of_ne fun e => h (by rw [e]; decide))
theorem W8_main_v15 (c : Dev nD) : W8 m c (Proc.devRef .tc main_v15) = (d3 m c).arrAt 1 cfg3.N := by
  unfold W8
  rw [Function.update_self]
theorem W9_of (c : Dev nD) (r : Ref sig .tc) (h : r ∉ hostOps4_W) : W9 m c r = W8 m c r :=
  StableHlo.after_of_writes_sub hostOps4 _ hostOps4_writes h
theorem W10_off (c : Dev nD) (b : DevRef τ sig) (h0 : b ≠ Proc.devRef .tc main_v17_0) (h1 : b ≠ Proc.devRef .tc main_v17_1) (h2 : b ≠ Proc.devRef .tc main_v17_2) : W10 m c b = W9 m c b := by
  unfold W10
  rw [Function.update_of_ne h2, Function.update_of_ne h1, Function.update_of_ne h0]
theorem W10_of (c : Dev nD) (r : Ref sig .tc) (h : r ∉ ([main_v17_0, main_v17_1, main_v17_2] : List (Ref sig .tc))) : W10 m c r = W9 m c r :=
  W10_off m c _ (StableHlo.devRef_ne_of_ne fun e => h (by rw [e]; decide)) (StableHlo.devRef_ne_of_ne fun e => h (by rw [e]; decide)) (StableHlo.devRef_ne_of_ne fun e => h (by rw [e]; decide))
theorem W10_main_v17_0 (c : Dev nD) : W10 m c (Proc.devRef .tc main_v17_0) = (d4 m c).arrAt 6 cfg4.N := by
  unfold W10
  rw [Function.update_of_ne (StableHlo.devRef_ne_of_ne (by decide : (main_v17_0 : Ref sig .tc) ≠ main_v17_2)), Function.update_of_ne (StableHlo.devRef_ne_of_ne (by decide : (main_v17_0 : Ref sig .tc) ≠ main_v17_1)), Function.update_self]
theorem W10_main_v17_1 (c : Dev nD) : W10 m c (Proc.devRef .tc main_v17_1) = (d4 m c).arrAt 7 cfg4.N := by
  unfold W10
  rw [Function.update_of_ne (StableHlo.devRef_ne_of_ne (by decide : (main_v17_1 : Ref sig .tc) ≠ main_v17_2)), Function.update_self]
theorem W10_main_v17_2 (c : Dev nD) : W10 m c (Proc.devRef .tc main_v17_2) = (d4 m c).arrAt 8 cfg4.N := by
  unfold W10
  rw [Function.update_self]
theorem W11_of (c : Dev nD) (r : Ref sig .tc) (h : r ∉ hostOps5_W) : W11 m c r = W10 m c r :=
  StableHlo.after_of_writes_sub hostOps5 _ hostOps5_writes h
theorem W12_off (c : Dev nD) (b : DevRef τ sig) (h0 : b ≠ Proc.devRef .tc main_v19) : W12 m c b = W11 m c b := by
  unfold W12
  rw [Function.update_of_ne h0]
theorem W12_of (c : Dev nD) (r : Ref sig .tc) (h : r ∉ ([main_v19] : List (Ref sig .tc))) : W12 m c r = W11 m c r :=
  W12_off m c _ (StableHlo.devRef_ne_of_ne fun e => h (by rw [e]; decide))
theorem W12_main_v19 (c : Dev nD) : W12 m c (Proc.devRef .tc main_v19) = (d5 m c).arrAt 1 cfg5.N := by
  unfold W12
  rw [Function.update_self]
theorem W13_of (c : Dev nD) (r : Ref sig .tc) (h : r ∉ hostOps6_W) : W13 m c r = W12 m c r :=
  StableHlo.after_of_writes_sub hostOps6 _ hostOps6_writes h
theorem W14_off (c : Dev nD) (b : DevRef τ sig) (h0 : b ≠ Proc.devRef .tc main_v21_0) (h1 : b ≠ Proc.devRef .tc main_v21_1) : W14 m c b = W13 m c b := by
  unfold W14
  rw [Function.update_of_ne h1, Function.update_of_ne h0]
theorem W14_of (c : Dev nD) (r : Ref sig .tc) (h : r ∉ ([main_v21_0, main_v21_1] : List (Ref sig .tc))) : W14 m c r = W13 m c r :=
  W14_off m c _ (StableHlo.devRef_ne_of_ne fun e => h (by rw [e]; decide)) (StableHlo.devRef_ne_of_ne fun e => h (by rw [e]; decide))
theorem W14_main_v21_0 (c : Dev nD) : W14 m c (Proc.devRef .tc main_v21_0) = (d6 m c).arrAt 6 cfg6.N := by
  unfold W14
  rw [Function.update_of_ne (StableHlo.devRef_ne_of_ne (by decide : (main_v21_0 : Ref sig .tc) ≠ main_v21_1)), Function.update_self]
theorem W14_main_v21_1 (c : Dev nD) : W14 m c (Proc.devRef .tc main_v21_1) = (d6 m c).arrAt 7 cfg6.N := by
  unfold W14
  rw [Function.update_self]
theorem W15_of (c : Dev nD) (r : Ref sig .tc) (h : r ∉ hostOps7_W) : W15 m c r = W14 m c r :=
  StableHlo.after_of_writes_sub hostOps7 _ hostOps7_writes h
theorem W15_main_arg0 (c : Dev nD) : W15 m c main_arg0 = m ((c : Thread nD τ).loc main_arg0) :=
  (W15_of m c main_arg0 (by decide)).trans <| (W14_of m c main_arg0 (by decide)).trans <| (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans rfl
theorem W15_main_arg1 (c : Dev nD) : W15 m c main_arg1 = m ((c : Thread nD τ).loc main_arg1) :=
  (W15_of m c main_arg1 (by decide)).trans <| (W14_of m c main_arg1 (by decide)).trans <| (W13_of m c main_arg1 (by decide)).trans <| (W12_of m c main_arg1 (by decide)).trans <| (W11_of m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans rfl
theorem W15_main_arg2 (c : Dev nD) : W15 m c main_arg2 = m ((c : Thread nD τ).loc main_arg2) :=
  (W15_of m c main_arg2 (by decide)).trans <| (W14_of m c main_arg2 (by decide)).trans <| (W13_of m c main_arg2 (by decide)).trans <| (W12_of m c main_arg2 (by decide)).trans <| (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans rfl
theorem W15_main_arg3 (c : Dev nD) : W15 m c main_arg3 = m ((c : Thread nD τ).loc main_arg3) :=
  (W15_of m c main_arg3 (by decide)).trans <| (W14_of m c main_arg3 (by decide)).trans <| (W13_of m c main_arg3 (by decide)).trans <| (W12_of m c main_arg3 (by decide)).trans <| (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans rfl
theorem W15_main_arg4 (c : Dev nD) : W15 m c main_arg4 = m ((c : Thread nD τ).loc main_arg4) :=
  (W15_of m c main_arg4 (by decide)).trans <| (W14_of m c main_arg4 (by decide)).trans <| (W13_of m c main_arg4 (by decide)).trans <| (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans rfl

/-! ## The kernels' records -/

/-- The proof data, kernel by kernel. -/
def pd : (p : Fin 7) → (c : Dev nD) → Dat τ (Elt F) Unit ℕ (UR sig nD τ) ℕ (cfgs p) c
  | ⟨0, _⟩ => fun c => d0 m c
  | ⟨1, _⟩ => fun c => d1 m c
  | ⟨2, _⟩ => fun c => d2 m c
  | ⟨3, _⟩ => fun c => d3 m c
  | ⟨4, _⟩ => fun c => d4 m c
  | ⟨5, _⟩ => fun c => d5 m c
  | ⟨6, _⟩ => fun c => d6 m c

/-- The levels: one, at every cell of a TensorCore. -/
def L (g : GSem nD τ sig) : Finset Unit := if g.1.2 = .tc then Finset.univ else ∅

theorem hL (g : GSem nD τ sig) (h : g.1.2 ≠ .tc) : L g = ∅ := if_neg h

/-- What rides along: the random-number register, and nothing owed. -/
def E (c : Dev nD) : sProp 𝕄 := iprop((∃ r, prngReg c r) ∗ ∃ W, owes (c : Thread nD τ) (0 : CellTallies nD τ sig Unit) W)

theorem cut (p : Fin 7) : Pipeline.LevelCut (pcfgs (F := F)) adm () L (fun _ _ => (0 : ℕ)) p (fun _ => 0) (fun _ => 0) where
  hι _ _ _ := by unfold L; rw [if_pos rfl]; exact Finset.mem_univ _
  hιb _ _ _ := le_refl _
  hD _ _ _ h := absurd h (lt_irrefl _)

theorem mem0 (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
theorem sub0 : Pipeline.arrRefs (τ := τ) spec0 ⊆ Pipeline.ucRefs τ sig :=
  Pipeline.arrRefs_sub_ucRefs spec0 (by decide)
theorem rest0 (c : Dev nD) : ∀ b ∈ (Pipeline.ucRefs τ sig) \ Pipeline.arrRefs (τ := τ) spec0, W2 m c b = W1 m c b := fun b hb =>
  have hn : b ∉ Pipeline.arrRefs (τ := τ) spec0 := (Finset.mem_sdiff.mp hb).2
  W2_off m c b (by rintro rfl; exact hn (mem0 5)) (by rintro rfl; exact hn (mem0 6))
theorem A0 (c : Dev nD) (w : Fin cfg0.W) : (d0 m c).A w = W1 m c (Proc.devRef .tc (Pipeline.arrRef spec0 w)) :=
  K0.A_eq Variants.none _ _ c w
theorem exit0_0 (c : Dev nD) : (d0 m c).arrAt 0 cfg0.N = W2 m c (Proc.devRef .tc (Pipeline.arrRef spec0 0)) :=
  ((d0 m c).arrAt_in 0 rfl _).trans ((A0 m c 0).trans (W2_of m c (Pipeline.arrRef spec0 0) (by decide)).symm)
theorem exit0_1 (c : Dev nD) : (d0 m c).arrAt 1 cfg0.N = W2 m c (Proc.devRef .tc (Pipeline.arrRef spec0 1)) :=
  ((d0 m c).arrAt_in 1 rfl _).trans ((A0 m c 1).trans (W2_of m c (Pipeline.arrRef spec0 1) (by decide)).symm)
theorem exit0_2 (c : Dev nD) : (d0 m c).arrAt 2 cfg0.N = W2 m c (Proc.devRef .tc (Pipeline.arrRef spec0 2)) :=
  ((d0 m c).arrAt_in 2 rfl _).trans ((A0 m c 2).trans (W2_of m c (Pipeline.arrRef spec0 2) (by decide)).symm)
theorem exit0_3 (c : Dev nD) : (d0 m c).arrAt 3 cfg0.N = W2 m c (Proc.devRef .tc (Pipeline.arrRef spec0 3)) :=
  ((d0 m c).arrAt_in 3 rfl _).trans ((A0 m c 3).trans (W2_of m c (Pipeline.arrRef spec0 3) (by decide)).symm)
theorem exit0_4 (c : Dev nD) : (d0 m c).arrAt 4 cfg0.N = W2 m c (Proc.devRef .tc (Pipeline.arrRef spec0 4)) :=
  ((d0 m c).arrAt_in 4 rfl _).trans ((A0 m c 4).trans (W2_of m c (Pipeline.arrRef spec0 4) (by decide)).symm)
theorem exit0_5 (c : Dev nD) : (d0 m c).arrAt 5 cfg0.N = W2 m c (Proc.devRef .tc (Pipeline.arrRef spec0 5)) :=
  (W2_main_v9_0 m c).symm
theorem exit0_6 (c : Dev nD) : (d0 m c).arrAt 6 cfg0.N = W2 m c (Proc.devRef .tc (Pipeline.arrRef spec0 6)) :=
  (W2_main_v9_1 m c).symm
theorem exit0 (c : Dev nD) : ∀ w : Fin cfg0.W, (d0 m c).arrAt w cfg0.N = W2 m c (Proc.devRef .tc (Pipeline.arrRef spec0 w))
  | ⟨0, _⟩ => exit0_0 m c
  | ⟨1, _⟩ => exit0_1 m c
  | ⟨2, _⟩ => exit0_2 m c
  | ⟨3, _⟩ => exit0_3 m c
  | ⟨4, _⟩ => exit0_4 m c
  | ⟨5, _⟩ => exit0_5 m c
  | ⟨6, _⟩ => exit0_6 m c
theorem share0 (c : Dev nD) (w : Fin cfg0.W) : (d0 m c).share w = fullShare := (d0 m c).share_full (fun _ => rfl) w
theorem entry0 (c : Dev nD) (w : Fin cfg0.W) : (d0 m c).arrAt w 0 = W1 m c (Proc.devRef .tc (Pipeline.arrRef spec0 w)) := A0 m c w
theorem body0 (c : Dev nD) : Pipeline.BodyObligationLoose (d0 m c) (defs₀ (F := F)) Variants.none () Set.univ :=
  (K0.body_obligation (U := UR sig nD τ) (Lvl := ℕ) Variants.none (fun c b => W1 m c (Proc.devRef .tc b)) (fun _ => 0) () c).loose

-- a library definition stated over `pin pcs a p` unifies with the pinned configuration only when unification may unfold plain
-- definitions in a metavariable's type
set_option backward.isDefEq.respectTransparency.types false in
/-- Kernel 0's record. -/
def R0 : RegionSeg (pcfgs (F := F)) adm (pd m) () defs₀ Variants.none L (fun _ _ => (0 : ℕ)) 0 :=
  Pipeline.RegionSeg.ofHeld (pcfgs (F := F)) adm (pd m) () defs₀ Variants.none L (fun _ _ => (0 : ℕ)) 0 (fun _ => 0)
    (fun c => iprop(∃ r, prngReg c r)) (fun c => iprop(∃ r, prngReg c r))
    launch0.toP rfl (body0 m) (fun _ _ => rfl) (fun _ => rfl) (share0 m) (fun _ => .rfl) (fun _ => .rfl) (fun _ => 0) (cut 0)
    (fun c => StableHlo.held (c : Thread nD τ) ((Pipeline.ucRefs τ sig) \ Pipeline.arrRefs (τ := τ) spec0) (W1 m c))
    (W1 m) (W2 m) (entry0 m) (exit0 m)

theorem pre0 (c : Dev nD) :
    iprop(StableHlo.held (c : Thread nD τ) (Pipeline.ucRefs τ sig) (W1 m c) ∗ E (F := F) c) ⊢ (R0 m).pre c := by
  show _ ⊢ iprop(StableHlo.held (c : Thread nD τ) (Pipeline.arrRefs (τ := τ) spec0) (W1 m c) ∗ (∃ r, prngReg c r)
    ∗ StableHlo.held (c : Thread nD τ) ((Pipeline.ucRefs τ sig) \ Pipeline.arrRefs (τ := τ) spec0) (W1 m c) ∗ ∃ W, owes (c : Thread nD τ) (0 : CellTallies nD τ sig Unit) W)
  rw [StableHlo.held_sub_split (c : Thread nD τ) sub0 (W1 m c)]
  unfold E
  iintro ⟨⟨Ha, Hr⟩, ⟨Hp, HO⟩⟩
  isplitl [Ha]; · iexact Ha
  isplitl [Hp]; · iexact Hp
  isplitl [Hr]; · iexact Hr
  iexact HO

theorem post0 (c : Dev nD) :
    (R0 m).post c ⊢ iprop(StableHlo.held (c : Thread nD τ) (Pipeline.ucRefs τ sig) (W2 m c) ∗ E (F := F) c) := by
  show iprop(StableHlo.held (c : Thread nD τ) (Pipeline.arrRefs (τ := τ) spec0) (W2 m c) ∗ (∃ r, prngReg c r)
    ∗ StableHlo.held (c : Thread nD τ) ((Pipeline.ucRefs τ sig) \ Pipeline.arrRefs (τ := τ) spec0) (W1 m c) ∗ ∃ W, owes (c : Thread nD τ) (0 : CellTallies nD τ sig Unit) W) ⊢ _
  rw [StableHlo.held_sub_split (c : Thread nD τ) sub0 (W2 m c),
    StableHlo.held_congr (c : Thread nD τ) (S := (Pipeline.ucRefs τ sig) \ Pipeline.arrRefs (τ := τ) spec0) (rest0 m c)]
  unfold E
  iintro ⟨Ha, Hp, Hr, HO⟩
  isplitl [Ha Hr]; · isplitl [Ha] <;> iassumption
  isplitl [Hp]; · iexact Hp
  iexact HO

theorem mem1 (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
theorem sub1 : Pipeline.arrRefs (τ := τ) spec1 ⊆ Pipeline.ucRefs τ sig :=
  Pipeline.arrRefs_sub_ucRefs spec1 (by decide)
theorem rest1 (c : Dev nD) : ∀ b ∈ (Pipeline.ucRefs τ sig) \ Pipeline.arrRefs (τ := τ) spec1, W4 m c b = W3 m c b := fun b hb =>
  have hn : b ∉ Pipeline.arrRefs (τ := τ) spec1 := (Finset.mem_sdiff.mp hb).2
  W4_off m c b (by rintro rfl; exact hn (mem1 1))
theorem A1 (c : Dev nD) (w : Fin cfg1.W) : (d1 m c).A w = W3 m c (Proc.devRef .tc (Pipeline.arrRef spec1 w)) :=
  K1.A_eq _ _ c w
theorem exit1_0 (c : Dev nD) : (d1 m c).arrAt 0 cfg1.N = W4 m c (Proc.devRef .tc (Pipeline.arrRef spec1 0)) :=
  ((d1 m c).arrAt_in 0 rfl _).trans ((A1 m c 0).trans (W4_of m c (Pipeline.arrRef spec1 0) (by decide)).symm)
theorem exit1_1 (c : Dev nD) : (d1 m c).arrAt 1 cfg1.N = W4 m c (Proc.devRef .tc (Pipeline.arrRef spec1 1)) :=
  (W4_main_v11 m c).symm
theorem exit1 (c : Dev nD) : ∀ w : Fin cfg1.W, (d1 m c).arrAt w cfg1.N = W4 m c (Proc.devRef .tc (Pipeline.arrRef spec1 w))
  | ⟨0, _⟩ => exit1_0 m c
  | ⟨1, _⟩ => exit1_1 m c
theorem share1 (c : Dev nD) (w : Fin cfg1.W) : (d1 m c).share w = fullShare := (d1 m c).share_full (fun _ => rfl) w
theorem entry1 (c : Dev nD) (w : Fin cfg1.W) : (d1 m c).arrAt w 0 = W3 m c (Proc.devRef .tc (Pipeline.arrRef spec1 w)) := A1 m c w
theorem body1 (c : Dev nD) : Pipeline.BodyObligationLoose (d1 m c) (defs₀ (F := F)) Variants.none () Set.univ :=
  (K1.body_obligation (U := UR sig nD τ) (Lvl := ℕ) Variants.none (fun c b => W3 m c (Proc.devRef .tc b)) (fun _ => 0) () c).loose

-- a library definition stated over `pin pcs a p` unifies with the pinned configuration only when unification may unfold plain
-- definitions in a metavariable's type
set_option backward.isDefEq.respectTransparency.types false in
/-- Kernel 1's record. -/
def R1 : RegionSeg (pcfgs (F := F)) adm (pd m) () defs₀ Variants.none L (fun _ _ => (0 : ℕ)) 1 :=
  Pipeline.RegionSeg.ofHeld (pcfgs (F := F)) adm (pd m) () defs₀ Variants.none L (fun _ _ => (0 : ℕ)) 1 (fun _ => 0)
    (fun c => iprop(∃ r, prngReg c r)) (fun c => iprop(∃ r, prngReg c r))
    launch1.toP rfl (body1 m) (fun _ _ => rfl) (fun _ => rfl) (share1 m) (fun _ => .rfl) (fun _ => .rfl) (fun _ => 0) (cut 1)
    (fun c => StableHlo.held (c : Thread nD τ) ((Pipeline.ucRefs τ sig) \ Pipeline.arrRefs (τ := τ) spec1) (W3 m c))
    (W3 m) (W4 m) (entry1 m) (exit1 m)

theorem pre1 (c : Dev nD) :
    iprop(StableHlo.held (c : Thread nD τ) (Pipeline.ucRefs τ sig) (W3 m c) ∗ E (F := F) c) ⊢ (R1 m).pre c := by
  show _ ⊢ iprop(StableHlo.held (c : Thread nD τ) (Pipeline.arrRefs (τ := τ) spec1) (W3 m c) ∗ (∃ r, prngReg c r)
    ∗ StableHlo.held (c : Thread nD τ) ((Pipeline.ucRefs τ sig) \ Pipeline.arrRefs (τ := τ) spec1) (W3 m c) ∗ ∃ W, owes (c : Thread nD τ) (0 : CellTallies nD τ sig Unit) W)
  rw [StableHlo.held_sub_split (c : Thread nD τ) sub1 (W3 m c)]
  unfold E
  iintro ⟨⟨Ha, Hr⟩, ⟨Hp, HO⟩⟩
  isplitl [Ha]; · iexact Ha
  isplitl [Hp]; · iexact Hp
  isplitl [Hr]; · iexact Hr
  iexact HO

theorem post1 (c : Dev nD) :
    (R1 m).post c ⊢ iprop(StableHlo.held (c : Thread nD τ) (Pipeline.ucRefs τ sig) (W4 m c) ∗ E (F := F) c) := by
  show iprop(StableHlo.held (c : Thread nD τ) (Pipeline.arrRefs (τ := τ) spec1) (W4 m c) ∗ (∃ r, prngReg c r)
    ∗ StableHlo.held (c : Thread nD τ) ((Pipeline.ucRefs τ sig) \ Pipeline.arrRefs (τ := τ) spec1) (W3 m c) ∗ ∃ W, owes (c : Thread nD τ) (0 : CellTallies nD τ sig Unit) W) ⊢ _
  rw [StableHlo.held_sub_split (c : Thread nD τ) sub1 (W4 m c),
    StableHlo.held_congr (c : Thread nD τ) (S := (Pipeline.ucRefs τ sig) \ Pipeline.arrRefs (τ := τ) spec1) (rest1 m c)]
  unfold E
  iintro ⟨Ha, Hp, Hr, HO⟩
  isplitl [Ha Hr]; · isplitl [Ha] <;> iassumption
  isplitl [Hp]; · iexact Hp
  iexact HO

theorem mem2 (w : Fin cfg2.W) : (Proc.devRef .tc (Pipeline.arrRef spec2 w) : DevRef τ sig) ∈ Pipeline.arrRefs (τ := τ) spec2 :=
  Finset.mem_map_of_mem _ (Finset.mem_image_of_mem _ (Finset.mem_univ w))
theorem sub2 : Pipeline.arrRefs (τ := τ) spec2 ⊆ Pipeline.ucRefs τ sig :=
  Pipeline.arrRefs_sub_ucRefs spec2 (by decide)
theorem rest2 (c : Dev nD) : ∀ b ∈ (Pipeline.ucRefs τ sig) \ Pipeline.arrRefs (τ := τ) spec2, W6 m c b = W5 m c b := fun b hb =>
  have hn : b ∉ Pipeline.arrRefs (τ := τ) spec2 := (Finset.mem_sdiff.mp hb).2
  W6_off m c b (by rintro rfl; exact hn (mem2 6)) (by rintro rfl; exact hn (mem2 7)) (by rintro rfl; exact hn (mem2 8))
theorem A2 (c : Dev nD) (w : Fin cfg2.W) : (d2 m c).A w = W5 m c (Proc.devRef .tc (Pipeline.arrRef spec2 w)) :=
  K2.A_eq Variants.none _ _ c w
theorem exit2_0 (c : Dev nD) : (d2 m c).arrAt 0 cfg2.N = W6 m c (Proc.devRef .tc (Pipeline.arrRef spec2 0)) :=
  ((d2 m c).arrAt_in 0 rfl _).trans ((A2 m c 0).trans (W6_of m c (Pipeline.arrRef spec2 0) (by decide)).symm)
theorem exit2_1 (c : Dev nD) : (d2 m c).arrAt 1 cfg2.N = W6 m c (Proc.devRef .tc (Pipeline.arrRef spec2 1)) :=
  ((d2 m c).arrAt_in 1 rfl _).trans ((A2 m c 1).trans (W6_of m c (Pipeline.arrRef spec2 1) (by decide)).symm)
theorem exit2_2 (c : Dev nD) : (d2 m c).arrAt 2 cfg2.N = W6 m c (Proc.devRef .tc (Pipeline.arrRef spec2 2)) :=
  ((d2 m c).arrAt_in 2 rfl _).trans ((A2 m c 2).trans (W6_of m c (Pipeline.arrRef spec2 2) (by decide)).symm)
theorem exit2_3 (c : Dev nD) : (d2 m c).arrAt 3 cfg2.N = W6 m c (Proc.devRef .tc (Pipeline.arrRef spec2 3)) :=
  ((d2 m c).arrAt_in 3 rfl _).trans ((A2 m c 3).trans (W6_of m c (Pipeline.arrRef spec2 3) (by decide)).symm)
theorem exit2_4 (c : Dev nD) : (d2 m c).arrAt 4 cfg2.N = W6 m c (Proc.devRef .tc (Pipeline.arrRef spec2 4)) :=
  ((d2 m c).arrAt_in 4 rfl _).trans ((A2 m c 4).trans (W6_of m c (Pipeline.arrRef spec2 4) (by decide)).symm)
theorem exit2_5 (c : Dev nD) : (d2 m c).arrAt 5 cfg2.N = W6 m c (Proc.devRef .tc (Pipeline.arrRef spec2 5)) :=
  ((d2 m c).arrAt_in 5 rfl _).trans ((A2 m c 5).trans (W6_of m c (Pipeline.arrRef spec2 5) (by decide)).symm)
theorem exit2_6 (c : Dev nD) : (d2 m c).arrAt 6 cfg2.N = W6 m c (Proc.devRef .tc (Pipeline.arrRef spec2 6)) :=
  (W6_main_v13_0 m c).symm
theorem exit2_7 (c : Dev nD) : (d2 m c).arrAt 7 cfg2.N = W6 m c (Proc.devRef .tc (Pipeline.arrRef spec2 7)) :=
  (W6_main_v13_1 m c).symm
theorem exit2_8 (c : Dev nD) : (d2 m c).arrAt 8 cfg2.N = W6 m c (Proc.devRef .tc (Pipeline.arrRef spec2 8)) :=
  (W6_main_v13_2 m c).symm
theorem exit2 (c : Dev nD) : ∀ w : Fin cfg2.W, (d2 m c).arrAt w cfg2.N = W6 m c (Proc.devRef .tc (Pipeline.arrRef spec2 w))
  | ⟨0, _⟩ => exit2_0 m c
  | ⟨1, _⟩ => exit2_1 m c
  | ⟨2, _⟩ => exit2_2 m c
  | ⟨3, _⟩ => exit2_3 m c
  | ⟨4, _⟩ => exit2_4 m c
  | ⟨5, _⟩ => exit2_5 m c
  | ⟨6, _⟩ => exit2_6 m c
  | ⟨7, _⟩ => exit2_7 m c
  | ⟨8, _⟩ => exit2_8 m c
theorem share2 (c : Dev nD) (w : Fin cfg2.W) : (d2 m c).share w = fullShare := (d2 m c).share_full (fun _ => rfl) w
theorem entry2 (c : Dev nD) (w : Fin cfg2.W) : (d2 m c).arrAt w 0 = W5 m c (Proc.devRef .tc (Pipeline.arrRef spec2 w)) := A2 m c w
theorem body2 (c : Dev nD) : Pipeline.BodyObligationLoose (d2 m c) (defs₀ (F := F)) Variants.none () Set.univ :=
  (K2.body_obligation (U := UR sig nD τ) (Lvl := ℕ) Variants.none (fun c b => W5 m c (Proc.devRef .tc b)) (fun _ => 0) () c).loose

-- a library definition stated over `pin pcs a p` unifies with the pinned configuration only when unification may unfold plain
-- definitions in a metavariable's type
set_option backward.isDefEq.respectTransparency.types false in
/-- Kernel 2's record. -/
def R2 : RegionSeg (pcfgs (F := F)) adm (pd m) () defs₀ Variants.none L (fun _ _ => (0 : ℕ)) 2 :=
  Pipeline.RegionSeg.ofHeld (pcfgs (F := F)) adm (pd m) () defs₀ Variants.none L (fun _ _ => (0 : ℕ)) 2 (fun _ => 0)
    (fun c => iprop(∃ r, prngReg c r)) (fun c => iprop(∃ r, prngReg c r))
    launch2.toP rfl (body2 m) (fun _ _ => rfl) (fun _ => rfl) (share2 m) (fun _ => .rfl) (fun _ => .rfl) (fun _ => 0) (cut 2)
    (fun c => StableHlo.held (c : Thread nD τ) ((Pipeline.ucRefs τ sig) \ Pipeline.arrRefs (τ := τ) spec2) (W5 m c))
    (W5 m) (W6 m) (entry2 m) (exit2 m)

theorem pre2 (c : Dev nD) :
    iprop(StableHlo.held (c : Thread nD τ) (Pipeline.ucRefs τ sig) (W5 m c) ∗ E (F := F) c) ⊢ (R2 m).pre c := by
  show _ ⊢ iprop(StableHlo.held (c : Thread nD τ) (Pipeline.arrRefs (τ := τ) spec2) (W5 m c) ∗ (∃ r, prngReg c r)
    ∗ StableHlo.held (c : Thread nD τ) ((Pipeline.ucRefs τ sig) \ Pipeline.arrRefs (τ := τ) spec2) (W5 m c) ∗ ∃ W, owes (c : Thread nD τ) (0 : CellTallies nD τ sig Unit) W)
  rw [StableHlo.held_sub_split (c : Thread nD τ) sub2 (W5 m c)]
  unfold E
  iintro ⟨⟨Ha, Hr⟩, ⟨Hp, HO⟩⟩
  isplitl [Ha]; · iexact Ha
  isplitl [Hp]; · iexact Hp
  isplitl [Hr]; · iexact Hr
  iexact HO

theorem post2 (c : Dev nD) :
    (R2 m).post c ⊢ iprop(StableHlo.held (c : Thread nD τ) (Pipeline.ucRefs τ sig) (W6 m c) ∗ E (F := F) c) := by
  show iprop(StableHlo.held (c : Thread nD τ) (Pipeline.arrRefs (τ := τ) spec2) (W6 m c) ∗ (∃ r, prngReg c r)
    ∗ StableHlo.held (c : Thread nD τ) ((Pipeline.ucRefs τ sig) \ Pipeline.arrRefs (τ := τ) spec2) (W5 m c) ∗ ∃ W, owes (c : Thread nD τ) (0 : CellTallies nD τ sig Unit) W) ⊢ _
  rw [StableHlo.held_sub_split (c : Thread nD τ) sub2 (W6 m c),
    StableHlo.held_congr (c : Thread nD τ) (S := (Pipeline.ucRefs τ sig) \ Pipeline.arrRefs (τ := τ) spec2) (rest2 m c)]
  unfold E
  iintro ⟨Ha, Hp, Hr, HO⟩
  isplitl [Ha Hr]; · isplitl [Ha] <;> iassumption
  isplitl [Hp]; · iexact Hp
  iexact HO

theorem mem3 (w : Fin cfg3.W) : (Proc.devRef .tc (Pipeline.arrRef spec3 w) : DevRef τ sig) ∈ Pipeline.arrRefs (τ := τ) spec3 :=
  Finset.mem_map_of_mem _ (Finset.mem_image_of_mem _ (Finset.mem_univ w))
theorem sub3 : Pipeline.arrRefs (τ := τ) spec3 ⊆ Pipeline.ucRefs τ sig :=
  Pipeline.arrRefs_sub_ucRefs spec3 (by decide)
theorem rest3 (c : Dev nD) : ∀ b ∈ (Pipeline.ucRefs τ sig) \ Pipeline.arrRefs (τ := τ) spec3, W8 m c b = W7 m c b := fun b hb =>
  have hn : b ∉ Pipeline.arrRefs (τ := τ) spec3 := (Finset.mem_sdiff.mp hb).2
  W8_off m c b (by rintro rfl; exact hn (mem3 1))
theorem A3 (c : Dev nD) (w : Fin cfg3.W) : (d3 m c).A w = W7 m c (Proc.devRef .tc (Pipeline.arrRef spec3 w)) :=
  K3.A_eq _ _ c w
theorem exit3_0 (c : Dev nD) : (d3 m c).arrAt 0 cfg3.N = W8 m c (Proc.devRef .tc (Pipeline.arrRef spec3 0)) :=
  ((d3 m c).arrAt_in 0 rfl _).trans ((A3 m c 0).trans (W8_of m c (Pipeline.arrRef spec3 0) (by decide)).symm)
theorem exit3_1 (c : Dev nD) : (d3 m c).arrAt 1 cfg3.N = W8 m c (Proc.devRef .tc (Pipeline.arrRef spec3 1)) :=
  (W8_main_v15 m c).symm
theorem exit3 (c : Dev nD) : ∀ w : Fin cfg3.W, (d3 m c).arrAt w cfg3.N = W8 m c (Proc.devRef .tc (Pipeline.arrRef spec3 w))
  | ⟨0, _⟩ => exit3_0 m c
  | ⟨1, _⟩ => exit3_1 m c
theorem share3 (c : Dev nD) (w : Fin cfg3.W) : (d3 m c).share w = fullShare := (d3 m c).share_full (fun _ => rfl) w
theorem entry3 (c : Dev nD) (w : Fin cfg3.W) : (d3 m c).arrAt w 0 = W7 m c (Proc.devRef .tc (Pipeline.arrRef spec3 w)) := A3 m c w
theorem body3 (c : Dev nD) : Pipeline.BodyObligationLoose (d3 m c) (defs₀ (F := F)) Variants.none () Set.univ :=
  (K3.body_obligation (U := UR sig nD τ) (Lvl := ℕ) Variants.none (fun c b => W7 m c (Proc.devRef .tc b)) (fun _ => 0) () c).loose

-- a library definition stated over `pin pcs a p` unifies with the pinned configuration only when unification may unfold plain
-- definitions in a metavariable's type
set_option backward.isDefEq.respectTransparency.types false in
/-- Kernel 3's record. -/
def R3 : RegionSeg (pcfgs (F := F)) adm (pd m) () defs₀ Variants.none L (fun _ _ => (0 : ℕ)) 3 :=
  Pipeline.RegionSeg.ofHeld (pcfgs (F := F)) adm (pd m) () defs₀ Variants.none L (fun _ _ => (0 : ℕ)) 3 (fun _ => 0)
    (fun c => iprop(∃ r, prngReg c r)) (fun c => iprop(∃ r, prngReg c r))
    launch3.toP rfl (body3 m) (fun _ _ => rfl) (fun _ => rfl) (share3 m) (fun _ => .rfl) (fun _ => .rfl) (fun _ => 0) (cut 3)
    (fun c => StableHlo.held (c : Thread nD τ) ((Pipeline.ucRefs τ sig) \ Pipeline.arrRefs (τ := τ) spec3) (W7 m c))
    (W7 m) (W8 m) (entry3 m) (exit3 m)

theorem pre3 (c : Dev nD) :
    iprop(StableHlo.held (c : Thread nD τ) (Pipeline.ucRefs τ sig) (W7 m c) ∗ E (F := F) c) ⊢ (R3 m).pre c := by
  show _ ⊢ iprop(StableHlo.held (c : Thread nD τ) (Pipeline.arrRefs (τ := τ) spec3) (W7 m c) ∗ (∃ r, prngReg c r)
    ∗ StableHlo.held (c : Thread nD τ) ((Pipeline.ucRefs τ sig) \ Pipeline.arrRefs (τ := τ) spec3) (W7 m c) ∗ ∃ W, owes (c : Thread nD τ) (0 : CellTallies nD τ sig Unit) W)
  rw [StableHlo.held_sub_split (c : Thread nD τ) sub3 (W7 m c)]
  unfold E
  iintro ⟨⟨Ha, Hr⟩, ⟨Hp, HO⟩⟩
  isplitl [Ha]; · iexact Ha
  isplitl [Hp]; · iexact Hp
  isplitl [Hr]; · iexact Hr
  iexact HO

theorem post3 (c : Dev nD) :
    (R3 m).post c ⊢ iprop(StableHlo.held (c : Thread nD τ) (Pipeline.ucRefs τ sig) (W8 m c) ∗ E (F := F) c) := by
  show iprop(StableHlo.held (c : Thread nD τ) (Pipeline.arrRefs (τ := τ) spec3) (W8 m c) ∗ (∃ r, prngReg c r)
    ∗ StableHlo.held (c : Thread nD τ) ((Pipeline.ucRefs τ sig) \ Pipeline.arrRefs (τ := τ) spec3) (W7 m c) ∗ ∃ W, owes (c : Thread nD τ) (0 : CellTallies nD τ sig Unit) W) ⊢ _
  rw [StableHlo.held_sub_split (c : Thread nD τ) sub3 (W8 m c),
    StableHlo.held_congr (c : Thread nD τ) (S := (Pipeline.ucRefs τ sig) \ Pipeline.arrRefs (τ := τ) spec3) (rest3 m c)]
  unfold E
  iintro ⟨Ha, Hp, Hr, HO⟩
  isplitl [Ha Hr]; · isplitl [Ha] <;> iassumption
  isplitl [Hp]; · iexact Hp
  iexact HO

theorem mem4 (w : Fin cfg4.W) : (Proc.devRef .tc (Pipeline.arrRef spec4 w) : DevRef τ sig) ∈ Pipeline.arrRefs (τ := τ) spec4 :=
  Finset.mem_map_of_mem _ (Finset.mem_image_of_mem _ (Finset.mem_univ w))
theorem sub4 : Pipeline.arrRefs (τ := τ) spec4 ⊆ Pipeline.ucRefs τ sig :=
  Pipeline.arrRefs_sub_ucRefs spec4 (by decide)
theorem rest4 (c : Dev nD) : ∀ b ∈ (Pipeline.ucRefs τ sig) \ Pipeline.arrRefs (τ := τ) spec4, W10 m c b = W9 m c b := fun b hb =>
  have hn : b ∉ Pipeline.arrRefs (τ := τ) spec4 := (Finset.mem_sdiff.mp hb).2
  W10_off m c b (by rintro rfl; exact hn (mem4 6)) (by rintro rfl; exact hn (mem4 7)) (by rintro rfl; exact hn (mem4 8))
theorem A4 (c : Dev nD) (w : Fin cfg4.W) : (d4 m c).A w = W9 m c (Proc.devRef .tc (Pipeline.arrRef spec4 w)) :=
  K4.A_eq Variants.none _ _ c w
theorem exit4_0 (c : Dev nD) : (d4 m c).arrAt 0 cfg4.N = W10 m c (Proc.devRef .tc (Pipeline.arrRef spec4 0)) :=
  ((d4 m c).arrAt_in 0 rfl _).trans ((A4 m c 0).trans (W10_of m c (Pipeline.arrRef spec4 0) (by decide)).symm)
theorem exit4_1 (c : Dev nD) : (d4 m c).arrAt 1 cfg4.N = W10 m c (Proc.devRef .tc (Pipeline.arrRef spec4 1)) :=
  ((d4 m c).arrAt_in 1 rfl _).trans ((A4 m c 1).trans (W10_of m c (Pipeline.arrRef spec4 1) (by decide)).symm)
theorem exit4_2 (c : Dev nD) : (d4 m c).arrAt 2 cfg4.N = W10 m c (Proc.devRef .tc (Pipeline.arrRef spec4 2)) :=
  ((d4 m c).arrAt_in 2 rfl _).trans ((A4 m c 2).trans (W10_of m c (Pipeline.arrRef spec4 2) (by decide)).symm)
theorem exit4_3 (c : Dev nD) : (d4 m c).arrAt 3 cfg4.N = W10 m c (Proc.devRef .tc (Pipeline.arrRef spec4 3)) :=
  ((d4 m c).arrAt_in 3 rfl _).trans ((A4 m c 3).trans (W10_of m c (Pipeline.arrRef spec4 3) (by decide)).symm)
theorem exit4_4 (c : Dev nD) : (d4 m c).arrAt 4 cfg4.N = W10 m c (Proc.devRef .tc (Pipeline.arrRef spec4 4)) :=
  ((d4 m c).arrAt_in 4 rfl _).trans ((A4 m c 4).trans (W10_of m c (Pipeline.arrRef spec4 4) (by decide)).symm)
theorem exit4_5 (c : Dev nD) : (d4 m c).arrAt 5 cfg4.N = W10 m c (Proc.devRef .tc (Pipeline.arrRef spec4 5)) :=
  ((d4 m c).arrAt_in 5 rfl _).trans ((A4 m c 5).trans (W10_of m c (Pipeline.arrRef spec4 5) (by decide)).symm)
theorem exit4_6 (c : Dev nD) : (d4 m c).arrAt 6 cfg4.N = W10 m c (Proc.devRef .tc (Pipeline.arrRef spec4 6)) :=
  (W10_main_v17_0 m c).symm
theorem exit4_7 (c : Dev nD) : (d4 m c).arrAt 7 cfg4.N = W10 m c (Proc.devRef .tc (Pipeline.arrRef spec4 7)) :=
  (W10_main_v17_1 m c).symm
theorem exit4_8 (c : Dev nD) : (d4 m c).arrAt 8 cfg4.N = W10 m c (Proc.devRef .tc (Pipeline.arrRef spec4 8)) :=
  (W10_main_v17_2 m c).symm
theorem exit4 (c : Dev nD) : ∀ w : Fin cfg4.W, (d4 m c).arrAt w cfg4.N = W10 m c (Proc.devRef .tc (Pipeline.arrRef spec4 w))
  | ⟨0, _⟩ => exit4_0 m c
  | ⟨1, _⟩ => exit4_1 m c
  | ⟨2, _⟩ => exit4_2 m c
  | ⟨3, _⟩ => exit4_3 m c
  | ⟨4, _⟩ => exit4_4 m c
  | ⟨5, _⟩ => exit4_5 m c
  | ⟨6, _⟩ => exit4_6 m c
  | ⟨7, _⟩ => exit4_7 m c
  | ⟨8, _⟩ => exit4_8 m c
theorem share4 (c : Dev nD) (w : Fin cfg4.W) : (d4 m c).share w = fullShare := (d4 m c).share_full (fun _ => rfl) w
theorem entry4 (c : Dev nD) (w : Fin cfg4.W) : (d4 m c).arrAt w 0 = W9 m c (Proc.devRef .tc (Pipeline.arrRef spec4 w)) := A4 m c w
theorem body4 (c : Dev nD) : Pipeline.BodyObligationLoose (d4 m c) (defs₀ (F := F)) Variants.none () Set.univ :=
  (K4.body_obligation (U := UR sig nD τ) (Lvl := ℕ) Variants.none (fun c b => W9 m c (Proc.devRef .tc b)) (fun _ => 0) () c).loose

-- a library definition stated over `pin pcs a p` unifies with the pinned configuration only when unification may unfold plain
-- definitions in a metavariable's type
set_option backward.isDefEq.respectTransparency.types false in
/-- Kernel 4's record. -/
def R4 : RegionSeg (pcfgs (F := F)) adm (pd m) () defs₀ Variants.none L (fun _ _ => (0 : ℕ)) 4 :=
  Pipeline.RegionSeg.ofHeld (pcfgs (F := F)) adm (pd m) () defs₀ Variants.none L (fun _ _ => (0 : ℕ)) 4 (fun _ => 0)
    (fun c => iprop(∃ r, prngReg c r)) (fun c => iprop(∃ r, prngReg c r))
    launch4.toP rfl (body4 m) (fun _ _ => rfl) (fun _ => rfl) (share4 m) (fun _ => .rfl) (fun _ => .rfl) (fun _ => 0) (cut 4)
    (fun c => StableHlo.held (c : Thread nD τ) ((Pipeline.ucRefs τ sig) \ Pipeline.arrRefs (τ := τ) spec4) (W9 m c))
    (W9 m) (W10 m) (entry4 m) (exit4 m)

theorem pre4 (c : Dev nD) :
    iprop(StableHlo.held (c : Thread nD τ) (Pipeline.ucRefs τ sig) (W9 m c) ∗ E (F := F) c) ⊢ (R4 m).pre c := by
  show _ ⊢ iprop(StableHlo.held (c : Thread nD τ) (Pipeline.arrRefs (τ := τ) spec4) (W9 m c) ∗ (∃ r, prngReg c r)
    ∗ StableHlo.held (c : Thread nD τ) ((Pipeline.ucRefs τ sig) \ Pipeline.arrRefs (τ := τ) spec4) (W9 m c) ∗ ∃ W, owes (c : Thread nD τ) (0 : CellTallies nD τ sig Unit) W)
  rw [StableHlo.held_sub_split (c : Thread nD τ) sub4 (W9 m c)]
  unfold E
  iintro ⟨⟨Ha, Hr⟩, ⟨Hp, HO⟩⟩
  isplitl [Ha]; · iexact Ha
  isplitl [Hp]; · iexact Hp
  isplitl [Hr]; · iexact Hr
  iexact HO

theorem post4 (c : Dev nD) :
    (R4 m).post c ⊢ iprop(StableHlo.held (c : Thread nD τ) (Pipeline.ucRefs τ sig) (W10 m c) ∗ E (F := F) c) := by
  show iprop(StableHlo.held (c : Thread nD τ) (Pipeline.arrRefs (τ := τ) spec4) (W10 m c) ∗ (∃ r, prngReg c r)
    ∗ StableHlo.held (c : Thread nD τ) ((Pipeline.ucRefs τ sig) \ Pipeline.arrRefs (τ := τ) spec4) (W9 m c) ∗ ∃ W, owes (c : Thread nD τ) (0 : CellTallies nD τ sig Unit) W) ⊢ _
  rw [StableHlo.held_sub_split (c : Thread nD τ) sub4 (W10 m c),
    StableHlo.held_congr (c : Thread nD τ) (S := (Pipeline.ucRefs τ sig) \ Pipeline.arrRefs (τ := τ) spec4) (rest4 m c)]
  unfold E
  iintro ⟨Ha, Hp, Hr, HO⟩
  isplitl [Ha Hr]; · isplitl [Ha] <;> iassumption
  isplitl [Hp]; · iexact Hp
  iexact HO

theorem mem5 (w : Fin cfg5.W) : (Proc.devRef .tc (Pipeline.arrRef spec5 w) : DevRef τ sig) ∈ Pipeline.arrRefs (τ := τ) spec5 :=
  Finset.mem_map_of_mem _ (Finset.mem_image_of_mem _ (Finset.mem_univ w))
theorem sub5 : Pipeline.arrRefs (τ := τ) spec5 ⊆ Pipeline.ucRefs τ sig :=
  Pipeline.arrRefs_sub_ucRefs spec5 (by decide)
theorem rest5 (c : Dev nD) : ∀ b ∈ (Pipeline.ucRefs τ sig) \ Pipeline.arrRefs (τ := τ) spec5, W12 m c b = W11 m c b := fun b hb =>
  have hn : b ∉ Pipeline.arrRefs (τ := τ) spec5 := (Finset.mem_sdiff.mp hb).2
  W12_off m c b (by rintro rfl; exact hn (mem5 1))
theorem A5 (c : Dev nD) (w : Fin cfg5.W) : (d5 m c).A w = W11 m c (Proc.devRef .tc (Pipeline.arrRef spec5 w)) :=
  K5.A_eq _ _ c w
theorem exit5_0 (c : Dev nD) : (d5 m c).arrAt 0 cfg5.N = W12 m c (Proc.devRef .tc (Pipeline.arrRef spec5 0)) :=
  ((d5 m c).arrAt_in 0 rfl _).trans ((A5 m c 0).trans (W12_of m c (Pipeline.arrRef spec5 0) (by decide)).symm)
theorem exit5_1 (c : Dev nD) : (d5 m c).arrAt 1 cfg5.N = W12 m c (Proc.devRef .tc (Pipeline.arrRef spec5 1)) :=
  (W12_main_v19 m c).symm
theorem exit5 (c : Dev nD) : ∀ w : Fin cfg5.W, (d5 m c).arrAt w cfg5.N = W12 m c (Proc.devRef .tc (Pipeline.arrRef spec5 w))
  | ⟨0, _⟩ => exit5_0 m c
  | ⟨1, _⟩ => exit5_1 m c
theorem share5 (c : Dev nD) (w : Fin cfg5.W) : (d5 m c).share w = fullShare := (d5 m c).share_full (fun _ => rfl) w
theorem entry5 (c : Dev nD) (w : Fin cfg5.W) : (d5 m c).arrAt w 0 = W11 m c (Proc.devRef .tc (Pipeline.arrRef spec5 w)) := A5 m c w
theorem body5 (c : Dev nD) : Pipeline.BodyObligationLoose (d5 m c) (defs₀ (F := F)) Variants.none () Set.univ :=
  (K5.body_obligation (U := UR sig nD τ) (Lvl := ℕ) Variants.none (fun c b => W11 m c (Proc.devRef .tc b)) (fun _ => 0) () c).loose

-- a library definition stated over `pin pcs a p` unifies with the pinned configuration only when unification may unfold plain
-- definitions in a metavariable's type
set_option backward.isDefEq.respectTransparency.types false in
/-- Kernel 5's record. -/
def R5 : RegionSeg (pcfgs (F := F)) adm (pd m) () defs₀ Variants.none L (fun _ _ => (0 : ℕ)) 5 :=
  Pipeline.RegionSeg.ofHeld (pcfgs (F := F)) adm (pd m) () defs₀ Variants.none L (fun _ _ => (0 : ℕ)) 5 (fun _ => 0)
    (fun c => iprop(∃ r, prngReg c r)) (fun c => iprop(∃ r, prngReg c r))
    launch5.toP rfl (body5 m) (fun _ _ => rfl) (fun _ => rfl) (share5 m) (fun _ => .rfl) (fun _ => .rfl) (fun _ => 0) (cut 5)
    (fun c => StableHlo.held (c : Thread nD τ) ((Pipeline.ucRefs τ sig) \ Pipeline.arrRefs (τ := τ) spec5) (W11 m c))
    (W11 m) (W12 m) (entry5 m) (exit5 m)

theorem pre5 (c : Dev nD) :
    iprop(StableHlo.held (c : Thread nD τ) (Pipeline.ucRefs τ sig) (W11 m c) ∗ E (F := F) c) ⊢ (R5 m).pre c := by
  show _ ⊢ iprop(StableHlo.held (c : Thread nD τ) (Pipeline.arrRefs (τ := τ) spec5) (W11 m c) ∗ (∃ r, prngReg c r)
    ∗ StableHlo.held (c : Thread nD τ) ((Pipeline.ucRefs τ sig) \ Pipeline.arrRefs (τ := τ) spec5) (W11 m c) ∗ ∃ W, owes (c : Thread nD τ) (0 : CellTallies nD τ sig Unit) W)
  rw [StableHlo.held_sub_split (c : Thread nD τ) sub5 (W11 m c)]
  unfold E
  iintro ⟨⟨Ha, Hr⟩, ⟨Hp, HO⟩⟩
  isplitl [Ha]; · iexact Ha
  isplitl [Hp]; · iexact Hp
  isplitl [Hr]; · iexact Hr
  iexact HO

theorem post5 (c : Dev nD) :
    (R5 m).post c ⊢ iprop(StableHlo.held (c : Thread nD τ) (Pipeline.ucRefs τ sig) (W12 m c) ∗ E (F := F) c) := by
  show iprop(StableHlo.held (c : Thread nD τ) (Pipeline.arrRefs (τ := τ) spec5) (W12 m c) ∗ (∃ r, prngReg c r)
    ∗ StableHlo.held (c : Thread nD τ) ((Pipeline.ucRefs τ sig) \ Pipeline.arrRefs (τ := τ) spec5) (W11 m c) ∗ ∃ W, owes (c : Thread nD τ) (0 : CellTallies nD τ sig Unit) W) ⊢ _
  rw [StableHlo.held_sub_split (c : Thread nD τ) sub5 (W12 m c),
    StableHlo.held_congr (c : Thread nD τ) (S := (Pipeline.ucRefs τ sig) \ Pipeline.arrRefs (τ := τ) spec5) (rest5 m c)]
  unfold E
  iintro ⟨Ha, Hp, Hr, HO⟩
  isplitl [Ha Hr]; · isplitl [Ha] <;> iassumption
  isplitl [Hp]; · iexact Hp
  iexact HO

theorem mem6 (w : Fin cfg6.W) : (Proc.devRef .tc (Pipeline.arrRef spec6 w) : DevRef τ sig) ∈ Pipeline.arrRefs (τ := τ) spec6 :=
  Finset.mem_map_of_mem _ (Finset.mem_image_of_mem _ (Finset.mem_univ w))
theorem sub6 : Pipeline.arrRefs (τ := τ) spec6 ⊆ Pipeline.ucRefs τ sig :=
  Pipeline.arrRefs_sub_ucRefs spec6 (by decide)
theorem rest6 (c : Dev nD) : ∀ b ∈ (Pipeline.ucRefs τ sig) \ Pipeline.arrRefs (τ := τ) spec6, W14 m c b = W13 m c b := fun b hb =>
  have hn : b ∉ Pipeline.arrRefs (τ := τ) spec6 := (Finset.mem_sdiff.mp hb).2
  W14_off m c b (by rintro rfl; exact hn (mem6 6)) (by rintro rfl; exact hn (mem6 7))
theorem A6 (c : Dev nD) (w : Fin cfg6.W) : (d6 m c).A w = W13 m c (Proc.devRef .tc (Pipeline.arrRef spec6 w)) :=
  K6.A_eq Variants.none _ _ c w
theorem exit6_0 (c : Dev nD) : (d6 m c).arrAt 0 cfg6.N = W14 m c (Proc.devRef .tc (Pipeline.arrRef spec6 0)) :=
  ((d6 m c).arrAt_in 0 rfl _).trans ((A6 m c 0).trans (W14_of m c (Pipeline.arrRef spec6 0) (by decide)).symm)
theorem exit6_1 (c : Dev nD) : (d6 m c).arrAt 1 cfg6.N = W14 m c (Proc.devRef .tc (Pipeline.arrRef spec6 1)) :=
  ((d6 m c).arrAt_in 1 rfl _).trans ((A6 m c 1).trans (W14_of m c (Pipeline.arrRef spec6 1) (by decide)).symm)
theorem exit6_2 (c : Dev nD) : (d6 m c).arrAt 2 cfg6.N = W14 m c (Proc.devRef .tc (Pipeline.arrRef spec6 2)) :=
  ((d6 m c).arrAt_in 2 rfl _).trans ((A6 m c 2).trans (W14_of m c (Pipeline.arrRef spec6 2) (by decide)).symm)
theorem exit6_3 (c : Dev nD) : (d6 m c).arrAt 3 cfg6.N = W14 m c (Proc.devRef .tc (Pipeline.arrRef spec6 3)) :=
  ((d6 m c).arrAt_in 3 rfl _).trans ((A6 m c 3).trans (W14_of m c (Pipeline.arrRef spec6 3) (by decide)).symm)
theorem exit6_4 (c : Dev nD) : (d6 m c).arrAt 4 cfg6.N = W14 m c (Proc.devRef .tc (Pipeline.arrRef spec6 4)) :=
  ((d6 m c).arrAt_in 4 rfl _).trans ((A6 m c 4).trans (W14_of m c (Pipeline.arrRef spec6 4) (by decide)).symm)
theorem exit6_5 (c : Dev nD) : (d6 m c).arrAt 5 cfg6.N = W14 m c (Proc.devRef .tc (Pipeline.arrRef spec6 5)) :=
  ((d6 m c).arrAt_in 5 rfl _).trans ((A6 m c 5).trans (W14_of m c (Pipeline.arrRef spec6 5) (by decide)).symm)
theorem exit6_6 (c : Dev nD) : (d6 m c).arrAt 6 cfg6.N = W14 m c (Proc.devRef .tc (Pipeline.arrRef spec6 6)) :=
  (W14_main_v21_0 m c).symm
theorem exit6_7 (c : Dev nD) : (d6 m c).arrAt 7 cfg6.N = W14 m c (Proc.devRef .tc (Pipeline.arrRef spec6 7)) :=
  (W14_main_v21_1 m c).symm
theorem exit6 (c : Dev nD) : ∀ w : Fin cfg6.W, (d6 m c).arrAt w cfg6.N = W14 m c (Proc.devRef .tc (Pipeline.arrRef spec6 w))
  | ⟨0, _⟩ => exit6_0 m c
  | ⟨1, _⟩ => exit6_1 m c
  | ⟨2, _⟩ => exit6_2 m c
  | ⟨3, _⟩ => exit6_3 m c
  | ⟨4, _⟩ => exit6_4 m c
  | ⟨5, _⟩ => exit6_5 m c
  | ⟨6, _⟩ => exit6_6 m c
  | ⟨7, _⟩ => exit6_7 m c
theorem share6 (c : Dev nD) (w : Fin cfg6.W) : (d6 m c).share w = fullShare := (d6 m c).share_full (fun _ => rfl) w
theorem entry6 (c : Dev nD) (w : Fin cfg6.W) : (d6 m c).arrAt w 0 = W13 m c (Proc.devRef .tc (Pipeline.arrRef spec6 w)) := A6 m c w
theorem body6 (c : Dev nD) : Pipeline.BodyObligationLoose (d6 m c) (defs₀ (F := F)) Variants.none () Set.univ :=
  (K6.body_obligation (U := UR sig nD τ) (Lvl := ℕ) Variants.none (fun c b => W13 m c (Proc.devRef .tc b)) (fun _ => 0) () c).loose

-- a library definition stated over `pin pcs a p` unifies with the pinned configuration only when unification may unfold plain
-- definitions in a metavariable's type
set_option backward.isDefEq.respectTransparency.types false in
/-- Kernel 6's record. -/
def R6 : RegionSeg (pcfgs (F := F)) adm (pd m) () defs₀ Variants.none L (fun _ _ => (0 : ℕ)) 6 :=
  Pipeline.RegionSeg.ofHeld (pcfgs (F := F)) adm (pd m) () defs₀ Variants.none L (fun _ _ => (0 : ℕ)) 6 (fun _ => 0)
    (fun c => iprop(∃ r, prngReg c r)) (fun c => iprop(∃ r, prngReg c r))
    launch6.toP rfl (body6 m) (fun _ _ => rfl) (fun _ => rfl) (share6 m) (fun _ => .rfl) (fun _ => .rfl) (fun _ => 0) (cut 6)
    (fun c => StableHlo.held (c : Thread nD τ) ((Pipeline.ucRefs τ sig) \ Pipeline.arrRefs (τ := τ) spec6) (W13 m c))
    (W13 m) (W14 m) (entry6 m) (exit6 m)

theorem pre6 (c : Dev nD) :
    iprop(StableHlo.held (c : Thread nD τ) (Pipeline.ucRefs τ sig) (W13 m c) ∗ E (F := F) c) ⊢ (R6 m).pre c := by
  show _ ⊢ iprop(StableHlo.held (c : Thread nD τ) (Pipeline.arrRefs (τ := τ) spec6) (W13 m c) ∗ (∃ r, prngReg c r)
    ∗ StableHlo.held (c : Thread nD τ) ((Pipeline.ucRefs τ sig) \ Pipeline.arrRefs (τ := τ) spec6) (W13 m c) ∗ ∃ W, owes (c : Thread nD τ) (0 : CellTallies nD τ sig Unit) W)
  rw [StableHlo.held_sub_split (c : Thread nD τ) sub6 (W13 m c)]
  unfold E
  iintro ⟨⟨Ha, Hr⟩, ⟨Hp, HO⟩⟩
  isplitl [Ha]; · iexact Ha
  isplitl [Hp]; · iexact Hp
  isplitl [Hr]; · iexact Hr
  iexact HO

theorem post6 (c : Dev nD) :
    (R6 m).post c ⊢ iprop(StableHlo.held (c : Thread nD τ) (Pipeline.ucRefs τ sig) (W14 m c) ∗ E (F := F) c) := by
  show iprop(StableHlo.held (c : Thread nD τ) (Pipeline.arrRefs (τ := τ) spec6) (W14 m c) ∗ (∃ r, prngReg c r)
    ∗ StableHlo.held (c : Thread nD τ) ((Pipeline.ucRefs τ sig) \ Pipeline.arrRefs (τ := τ) spec6) (W13 m c) ∗ ∃ W, owes (c : Thread nD τ) (0 : CellTallies nD τ sig Unit) W) ⊢ _
  rw [StableHlo.held_sub_split (c : Thread nD τ) sub6 (W14 m c),
    StableHlo.held_congr (c : Thread nD τ) (S := (Pipeline.ucRefs τ sig) \ Pipeline.arrRefs (τ := τ) spec6) (rest6 m c)]
  unfold E
  iintro ⟨Ha, Hp, Hr, HO⟩
  isplitl [Ha Hr]; · isplitl [Ha] <;> iassumption
  isplitl [Hp]; · iexact Hp
  iexact HO

/-! ## The run -/

/-- The host stretch before kernel 0, as a segment. -/
def H0 : HostSeg (Ix := Unit) (Name := ℕ) (U := UR sig nD τ) (Lvl := ℕ) (pcfgs (F := F)) defs₀ Variants.none L (fun _ _ => (0 : ℕ)) :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) (E (F := F))
/-- The host stretch before kernel 1, as a segment. -/
def H1 : HostSeg (Ix := Unit) (Name := ℕ) (U := UR sig nD τ) (Lvl := ℕ) (pcfgs (F := F)) defs₀ Variants.none L (fun _ _ => (0 : ℕ)) :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) (E (F := F))
/-- The host stretch before kernel 2, as a segment. -/
def H2 : HostSeg (Ix := Unit) (Name := ℕ) (U := UR sig nD τ) (Lvl := ℕ) (pcfgs (F := F)) defs₀ Variants.none L (fun _ _ => (0 : ℕ)) :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) (E (F := F))
/-- The host stretch before kernel 3, as a segment. -/
def H3 : HostSeg (Ix := Unit) (Name := ℕ) (U := UR sig nD τ) (Lvl := ℕ) (pcfgs (F := F)) defs₀ Variants.none L (fun _ _ => (0 : ℕ)) :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W6 m) (E (F := F))
/-- The host stretch before kernel 4, as a segment. -/
def H4 : HostSeg (Ix := Unit) (Name := ℕ) (U := UR sig nD τ) (Lvl := ℕ) (pcfgs (F := F)) defs₀ Variants.none L (fun _ _ => (0 : ℕ)) :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (W8 m) (E (F := F))
/-- The host stretch before kernel 5, as a segment. -/
def H5 : HostSeg (Ix := Unit) (Name := ℕ) (U := UR sig nD τ) (Lvl := ℕ) (pcfgs (F := F)) defs₀ Variants.none L (fun _ _ => (0 : ℕ)) :=
  HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (W10 m) (E (F := F))
/-- The host stretch before kernel 6, as a segment. -/
def H6 : HostSeg (Ix := Unit) (Name := ℕ) (U := UR sig nD τ) (Lvl := ℕ) (pcfgs (F := F)) defs₀ Variants.none L (fun _ _ => (0 : ℕ)) :=
  HostSeg.ofOps _ _ _ _ _ (Pipeline.ucRefs τ sig) hostOps6
    (fun op h => Pipeline.sub_ucRefs op ((List.forall_iff_forall_mem.mp hostOps6_sub) op h))
    (fun op h => (List.forall_iff_forall_mem.mp hostOps6_fresh) op h) (W12 m) (E (F := F))
/-- The host stretch before kernel 7, as a segment. -/
def H7 : HostSeg (Ix := Unit) (Name := ℕ) (U := UR sig nD τ) (Lvl := ℕ) (pcfgs (F := F)) defs₀ Variants.none L (fun _ _ => (0 : ℕ)) :=
  HostSeg.ofOps _ _ _ _ _ (Pipeline.ucRefs τ sig) hostOps7
    (fun op h => Pipeline.sub_ucRefs op ((List.forall_iff_forall_mem.mp hostOps7_sub) op h))
    (fun op h => (List.forall_iff_forall_mem.mp hostOps7_fresh) op h) (W14 m) (E (F := F))

/-- @main's items in order. -/
abbrev segs (_ : Dev nD) : List (Seg (pcfgs (F := F)) adm (pd m) () defs₀ Variants.none L (fun _ _ => (0 : ℕ))) :=
  [.host (H0 m), .region (R0 m), .host (H1 m), .region (R1 m), .host (H2 m), .region (R2 m), .host (H3 m), .region (R3 m), .host (H4 m), .region (R4 m), .host (H5 m), .region (R5 m), .host (H6 m), .region (R6 m), .host (H7 m)]

/-- What a core finds at the end: its arguments as launched, the results at the last contents. -/
def Post (c : Dev nD) (s : MemSt nD τ sig (Elt F)) : Prop :=
  (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
  ∧ (s.mem ((c.tc : Thread nD τ).loc main_v22) = W15 m c (Proc.devRef .tc main_v22) ∧ s.mem ((c.tc : Thread nD τ).loc main_v21_1) = W15 m c (Proc.devRef .tc main_v21_1) ∧ s.mem ((c.tc : Thread nD τ).loc main_v23) = W15 m c (Proc.devRef .tc main_v23) ∧ s.mem ((c.tc : Thread nD τ).loc main_v24) = W15 m c (Proc.devRef .tc main_v24))

/-- What a core starts from: its buffers as launched, the register, nothing owed. -/
theorem start (c : Dev nD) : iprop(unscopedBufs c (fun b => m ((c.tc : Thread nD τ).loc b)) ∗ unscopedSems0 c
    ∗ owes (c.tc : Thread nD τ) (0 : CellTallies nD τ sig Unit) ∅ ∗ Pipeline.launchCred (fun _ => 0) c ∗ prngReg c (ρ c) ∗ emp)
    ⊢ (iprop(StableHlo.held (c : Thread nD τ) (Pipeline.ucRefs τ sig) (W0 m c) ∗ E (F := F) c) : sProp 𝕄) := by
  have h : (unscopedBufs c (fun b => m ((c.tc : Thread nD τ).loc b)) : sProp 𝕄)
      = StableHlo.held (c : Thread nD τ) (Pipeline.ucRefs τ sig) (W0 m c) :=
    Pipeline.unscopedBufs_held (Ix := Unit) (Name := ℕ) (U := UR sig nD τ) (Lvl := ℕ) c (W0 m c)
  rw [h]
  unfold E
  iintro ⟨Hb, -, HO, -, Hp, -⟩
  isplitl [Hb]; · iexact Hb
  isplitl [Hp]; · iexists _; iexact Hp
  iexists _; iexact HO

set_option backward.isDefEq.respectTransparency.types false in
/-- The run of @main. -/
theorem run : θ_run defs (onTc (τ := τ) (main (F := F))) ⟨m, fun _ => 0, ρ⟩ (fun r => (∀ c, Post m c r.2) ∧ r.2.sem = fun _ => 0) := by
  refine Pipeline.θ_run_regions_kit_dev_sems (U := UR sig nD τ) (pcfgs (F := F)) adm (pd m) () cellOf_inj emb₁ defs₀ Variants.none L (fun _ _ => (0 : ℕ)) m ρ main
    (segs m)
    (fun c Q => by
      rewrite [main_chain c, Seg.run_eq_chain,
        show (segs m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      dsimp (config := { failIfUnchanged := false }) only
      exact .rfl)
    (fun c => by simp only [segs, Seg.pipes_host, Seg.pipes_region, Seg.pipes_nil]; decide) (fun _ => 0) hL (fun _ => iprop(emp))
    (initOf (Pipeline.cells cfgs cellOf_inj) (Pipeline.launchToks cfgs cellOf_inj))
    (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ E (F := F) c))
    (Tₙ := fun c => StableHlo.held (c : Thread nD τ) (Pipeline.ucRefs τ sig) (W15 m c))
    (hch := fun c => ⟨.rfl, pre0 m c, post0 m c, pre1 m c, post1 m c, pre2 m c, post2 m c, pre3 m c, post3 m c, pre4 m c, post4 m c, pre5 m c, post5 m c, pre6 m c, post6 m c, ?_⟩)
    (hinit := ?_) (QY := fun c s => Post m c s)
    (hfin := fun c s' => ?_) (hQ := fun _ h hz => ⟨h, funext fun g => hz g (.inr (regions_no_unscoped g.2))⟩)
  · show iprop(StableHlo.held (c : Thread nD τ) (Pipeline.ucRefs τ sig) (W15 m c) ∗ E (F := F) c) ⊢ _
    unfold E
    iintro ⟨Hh, -, HO⟩
    isplitl [Hh]; · iexact Hh
    iexact HO
  · iintro ⟨H, -⟩
    imodintro
    iapply (show (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (W0 m c) ∗ E (F := F) c) : sProp 𝕄) from
      bigSep_mono fun c _ => start m ρ c)
    iexact H
  · unfold StableHlo.held
    iintro ⟨Hh, HSI⟩
    ihave Hr := (pointsTo_read_all (Pipeline.ucRefs τ sig) (fun b => ((c : Thread nD τ).1, b)) (W15 m c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (W15_main_arg0 m c), (h (Proc.devRef .tc main_arg1) (Finset.mem_filter.mpr ⟨StableHlo.devRef_mem_tcRefs main_arg1, by decide⟩)).trans (W15_main_arg1 m c), (h (Proc.devRef .tc main_arg2) (Finset.mem_filter.mpr ⟨StableHlo.devRef_mem_tcRefs main_arg2, by decide⟩)).trans (W15_main_arg2 m c), (h (Proc.devRef .tc main_arg3) (Finset.mem_filter.mpr ⟨StableHlo.devRef_mem_tcRefs main_arg3, by decide⟩)).trans (W15_main_arg3 m c), (h (Proc.devRef .tc main_arg4) (Finset.mem_filter.mpr ⟨StableHlo.devRef_mem_tcRefs main_arg4, by decide⟩)).trans (W15_main_arg4 m c)⟩,
        (h (Proc.devRef .tc main_v22) (Finset.mem_filter.mpr ⟨StableHlo.devRef_mem_tcRefs main_v22, by decide⟩)), (h (Proc.devRef .tc main_v21_1) (Finset.mem_filter.mpr ⟨StableHlo.devRef_mem_tcRefs main_v21_1, by decide⟩)), (h (Proc.devRef .tc main_v23) (Finset.mem_filter.mpr ⟨StableHlo.devRef_mem_tcRefs main_v23, by decide⟩)), (h (Proc.devRef .tc main_v24) (Finset.mem_filter.mpr ⟨StableHlo.devRef_mem_tcRefs main_v24, by decide⟩))⟩
    · iexact HSI

end Cert.Sketch.Run

end
-- ==== Proof.SketchIdeal.InvChol.lean ====
/-
  The Cholesky kernel's run, for any floats: its two loops as plain functions of the arrays they rewrite. The
  scratch array `A` (rows, columns, batch) starts as the Gram array. Step `j` of the elimination rewrites the rows below `j`
  (`rowPut`, one row; `elimPut`, all of them); then row `i` of the result is computed from row `i` of what is left (`outPut`).
-/
module

public import proofs.«01_k».proof.Proof.Gen.SketchIdeal.Skeleton
public import Idealize.ShloMosaic.Lib.Pipeline.FrameBody
public import Idealize.ShloMosaic.Lib.VecWindow
public import Idealize.ShloMosaic.Lib.LaneScatter.Fold
public import Idealize.ShloMosaic.Lib.Tactic
public import Idealize.ShloMosaic.Lib.Pointwise
public import Idealize.ShloMosaic.Lib.Exec
public import Idealize.ShloMosaic.Lib.Pipeline.Kit

@[expose] public section

noncomputable section

namespace Cert.SketchIdeal.InvChol

open Cert.SketchIdeal Cert.SketchIdeal.Gen
open Idealize.ShloMosaic Idealize.ShloMosaic.TcCoe Idealize.ShloMosaic.Tactic Idealize.ShloMosaic.LaneScatter
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {U : Type} [URA U] {Lvl : Type} [Preorder Lvl]

local notation "𝕄" => MT nD τ sig Ix (Elt F) ℕ U Lvl
/-- An array of the Gram's shape in the core's memory. -/
abbrev M3 := Memref sig .tc .vmem S104x104x64 .f32

/-- Row `r` lies in the array. -/
theorem rowInb {r : ℕ} (h : r < 104) : ∀ a, (![r, 0, 0] : Fin 3 → ℕ) a + S1x104x64.size a ≤ S104x104x64.size a := by
  intro a
  fin_cases a
  · show r + 1 ≤ 104; omega
  · show 0 + 104 ≤ 104; omega
  · show 0 + 64 ≤ 64; omega

/-- Entry `(r, k)` lies in the array. -/
theorem eltInb {r k : ℕ} (h : r < 104) (h' : k < 104) :
    ∀ a, (![r, k, 0] : Fin 3 → ℕ) a + S1x1x64.size a ≤ S104x104x64.size a := by
  intro a
  fin_cases a
  · show r + 1 ≤ 104; omega
  · show k + 1 ≤ 104; omega
  · show 0 + 64 ≤ 64; omega

/-- Row `r`, over the batch. -/
def row (A : Vec F S104x104x64 .f32) (r : ℕ) (h : r < 104) : Vec F S1x104x64 .f32 :=
  VecWindow.window A ![r, 0, 0] S1x104x64.size (rowInb h)

/-- Entry `(r, k)`, over the batch. -/
def elt (A : Vec F S104x104x64 .f32) (r k : ℕ) (h : r < 104) (h' : k < 104) : Vec F S1x1x64 .f32 :=
  VecWindow.window A ![r, k, 0] S1x1x64.size (eltInb h h')

/-- One row of step `j`: with pivot row `v9` and pivot `v13`, the `n`-th row below `j` less its multiple of the pivot row, and that
    multiplier, negated, in column `j`. -/
def rowPut (j : ℕ) (hj : j < 104) (v9 : Vec F S1x104x64 .f32) (v13 : Vec F S1x1x64 .f32) (n : ℕ) (A : Vec F S104x104x64 .f32) :
    Vec F S104x104x64 .f32 :=
  if h : j + n + 1 < 104 then
    VecWindow.put (VecWindow.put A ![j + n + 1, 0, 0] S1x104x64.size (k1_pay5 v9 v13 (elt A (j + n + 1) j h hj) (row A (j + n + 1) h)))
      ![j + n + 1, j, 0] S1x1x64.size (k1_pay6 v13 (elt A (j + n + 1) j h hj))
  else A

/-- Step `j`: every row below `j`. -/
def elimPut (j : ℕ) (A : Vec F S104x104x64 .f32) : Vec F S104x104x64 .f32 :=
  if h : j < 104 then iter (rowPut j h (row A j h) (elt A j j h h)) (103 - j) A else A

/-- Row `i` of the result, from the eliminated array `A`. -/
def outPut (A : Vec F S104x104x64 .f32) (i : ℕ) (O : Vec F S104x104x64 .f32) : Vec F S104x104x64 .f32 :=
  if h : i < k1_t4_loop.trips then
    VecWindow.put O ![i, 0, 0] S1x104x64.size
      (k1_pay10 ⟨i, h⟩ (elt A i i (lt_of_lt_of_le h k1_t4_abs.2.1) (lt_of_lt_of_le h k1_t4_abs.2.1)) (row A i (lt_of_lt_of_le h k1_t4_abs.2.1)))
  else O

theorem trips1 : k1_t1_loop.trips = 104 := by decide +kernel
theorem trips4 : k1_t4_loop.trips = 104 := by decide +kernel
theorem trips2 : ∀ j : Fin k1_t1_loop.trips, (k1_t2_loop j).trips = 103 - j.val := by decide +kernel

variable (𝒱₀ : Variants) (c : Dev nD) (E : Set ℕ)

/-- One trip of the inner loop is `rowPut`. -/
theorem run2 (a0 : M3) (h0 : a0.IsWhole) (a1 : M3) (h1 : a1.IsWhole) (a2 : M3) (h2 : a2.IsWhole) (j : Fin k1_t1_loop.trips)
    (hj : j.val < 104) (v9 : Vec F S1x104x64 .f32) (v13 : Vec F S1x1x64 .f32) (k : Fin (k1_t2_loop j).trips) (A : Vec F S104x104x64 .f32) :
    (owns (c : Thread nD τ) a2 fullShare A : sProp 𝕄) ⊢ wp frame (wpE (defs₀ (F := F)) 𝒱₀ c none) E (k1_t2_body a0 h0 a1 h1 a2 h2 j v9 v13 k ())
      (fun _ => owns (c : Thread nD τ) a2 fullShare (rowPut j.val hj v9 v13 k.val A)) := by
  have hk : j.val + k.val + 1 < 104 := by have := lt_of_lt_of_eq k.isLt (trips2 j); omega
  unfold k1_t2_body
  simp only [owns]
  iintro ⟨%f, %hf, H⟩
  sl_exec
  sl_step
  iexists _
  isplitr
  swap; · iexact H
  ipureintro
  unfold rowPut
  rw [dif_pos hk, View.read_writes_cons_put _ _ _ _ _ (k1_off3_eq j k), View.read_writes_cons_put _ _ _ _ _ (k1_off4_eq j k), View.writes_nil,
    hf, View.readAt_unit _ _ _ (k1_off3_eq j k) (eltInb hk hj), View.readAt_unit _ _ _ (k1_off4_eq j k) (rowInb hk), hf]
  rfl

/-- The inner loop: every row below `j`. -/
theorem loop2 (a0 : M3) (h0 : a0.IsWhole) (a1 : M3) (h1 : a1.IsWhole) (a2 : M3) (h2 : a2.IsWhole) (j : Fin k1_t1_loop.trips)
    (hj : j.val < 104) (v9 : Vec F S1x104x64 .f32) (v13 : Vec F S1x1x64 .f32) (A : Vec F S104x104x64 .f32) :
    (owns (c : Thread nD τ) a2 fullShare A : sProp 𝕄) ⊢ wp frame (wpE (defs₀ (F := F)) 𝒱₀ c none) E
      (Scf.Loop.for (k1_t2_loop j) (k1_t2_ok j) ⟨⟩ (k1_t2_body a0 h0 a1 h1 a2 h2 j v9 v13))
      (fun _ => owns (c : Thread nD τ) a2 fullShare (iter (rowPut j.val hj v9 v13) (103 - j.val) A)) := by
  iintro H
  iapply (Scf.wp_for frame (wpE (defs₀ (F := F)) 𝒱₀ c none) E _ _ _ (k1_t2_ok j) () (k1_t2_body a0 h0 a1 h1 a2 h2 j v9 v13)
    (fun n _ => owns (c : Thread nD τ) a2 fullShare (iter (rowPut j.val hj v9 v13) n A))
    (fun k _ => run2 𝒱₀ c E a0 h0 a1 h1 a2 h2 j hj v9 v13 k _))
  isplitl [H]
  · iexact H
  · iintro %_ H
    rw [show Scf.trips (k1_t2_loop j).lb (k1_t2_loop j).ub (k1_t2_loop j).st = 103 - j.val from trips2 j]
    iexact H

/-- The remainder loop of the inner loop has no trip. -/
theorem loop3 (a0 : M3) (h0 : a0.IsWhole) (a1 : M3) (h1 : a1.IsWhole) (a2 : M3) (h2 : a2.IsWhole) (j : Fin k1_t1_loop.trips)
    (v9 : Vec F S1x104x64 .f32) (v13 : Vec F S1x1x64 .f32) (A : Vec F S104x104x64 .f32) :
    (owns (c : Thread nD τ) a2 fullShare A : sProp 𝕄) ⊢ wp frame (wpE (defs₀ (F := F)) 𝒱₀ c none) E
      (Scf.Loop.for (k1_t3_loop j) (k1_t3_ok j) ⟨⟩ (k1_t3_body a0 h0 a1 h1 a2 h2 j v9 v13))
      (fun _ => owns (c : Thread nD τ) a2 fullShare A) := by
  iintro H
  iapply (Scf.wp_for frame (wpE (defs₀ (F := F)) 𝒱₀ c none) E _ _ _ (k1_t3_ok j) () (k1_t3_body a0 h0 a1 h1 a2 h2 j v9 v13)
    (fun n _ => owns (c : Thread nD τ) a2 fullShare A)
    (fun k _ => absurd k.isLt (Nat.not_lt.2 (Nat.le_trans (k1_t3_abs j).2.1 (Nat.zero_le _)))))
  isplitl [H]
  · iexact H
  · iintro %_ H
    iexact H

/-- One trip of the outer loop is `elimPut`. -/
theorem run1 (a0 : M3) (h0 : a0.IsWhole) (a1 : M3) (h1 : a1.IsWhole) (a2 : M3) (h2 : a2.IsWhole) (j : Fin k1_t1_loop.trips)
    (A : Vec F S104x104x64 .f32) :
    (owns (c : Thread nD τ) a2 fullShare A : sProp 𝕄) ⊢ wp frame (wpE (defs₀ (F := F)) 𝒱₀ c none) E (k1_t1_body a0 h0 a1 h1 a2 h2 j ())
      (fun _ => owns (c : Thread nD τ) a2 fullShare (elimPut j.val A)) := by
  have hj : j.val < 104 := lt_of_lt_of_eq j.isLt trips1
  unfold k1_t1_body elimPut
  rw [dif_pos hj]
  have e1 : ∀ f, a2.view.read (Elt F) f = A → a2.view.readAt (Elt F) (Rect.unit (s := S104x104x64) (k1_off1 j) S1x104x64.size (k1_off1_inb j)).toLoadRect f = row A j.val hj :=
    fun f hf => by rw [View.readAt_unit _ _ _ (k1_off1_eq j) (rowInb hj), hf]; rfl
  have e2 : ∀ f, a2.view.read (Elt F) f = A → a2.view.readAt (Elt F) (Rect.unit (s := S104x104x64) (k1_off2 j) S1x1x64.size (k1_off2_inb j)).toLoadRect f = elt A j.val j.val hj hj :=
    fun f hf => by rw [View.readAt_unit _ _ _ (k1_off2_eq j) (eltInb hj hj), hf]; rfl
  unfold owns
  iintro ⟨%f, %hf, H⟩
  sl_exec
  rw [e1 f hf, e2 f hf]
  iapply (bind_of_run frame (wpE (defs₀ (F := F)) 𝒱₀ c none) E
    (loop2 𝒱₀ c E a0 h0 a1 h1 a2 h2 j hj (row A j.val hj) (elt A j.val j.val hj hj) A))
  isplitl [H]
  · unfold owns
    iexists f
    isplitr
    · ipureintro; exact hf
    iexact H
  iintro H
  iapply (bind_of_run frame (wpE (defs₀ (F := F)) 𝒱₀ c none) E
    (loop3 𝒱₀ c E a0 h0 a1 h1 a2 h2 j (row A j.val hj) (elt A j.val j.val hj hj) _))
  isplitl [H]
  · iexact H
  iintro H
  sl_step
  unfold owns
  iexact H

/-- The elimination: its 104 steps. -/
theorem loop1 (a0 : M3) (h0 : a0.IsWhole) (a1 : M3) (h1 : a1.IsWhole) (a2 : M3) (h2 : a2.IsWhole) (A : Vec F S104x104x64 .f32) :
    (owns (c : Thread nD τ) a2 fullShare A : sProp 𝕄) ⊢ wp frame (wpE (defs₀ (F := F)) 𝒱₀ c none) E
      (Scf.Loop.for k1_t1_loop k1_t1_ok ⟨⟩ (k1_t1_body a0 h0 a1 h1 a2 h2))
      (fun _ => owns (c : Thread nD τ) a2 fullShare (iter elimPut 104 A)) := by
  iintro H
  iapply (Scf.wp_for frame (wpE (defs₀ (F := F)) 𝒱₀ c none) E _ _ _ k1_t1_ok () (k1_t1_body a0 h0 a1 h1 a2 h2)
    (fun n _ => owns (c : Thread nD τ) a2 fullShare (iter elimPut n A))
    (fun k _ => run1 𝒱₀ c E a0 h0 a1 h1 a2 h2 k _))
  isplitl [H]
  · iexact H
  · iintro %_ H
    rw [show Scf.trips k1_t1_loop.lb k1_t1_loop.ub k1_t1_loop.st = 104 from trips1]
    iexact H

/-- One trip of the second loop is `outPut`. -/
theorem run4 (a0 : M3) (h0 : a0.IsWhole) (a1 : M3) (h1 : a1.IsWhole) (a2 : M3) (h2 : a2.IsWhole) (i : Fin k1_t4_loop.trips)
    (A O : Vec F S104x104x64 .f32) :
    (iprop(owns (c : Thread nD τ) a2 fullShare A ∗ owns (c : Thread nD τ) a1 fullShare O) : sProp 𝕄) ⊢
      wp frame (wpE (defs₀ (F := F)) 𝒱₀ c none) E (k1_t4_body a0 h0 a1 h1 a2 h2 i ())
      (fun _ => iprop(owns (c : Thread nD τ) a2 fullShare A ∗ owns (c : Thread nD τ) a1 fullShare (outPut A i.val O))) := by
  have hi : i.val < 104 := lt_of_lt_of_eq i.isLt trips4
  unfold k1_t4_body
  simp only [owns]
  iintro ⟨⟨%f, %hf, H⟩, ⟨%g, %hg, G⟩⟩
  sl_exec
  sl_step
  isplitl [H]
  · iexists f
    isplitr
    · ipureintro; exact hf
    iexact H
  iexists _
  isplitr
  swap; · iexact G
  ipureintro
  unfold outPut
  rw [dif_pos i.isLt, View.read_writes_cons_put _ _ _ _ _ (k1_off8_eq i), View.writes_nil, hg,
    View.readAt_unit _ _ _ (k1_off7_eq i) (eltInb hi hi), View.readAt_unit _ _ _ (k1_off8_eq i) (rowInb hi), hf]
  rfl

/-- The second loop: its 104 rows. -/
theorem loop4 (a0 : M3) (h0 : a0.IsWhole) (a1 : M3) (h1 : a1.IsWhole) (a2 : M3) (h2 : a2.IsWhole) (A O : Vec F S104x104x64 .f32) :
    (iprop(owns (c : Thread nD τ) a2 fullShare A ∗ owns (c : Thread nD τ) a1 fullShare O) : sProp 𝕄) ⊢
      wp frame (wpE (defs₀ (F := F)) 𝒱₀ c none) E (Scf.Loop.for k1_t4_loop k1_t4_ok ⟨⟩ (k1_t4_body a0 h0 a1 h1 a2 h2))
      (fun _ => iprop(owns (c : Thread nD τ) a2 fullShare A ∗ owns (c : Thread nD τ) a1 fullShare (iter (outPut A) 104 O))) := by
  iintro H
  iapply (Scf.wp_for frame (wpE (defs₀ (F := F)) 𝒱₀ c none) E _ _ _ k1_t4_ok () (k1_t4_body a0 h0 a1 h1 a2 h2)
    (fun n _ => iprop(owns (c : Thread nD τ) a2 fullShare A ∗ owns (c : Thread nD τ) a1 fullShare (iter (outPut A) n O)))
    (fun k _ => run4 𝒱₀ c E a0 h0 a1 h1 a2 h2 k _ _))
  isplitl [H]
  · iexact H
  · iintro %_ H
    rw [show Scf.trips k1_t4_loop.lb k1_t4_loop.ub k1_t4_loop.st = 104 from trips4]
    iexact H

/-- What the kernel leaves in its output for the Gram array `G`, at `(i, k, b)`: row `i` of the eliminated array, scaled. -/
def value (G : Vec F S104x104x64 .f32) : Vec F S104x104x64 .f32 := fun y =>
  k1_pay10 ⟨(y 0).val, lt_of_lt_of_eq (y 0).isLt trips4.symm⟩
    (elt (iter elimPut 104 (k1_pay1 G)) (y 0).val (y 0).val (y 0).isLt (y 0).isLt) (row (iter elimPut 104 (k1_pay1 G)) (y 0).val (y 0).isLt)
    (ix3 (0 : Fin 1) (y 1) (y 2))

/-- After `n` rows, the first `n` rows hold the result. -/
theorem iter_outPut (A O : Vec F S104x104x64 .f32) (n : ℕ) (y : S104x104x64.Idx) (h : (y 0).val < n) :
    iter (outPut A) n O y = k1_pay10 ⟨(y 0).val, lt_of_lt_of_eq (y 0).isLt trips4.symm⟩
      (elt A (y 0).val (y 0).val (y 0).isLt (y 0).isLt) (row A (y 0).val (y 0).isLt) (ix3 (0 : Fin 1) (y 1) (y 2)) := by
  induction n with
  | zero => omega
  | succ n ih =>
    show outPut A n (iter (outPut A) n O) y = _
    unfold outPut
    by_cases hn : n < k1_t4_loop.trips
    · rw [dif_pos hn]
      unfold VecWindow.put
      by_cases e : (y 0).val = n
      · subst e
        rw [dif_pos (by
          intro a
          fin_cases a
          · exact ⟨le_refl _, Nat.lt_succ_self _⟩
          · exact ⟨Nat.zero_le _, lt_of_lt_of_eq (y 1).isLt (Nat.zero_add _).symm⟩
          · exact ⟨Nat.zero_le _, lt_of_lt_of_eq (y 2).isLt (Nat.zero_add _).symm⟩)]
        refine congrArg _ (funext fun a => Fin.ext ?_)
        fin_cases a
        · exact Nat.sub_self _
        · exact Nat.sub_zero _
        · exact Nat.sub_zero _
      · rw [dif_neg (fun hall => e (by have := hall 0; exact Nat.le_antisymm (Nat.lt_succ_iff.mp this.2) this.1))]
        exact ih (by omega)
    · have h0 : (y 0).val < 104 := (y 0).isLt
      have := trips4
      rw [dif_neg hn]
      exact ih (by omega)

/-- The kernel's run: its output holds `value` of its input. -/
theorem run (a0 : M3) (h0 : a0.IsWhole) (a1 : M3) (h1 : a1.IsWhole) (a2 : M3) (h2 : a2.IsWhole) (G : Vec F S104x104x64 .f32) :
    (iprop(owns (c : Thread nD τ) a0 fullShare G ∗ (∃ d, owns (c : Thread nD τ) a1 fullShare d) ∗ (∃ d, owns (c : Thread nD τ) a2 fullShare d)) : sProp 𝕄) ⊢
      wp frame (wpE (defs₀ (F := F)) 𝒱₀ c none) E (cc1_inv_chol a0 h0 a1 h1 a2 h2)
      (fun _ => iprop(owns (c : Thread nD τ) a0 fullShare G ∗ owns (c : Thread nD τ) a1 fullShare (value G) ∗ (∃ d, owns (c : Thread nD τ) a2 fullShare d))) := by
  simp only [cc1_inv_chol_eq_skeleton]; unfold cc1_inv_chol_skel
  simp only [owns]
  iintro ⟨⟨%f, %hf, H0⟩, ⟨%o, %fo, %ho, H1⟩, ⟨%s, %fs, -, H2⟩⟩
  sl_exec
  iapply (bind_of_run frame (wpE (defs₀ (F := F)) 𝒱₀ c none) E (loop1 𝒱₀ c E a0 h0 a1 h1 a2 h2 (k1_pay1 G)))
  isplitl [H2]
  · unfold owns
    iexists _
    isplitr
    swap; · iexact H2
    ipureintro
    unfold run.sl.H2_1
    rw [View.read_writes_full, View.readAt_full, hf]
  iintro H2
  iapply (bind_of_run frame (wpE (defs₀ (F := F)) 𝒱₀ c none) E (loop4 𝒱₀ c E a0 h0 a1 h1 a2 h2 (iter elimPut 104 (k1_pay1 G)) o))
  isplitl [H2 H1]
  · isplitl [H2]
    · iexact H2
    unfold owns
    iexists fo
    isplitr
    · ipureintro; exact ho
    iexact H1
  iintro ⟨H2, H1⟩
  rw [show iter (outPut (iter elimPut 104 (k1_pay1 G))) 104 o = value G from
    funext fun y => iter_outPut _ _ 104 y (y 0).isLt]
  sl_step
  isplitl [H0]
  · iexists f
    isplitr
    · ipureintro; exact hf
    iexact H0
  unfold owns
  isplitl [H1]
  · iexact H1
  iexists _
  iexact H2

/-- The three calls of the kernel are one program. -/
theorem cc3_eq : cc3_inv_chol (F := F) = cc1_inv_chol (F := F) := rfl
theorem cc5_eq : cc5_inv_chol (F := F) = cc1_inv_chol (F := F) := rfl

end Cert.SketchIdeal.InvChol

end
-- ==== Proof.SketchIdeal.K1.lean ====
/-
  Custom call 1, the Cholesky kernel on whole arrays: the proof data and the body obligation, for any index type, level type,
  algebra, variants, entry contents and owed tally, from the kernel's run.
-/
module

public import proofs.«01_k».proof.Proof.Gen.SketchIdeal.Launch
public import proofs.«01_k».proof.Proof.Gen.SketchIdeal.Points
public import proofs.«01_k».proof.Proof.SketchIdeal.InvChol
public import Idealize.ShloMosaic.Lib.Pipeline.FrameSuffix
public import Idealize.ShloMosaic.Lib.Ring

@[expose] public section

noncomputable section

namespace Cert.SketchIdeal.Own.K1

open Cert.SketchIdeal Cert.SketchIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: its scoped buffers and the random-number register. -/
def ΦK (c : Dev nD) : sProp 𝕄 :=
  iprop(Pipeline.scopedRest (Ix := Ix) (Name := ℕ) (U := U) (Lvl := Lvl) (Val := Elt F) spec1 c ∗ ∃ r, prngReg c r)

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block, for any proof data whose array is `V`'s and whose body leaves the block in place. -/
theorem before_0_of {c : Dev nD} (dat : Dat τ (Elt F) Ix ℕ U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging memrefs, as the pipeline passes them, and their wholeness. -/
abbrev ms_0 (t : Fin cfg1.N) : Memref sig .tc .vmem S104x104x64 .f32 := win1_0.stage (cfg1.slots t 0)
abbrev ms_1 (t : Fin cfg1.N) : Memref sig .tc .vmem S104x104x64 .f32 := win1_1.stage (cfg1.slots t 1)
abbrev scM : Memref sig .tc .vmem S104x104x64 .f32 := Memref.whole cc1_scratch0

/-- The invariant with the scratch buffer as a memref owned at some contents. -/
theorem PhiA_eq (c : Dev nD) :
    (ΦK (F := F) (Ix := Ix) (U := U) (Lvl := Lvl) c : sProp 𝕄)
      = iprop(iprop((∃ d, owns (c : Thread nD τ) scM fullShare d) ∗ Pipeline.scopedRestBut spec1 c [cc1_scratch0]) ∗ (∃ r, prngReg c r)) := by
  unfold ΦK; rw [scopedRest1_split]; simp only [scM, owns_whole]; try rfl

/-- What the output holds after the call. -/
def outAt (c : Dev nD) (t : Fin cfg1.N) : Vec F S104x104x64 .f32 := InvChol.value (iblk V c 0 t)

/-- The proof data of the call's pipeline on core `c`. -/
def dat (c : Dev nD) : Dat τ (Elt F) Ix ℕ U Lvl cfg1 c where
  A w := V c (Pipeline.arrRef spec1 w)
  after w t := match w with
    | ⟨0, _⟩ => iblk V c 0 t
    | ⟨1, _⟩ => outAt V c t
  Φ _ := ΦK (F := F) (Ix := Ix) (U := U) (Lvl := Lvl) c
  q _ := fullShare
  owed _ := D c

variable (ι : Ix)

/-- The proof data's arrays are the region-entry contents `V`. -/
theorem A_eq (c : Dev nD) (w : Fin cfg1.W) : ((dat (Ix := Ix) (U := U) (Lvl := Lvl) V D) c).A w = V c (Pipeline.arrRef spec1 w) := by
  dsimp only [dat]

theorem after_0 (c : Dev nD) (t : Fin cfg1.N) : ((dat (Ix := Ix) (U := U) (Lvl := Lvl) V D) c).after 0 t = iblk V c 0 t := by dsimp only [dat]
theorem after_1 (c : Dev nD) (t : Fin cfg1.N) : ((dat (Ix := Ix) (U := U) (Lvl := Lvl) V D) c).after 1 t = outAt V c t := by dsimp only [dat]

theorem before_0 (c : Dev nD) (t : Fin cfg1.N) (d) : ((dat (Ix := Ix) (U := U) (Lvl := Lvl) V D) c).before 0 t d = iblk V c 0 t :=
  before_0_of V ((dat (Ix := Ix) (U := U) (Lvl := Lvl) V D) c) (A_eq V D c 0) (after_0 V D c) t d

/-- What the body is called with at point `t`, -/
def bodyPre (c : Dev nD) (t : Fin cfg1.N) : sProp 𝕄 :=
  iprop(((dat (Ix := Ix) (U := U) (Lvl := Lvl) V D) c).Φ t.castSucc ∗ ((dat (Ix := Ix) (U := U) (Lvl := Lvl) V D) c).owesAt ι t.castSucc
    ∗ (∃ d, owns (c : Thread nD τ) (ms_0 t) fullShare (((dat (Ix := Ix) (U := U) (Lvl := Lvl) V D) c).before 0 t d))
    ∗ (∃ d, owns (c : Thread nD τ) (ms_1 t) fullShare (((dat (Ix := Ix) (U := U) (Lvl := Lvl) V D) c).before 1 t d)))

/-- and what it returns. -/
def bodyPost (c : Dev nD) (t : Fin cfg1.N) : sProp 𝕄 :=
  iprop(((dat (Ix := Ix) (U := U) (Lvl := Lvl) V D) c).Φ t.succ ∗ ((dat (Ix := Ix) (U := U) (Lvl := Lvl) V D) c).owesAt ι t.succ
    ∗ owns (c : Thread nD τ) (ms_0 t) fullShare (((dat (Ix := Ix) (U := U) (Lvl := Lvl) V D) c).after 0 t)
    ∗ owns (c : Thread nD τ) (ms_1 t) fullShare (((dat (Ix := Ix) (U := U) (Lvl := Lvl) V D) c).after 1 t))

/-- The call runs the one printed program. -/
theorem cc_eq : cc1_inv_chol (F := F) = cc1_inv_chol (F := F) := rfl

set_option maxHeartbeats 800000 in
/-- The body: the run applies. -/
theorem sound_body (c : Dev nD) (t : Fin cfg1.N) :
    bodyPre (U := U) (Lvl := Lvl) V D ι c t ⊢ wp frame (wpE (defs₀ (F := F)) 𝒱₀ c none) Set.univ (bodyAt1 t) (fun _ => bodyPost (U := U) (Lvl := Lvl) V D ι c t) := by
  unfold bodyPre bodyPost bodyAt1
  simp only [before_0]
  rw [show ((dat (Ix := Ix) (U := U) (Lvl := Lvl) V D) c).Φ t.succ = ((dat (Ix := Ix) (U := U) (Lvl := Lvl) V D) c).Φ t.castSucc from rfl,
    show ((dat (Ix := Ix) (U := U) (Lvl := Lvl) V D) c).owesAt ι t.succ = ((dat (Ix := Ix) (U := U) (Lvl := Lvl) V D) c).owesAt ι t.castSucc from rfl, after_0, after_1]
  rw [show ((dat (Ix := Ix) (U := U) (Lvl := Lvl) V D) c).Φ t.castSucc = ΦK (F := F) (Ix := Ix) (U := U) (Lvl := Lvl) c from rfl, PhiA_eq, cc_eq]
  unfold outAt
  iintro ⟨⟨⟨HS0, HR⟩, Hg⟩, Ho, ⟨%d0, H0⟩, ⟨%d1, H1⟩⟩
  iapply (wp_wand_r frame (wpE (defs₀ (F := F)) 𝒱₀ c none) Set.univ)
  isplitl [H0 H1 HS0]
  · iapply (InvChol.run 𝒱₀ c Set.univ (ms_0 t) _ (ms_1 t) _ scM _ (iblk V c 0 t))
    isplitl [H0]; · iexact H0
    isplitl [H1]; · iexists _; iexact H1
    iexact HS0
  iintro %_ ⟨H0, H1, HS0⟩
  isplitl [HS0 HR Hg]
  · isplitl [HS0 HR]
    · isplitl [HS0]
      · iexact HS0
      iexact HR
    iexact Hg
  isplitl [Ho]; · iexact Ho
  isplitl [H0]; · iexact H0
  iexact H1

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation. -/
theorem body_obligation (c : Dev nD) : BodyObligation ((dat (Ix := Ix) (U := U) (Lvl := Lvl) V D) c) (defs₀ (F := F)) 𝒱₀ ι Set.univ := fun t => by
  rw [bigSep_W1, bigSep_W1, defs₀_row]
  exact triple_restated (sound_body (U := U) (Lvl := Lvl) 𝒱₀ V D ι c t) rfl .rfl fun _ => .rfl

end Cert.SketchIdeal.Own.K1

end
-- ==== Proof.SketchIdeal.K3.lean ====
/-
  Custom call 3, the Cholesky kernel on whole arrays: the proof data and the body obligation, for any index type, level type,
  algebra, variants, entry contents and owed tally, from the kernel's run.
-/
module

public import proofs.«01_k».proof.Proof.Gen.SketchIdeal.Launch
public import proofs.«01_k».proof.Proof.Gen.SketchIdeal.Points
public import proofs.«01_k».proof.Proof.SketchIdeal.InvChol
public import Idealize.ShloMosaic.Lib.Pipeline.FrameSuffix
public import Idealize.ShloMosaic.Lib.Ring

@[expose] public section

noncomputable section

namespace Cert.SketchIdeal.Own.K3

open Cert.SketchIdeal Cert.SketchIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: its scoped buffers and the random-number register. -/
def ΦK (c : Dev nD) : sProp 𝕄 :=
  iprop(Pipeline.scopedRest (Ix := Ix) (Name := ℕ) (U := U) (Lvl := Lvl) (Val := Elt F) spec3 c ∗ ∃ r, prngReg c r)

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's staging buffer holds its block, for any proof data whose array is `V`'s and whose body leaves the block in place. -/
theorem before_0_of {c : Dev nD} (dat : Dat τ (Elt F) Ix ℕ U Lvl cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging memrefs, as the pipeline passes them, and their wholeness. -/
abbrev ms_0 (t : Fin cfg3.N) : Memref sig .tc .vmem S104x104x64 .f32 := win3_0.stage (cfg3.slots t 0)
abbrev ms_1 (t : Fin cfg3.N) : Memref sig .tc .vmem S104x104x64 .f32 := win3_1.stage (cfg3.slots t 1)
abbrev scM : Memref sig .tc .vmem S104x104x64 .f32 := Memref.whole cc3_scratch0

/-- The invariant with the scratch buffer as a memref owned at some contents. -/
theorem PhiA_eq (c : Dev nD) :
    (ΦK (F := F) (Ix := Ix) (U := U) (Lvl := Lvl) c : sProp 𝕄)
      = iprop(iprop((∃ d, owns (c : Thread nD τ) scM fullShare d) ∗ Pipeline.scopedRestBut spec3 c [cc3_scratch0]) ∗ (∃ r, prngReg c r)) := by
  unfold ΦK; rw [scopedRest3_split]; simp only [scM, owns_whole]; try rfl

/-- What the output holds after the call. -/
def outAt (c : Dev nD) (t : Fin cfg3.N) : Vec F S104x104x64 .f32 := InvChol.value (iblk V c 0 t)

/-- The proof data of the call's pipeline on core `c`. -/
def dat (c : Dev nD) : Dat τ (Elt F) Ix ℕ U Lvl cfg3 c where
  A w := V c (Pipeline.arrRef spec3 w)
  after w t := match w with
    | ⟨0, _⟩ => iblk V c 0 t
    | ⟨1, _⟩ => outAt V c t
  Φ _ := ΦK (F := F) (Ix := Ix) (U := U) (Lvl := Lvl) c
  q _ := fullShare
  owed _ := D c

variable (ι : Ix)

/-- The proof data's arrays are the region-entry contents `V`. -/
theorem A_eq (c : Dev nD) (w : Fin cfg3.W) : ((dat (Ix := Ix) (U := U) (Lvl := Lvl) V D) c).A w = V c (Pipeline.arrRef spec3 w) := by
  dsimp only [dat]

theorem after_0 (c : Dev nD) (t : Fin cfg3.N) : ((dat (Ix := Ix) (U := U) (Lvl := Lvl) V D) c).after 0 t = iblk V c 0 t := by dsimp only [dat]
theorem after_1 (c : Dev nD) (t : Fin cfg3.N) : ((dat (Ix := Ix) (U := U) (Lvl := Lvl) V D) c).after 1 t = outAt V c t := by dsimp only [dat]

theorem before_0 (c : Dev nD) (t : Fin cfg3.N) (d) : ((dat (Ix := Ix) (U := U) (Lvl := Lvl) V D) c).before 0 t d = iblk V c 0 t :=
  before_0_of V ((dat (Ix := Ix) (U := U) (Lvl := Lvl) V D) c) (A_eq V D c 0) (after_0 V D c) t d

/-- What the body is called with at point `t`, -/
def bodyPre (c : Dev nD) (t : Fin cfg3.N) : sProp 𝕄 :=
  iprop(((dat (Ix := Ix) (U := U) (Lvl := Lvl) V D) c).Φ t.castSucc ∗ ((dat (Ix := Ix) (U := U) (Lvl := Lvl) V D) c).owesAt ι t.castSucc
    ∗ (∃ d, owns (c : Thread nD τ) (ms_0 t) fullShare (((dat (Ix := Ix) (U := U) (Lvl := Lvl) V D) c).before 0 t d))
    ∗ (∃ d, owns (c : Thread nD τ) (ms_1 t) fullShare (((dat (Ix := Ix) (U := U) (Lvl := Lvl) V D) c).before 1 t d)))

/-- and what it returns. -/
def bodyPost (c : Dev nD) (t : Fin cfg3.N) : sProp 𝕄 :=
  iprop(((dat (Ix := Ix) (U := U) (Lvl := Lvl) V D) c).Φ t.succ ∗ ((dat (Ix := Ix) (U := U) (Lvl := Lvl) V D) c).owesAt ι t.succ
    ∗ owns (c : Thread nD τ) (ms_0 t) fullShare (((dat (Ix := Ix) (U := U) (Lvl := Lvl) V D) c).after 0 t)
    ∗ owns (c : Thread nD τ) (ms_1 t) fullShare (((dat (Ix := Ix) (U := U) (Lvl := Lvl) V D) c).after 1 t))

/-- The call runs the one printed program. -/
theorem cc_eq : cc3_inv_chol (F := F) = cc1_inv_chol (F := F) := rfl

set_option maxHeartbeats 800000 in
/-- The body: the run applies. -/
theorem sound_body (c : Dev nD) (t : Fin cfg3.N) :
    bodyPre (U := U) (Lvl := Lvl) V D ι c t ⊢ wp frame (wpE (defs₀ (F := F)) 𝒱₀ c none) Set.univ (bodyAt3 t) (fun _ => bodyPost (U := U) (Lvl := Lvl) V D ι c t) := by
  unfold bodyPre bodyPost bodyAt3
  simp only [before_0]
  rw [show ((dat (Ix := Ix) (U := U) (Lvl := Lvl) V D) c).Φ t.succ = ((dat (Ix := Ix) (U := U) (Lvl := Lvl) V D) c).Φ t.castSucc from rfl,
    show ((dat (Ix := Ix) (U := U) (Lvl := Lvl) V D) c).owesAt ι t.succ = ((dat (Ix := Ix) (U := U) (Lvl := Lvl) V D) c).owesAt ι t.castSucc from rfl, after_0, after_1]
  rw [show ((dat (Ix := Ix) (U := U) (Lvl := Lvl) V D) c).Φ t.castSucc = ΦK (F := F) (Ix := Ix) (U := U) (Lvl := Lvl) c from rfl, PhiA_eq, cc_eq]
  unfold outAt
  iintro ⟨⟨⟨HS0, HR⟩, Hg⟩, Ho, ⟨%d0, H0⟩, ⟨%d1, H1⟩⟩
  iapply (wp_wand_r frame (wpE (defs₀ (F := F)) 𝒱₀ c none) Set.univ)
  isplitl [H0 H1 HS0]
  · iapply (InvChol.run 𝒱₀ c Set.univ (ms_0 t) _ (ms_1 t) _ scM _ (iblk V c 0 t))
    isplitl [H0]; · iexact H0
    isplitl [H1]; · iexists _; iexact H1
    iexact HS0
  iintro %_ ⟨H0, H1, HS0⟩
  isplitl [HS0 HR Hg]
  · isplitl [HS0 HR]
    · isplitl [HS0]
      · iexact HS0
      iexact HR
    iexact Hg
  isplitl [Ho]; · iexact Ho
  isplitl [H0]; · iexact H0
  iexact H1

/-- The body table's row at point `t`'s slots is the body as `bodyAt3` spells it. -/
theorem defs₀_row (t : Fin cfg3.N) :
    defs₀ (F := F) .tc cfg3.body (cfg3.bodyArgs t (cfg3.slots t)) = bodyAt3 t := by
  unfold defs₀; rw [Defs.onTc_tc]

/-- The library's body obligation. -/
theorem body_obligation (c : Dev nD) : BodyObligation ((dat (Ix := Ix) (U := U) (Lvl := Lvl) V D) c) (defs₀ (F := F)) 𝒱₀ ι Set.univ := fun t => by
  rw [bigSep_W3, bigSep_W3, defs₀_row]
  exact triple_restated (sound_body (U := U) (Lvl := Lvl) 𝒱₀ V D ι c t) rfl .rfl fun _ => .rfl

end Cert.SketchIdeal.Own.K3

end
-- ==== Proof.SketchIdeal.K5.lean ====
/-
  Custom call 5, the Cholesky kernel on whole arrays: the proof data and the body obligation, for any index type, level type,
  algebra, variants, entry contents and owed tally, from the kernel's run.
-/
module

public import proofs.«01_k».proof.Proof.Gen.SketchIdeal.Launch
public import proofs.«01_k».proof.Proof.Gen.SketchIdeal.Points
public import proofs.«01_k».proof.Proof.SketchIdeal.InvChol
public import Idealize.ShloMosaic.Lib.Pipeline.FrameSuffix
public import Idealize.ShloMosaic.Lib.Ring

@[expose] public section

noncomputable section

namespace Cert.SketchIdeal.Own.K5

open Cert.SketchIdeal Cert.SketchIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: its scoped buffers and the random-number register. -/
def ΦK (c : Dev nD) : sProp 𝕄 :=
  iprop(Pipeline.scopedRest (Ix := Ix) (Name := ℕ) (U := U) (Lvl := Lvl) (Val := Elt F) spec5 c ∗ ∃ r, prngReg c r)

/-- Window `w`'s block at point `t`, read off its array as the region finds it (`V`). -/
def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The input window's staging buffer holds its block, for any proof data whose array is `V`'s and whose body leaves the block in place. -/
theorem before_0_of {c : Dev nD} (dat : Dat τ (Elt F) Ix ℕ U Lvl cfg5 c) (hA : dat.A 0 = V c (Pipeline.arrRef spec5 0))
    (hafter : ∀ t, dat.after 0 t = iblk V c 0 t) (t : Fin cfg5.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging memrefs, as the pipeline passes them, and their wholeness. -/
abbrev ms_0 (t : Fin cfg5.N) : Memref sig .tc .vmem S104x104x64 .f32 := win5_0.stage (cfg5.slots t 0)
abbrev ms_1 (t : Fin cfg5.N) : Memref sig .tc .vmem S104x104x64 .f32 := win5_1.stage (cfg5.slots t 1)
abbrev scM : Memref sig .tc .vmem S104x104x64 .f32 := Memref.whole cc5_scratch0

/-- The invariant with the scratch buffer as a memref owned at some contents. -/
theorem PhiA_eq (c : Dev nD) :
    (ΦK (F := F) (Ix := Ix) (U := U) (Lvl := Lvl) c : sProp 𝕄)
      = iprop(iprop((∃ d, owns (c : Thread nD τ) scM fullShare d) ∗ Pipeline.scopedRestBut spec5 c [cc5_scratch0]) ∗ (∃ r, prngReg c r)) := by
  unfold ΦK; rw [scopedRest5_split]; simp only [scM, owns_whole]; try rfl

/-- What the output holds after the call. -/
def outAt (c : Dev nD) (t : Fin cfg5.N) : Vec F S104x104x64 .f32 := InvChol.value (iblk V c 0 t)

/-- The proof data of the call's pipeline on core `c`. -/
def dat (c : Dev nD) : Dat τ (Elt F) Ix ℕ U Lvl cfg5 c where
  A w := V c (Pipeline.arrRef spec5 w)
  after w t := match w with
    | ⟨0, _⟩ => iblk V c 0 t
    | ⟨1, _⟩ => outAt V c t
  Φ _ := ΦK (F := F) (Ix := Ix) (U := U) (Lvl := Lvl) c
  q _ := fullShare
  owed _ := D c

variable (ι : Ix)

/-- The proof data's arrays are the region-entry contents `V`. -/
theorem A_eq (c : Dev nD) (w : Fin cfg5.W) : ((dat (Ix := Ix) (U := U) (Lvl := Lvl) V D) c).A w = V c (Pipeline.arrRef spec5 w) := by
  dsimp only [dat]

theorem after_0 (c : Dev nD) (t : Fin cfg5.N) : ((dat (Ix := Ix) (U := U) (Lvl := Lvl) V D) c).after 0 t = iblk V c 0 t := by dsimp only [dat]
theorem after_1 (c : Dev nD) (t : Fin cfg5.N) : ((dat (Ix := Ix) (U := U) (Lvl := Lvl) V D) c).after 1 t = outAt V c t := by dsimp only [dat]

theorem before_0 (c : Dev nD) (t : Fin cfg5.N) (d) : ((dat (Ix := Ix) (U := U) (Lvl := Lvl) V D) c).before 0 t d = iblk V c 0 t :=
  before_0_of V ((dat (Ix := Ix) (U := U) (Lvl := Lvl) V D) c) (A_eq V D c 0) (after_0 V D c) t d

/-- What the body is called with at point `t`, -/
def bodyPre (c : Dev nD) (t : Fin cfg5.N) : sProp 𝕄 :=
  iprop(((dat (Ix := Ix) (U := U) (Lvl := Lvl) V D) c).Φ t.castSucc ∗ ((dat (Ix := Ix) (U := U) (Lvl := Lvl) V D) c).owesAt ι t.castSucc
    ∗ (∃ d, owns (c : Thread nD τ) (ms_0 t) fullShare (((dat (Ix := Ix) (U := U) (Lvl := Lvl) V D) c).before 0 t d))
    ∗ (∃ d, owns (c : Thread nD τ) (ms_1 t) fullShare (((dat (Ix := Ix) (U := U) (Lvl := Lvl) V D) c).before 1 t d)))

/-- and what it returns. -/
def bodyPost (c : Dev nD) (t : Fin cfg5.N) : sProp 𝕄 :=
  iprop(((dat (Ix := Ix) (U := U) (Lvl := Lvl) V D) c).Φ t.succ ∗ ((dat (Ix := Ix) (U := U) (Lvl := Lvl) V D) c).owesAt ι t.succ
    ∗ owns (c : Thread nD τ) (ms_0 t) fullShare (((dat (Ix := Ix) (U := U) (Lvl := Lvl) V D) c).after 0 t)
    ∗ owns (c : Thread nD τ) (ms_1 t) fullShare (((dat (Ix := Ix) (U := U) (Lvl := Lvl) V D) c).after 1 t))

/-- The call runs the one printed program. -/
theorem cc_eq : cc5_inv_chol (F := F) = cc1_inv_chol (F := F) := rfl

set_option maxHeartbeats 800000 in
/-- The body: the run applies. -/
theorem sound_body (c : Dev nD) (t : Fin cfg5.N) :
    bodyPre (U := U) (Lvl := Lvl) V D ι c t ⊢ wp frame (wpE (defs₀ (F := F)) 𝒱₀ c none) Set.univ (bodyAt5 t) (fun _ => bodyPost (U := U) (Lvl := Lvl) V D ι c t) := by
  unfold bodyPre bodyPost bodyAt5
  simp only [before_0]
  rw [show ((dat (Ix := Ix) (U := U) (Lvl := Lvl) V D) c).Φ t.succ = ((dat (Ix := Ix) (U := U) (Lvl := Lvl) V D) c).Φ t.castSucc from rfl,
    show ((dat (Ix := Ix) (U := U) (Lvl := Lvl) V D) c).owesAt ι t.succ = ((dat (Ix := Ix) (U := U) (Lvl := Lvl) V D) c).owesAt ι t.castSucc from rfl, after_0, after_1]
  rw [show ((dat (Ix := Ix) (U := U) (Lvl := Lvl) V D) c).Φ t.castSucc = ΦK (F := F) (Ix := Ix) (U := U) (Lvl := Lvl) c from rfl, PhiA_eq, cc_eq]
  unfold outAt
  iintro ⟨⟨⟨HS0, HR⟩, Hg⟩, Ho, ⟨%d0, H0⟩, ⟨%d1, H1⟩⟩
  iapply (wp_wand_r frame (wpE (defs₀ (F := F)) 𝒱₀ c none) Set.univ)
  isplitl [H0 H1 HS0]
  · iapply (InvChol.run 𝒱₀ c Set.univ (ms_0 t) _ (ms_1 t) _ scM _ (iblk V c 0 t))
    isplitl [H0]; · iexact H0
    isplitl [H1]; · iexists _; iexact H1
    iexact HS0
  iintro %_ ⟨H0, H1, HS0⟩
  isplitl [HS0 HR Hg]
  · isplitl [HS0 HR]
    · isplitl [HS0]
      · iexact HS0
      iexact HR
    iexact Hg
  isplitl [Ho]; · iexact Ho
  isplitl [H0]; · iexact H0
  iexact H1

/-- The body table's row at point `t`'s slots is the body as `bodyAt5` spells it. -/
theorem defs₀_row (t : Fin cfg5.N) :
    defs₀ (F := F) .tc cfg5.body (cfg5.bodyArgs t (cfg5.slots t)) = bodyAt5 t := by
  unfold defs₀; rw [Defs.onTc_tc]

/-- The library's body obligation. -/
theorem body_obligation (c : Dev nD) : BodyObligation ((dat (Ix := Ix) (U := U) (Lvl := Lvl) V D) c) (defs₀ (F := F)) 𝒱₀ ι Set.univ := fun t => by
  rw [bigSep_W5, bigSep_W5, defs₀_row]
  exact triple_restated (sound_body (U := U) (Lvl := Lvl) 𝒱₀ V D ι c t) rfl .rfl fun _ => .rfl

end Cert.SketchIdeal.Own.K5

end
-- ==== Proof.SketchIdeal.Run.lean ====
/-
  The whole program's run: what every buffer holds after each stretch of host code and each kernel, the seven kernels'
  records, and the run of @main from any memory: it terminates, leaves its arguments as they were, every semaphore at
  zero and each result at the last contents below.
-/
module

public import proofs.«01_k».proof.Proof.Gen.SketchIdeal.Regions
public import proofs.«01_k».proof.Proof.Gen.Own.SketchIdeal.K0.Frame
public import proofs.«01_k».proof.Proof.SketchIdeal.K1
public import proofs.«01_k».proof.Proof.Gen.Own.SketchIdeal.K2.Frame
public import proofs.«01_k».proof.Proof.SketchIdeal.K3
public import proofs.«01_k».proof.Proof.Gen.Own.SketchIdeal.K4.Frame
public import proofs.«01_k».proof.Proof.SketchIdeal.K5
public import proofs.«01_k».proof.Proof.Gen.Own.SketchIdeal.K6.Frame
public import Idealize.ShloMosaic.Lib.Pipeline.RegionArrays

@[expose] public section

noncomputable section

namespace Cert.SketchIdeal.Run

open Cert.SketchIdeal Cert.SketchIdeal.Gen Cert.SketchIdeal.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents after each item -/

/-- At launch. -/
def W0 (c : Dev nD) : Valuation τ sig (Elt F) := fun b => m (c, b)

/-- After the host stretch before kernel 0. -/
def W1 (c : Dev nD) : Valuation τ sig (Elt F) := StableHlo.after hostOps0 (W0 m c)

/-- Kernel 0's proof data, entered there. -/
def d0 (c : Dev nD) : Dat τ (Elt F) Unit ℕ (UR sig nD τ) ℕ cfg0 c :=
  K0.dat Variants.none (fun c b => W1 m c (Proc.devRef .tc b)) (fun _ => 0) c

/-- After kernel 0. -/
def W2 (c : Dev nD) : Valuation τ sig (Elt F) :=
  (Function.update (Function.update (W1 m c) main_v9_0 ((d0 m c).arrAt 5 cfg0.N)) main_v9_1 ((d0 m c).arrAt 6 cfg0.N))

/-- After the host stretch before kernel 1. -/
def W3 (c : Dev nD) : Valuation τ sig (Elt F) := StableHlo.after hostOps1 (W2 m c)

/-- Kernel 1's proof data, entered there. -/
def d1 (c : Dev nD) : Dat τ (Elt F) Unit ℕ (UR sig nD τ) ℕ cfg1 c :=
  K1.dat (fun c b => W3 m c (Proc.devRef .tc b)) (fun _ => 0) c

/-- After kernel 1. -/
def W4 (c : Dev nD) : Valuation τ sig (Elt F) :=
  (Function.update (W3 m c) main_v11 ((d1 m c).arrAt 1 cfg1.N))

/-- After the host stretch before kernel 2. -/
def W5 (c : Dev nD) : Valuation τ sig (Elt F) := StableHlo.after hostOps2 (W4 m c)

/-- Kernel 2's proof data, entered there. -/
def d2 (c : Dev nD) : Dat τ (Elt F) Unit ℕ (UR sig nD τ) ℕ cfg2 c :=
  K2.dat Variants.none (fun c b => W5 m c (Proc.devRef .tc b)) (fun _ => 0) c

/-- After kernel 2. -/
def W6 (c : Dev nD) : Valuation τ sig (Elt F) :=
  (Function.update (Function.update (Function.update (W5 m c) main_v13_0 ((d2 m c).arrAt 6 cfg2.N)) main_v13_1 ((d2 m c).arrAt 7 cfg2.N)) main_v13_2 ((d2 m c).arrAt 8 cfg2.N))

/-- After the host stretch before kernel 3. -/
def W7 (c : Dev nD) : Valuation τ sig (Elt F) := StableHlo.after hostOps3 (W6 m c)

/-- Kernel 3's proof data, entered there. -/
def d3 (c : Dev nD) : Dat τ (Elt F) Unit ℕ (UR sig nD τ) ℕ cfg3 c :=
  K3.dat (fun c b => W7 m c (Proc.devRef .tc b)) (fun _ => 0) c

/-- After kernel 3. -/
def W8 (c : Dev nD) : Valuation τ sig (Elt F) :=
  (Function.update (W7 m c) main_v15 ((d3 m c).arrAt 1 cfg3.N))

/-- After the host stretch before kernel 4. -/
def W9 (c : Dev nD) : Valuation τ sig (Elt F) := StableHlo.after hostOps4 (W8 m c)

/-- Kernel 4's proof data, entered there. -/
def d4 (c : Dev nD) : Dat τ (Elt F) Unit ℕ (UR sig nD τ) ℕ cfg4 c :=
  K4.dat Variants.none (fun c b => W9 m c (Proc.devRef .tc b)) (fun _ => 0) c

/-- After kernel 4. -/
def W10 (c : Dev nD) : Valuation τ sig (Elt F) :=
  (Function.update (Function.update (Function.update (W9 m c) main_v17_0 ((d4 m c).arrAt 6 cfg4.N)) main_v17_1 ((d4 m c).arrAt 7 cfg4.N)) main_v17_2 ((d4 m c).arrAt 8 cfg4.N))

/-- After the host stretch before kernel 5. -/
def W11 (c : Dev nD) : Valuation τ sig (Elt F) := StableHlo.after hostOps5 (W10 m c)

/-- Kernel 5's proof data, entered there. -/
def d5 (c : Dev nD) : Dat τ (Elt F) Unit ℕ (UR sig nD τ) ℕ cfg5 c :=
  K5.dat (fun c b => W11 m c (Proc.devRef .tc b)) (fun _ => 0) c

/-- After kernel 5. -/
def W12 (c : Dev nD) : Valuation τ sig (Elt F) :=
  (Function.update (W11 m c) main_v19 ((d5 m c).arrAt 1 cfg5.N))

/-- After the host stretch before kernel 6. -/
def W13 (c : Dev nD) : Valuation τ sig (Elt F) := StableHlo.after hostOps6 (W12 m c)

/-- Kernel 6's proof data, entered there. -/
def d6 (c : Dev nD) : Dat τ (Elt F) Unit ℕ (UR sig nD τ) ℕ cfg6 c :=
  K6.dat Variants.none (fun c b => W13 m c (Proc.devRef .tc b)) (fun _ => 0) c

/-- After kernel 6. -/
def W14 (c : Dev nD) : Valuation τ sig (Elt F) :=
  (Function.update (Function.update (W13 m c) main_v21_0 ((d6 m c).arrAt 6 cfg6.N)) main_v21_1 ((d6 m c).arrAt 7 cfg6.N))

/-- At the end. -/
def W15 (c : Dev nD) : Valuation τ sig (Elt F) := StableHlo.after hostOps7 (W14 m c)

/-! ## What each item leaves alone and what it writes -/

theorem W1_of (c : Dev nD) (r : Ref sig .tc) (h : r ∉ hostOps0_W) : W1 m c r = W0 m c r :=
  StableHlo.after_of_writes_sub hostOps0 _ hostOps0_writes h
theorem W2_off (c : Dev nD) (b : DevRef τ sig) (h0 : b ≠ Proc.devRef .tc main_v9_0) (h1 : b ≠ Proc.devRef .tc main_v9_1) : W2 m c b = W1 m c b := by
  unfold W2
  rw [Function.update_of_ne h1, Function.update_of_ne h0]
theorem W2_of (c : Dev nD) (r : Ref sig .tc) (h : r ∉ ([main_v9_0, main_v9_1] : List (Ref sig .tc))) : W2 m c r = W1 m c r :=
  W2_off m c _ (StableHlo.devRef_ne_of_ne fun e => h (by rw [e]; decide)) (StableHlo.devRef_ne_of_ne fun e => h (by rw [e]; decide))
theorem W2_main_v9_0 (c : Dev nD) : W2 m c (Proc.devRef .tc main_v9_0) = (d0 m c).arrAt 5 cfg0.N := by
  unfold W2
  rw [Function.update_of_ne (StableHlo.devRef_ne_of_ne (by decide : (main_v9_0 : Ref sig .tc) ≠ main_v9_1)), Function.update_self]
theorem W2_main_v9_1 (c : Dev nD) : W2 m c (Proc.devRef .tc main_v9_1) = (d0 m c).arrAt 6 cfg0.N := by
  unfold W2
  rw [Function.update_self]
theorem W3_of (c : Dev nD) (r : Ref sig .tc) (h : r ∉ hostOps1_W) : W3 m c r = W2 m c r :=
  StableHlo.after_of_writes_sub hostOps1 _ hostOps1_writes h
theorem W4_off (c : Dev nD) (b : DevRef τ sig) (h0 : b ≠ Proc.devRef .tc main_v11) : W4 m c b = W3 m c b := by
  unfold W4
  rw [Function.update_of_ne h0]
theorem W4_of (c : Dev nD) (r : Ref sig .tc) (h : r ∉ ([main_v11] : List (Ref sig .tc))) : W4 m c r = W3 m c r :=
  W4_off m c _ (StableHlo.devRef_ne_of_ne fun e => h (by rw [e]; decide))
theorem W4_main_v11 (c : Dev nD) : W4 m c (Proc.devRef .tc main_v11) = (d1 m c).arrAt 1 cfg1.N := by
  unfold W4
  rw [Function.update_self]
theorem W5_of (c : Dev nD) (r : Ref sig .tc) (h : r ∉ hostOps2_W) : W5 m c r = W4 m c r :=
  StableHlo.after_of_writes_sub hostOps2 _ hostOps2_writes h
theorem W6_off (c : Dev nD) (b : DevRef τ sig) (h0 : b ≠ Proc.devRef .tc main_v13_0) (h1 : b ≠ Proc.devRef .tc main_v13_1) (h2 : b ≠ Proc.devRef .tc main_v13_2) : W6 m c b = W5 m c b := by
  unfold W6
  rw [Function.update_of_ne h2, Function.update_of_ne h1, Function.update_of_ne h0]
theorem W6_of (c : Dev nD) (r : Ref sig .tc) (h : r ∉ ([main_v13_0, main_v13_1, main_v13_2] : List (Ref sig .tc))) : W6 m c r = W5 m c r :=
  W6_off m c _ (StableHlo.devRef_ne_of_ne fun e => h (by rw [e]; decide)) (StableHlo.devRef_ne_of_ne fun e => h (by rw [e]; decide)) (StableHlo.devRef_ne_of_ne fun e => h (by rw [e]; decide))
theorem W6_main_v13_0 (c : Dev nD) : W6 m c (Proc.devRef .tc main_v13_0) = (d2 m c).arrAt 6 cfg2.N := by
  unfold W6
  rw [Function.update_of_ne (StableHlo.devRef_ne_of_ne (by decide : (main_v13_0 : Ref sig .tc) ≠ main_v13_2)), Function.update_of_ne (StableHlo.devRef_ne_of_ne (by decide : (main_v13_0 : Ref sig .tc) ≠ main_v13_1)), Function.update_self]
theorem W6_main_v13_1 (c : Dev nD) : W6 m c (Proc.devRef .tc main_v13_1) = (d2 m c).arrAt 7 cfg2.N := by
  unfold W6
  rw [Function.update_of_ne (StableHlo.devRef_ne_of_ne (by decide : (main_v13_1 : Ref sig .tc) ≠ main_v13_2)), Function.update_self]
theorem W6_main_v13_2 (c : Dev nD) : W6 m c (Proc.devRef .tc main_v13_2) = (d2 m c).arrAt 8 cfg2.N := by
  unfold W6
  rw [Function.update_self]
theorem W7_of (c : Dev nD) (r : Ref sig .tc) (h : r ∉ hostOps3_W) : W7 m c r = W6 m c r :=
  StableHlo.after_of_writes_sub hostOps3 _ hostOps3_writes h
theorem W8_off (c : Dev nD) (b : DevRef τ sig) (h0 : b ≠ Proc.devRef .tc main_v15) : W8 m c b = W7 m c b := by
  unfold W8
  rw [Function.update_of_ne h0]
theorem W8_of (c : Dev nD) (r : Ref sig .tc) (h : r ∉ ([main_v15] : List (Ref sig .tc))) : W8 m c r = W7 m c r :=
  W8_off m c _ (StableHlo.devRef_ne_of_ne fun e => h (by rw [e]; decide))
theorem W8_main_v15 (c : Dev nD) : W8 m c (Proc.devRef .tc main_v15) = (d3 m c).arrAt 1 cfg3.N := by
  unfold W8
  rw [Function.update_self]
theorem W9_of (c : Dev nD) (r : Ref sig .tc) (h : r ∉ hostOps4_W) : W9 m c r = W8 m c r :=
  StableHlo.after_of_writes_sub hostOps4 _ hostOps4_writes h
theorem W10_off (c : Dev nD) (b : DevRef τ sig) (h0 : b ≠ Proc.devRef .tc main_v17_0) (h1 : b ≠ Proc.devRef .tc main_v17_1) (h2 : b ≠ Proc.devRef .tc main_v17_2) : W10 m c b = W9 m c b := by
  unfold W10
  rw [Function.update_of_ne h2, Function.update_of_ne h1, Function.update_of_ne h0]
theorem W10_of (c : Dev nD) (r : Ref sig .tc) (h : r ∉ ([main_v17_0, main_v17_1, main_v17_2] : List (Ref sig .tc))) : W10 m c r = W9 m c r :=
  W10_off m c _ (StableHlo.devRef_ne_of_ne fun e => h (by rw [e]; decide)) (StableHlo.devRef_ne_of_ne fun e => h (by rw [e]; decide)) (StableHlo.devRef_ne_of_ne fun e => h (by rw [e]; decide))
theorem W10_main_v17_0 (c : Dev nD) : W10 m c (Proc.devRef .tc main_v17_0) = (d4 m c).arrAt 6 cfg4.N := by
  unfold W10
  rw [Function.update_of_ne (StableHlo.devRef_ne_of_ne (by decide : (main_v17_0 : Ref sig .tc) ≠ main_v17_2)), Function.update_of_ne (StableHlo.devRef_ne_of_ne (by decide : (main_v17_0 : Ref sig .tc) ≠ main_v17_1)), Function.update_self]
theorem W10_main_v17_1 (c : Dev nD) : W10 m c (Proc.devRef .tc main_v17_1) = (d4 m c).arrAt 7 cfg4.N := by
  unfold W10
  rw [Function.update_of_ne (StableHlo.devRef_ne_of_ne (by decide : (main_v17_1 : Ref sig .tc) ≠ main_v17_2)), Function.update_self]
theorem W10_main_v17_2 (c : Dev nD) : W10 m c (Proc.devRef .tc main_v17_2) = (d4 m c).arrAt 8 cfg4.N := by
  unfold W10
  rw [Function.update_self]
theorem W11_of (c : Dev nD) (r : Ref sig .tc) (h : r ∉ hostOps5_W) : W11 m c r = W10 m c r :=
  StableHlo.after_of_writes_sub hostOps5 _ hostOps5_writes h
theorem W12_off (c : Dev nD) (b : DevRef τ sig) (h0 : b ≠ Proc.devRef .tc main_v19) : W12 m c b = W11 m c b := by
  unfold W12
  rw [Function.update_of_ne h0]
theorem W12_of (c : Dev nD) (r : Ref sig .tc) (h : r ∉ ([main_v19] : List (Ref sig .tc))) : W12 m c r = W11 m c r :=
  W12_off m c _ (StableHlo.devRef_ne_of_ne fun e => h (by rw [e]; decide))
theorem W12_main_v19 (c : Dev nD) : W12 m c (Proc.devRef .tc main_v19) = (d5 m c).arrAt 1 cfg5.N := by
  unfold W12
  rw [Function.update_self]
theorem W13_of (c : Dev nD) (r : Ref sig .tc) (h : r ∉ hostOps6_W) : W13 m c r = W12 m c r :=
  StableHlo.after_of_writes_sub hostOps6 _ hostOps6_writes h
theorem W14_off (c : Dev nD) (b : DevRef τ sig) (h0 : b ≠ Proc.devRef .tc main_v21_0) (h1 : b ≠ Proc.devRef .tc main_v21_1) : W14 m c b = W13 m c b := by
  unfold W14
  rw [Function.update_of_ne h1, Function.update_of_ne h0]
theorem W14_of (c : Dev nD) (r : Ref sig .tc) (h : r ∉ ([main_v21_0, main_v21_1] : List (Ref sig .tc))) : W14 m c r = W13 m c r :=
  W14_off m c _ (StableHlo.devRef_ne_of_ne fun e => h (by rw [e]; decide)) (StableHlo.devRef_ne_of_ne fun e => h (by rw [e]; decide))
theorem W14_main_v21_0 (c : Dev nD) : W14 m c (Proc.devRef .tc main_v21_0) = (d6 m c).arrAt 6 cfg6.N := by
  unfold W14
  rw [Function.update_of_ne (StableHlo.devRef_ne_of_ne (by decide : (main_v21_0 : Ref sig .tc) ≠ main_v21_1)), Function.update_self]
theorem W14_main_v21_1 (c : Dev nD) : W14 m c (Proc.devRef .tc main_v21_1) = (d6 m c).arrAt 7 cfg6.N := by
  unfold W14
  rw [Function.update_self]
theorem W15_of (c : Dev nD) (r : Ref sig .tc) (h : r ∉ hostOps7_W) : W15 m c r = W14 m c r :=
  StableHlo.after_of_writes_sub hostOps7 _ hostOps7_writes h
theorem W15_main_arg0 (c : Dev nD) : W15 m c main_arg0 = m ((c : Thread nD τ).loc main_arg0) :=
  (W15_of m c main_arg0 (by decide)).trans <| (W14_of m c main_arg0 (by decide)).trans <| (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans rfl
theorem W15_main_arg1 (c : Dev nD) : W15 m c main_arg1 = m ((c : Thread nD τ).loc main_arg1) :=
  (W15_of m c main_arg1 (by decide)).trans <| (W14_of m c main_arg1 (by decide)).trans <| (W13_of m c main_arg1 (by decide)).trans <| (W12_of m c main_arg1 (by decide)).trans <| (W11_of m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans rfl
theorem W15_main_arg2 (c : Dev nD) : W15 m c main_arg2 = m ((c : Thread nD τ).loc main_arg2) :=
  (W15_of m c main_arg2 (by decide)).trans <| (W14_of m c main_arg2 (by decide)).trans <| (W13_of m c main_arg2 (by decide)).trans <| (W12_of m c main_arg2 (by decide)).trans <| (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans rfl
theorem W15_main_arg3 (c : Dev nD) : W15 m c main_arg3 = m ((c : Thread nD τ).loc main_arg3) :=
  (W15_of m c main_arg3 (by decide)).trans <| (W14_of m c main_arg3 (by decide)).trans <| (W13_of m c main_arg3 (by decide)).trans <| (W12_of m c main_arg3 (by decide)).trans <| (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans rfl
theorem W15_main_arg4 (c : Dev nD) : W15 m c main_arg4 = m ((c : Thread nD τ).loc main_arg4) :=
  (W15_of m c main_arg4 (by decide)).trans <| (W14_of m c main_arg4 (by decide)).trans <| (W13_of m c main_arg4 (by decide)).trans <| (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans rfl

/-! ## The kernels' records -/

/-- The proof data, kernel by kernel. -/
def pd : (p : Fin 7) → (c : Dev nD) → Dat τ (Elt F) Unit ℕ (UR sig nD τ) ℕ (cfgs p) c
  | ⟨0, _⟩ => fun c => d0 m c
  | ⟨1, _⟩ => fun c => d1 m c
  | ⟨2, _⟩ => fun c => d2 m c
  | ⟨3, _⟩ => fun c => d3 m c
  | ⟨4, _⟩ => fun c => d4 m c
  | ⟨5, _⟩ => fun c => d5 m c
  | ⟨6, _⟩ => fun c => d6 m c

/-- The levels: one, at every cell of a TensorCore. -/
def L (g : GSem nD τ sig) : Finset Unit := if g.1.2 = .tc then Finset.univ else ∅

theorem hL (g : GSem nD τ sig) (h : g.1.2 ≠ .tc) : L g = ∅ := if_neg h

/-- What rides along: the random-number register, and nothing owed. -/
def E (c : Dev nD) : sProp 𝕄 := iprop((∃ r, prngReg c r) ∗ ∃ W, owes (c : Thread nD τ) (0 : CellTallies nD τ sig Unit) W)

theorem cut (p : Fin 7) : Pipeline.LevelCut (pcfgs (F := F)) adm () L (fun _ _ => (0 : ℕ)) p (fun _ => 0) (fun _ => 0) where
  hι _ _ _ := by unfold L; rw [if_pos rfl]; exact Finset.mem_univ _
  hιb _ _ _ := le_refl _
  hD _ _ _ h := absurd h (lt_irrefl _)

theorem mem0 (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
theorem sub0 : Pipeline.arrRefs (τ := τ) spec0 ⊆ Pipeline.ucRefs τ sig :=
  Pipeline.arrRefs_sub_ucRefs spec0 (by decide)
theorem rest0 (c : Dev nD) : ∀ b ∈ (Pipeline.ucRefs τ sig) \ Pipeline.arrRefs (τ := τ) spec0, W2 m c b = W1 m c b := fun b hb =>
  have hn : b ∉ Pipeline.arrRefs (τ := τ) spec0 := (Finset.mem_sdiff.mp hb).2
  W2_off m c b (by rintro rfl; exact hn (mem0 5)) (by rintro rfl; exact hn (mem0 6))
theorem A0 (c : Dev nD) (w : Fin cfg0.W) : (d0 m c).A w = W1 m c (Proc.devRef .tc (Pipeline.arrRef spec0 w)) :=
  K0.A_eq Variants.none _ _ c w
theorem exit0_0 (c : Dev nD) : (d0 m c).arrAt 0 cfg0.N = W2 m c (Proc.devRef .tc (Pipeline.arrRef spec0 0)) :=
  ((d0 m c).arrAt_in 0 rfl _).trans ((A0 m c 0).trans (W2_of m c (Pipeline.arrRef spec0 0) (by decide)).symm)
theorem exit0_1 (c : Dev nD) : (d0 m c).arrAt 1 cfg0.N = W2 m c (Proc.devRef .tc (Pipeline.arrRef spec0 1)) :=
  ((d0 m c).arrAt_in 1 rfl _).trans ((A0 m c 1).trans (W2_of m c (Pipeline.arrRef spec0 1) (by decide)).symm)
theorem exit0_2 (c : Dev nD) : (d0 m c).arrAt 2 cfg0.N = W2 m c (Proc.devRef .tc (Pipeline.arrRef spec0 2)) :=
  ((d0 m c).arrAt_in 2 rfl _).trans ((A0 m c 2).trans (W2_of m c (Pipeline.arrRef spec0 2) (by decide)).symm)
theorem exit0_3 (c : Dev nD) : (d0 m c).arrAt 3 cfg0.N = W2 m c (Proc.devRef .tc (Pipeline.arrRef spec0 3)) :=
  ((d0 m c).arrAt_in 3 rfl _).trans ((A0 m c 3).trans (W2_of m c (Pipeline.arrRef spec0 3) (by decide)).symm)
theorem exit0_4 (c : Dev nD) : (d0 m c).arrAt 4 cfg0.N = W2 m c (Proc.devRef .tc (Pipeline.arrRef spec0 4)) :=
  ((d0 m c).arrAt_in 4 rfl _).trans ((A0 m c 4).trans (W2_of m c (Pipeline.arrRef spec0 4) (by decide)).symm)
theorem exit0_5 (c : Dev nD) : (d0 m c).arrAt 5 cfg0.N = W2 m c (Proc.devRef .tc (Pipeline.arrRef spec0 5)) :=
  (W2_main_v9_0 m c).symm
theorem exit0_6 (c : Dev nD) : (d0 m c).arrAt 6 cfg0.N = W2 m c (Proc.devRef .tc (Pipeline.arrRef spec0 6)) :=
  (W2_main_v9_1 m c).symm
theorem exit0 (c : Dev nD) : ∀ w : Fin cfg0.W, (d0 m c).arrAt w cfg0.N = W2 m c (Proc.devRef .tc (Pipeline.arrRef spec0 w))
  | ⟨0, _⟩ => exit0_0 m c
  | ⟨1, _⟩ => exit0_1 m c
  | ⟨2, _⟩ => exit0_2 m c
  | ⟨3, _⟩ => exit0_3 m c
  | ⟨4, _⟩ => exit0_4 m c
  | ⟨5, _⟩ => exit0_5 m c
  | ⟨6, _⟩ => exit0_6 m c
theorem share0 (c : Dev nD) (w : Fin cfg0.W) : (d0 m c).share w = fullShare := (d0 m c).share_full (fun _ => rfl) w
theorem entry0 (c : Dev nD) (w : Fin cfg0.W) : (d0 m c).arrAt w 0 = W1 m c (Proc.devRef .tc (Pipeline.arrRef spec0 w)) := A0 m c w
theorem body0 (c : Dev nD) : Pipeline.BodyObligationLoose (d0 m c) (defs₀ (F := F)) Variants.none () Set.univ :=
  (K0.body_obligation (U := UR sig nD τ) (Lvl := ℕ) Variants.none (fun c b => W1 m c (Proc.devRef .tc b)) (fun _ => 0) () c).loose

-- a library definition stated over `pin pcs a p` unifies with the pinned configuration only when unification may unfold plain
-- definitions in a metavariable's type
set_option backward.isDefEq.respectTransparency.types false in
/-- Kernel 0's record. -/
def R0 : RegionSeg (pcfgs (F := F)) adm (pd m) () defs₀ Variants.none L (fun _ _ => (0 : ℕ)) 0 :=
  Pipeline.RegionSeg.ofHeld (pcfgs (F := F)) adm (pd m) () defs₀ Variants.none L (fun _ _ => (0 : ℕ)) 0 (fun _ => 0)
    (fun c => iprop(∃ r, prngReg c r)) (fun c => iprop(∃ r, prngReg c r))
    launch0.toP rfl (body0 m) (fun _ _ => rfl) (fun _ => rfl) (share0 m) (fun _ => .rfl) (fun _ => .rfl) (fun _ => 0) (cut 0)
    (fun c => StableHlo.held (c : Thread nD τ) ((Pipeline.ucRefs τ sig) \ Pipeline.arrRefs (τ := τ) spec0) (W1 m c))
    (W1 m) (W2 m) (entry0 m) (exit0 m)

theorem pre0 (c : Dev nD) :
    iprop(StableHlo.held (c : Thread nD τ) (Pipeline.ucRefs τ sig) (W1 m c) ∗ E (F := F) c) ⊢ (R0 m).pre c := by
  show _ ⊢ iprop(StableHlo.held (c : Thread nD τ) (Pipeline.arrRefs (τ := τ) spec0) (W1 m c) ∗ (∃ r, prngReg c r)
    ∗ StableHlo.held (c : Thread nD τ) ((Pipeline.ucRefs τ sig) \ Pipeline.arrRefs (τ := τ) spec0) (W1 m c) ∗ ∃ W, owes (c : Thread nD τ) (0 : CellTallies nD τ sig Unit) W)
  rw [StableHlo.held_sub_split (c : Thread nD τ) sub0 (W1 m c)]
  unfold E
  iintro ⟨⟨Ha, Hr⟩, ⟨Hp, HO⟩⟩
  isplitl [Ha]; · iexact Ha
  isplitl [Hp]; · iexact Hp
  isplitl [Hr]; · iexact Hr
  iexact HO

theorem post0 (c : Dev nD) :
    (R0 m).post c ⊢ iprop(StableHlo.held (c : Thread nD τ) (Pipeline.ucRefs τ sig) (W2 m c) ∗ E (F := F) c) := by
  show iprop(StableHlo.held (c : Thread nD τ) (Pipeline.arrRefs (τ := τ) spec0) (W2 m c) ∗ (∃ r, prngReg c r)
    ∗ StableHlo.held (c : Thread nD τ) ((Pipeline.ucRefs τ sig) \ Pipeline.arrRefs (τ := τ) spec0) (W1 m c) ∗ ∃ W, owes (c : Thread nD τ) (0 : CellTallies nD τ sig Unit) W) ⊢ _
  rw [StableHlo.held_sub_split (c : Thread nD τ) sub0 (W2 m c),
    StableHlo.held_congr (c : Thread nD τ) (S := (Pipeline.ucRefs τ sig) \ Pipeline.arrRefs (τ := τ) spec0) (rest0 m c)]
  unfold E
  iintro ⟨Ha, Hp, Hr, HO⟩
  isplitl [Ha Hr]; · isplitl [Ha] <;> iassumption
  isplitl [Hp]; · iexact Hp
  iexact HO

theorem mem1 (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
theorem sub1 : Pipeline.arrRefs (τ := τ) spec1 ⊆ Pipeline.ucRefs τ sig :=
  Pipeline.arrRefs_sub_ucRefs spec1 (by decide)
theorem rest1 (c : Dev nD) : ∀ b ∈ (Pipeline.ucRefs τ sig) \ Pipeline.arrRefs (τ := τ) spec1, W4 m c b = W3 m c b := fun b hb =>
  have hn : b ∉ Pipeline.arrRefs (τ := τ) spec1 := (Finset.mem_sdiff.mp hb).2
  W4_off m c b (by rintro rfl; exact hn (mem1 1))
theorem A1 (c : Dev nD) (w : Fin cfg1.W) : (d1 m c).A w = W3 m c (Proc.devRef .tc (Pipeline.arrRef spec1 w)) :=
  K1.A_eq _ _ c w
theorem exit1_0 (c : Dev nD) : (d1 m c).arrAt 0 cfg1.N = W4 m c (Proc.devRef .tc (Pipeline.arrRef spec1 0)) :=
  ((d1 m c).arrAt_in 0 rfl _).trans ((A1 m c 0).trans (W4_of m c (Pipeline.arrRef spec1 0) (by decide)).symm)
theorem exit1_1 (c : Dev nD) : (d1 m c).arrAt 1 cfg1.N = W4 m c (Proc.devRef .tc (Pipeline.arrRef spec1 1)) :=
  (W4_main_v11 m c).symm
theorem exit1 (c : Dev nD) : ∀ w : Fin cfg1.W, (d1 m c).arrAt w cfg1.N = W4 m c (Proc.devRef .tc (Pipeline.arrRef spec1 w))
  | ⟨0, _⟩ => exit1_0 m c
  | ⟨1, _⟩ => exit1_1 m c
theorem share1 (c : Dev nD) (w : Fin cfg1.W) : (d1 m c).share w = fullShare := (d1 m c).share_full (fun _ => rfl) w
theorem entry1 (c : Dev nD) (w : Fin cfg1.W) : (d1 m c).arrAt w 0 = W3 m c (Proc.devRef .tc (Pipeline.arrRef spec1 w)) := A1 m c w
theorem body1 (c : Dev nD) : Pipeline.BodyObligationLoose (d1 m c) (defs₀ (F := F)) Variants.none () Set.univ :=
  (K1.body_obligation (U := UR sig nD τ) (Lvl := ℕ) Variants.none (fun c b => W3 m c (Proc.devRef .tc b)) (fun _ => 0) () c).loose

-- a library definition stated over `pin pcs a p` unifies with the pinned configuration only when unification may unfold plain
-- definitions in a metavariable's type
set_option backward.isDefEq.respectTransparency.types false in
/-- Kernel 1's record. -/
def R1 : RegionSeg (pcfgs (F := F)) adm (pd m) () defs₀ Variants.none L (fun _ _ => (0 : ℕ)) 1 :=
  Pipeline.RegionSeg.ofHeld (pcfgs (F := F)) adm (pd m) () defs₀ Variants.none L (fun _ _ => (0 : ℕ)) 1 (fun _ => 0)
    (fun c => iprop(∃ r, prngReg c r)) (fun c => iprop(∃ r, prngReg c r))
    launch1.toP rfl (body1 m) (fun _ _ => rfl) (fun _ => rfl) (share1 m) (fun _ => .rfl) (fun _ => .rfl) (fun _ => 0) (cut 1)
    (fun c => StableHlo.held (c : Thread nD τ) ((Pipeline.ucRefs τ sig) \ Pipeline.arrRefs (τ := τ) spec1) (W3 m c))
    (W3 m) (W4 m) (entry1 m) (exit1 m)

theorem pre1 (c : Dev nD) :
    iprop(StableHlo.held (c : Thread nD τ) (Pipeline.ucRefs τ sig) (W3 m c) ∗ E (F := F) c) ⊢ (R1 m).pre c := by
  show _ ⊢ iprop(StableHlo.held (c : Thread nD τ) (Pipeline.arrRefs (τ := τ) spec1) (W3 m c) ∗ (∃ r, prngReg c r)
    ∗ StableHlo.held (c : Thread nD τ) ((Pipeline.ucRefs τ sig) \ Pipeline.arrRefs (τ := τ) spec1) (W3 m c) ∗ ∃ W, owes (c : Thread nD τ) (0 : CellTallies nD τ sig Unit) W)
  rw [StableHlo.held_sub_split (c : Thread nD τ) sub1 (W3 m c)]
  unfold E
  iintro ⟨⟨Ha, Hr⟩, ⟨Hp, HO⟩⟩
  isplitl [Ha]; · iexact Ha
  isplitl [Hp]; · iexact Hp
  isplitl [Hr]; · iexact Hr
  iexact HO

theorem post1 (c : Dev nD) :
    (R1 m).post c ⊢ iprop(StableHlo.held (c : Thread nD τ) (Pipeline.ucRefs τ sig) (W4 m c) ∗ E (F := F) c) := by
  show iprop(StableHlo.held (c : Thread nD τ) (Pipeline.arrRefs (τ := τ) spec1) (W4 m c) ∗ (∃ r, prngReg c r)
    ∗ StableHlo.held (c : Thread nD τ) ((Pipeline.ucRefs τ sig) \ Pipeline.arrRefs (τ := τ) spec1) (W3 m c) ∗ ∃ W, owes (c : Thread nD τ) (0 : CellTallies nD τ sig Unit) W) ⊢ _
  rw [StableHlo.held_sub_split (c : Thread nD τ) sub1 (W4 m c),
    StableHlo.held_congr (c : Thread nD τ) (S := (Pipeline.ucRefs τ sig) \ Pipeline.arrRefs (τ := τ) spec1) (rest1 m c)]
  unfold E
  iintro ⟨Ha, Hp, Hr, HO⟩
  isplitl [Ha Hr]; · isplitl [Ha] <;> iassumption
  isplitl [Hp]; · iexact Hp
  iexact HO

theorem mem2 (w : Fin cfg2.W) : (Proc.devRef .tc (Pipeline.arrRef spec2 w) : DevRef τ sig) ∈ Pipeline.arrRefs (τ := τ) spec2 :=
  Finset.mem_map_of_mem _ (Finset.mem_image_of_mem _ (Finset.mem_univ w))
theorem sub2 : Pipeline.arrRefs (τ := τ) spec2 ⊆ Pipeline.ucRefs τ sig :=
  Pipeline.arrRefs_sub_ucRefs spec2 (by decide)
theorem rest2 (c : Dev nD) : ∀ b ∈ (Pipeline.ucRefs τ sig) \ Pipeline.arrRefs (τ := τ) spec2, W6 m c b = W5 m c b := fun b hb =>
  have hn : b ∉ Pipeline.arrRefs (τ := τ) spec2 := (Finset.mem_sdiff.mp hb).2
  W6_off m c b (by rintro rfl; exact hn (mem2 6)) (by rintro rfl; exact hn (mem2 7)) (by rintro rfl; exact hn (mem2 8))
theorem A2 (c : Dev nD) (w : Fin cfg2.W) : (d2 m c).A w = W5 m c (Proc.devRef .tc (Pipeline.arrRef spec2 w)) :=
  K2.A_eq Variants.none _ _ c w
theorem exit2_0 (c : Dev nD) : (d2 m c).arrAt 0 cfg2.N = W6 m c (Proc.devRef .tc (Pipeline.arrRef spec2 0)) :=
  ((d2 m c).arrAt_in 0 rfl _).trans ((A2 m c 0).trans (W6_of m c (Pipeline.arrRef spec2 0) (by decide)).symm)
theorem exit2_1 (c : Dev nD) : (d2 m c).arrAt 1 cfg2.N = W6 m c (Proc.devRef .tc (Pipeline.arrRef spec2 1)) :=
  ((d2 m c).arrAt_in 1 rfl _).trans ((A2 m c 1).trans (W6_of m c (Pipeline.arrRef spec2 1) (by decide)).symm)
theorem exit2_2 (c : Dev nD) : (d2 m c).arrAt 2 cfg2.N = W6 m c (Proc.devRef .tc (Pipeline.arrRef spec2 2)) :=
  ((d2 m c).arrAt_in 2 rfl _).trans ((A2 m c 2).trans (W6_of m c (Pipeline.arrRef spec2 2) (by decide)).symm)
theorem exit2_3 (c : Dev nD) : (d2 m c).arrAt 3 cfg2.N = W6 m c (Proc.devRef .tc (Pipeline.arrRef spec2 3)) :=
  ((d2 m c).arrAt_in 3 rfl _).trans ((A2 m c 3).trans (W6_of m c (Pipeline.arrRef spec2 3) (by decide)).symm)
theorem exit2_4 (c : Dev nD) : (d2 m c).arrAt 4 cfg2.N = W6 m c (Proc.devRef .tc (Pipeline.arrRef spec2 4)) :=
  ((d2 m c).arrAt_in 4 rfl _).trans ((A2 m c 4).trans (W6_of m c (Pipeline.arrRef spec2 4) (by decide)).symm)
theorem exit2_5 (c : Dev nD) : (d2 m c).arrAt 5 cfg2.N = W6 m c (Proc.devRef .tc (Pipeline.arrRef spec2 5)) :=
  ((d2 m c).arrAt_in 5 rfl _).trans ((A2 m c 5).trans (W6_of m c (Pipeline.arrRef spec2 5) (by decide)).symm)
theorem exit2_6 (c : Dev nD) : (d2 m c).arrAt 6 cfg2.N = W6 m c (Proc.devRef .tc (Pipeline.arrRef spec2 6)) :=
  (W6_main_v13_0 m c).symm
theorem exit2_7 (c : Dev nD) : (d2 m c).arrAt 7 cfg2.N = W6 m c (Proc.devRef .tc (Pipeline.arrRef spec2 7)) :=
  (W6_main_v13_1 m c).symm
theorem exit2_8 (c : Dev nD) : (d2 m c).arrAt 8 cfg2.N = W6 m c (Proc.devRef .tc (Pipeline.arrRef spec2 8)) :=
  (W6_main_v13_2 m c).symm
theorem exit2 (c : Dev nD) : ∀ w : Fin cfg2.W, (d2 m c).arrAt w cfg2.N = W6 m c (Proc.devRef .tc (Pipeline.arrRef spec2 w))
  | ⟨0, _⟩ => exit2_0 m c
  | ⟨1, _⟩ => exit2_1 m c
  | ⟨2, _⟩ => exit2_2 m c
  | ⟨3, _⟩ => exit2_3 m c
  | ⟨4, _⟩ => exit2_4 m c
  | ⟨5, _⟩ => exit2_5 m c
  | ⟨6, _⟩ => exit2_6 m c
  | ⟨7, _⟩ => exit2_7 m c
  | ⟨8, _⟩ => exit2_8 m c
theorem share2 (c : Dev nD) (w : Fin cfg2.W) : (d2 m c).share w = fullShare := (d2 m c).share_full (fun _ => rfl) w
theorem entry2 (c : Dev nD) (w : Fin cfg2.W) : (d2 m c).arrAt w 0 = W5 m c (Proc.devRef .tc (Pipeline.arrRef spec2 w)) := A2 m c w
theorem body2 (c : Dev nD) : Pipeline.BodyObligationLoose (d2 m c) (defs₀ (F := F)) Variants.none () Set.univ :=
  (K2.body_obligation (U := UR sig nD τ) (Lvl := ℕ) Variants.none (fun c b => W5 m c (Proc.devRef .tc b)) (fun _ => 0) () c).loose

-- a library definition stated over `pin pcs a p` unifies with the pinned configuration only when unification may unfold plain
-- definitions in a metavariable's type
set_option backward.isDefEq.respectTransparency.types false in
/-- Kernel 2's record. -/
def R2 : RegionSeg (pcfgs (F := F)) adm (pd m) () defs₀ Variants.none L (fun _ _ => (0 : ℕ)) 2 :=
  Pipeline.RegionSeg.ofHeld (pcfgs (F := F)) adm (pd m) () defs₀ Variants.none L (fun _ _ => (0 : ℕ)) 2 (fun _ => 0)
    (fun c => iprop(∃ r, prngReg c r)) (fun c => iprop(∃ r, prngReg c r))
    launch2.toP rfl (body2 m) (fun _ _ => rfl) (fun _ => rfl) (share2 m) (fun _ => .rfl) (fun _ => .rfl) (fun _ => 0) (cut 2)
    (fun c => StableHlo.held (c : Thread nD τ) ((Pipeline.ucRefs τ sig) \ Pipeline.arrRefs (τ := τ) spec2) (W5 m c))
    (W5 m) (W6 m) (entry2 m) (exit2 m)

theorem pre2 (c : Dev nD) :
    iprop(StableHlo.held (c : Thread nD τ) (Pipeline.ucRefs τ sig) (W5 m c) ∗ E (F := F) c) ⊢ (R2 m).pre c := by
  show _ ⊢ iprop(StableHlo.held (c : Thread nD τ) (Pipeline.arrRefs (τ := τ) spec2) (W5 m c) ∗ (∃ r, prngReg c r)
    ∗ StableHlo.held (c : Thread nD τ) ((Pipeline.ucRefs τ sig) \ Pipeline.arrRefs (τ := τ) spec2) (W5 m c) ∗ ∃ W, owes (c : Thread nD τ) (0 : CellTallies nD τ sig Unit) W)
  rw [StableHlo.held_sub_split (c : Thread nD τ) sub2 (W5 m c)]
  unfold E
  iintro ⟨⟨Ha, Hr⟩, ⟨Hp, HO⟩⟩
  isplitl [Ha]; · iexact Ha
  isplitl [Hp]; · iexact Hp
  isplitl [Hr]; · iexact Hr
  iexact HO

theorem post2 (c : Dev nD) :
    (R2 m).post c ⊢ iprop(StableHlo.held (c : Thread nD τ) (Pipeline.ucRefs τ sig) (W6 m c) ∗ E (F := F) c) := by
  show iprop(StableHlo.held (c : Thread nD τ) (Pipeline.arrRefs (τ := τ) spec2) (W6 m c) ∗ (∃ r, prngReg c r)
    ∗ StableHlo.held (c : Thread nD τ) ((Pipeline.ucRefs τ sig) \ Pipeline.arrRefs (τ := τ) spec2) (W5 m c) ∗ ∃ W, owes (c : Thread nD τ) (0 : CellTallies nD τ sig Unit) W) ⊢ _
  rw [StableHlo.held_sub_split (c : Thread nD τ) sub2 (W6 m c),
    StableHlo.held_congr (c : Thread nD τ) (S := (Pipeline.ucRefs τ sig) \ Pipeline.arrRefs (τ := τ) spec2) (rest2 m c)]
  unfold E
  iintro ⟨Ha, Hp, Hr, HO⟩
  isplitl [Ha Hr]; · isplitl [Ha] <;> iassumption
  isplitl [Hp]; · iexact Hp
  iexact HO

theorem mem3 (w : Fin cfg3.W) : (Proc.devRef .tc (Pipeline.arrRef spec3 w) : DevRef τ sig) ∈ Pipeline.arrRefs (τ := τ) spec3 :=
  Finset.mem_map_of_mem _ (Finset.mem_image_of_mem _ (Finset.mem_univ w))
theorem sub3 : Pipeline.arrRefs (τ := τ) spec3 ⊆ Pipeline.ucRefs τ sig :=
  Pipeline.arrRefs_sub_ucRefs spec3 (by decide)
theorem rest3 (c : Dev nD) : ∀ b ∈ (Pipeline.ucRefs τ sig) \ Pipeline.arrRefs (τ := τ) spec3, W8 m c b = W7 m c b := fun b hb =>
  have hn : b ∉ Pipeline.arrRefs (τ := τ) spec3 := (Finset.mem_sdiff.mp hb).2
  W8_off m c b (by rintro rfl; exact hn (mem3 1))
theorem A3 (c : Dev nD) (w : Fin cfg3.W) : (d3 m c).A w = W7 m c (Proc.devRef .tc (Pipeline.arrRef spec3 w)) :=
  K3.A_eq _ _ c w
theorem exit3_0 (c : Dev nD) : (d3 m c).arrAt 0 cfg3.N = W8 m c (Proc.devRef .tc (Pipeline.arrRef spec3 0)) :=
  ((d3 m c).arrAt_in 0 rfl _).trans ((A3 m c 0).trans (W8_of m c (Pipeline.arrRef spec3 0) (by decide)).symm)
theorem exit3_1 (c : Dev nD) : (d3 m c).arrAt 1 cfg3.N = W8 m c (Proc.devRef .tc (Pipeline.arrRef spec3 1)) :=
  (W8_main_v15 m c).symm
theorem exit3 (c : Dev nD) : ∀ w : Fin cfg3.W, (d3 m c).arrAt w cfg3.N = W8 m c (Proc.devRef .tc (Pipeline.arrRef spec3 w))
  | ⟨0, _⟩ => exit3_0 m c
  | ⟨1, _⟩ => exit3_1 m c
theorem share3 (c : Dev nD) (w : Fin cfg3.W) : (d3 m c).share w = fullShare := (d3 m c).share_full (fun _ => rfl) w
theorem entry3 (c : Dev nD) (w : Fin cfg3.W) : (d3 m c).arrAt w 0 = W7 m c (Proc.devRef .tc (Pipeline.arrRef spec3 w)) := A3 m c w
theorem body3 (c : Dev nD) : Pipeline.BodyObligationLoose (d3 m c) (defs₀ (F := F)) Variants.none () Set.univ :=
  (K3.body_obligation (U := UR sig nD τ) (Lvl := ℕ) Variants.none (fun c b => W7 m c (Proc.devRef .tc b)) (fun _ => 0) () c).loose

-- a library definition stated over `pin pcs a p` unifies with the pinned configuration only when unification may unfold plain
-- definitions in a metavariable's type
set_option backward.isDefEq.respectTransparency.types false in
/-- Kernel 3's record. -/
def R3 : RegionSeg (pcfgs (F := F)) adm (pd m) () defs₀ Variants.none L (fun _ _ => (0 : ℕ)) 3 :=
  Pipeline.RegionSeg.ofHeld (pcfgs (F := F)) adm (pd m) () defs₀ Variants.none L (fun _ _ => (0 : ℕ)) 3 (fun _ => 0)
    (fun c => iprop(∃ r, prngReg c r)) (fun c => iprop(∃ r, prngReg c r))
    launch3.toP rfl (body3 m) (fun _ _ => rfl) (fun _ => rfl) (share3 m) (fun _ => .rfl) (fun _ => .rfl) (fun _ => 0) (cut 3)
    (fun c => StableHlo.held (c : Thread nD τ) ((Pipeline.ucRefs τ sig) \ Pipeline.arrRefs (τ := τ) spec3) (W7 m c))
    (W7 m) (W8 m) (entry3 m) (exit3 m)

theorem pre3 (c : Dev nD) :
    iprop(StableHlo.held (c : Thread nD τ) (Pipeline.ucRefs τ sig) (W7 m c) ∗ E (F := F) c) ⊢ (R3 m).pre c := by
  show _ ⊢ iprop(StableHlo.held (c : Thread nD τ) (Pipeline.arrRefs (τ := τ) spec3) (W7 m c) ∗ (∃ r, prngReg c r)
    ∗ StableHlo.held (c : Thread nD τ) ((Pipeline.ucRefs τ sig) \ Pipeline.arrRefs (τ := τ) spec3) (W7 m c) ∗ ∃ W, owes (c : Thread nD τ) (0 : CellTallies nD τ sig Unit) W)
  rw [StableHlo.held_sub_split (c : Thread nD τ) sub3 (W7 m c)]
  unfold E
  iintro ⟨⟨Ha, Hr⟩, ⟨Hp, HO⟩⟩
  isplitl [Ha]; · iexact Ha
  isplitl [Hp]; · iexact Hp
  isplitl [Hr]; · iexact Hr
  iexact HO

theorem post3 (c : Dev nD) :
    (R3 m).post c ⊢ iprop(StableHlo.held (c : Thread nD τ) (Pipeline.ucRefs τ sig) (W8 m c) ∗ E (F := F) c) := by
  show iprop(StableHlo.held (c : Thread nD τ) (Pipeline.arrRefs (τ := τ) spec3) (W8 m c) ∗ (∃ r, prngReg c r)
    ∗ StableHlo.held (c : Thread nD τ) ((Pipeline.ucRefs τ sig) \ Pipeline.arrRefs (τ := τ) spec3) (W7 m c) ∗ ∃ W, owes (c : Thread nD τ) (0 : CellTallies nD τ sig Unit) W) ⊢ _
  rw [StableHlo.held_sub_split (c : Thread nD τ) sub3 (W8 m c),
    StableHlo.held_congr (c : Thread nD τ) (S := (Pipeline.ucRefs τ sig) \ Pipeline.arrRefs (τ := τ) spec3) (rest3 m c)]
  unfold E
  iintro ⟨Ha, Hp, Hr, HO⟩
  isplitl [Ha Hr]; · isplitl [Ha] <;> iassumption
  isplitl [Hp]; · iexact Hp
  iexact HO

theorem mem4 (w : Fin cfg4.W) : (Proc.devRef .tc (Pipeline.arrRef spec4 w) : DevRef τ sig) ∈ Pipeline.arrRefs (τ := τ) spec4 :=
  Finset.mem_map_of_mem _ (Finset.mem_image_of_mem _ (Finset.mem_univ w))
theorem sub4 : Pipeline.arrRefs (τ := τ) spec4 ⊆ Pipeline.ucRefs τ sig :=
  Pipeline.arrRefs_sub_ucRefs spec4 (by decide)
theorem rest4 (c : Dev nD) : ∀ b ∈ (Pipeline.ucRefs τ sig) \ Pipeline.arrRefs (τ := τ) spec4, W10 m c b = W9 m c b := fun b hb =>
  have hn : b ∉ Pipeline.arrRefs (τ := τ) spec4 := (Finset.mem_sdiff.mp hb).2
  W10_off m c b (by rintro rfl; exact hn (mem4 6)) (by rintro rfl; exact hn (mem4 7)) (by rintro rfl; exact hn (mem4 8))
theorem A4 (c : Dev nD) (w : Fin cfg4.W) : (d4 m c).A w = W9 m c (Proc.devRef .tc (Pipeline.arrRef spec4 w)) :=
  K4.A_eq Variants.none _ _ c w
theorem exit4_0 (c : Dev nD) : (d4 m c).arrAt 0 cfg4.N = W10 m c (Proc.devRef .tc (Pipeline.arrRef spec4 0)) :=
  ((d4 m c).arrAt_in 0 rfl _).trans ((A4 m c 0).trans (W10_of m c (Pipeline.arrRef spec4 0) (by decide)).symm)
theorem exit4_1 (c : Dev nD) : (d4 m c).arrAt 1 cfg4.N = W10 m c (Proc.devRef .tc (Pipeline.arrRef spec4 1)) :=
  ((d4 m c).arrAt_in 1 rfl _).trans ((A4 m c 1).trans (W10_of m c (Pipeline.arrRef spec4 1) (by decide)).symm)
theorem exit4_2 (c : Dev nD) : (d4 m c).arrAt 2 cfg4.N = W10 m c (Proc.devRef .tc (Pipeline.arrRef spec4 2)) :=
  ((d4 m c).arrAt_in 2 rfl _).trans ((A4 m c 2).trans (W10_of m c (Pipeline.arrRef spec4 2) (by decide)).symm)
theorem exit4_3 (c : Dev nD) : (d4 m c).arrAt 3 cfg4.N = W10 m c (Proc.devRef .tc (Pipeline.arrRef spec4 3)) :=
  ((d4 m c).arrAt_in 3 rfl _).trans ((A4 m c 3).trans (W10_of m c (Pipeline.arrRef spec4 3) (by decide)).symm)
theorem exit4_4 (c : Dev nD) : (d4 m c).arrAt 4 cfg4.N = W10 m c (Proc.devRef .tc (Pipeline.arrRef spec4 4)) :=
  ((d4 m c).arrAt_in 4 rfl _).trans ((A4 m c 4).trans (W10_of m c (Pipeline.arrRef spec4 4) (by decide)).symm)
theorem exit4_5 (c : Dev nD) : (d4 m c).arrAt 5 cfg4.N = W10 m c (Proc.devRef .tc (Pipeline.arrRef spec4 5)) :=
  ((d4 m c).arrAt_in 5 rfl _).trans ((A4 m c 5).trans (W10_of m c (Pipeline.arrRef spec4 5) (by decide)).symm)
theorem exit4_6 (c : Dev nD) : (d4 m c).arrAt 6 cfg4.N = W10 m c (Proc.devRef .tc (Pipeline.arrRef spec4 6)) :=
  (W10_main_v17_0 m c).symm
theorem exit4_7 (c : Dev nD) : (d4 m c).arrAt 7 cfg4.N = W10 m c (Proc.devRef .tc (Pipeline.arrRef spec4 7)) :=
  (W10_main_v17_1 m c).symm
theorem exit4_8 (c : Dev nD) : (d4 m c).arrAt 8 cfg4.N = W10 m c (Proc.devRef .tc (Pipeline.arrRef spec4 8)) :=
  (W10_main_v17_2 m c).symm
theorem exit4 (c : Dev nD) : ∀ w : Fin cfg4.W, (d4 m c).arrAt w cfg4.N = W10 m c (Proc.devRef .tc (Pipeline.arrRef spec4 w))
  | ⟨0, _⟩ => exit4_0 m c
  | ⟨1, _⟩ => exit4_1 m c
  | ⟨2, _⟩ => exit4_2 m c
  | ⟨3, _⟩ => exit4_3 m c
  | ⟨4, _⟩ => exit4_4 m c
  | ⟨5, _⟩ => exit4_5 m c
  | ⟨6, _⟩ => exit4_6 m c
  | ⟨7, _⟩ => exit4_7 m c
  | ⟨8, _⟩ => exit4_8 m c
theorem share4 (c : Dev nD) (w : Fin cfg4.W) : (d4 m c).share w = fullShare := (d4 m c).share_full (fun _ => rfl) w
theorem entry4 (c : Dev nD) (w : Fin cfg4.W) : (d4 m c).arrAt w 0 = W9 m c (Proc.devRef .tc (Pipeline.arrRef spec4 w)) := A4 m c w
theorem body4 (c : Dev nD) : Pipeline.BodyObligationLoose (d4 m c) (defs₀ (F := F)) Variants.none () Set.univ :=
  (K4.body_obligation (U := UR sig nD τ) (Lvl := ℕ) Variants.none (fun c b => W9 m c (Proc.devRef .tc b)) (fun _ => 0) () c).loose

-- a library definition stated over `pin pcs a p` unifies with the pinned configuration only when unification may unfold plain
-- definitions in a metavariable's type
set_option backward.isDefEq.respectTransparency.types false in
/-- Kernel 4's record. -/
def R4 : RegionSeg (pcfgs (F := F)) adm (pd m) () defs₀ Variants.none L (fun _ _ => (0 : ℕ)) 4 :=
  Pipeline.RegionSeg.ofHeld (pcfgs (F := F)) adm (pd m) () defs₀ Variants.none L (fun _ _ => (0 : ℕ)) 4 (fun _ => 0)
    (fun c => iprop(∃ r, prngReg c r)) (fun c => iprop(∃ r, prngReg c r))
    launch4.toP rfl (body4 m) (fun _ _ => rfl) (fun _ => rfl) (share4 m) (fun _ => .rfl) (fun _ => .rfl) (fun _ => 0) (cut 4)
    (fun c => StableHlo.held (c : Thread nD τ) ((Pipeline.ucRefs τ sig) \ Pipeline.arrRefs (τ := τ) spec4) (W9 m c))
    (W9 m) (W10 m) (entry4 m) (exit4 m)

theorem pre4 (c : Dev nD) :
    iprop(StableHlo.held (c : Thread nD τ) (Pipeline.ucRefs τ sig) (W9 m c) ∗ E (F := F) c) ⊢ (R4 m).pre c := by
  show _ ⊢ iprop(StableHlo.held (c : Thread nD τ) (Pipeline.arrRefs (τ := τ) spec4) (W9 m c) ∗ (∃ r, prngReg c r)
    ∗ StableHlo.held (c : Thread nD τ) ((Pipeline.ucRefs τ sig) \ Pipeline.arrRefs (τ := τ) spec4) (W9 m c) ∗ ∃ W, owes (c : Thread nD τ) (0 : CellTallies nD τ sig Unit) W)
  rw [StableHlo.held_sub_split (c : Thread nD τ) sub4 (W9 m c)]
  unfold E
  iintro ⟨⟨Ha, Hr⟩, ⟨Hp, HO⟩⟩
  isplitl [Ha]; · iexact Ha
  isplitl [Hp]; · iexact Hp
  isplitl [Hr]; · iexact Hr
  iexact HO

theorem post4 (c : Dev nD) :
    (R4 m).post c ⊢ iprop(StableHlo.held (c : Thread nD τ) (Pipeline.ucRefs τ sig) (W10 m c) ∗ E (F := F) c) := by
  show iprop(StableHlo.held (c : Thread nD τ) (Pipeline.arrRefs (τ := τ) spec4) (W10 m c) ∗ (∃ r, prngReg c r)
    ∗ StableHlo.held (c : Thread nD τ) ((Pipeline.ucRefs τ sig) \ Pipeline.arrRefs (τ := τ) spec4) (W9 m c) ∗ ∃ W, owes (c : Thread nD τ) (0 : CellTallies nD τ sig Unit) W) ⊢ _
  rw [StableHlo.held_sub_split (c : Thread nD τ) sub4 (W10 m c),
    StableHlo.held_congr (c : Thread nD τ) (S := (Pipeline.ucRefs τ sig) \ Pipeline.arrRefs (τ := τ) spec4) (rest4 m c)]
  unfold E
  iintro ⟨Ha, Hp, Hr, HO⟩
  isplitl [Ha Hr]; · isplitl [Ha] <;> iassumption
  isplitl [Hp]; · iexact Hp
  iexact HO

theorem mem5 (w : Fin cfg5.W) : (Proc.devRef .tc (Pipeline.arrRef spec5 w) : DevRef τ sig) ∈ Pipeline.arrRefs (τ := τ) spec5 :=
  Finset.mem_map_of_mem _ (Finset.mem_image_of_mem _ (Finset.mem_univ w))
theorem sub5 : Pipeline.arrRefs (τ := τ) spec5 ⊆ Pipeline.ucRefs τ sig :=
  Pipeline.arrRefs_sub_ucRefs spec5 (by decide)
theorem rest5 (c : Dev nD) : ∀ b ∈ (Pipeline.ucRefs τ sig) \ Pipeline.arrRefs (τ := τ) spec5, W12 m c b = W11 m c b := fun b hb =>
  have hn : b ∉ Pipeline.arrRefs (τ := τ) spec5 := (Finset.mem_sdiff.mp hb).2
  W12_off m c b (by rintro rfl; exact hn (mem5 1))
theorem A5 (c : Dev nD) (w : Fin cfg5.W) : (d5 m c).A w = W11 m c (Proc.devRef .tc (Pipeline.arrRef spec5 w)) :=
  K5.A_eq _ _ c w
theorem exit5_0 (c : Dev nD) : (d5 m c).arrAt 0 cfg5.N = W12 m c (Proc.devRef .tc (Pipeline.arrRef spec5 0)) :=
  ((d5 m c).arrAt_in 0 rfl _).trans ((A5 m c 0).trans (W12_of m c (Pipeline.arrRef spec5 0) (by decide)).symm)
theorem exit5_1 (c : Dev nD) : (d5 m c).arrAt 1 cfg5.N = W12 m c (Proc.devRef .tc (Pipeline.arrRef spec5 1)) :=
  (W12_main_v19 m c).symm
theorem exit5 (c : Dev nD) : ∀ w : Fin cfg5.W, (d5 m c).arrAt w cfg5.N = W12 m c (Proc.devRef .tc (Pipeline.arrRef spec5 w))
  | ⟨0, _⟩ => exit5_0 m c
  | ⟨1, _⟩ => exit5_1 m c
theorem share5 (c : Dev nD) (w : Fin cfg5.W) : (d5 m c).share w = fullShare := (d5 m c).share_full (fun _ => rfl) w
theorem entry5 (c : Dev nD) (w : Fin cfg5.W) : (d5 m c).arrAt w 0 = W11 m c (Proc.devRef .tc (Pipeline.arrRef spec5 w)) := A5 m c w
theorem body5 (c : Dev nD) : Pipeline.BodyObligationLoose (d5 m c) (defs₀ (F := F)) Variants.none () Set.univ :=
  (K5.body_obligation (U := UR sig nD τ) (Lvl := ℕ) Variants.none (fun c b => W11 m c (Proc.devRef .tc b)) (fun _ => 0) () c).loose

-- a library definition stated over `pin pcs a p` unifies with the pinned configuration only when unification may unfold plain
-- definitions in a metavariable's type
set_option backward.isDefEq.respectTransparency.types false in
/-- Kernel 5's record. -/
def R5 : RegionSeg (pcfgs (F := F)) adm (pd m) () defs₀ Variants.none L (fun _ _ => (0 : ℕ)) 5 :=
  Pipeline.RegionSeg.ofHeld (pcfgs (F := F)) adm (pd m) () defs₀ Variants.none L (fun _ _ => (0 : ℕ)) 5 (fun _ => 0)
    (fun c => iprop(∃ r, prngReg c r)) (fun c => iprop(∃ r, prngReg c r))
    launch5.toP rfl (body5 m) (fun _ _ => rfl) (fun _ => rfl) (share5 m) (fun _ => .rfl) (fun _ => .rfl) (fun _ => 0) (cut 5)
    (fun c => StableHlo.held (c : Thread nD τ) ((Pipeline.ucRefs τ sig) \ Pipeline.arrRefs (τ := τ) spec5) (W11 m c))
    (W11 m) (W12 m) (entry5 m) (exit5 m)

theorem pre5 (c : Dev nD) :
    iprop(StableHlo.held (c : Thread nD τ) (Pipeline.ucRefs τ sig) (W11 m c) ∗ E (F := F) c) ⊢ (R5 m).pre c := by
  show _ ⊢ iprop(StableHlo.held (c : Thread nD τ) (Pipeline.arrRefs (τ := τ) spec5) (W11 m c) ∗ (∃ r, prngReg c r)
    ∗ StableHlo.held (c : Thread nD τ) ((Pipeline.ucRefs τ sig) \ Pipeline.arrRefs (τ := τ) spec5) (W11 m c) ∗ ∃ W, owes (c : Thread nD τ) (0 : CellTallies nD τ sig Unit) W)
  rw [StableHlo.held_sub_split (c : Thread nD τ) sub5 (W11 m c)]
  unfold E
  iintro ⟨⟨Ha, Hr⟩, ⟨Hp, HO⟩⟩
  isplitl [Ha]; · iexact Ha
  isplitl [Hp]; · iexact Hp
  isplitl [Hr]; · iexact Hr
  iexact HO

theorem post5 (c : Dev nD) :
    (R5 m).post c ⊢ iprop(StableHlo.held (c : Thread nD τ) (Pipeline.ucRefs τ sig) (W12 m c) ∗ E (F := F) c) := by
  show iprop(StableHlo.held (c : Thread nD τ) (Pipeline.arrRefs (τ := τ) spec5) (W12 m c) ∗ (∃ r, prngReg c r)
    ∗ StableHlo.held (c : Thread nD τ) ((Pipeline.ucRefs τ sig) \ Pipeline.arrRefs (τ := τ) spec5) (W11 m c) ∗ ∃ W, owes (c : Thread nD τ) (0 : CellTallies nD τ sig Unit) W) ⊢ _
  rw [StableHlo.held_sub_split (c : Thread nD τ) sub5 (W12 m c),
    StableHlo.held_congr (c : Thread nD τ) (S := (Pipeline.ucRefs τ sig) \ Pipeline.arrRefs (τ := τ) spec5) (rest5 m c)]
  unfold E
  iintro ⟨Ha, Hp, Hr, HO⟩
  isplitl [Ha Hr]; · isplitl [Ha] <;> iassumption
  isplitl [Hp]; · iexact Hp
  iexact HO

theorem mem6 (w : Fin cfg6.W) : (Proc.devRef .tc (Pipeline.arrRef spec6 w) : DevRef τ sig) ∈ Pipeline.arrRefs (τ := τ) spec6 :=
  Finset.mem_map_of_mem _ (Finset.mem_image_of_mem _ (Finset.mem_univ w))
theorem sub6 : Pipeline.arrRefs (τ := τ) spec6 ⊆ Pipeline.ucRefs τ sig :=
  Pipeline.arrRefs_sub_ucRefs spec6 (by decide)
theorem rest6 (c : Dev nD) : ∀ b ∈ (Pipeline.ucRefs τ sig) \ Pipeline.arrRefs (τ := τ) spec6, W14 m c b = W13 m c b := fun b hb =>
  have hn : b ∉ Pipeline.arrRefs (τ := τ) spec6 := (Finset.mem_sdiff.mp hb).2
  W14_off m c b (by rintro rfl; exact hn (mem6 6)) (by rintro rfl; exact hn (mem6 7))
theorem A6 (c : Dev nD) (w : Fin cfg6.W) : (d6 m c).A w = W13 m c (Proc.devRef .tc (Pipeline.arrRef spec6 w)) :=
  K6.A_eq Variants.none _ _ c w
theorem exit6_0 (c : Dev nD) : (d6 m c).arrAt 0 cfg6.N = W14 m c (Proc.devRef .tc (Pipeline.arrRef spec6 0)) :=
  ((d6 m c).arrAt_in 0 rfl _).trans ((A6 m c 0).trans (W14_of m c (Pipeline.arrRef spec6 0) (by decide)).symm)
theorem exit6_1 (c : Dev nD) : (d6 m c).arrAt 1 cfg6.N = W14 m c (Proc.devRef .tc (Pipeline.arrRef spec6 1)) :=
  ((d6 m c).arrAt_in 1 rfl _).trans ((A6 m c 1).trans (W14_of m c (Pipeline.arrRef spec6 1) (by decide)).symm)
theorem exit6_2 (c : Dev nD) : (d6 m c).arrAt 2 cfg6.N = W14 m c (Proc.devRef .tc (Pipeline.arrRef spec6 2)) :=
  ((d6 m c).arrAt_in 2 rfl _).trans ((A6 m c 2).trans (W14_of m c (Pipeline.arrRef spec6 2) (by decide)).symm)
theorem exit6_3 (c : Dev nD) : (d6 m c).arrAt 3 cfg6.N = W14 m c (Proc.devRef .tc (Pipeline.arrRef spec6 3)) :=
  ((d6 m c).arrAt_in 3 rfl _).trans ((A6 m c 3).trans (W14_of m c (Pipeline.arrRef spec6 3) (by decide)).symm)
theorem exit6_4 (c : Dev nD) : (d6 m c).arrAt 4 cfg6.N = W14 m c (Proc.devRef .tc (Pipeline.arrRef spec6 4)) :=
  ((d6 m c).arrAt_in 4 rfl _).trans ((A6 m c 4).trans (W14_of m c (Pipeline.arrRef spec6 4) (by decide)).symm)
theorem exit6_5 (c : Dev nD) : (d6 m c).arrAt 5 cfg6.N = W14 m c (Proc.devRef .tc (Pipeline.arrRef spec6 5)) :=
  ((d6 m c).arrAt_in 5 rfl _).trans ((A6 m c 5).trans (W14_of m c (Pipeline.arrRef spec6 5) (by decide)).symm)
theorem exit6_6 (c : Dev nD) : (d6 m c).arrAt 6 cfg6.N = W14 m c (Proc.devRef .tc (Pipeline.arrRef spec6 6)) :=
  (W14_main_v21_0 m c).symm
theorem exit6_7 (c : Dev nD) : (d6 m c).arrAt 7 cfg6.N = W14 m c (Proc.devRef .tc (Pipeline.arrRef spec6 7)) :=
  (W14_main_v21_1 m c).symm
theorem exit6 (c : Dev nD) : ∀ w : Fin cfg6.W, (d6 m c).arrAt w cfg6.N = W14 m c (Proc.devRef .tc (Pipeline.arrRef spec6 w))
  | ⟨0, _⟩ => exit6_0 m c
  | ⟨1, _⟩ => exit6_1 m c
  | ⟨2, _⟩ => exit6_2 m c
  | ⟨3, _⟩ => exit6_3 m c
  | ⟨4, _⟩ => exit6_4 m c
  | ⟨5, _⟩ => exit6_5 m c
  | ⟨6, _⟩ => exit6_6 m c
  | ⟨7, _⟩ => exit6_7 m c
theorem share6 (c : Dev nD) (w : Fin cfg6.W) : (d6 m c).share w = fullShare := (d6 m c).share_full (fun _ => rfl) w
theorem entry6 (c : Dev nD) (w : Fin cfg6.W) : (d6 m c).arrAt w 0 = W13 m c (Proc.devRef .tc (Pipeline.arrRef spec6 w)) := A6 m c w
theorem body6 (c : Dev nD) : Pipeline.BodyObligationLoose (d6 m c) (defs₀ (F := F)) Variants.none () Set.univ :=
  (K6.body_obligation (U := UR sig nD τ) (Lvl := ℕ) Variants.none (fun c b => W13 m c (Proc.devRef .tc b)) (fun _ => 0) () c).loose

-- a library definition stated over `pin pcs a p` unifies with the pinned configuration only when unification may unfold plain
-- definitions in a metavariable's type
set_option backward.isDefEq.respectTransparency.types false in
/-- Kernel 6's record. -/
def R6 : RegionSeg (pcfgs (F := F)) adm (pd m) () defs₀ Variants.none L (fun _ _ => (0 : ℕ)) 6 :=
  Pipeline.RegionSeg.ofHeld (pcfgs (F := F)) adm (pd m) () defs₀ Variants.none L (fun _ _ => (0 : ℕ)) 6 (fun _ => 0)
    (fun c => iprop(∃ r, prngReg c r)) (fun c => iprop(∃ r, prngReg c r))
    launch6.toP rfl (body6 m) (fun _ _ => rfl) (fun _ => rfl) (share6 m) (fun _ => .rfl) (fun _ => .rfl) (fun _ => 0) (cut 6)
    (fun c => StableHlo.held (c : Thread nD τ) ((Pipeline.ucRefs τ sig) \ Pipeline.arrRefs (τ := τ) spec6) (W13 m c))
    (W13 m) (W14 m) (entry6 m) (exit6 m)

theorem pre6 (c : Dev nD) :
    iprop(StableHlo.held (c : Thread nD τ) (Pipeline.ucRefs τ sig) (W13 m c) ∗ E (F := F) c) ⊢ (R6 m).pre c := by
  show _ ⊢ iprop(StableHlo.held (c : Thread nD τ) (Pipeline.arrRefs (τ := τ) spec6) (W13 m c) ∗ (∃ r, prngReg c r)
    ∗ StableHlo.held (c : Thread nD τ) ((Pipeline.ucRefs τ sig) \ Pipeline.arrRefs (τ := τ) spec6) (W13 m c) ∗ ∃ W, owes (c : Thread nD τ) (0 : CellTallies nD τ sig Unit) W)
  rw [StableHlo.held_sub_split (c : Thread nD τ) sub6 (W13 m c)]
  unfold E
  iintro ⟨⟨Ha, Hr⟩, ⟨Hp, HO⟩⟩
  isplitl [Ha]; · iexact Ha
  isplitl [Hp]; · iexact Hp
  isplitl [Hr]; · iexact Hr
  iexact HO

theorem post6 (c : Dev nD) :
    (R6 m).post c ⊢ iprop(StableHlo.held (c : Thread nD τ) (Pipeline.ucRefs τ sig) (W14 m c) ∗ E (F := F) c) := by
  show iprop(StableHlo.held (c : Thread nD τ) (Pipeline.arrRefs (τ := τ) spec6) (W14 m c) ∗ (∃ r, prngReg c r)
    ∗ StableHlo.held (c : Thread nD τ) ((Pipeline.ucRefs τ sig) \ Pipeline.arrRefs (τ := τ) spec6) (W13 m c) ∗ ∃ W, owes (c : Thread nD τ) (0 : CellTallies nD τ sig Unit) W) ⊢ _
  rw [StableHlo.held_sub_split (c : Thread nD τ) sub6 (W14 m c),
    StableHlo.held_congr (c : Thread nD τ) (S := (Pipeline.ucRefs τ sig) \ Pipeline.arrRefs (τ := τ) spec6) (rest6 m c)]
  unfold E
  iintro ⟨Ha, Hp, Hr, HO⟩
  isplitl [Ha Hr]; · isplitl [Ha] <;> iassumption
  isplitl [Hp]; · iexact Hp
  iexact HO

/-! ## The run -/

/-- The host stretch before kernel 0, as a segment. -/
def H0 : HostSeg (Ix := Unit) (Name := ℕ) (U := UR sig nD τ) (Lvl := ℕ) (pcfgs (F := F)) defs₀ Variants.none L (fun _ _ => (0 : ℕ)) :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) (E (F := F))
/-- The host stretch before kernel 1, as a segment. -/
def H1 : HostSeg (Ix := Unit) (Name := ℕ) (U := UR sig nD τ) (Lvl := ℕ) (pcfgs (F := F)) defs₀ Variants.none L (fun _ _ => (0 : ℕ)) :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) (E (F := F))
/-- The host stretch before kernel 2, as a segment. -/
def H2 : HostSeg (Ix := Unit) (Name := ℕ) (U := UR sig nD τ) (Lvl := ℕ) (pcfgs (F := F)) defs₀ Variants.none L (fun _ _ => (0 : ℕ)) :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) (E (F := F))
/-- The host stretch before kernel 3, as a segment. -/
def H3 : HostSeg (Ix := Unit) (Name := ℕ) (U := UR sig nD τ) (Lvl := ℕ) (pcfgs (F := F)) defs₀ Variants.none L (fun _ _ => (0 : ℕ)) :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W6 m) (E (F := F))
/-- The host stretch before kernel 4, as a segment. -/
def H4 : HostSeg (Ix := Unit) (Name := ℕ) (U := UR sig nD τ) (Lvl := ℕ) (pcfgs (F := F)) defs₀ Variants.none L (fun _ _ => (0 : ℕ)) :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (W8 m) (E (F := F))
/-- The host stretch before kernel 5, as a segment. -/
def H5 : HostSeg (Ix := Unit) (Name := ℕ) (U := UR sig nD τ) (Lvl := ℕ) (pcfgs (F := F)) defs₀ Variants.none L (fun _ _ => (0 : ℕ)) :=
  HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (W10 m) (E (F := F))
/-- The host stretch before kernel 6, as a segment. -/
def H6 : HostSeg (Ix := Unit) (Name := ℕ) (U := UR sig nD τ) (Lvl := ℕ) (pcfgs (F := F)) defs₀ Variants.none L (fun _ _ => (0 : ℕ)) :=
  HostSeg.ofOps _ _ _ _ _ (Pipeline.ucRefs τ sig) hostOps6
    (fun op h => Pipeline.sub_ucRefs op ((List.forall_iff_forall_mem.mp hostOps6_sub) op h))
    (fun op h => (List.forall_iff_forall_mem.mp hostOps6_fresh) op h) (W12 m) (E (F := F))
/-- The host stretch before kernel 7, as a segment. -/
def H7 : HostSeg (Ix := Unit) (Name := ℕ) (U := UR sig nD τ) (Lvl := ℕ) (pcfgs (F := F)) defs₀ Variants.none L (fun _ _ => (0 : ℕ)) :=
  HostSeg.ofOps _ _ _ _ _ (Pipeline.ucRefs τ sig) hostOps7
    (fun op h => Pipeline.sub_ucRefs op ((List.forall_iff_forall_mem.mp hostOps7_sub) op h))
    (fun op h => (List.forall_iff_forall_mem.mp hostOps7_fresh) op h) (W14 m) (E (F := F))

/-- @main's items in order. -/
abbrev segs (_ : Dev nD) : List (Seg (pcfgs (F := F)) adm (pd m) () defs₀ Variants.none L (fun _ _ => (0 : ℕ))) :=
  [.host (H0 m), .region (R0 m), .host (H1 m), .region (R1 m), .host (H2 m), .region (R2 m), .host (H3 m), .region (R3 m), .host (H4 m), .region (R4 m), .host (H5 m), .region (R5 m), .host (H6 m), .region (R6 m), .host (H7 m)]

/-- What a core finds at the end: its arguments as launched, the results at the last contents. -/
def Post (c : Dev nD) (s : MemSt nD τ sig (Elt F)) : Prop :=
  (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
  ∧ (s.mem ((c.tc : Thread nD τ).loc main_v22) = W15 m c (Proc.devRef .tc main_v22) ∧ s.mem ((c.tc : Thread nD τ).loc main_v21_1) = W15 m c (Proc.devRef .tc main_v21_1) ∧ s.mem ((c.tc : Thread nD τ).loc main_v23) = W15 m c (Proc.devRef .tc main_v23) ∧ s.mem ((c.tc : Thread nD τ).loc main_v24) = W15 m c (Proc.devRef .tc main_v24))

/-- What a core starts from: its buffers as launched, the register, nothing owed. -/
theorem start (c : Dev nD) : iprop(unscopedBufs c (fun b => m ((c.tc : Thread nD τ).loc b)) ∗ unscopedSems0 c
    ∗ owes (c.tc : Thread nD τ) (0 : CellTallies nD τ sig Unit) ∅ ∗ Pipeline.launchCred (fun _ => 0) c ∗ prngReg c (ρ c) ∗ emp)
    ⊢ (iprop(StableHlo.held (c : Thread nD τ) (Pipeline.ucRefs τ sig) (W0 m c) ∗ E (F := F) c) : sProp 𝕄) := by
  have h : (unscopedBufs c (fun b => m ((c.tc : Thread nD τ).loc b)) : sProp 𝕄)
      = StableHlo.held (c : Thread nD τ) (Pipeline.ucRefs τ sig) (W0 m c) :=
    Pipeline.unscopedBufs_held (Ix := Unit) (Name := ℕ) (U := UR sig nD τ) (Lvl := ℕ) c (W0 m c)
  rw [h]
  unfold E
  iintro ⟨Hb, -, HO, -, Hp, -⟩
  isplitl [Hb]; · iexact Hb
  isplitl [Hp]; · iexists _; iexact Hp
  iexists _; iexact HO

set_option backward.isDefEq.respectTransparency.types false in
/-- The run of @main. -/
theorem run : θ_run defs (onTc (τ := τ) (main (F := F))) ⟨m, fun _ => 0, ρ⟩ (fun r => (∀ c, Post m c r.2) ∧ r.2.sem = fun _ => 0) := by
  refine Pipeline.θ_run_regions_kit_dev_sems (U := UR sig nD τ) (pcfgs (F := F)) adm (pd m) () cellOf_inj emb₁ defs₀ Variants.none L (fun _ _ => (0 : ℕ)) m ρ main
    (segs m)
    (fun c Q => by
      rewrite [main_chain c, Seg.run_eq_chain,
        show (segs m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      dsimp (config := { failIfUnchanged := false }) only
      exact .rfl)
    (fun c => by simp only [segs, Seg.pipes_host, Seg.pipes_region, Seg.pipes_nil]; decide) (fun _ => 0) hL (fun _ => iprop(emp))
    (initOf (Pipeline.cells cfgs cellOf_inj) (Pipeline.launchToks cfgs cellOf_inj))
    (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ E (F := F) c))
    (Tₙ := fun c => StableHlo.held (c : Thread nD τ) (Pipeline.ucRefs τ sig) (W15 m c))
    (hch := fun c => ⟨.rfl, pre0 m c, post0 m c, pre1 m c, post1 m c, pre2 m c, post2 m c, pre3 m c, post3 m c, pre4 m c, post4 m c, pre5 m c, post5 m c, pre6 m c, post6 m c, ?_⟩)
    (hinit := ?_) (QY := fun c s => Post m c s)
    (hfin := fun c s' => ?_) (hQ := fun _ h hz => ⟨h, funext fun g => hz g (.inr (regions_no_unscoped g.2))⟩)
  · show iprop(StableHlo.held (c : Thread nD τ) (Pipeline.ucRefs τ sig) (W15 m c) ∗ E (F := F) c) ⊢ _
    unfold E
    iintro ⟨Hh, -, HO⟩
    isplitl [Hh]; · iexact Hh
    iexact HO
  · iintro ⟨H, -⟩
    imodintro
    iapply (show (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (W0 m c) ∗ E (F := F) c) : sProp 𝕄) from
      bigSep_mono fun c _ => start m ρ c)
    iexact H
  · unfold StableHlo.held
    iintro ⟨Hh, HSI⟩
    ihave Hr := (pointsTo_read_all (Pipeline.ucRefs τ sig) (fun b => ((c : Thread nD τ).1, b)) (W15 m c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (W15_main_arg0 m c), (h (Proc.devRef .tc main_arg1) (Finset.mem_filter.mpr ⟨StableHlo.devRef_mem_tcRefs main_arg1, by decide⟩)).trans (W15_main_arg1 m c), (h (Proc.devRef .tc main_arg2) (Finset.mem_filter.mpr ⟨StableHlo.devRef_mem_tcRefs main_arg2, by decide⟩)).trans (W15_main_arg2 m c), (h (Proc.devRef .tc main_arg3) (Finset.mem_filter.mpr ⟨StableHlo.devRef_mem_tcRefs main_arg3, by decide⟩)).trans (W15_main_arg3 m c), (h (Proc.devRef .tc main_arg4) (Finset.mem_filter.mpr ⟨StableHlo.devRef_mem_tcRefs main_arg4, by decide⟩)).trans (W15_main_arg4 m c)⟩,
        (h (Proc.devRef .tc main_v22) (Finset.mem_filter.mpr ⟨StableHlo.devRef_mem_tcRefs main_v22, by decide⟩)), (h (Proc.devRef .tc main_v21_1) (Finset.mem_filter.mpr ⟨StableHlo.devRef_mem_tcRefs main_v21_1, by decide⟩)), (h (Proc.devRef .tc main_v23) (Finset.mem_filter.mpr ⟨StableHlo.devRef_mem_tcRefs main_v23, by decide⟩)), (h (Proc.devRef .tc main_v24) (Finset.mem_filter.mpr ⟨StableHlo.devRef_mem_tcRefs main_v24, by decide⟩))⟩
    · iexact HSI

end Cert.SketchIdeal.Run

end
-- ==== Proof.Common.lean ====
/-
  What the product launches share: the dequantised weights, as one launch's point holds them in its
  scratch buffer and as functions of the whole arrays, and how a scratch buffer written row block by row block reads
  back.
-/
module

public import Idealize.ShloMosaic.PureOps.Ideal
public import Idealize.ShloMosaic.Lib.Pipeline.ValueKit
public import Idealize.ShloMosaic.Lib.Pipeline.ReadBack
public import Idealize.ShloMosaic.Lib.Pointwise
public import Idealize.ShloMosaic.Lib.Ring

@[expose] public section

noncomputable section

namespace Cert.Proof.Common

open Idealize.ShloMosaic

/-- The weight matrices' codes, all 64 of them. -/
abbrev SC : Shape := ⟨3, ![64, 1024, 2048]⟩
/-- Their scales, one per 128 × 128 block. -/
abbrev SS : Shape := ⟨3, ![64, 8, 16]⟩
/-- One matrix's codes, as a grid point's block. -/
abbrev BC : Shape := ⟨3, ![1, 1024, 2048]⟩
/-- One matrix's scales, each repeated over its 128 columns, as a grid point's block. -/
abbrev BS : Shape := ⟨3, ![1, 8, 2048]⟩
/-- One dequantised matrix. -/
abbrev SW : Shape := ⟨2, ![1024, 2048]⟩

/-- The dequantised matrix of one grid point: each code times the scale of its block of rows at its column. -/
def dq (C : BC.Idx → EReal) (S : BS.Idx → EReal) : SW.Idx → EReal := fun y =>
  C (ix3 (0 : Fin 1) (y 0) (y 1)) * S (ix3 (0 : Fin 1) ⟨(y 0).val / 128, by have := (y 0).isLt; change (y 0).val < 1024 at this; omega⟩ (y 1))

theorem dq_apply (C : BC.Idx → EReal) (S : BS.Idx → EReal) (i : Fin 1024) (k : Fin 2048) :
    dq C S (ix2 i k) = C (ix3 (0 : Fin 1) i k) * S (ix3 (0 : Fin 1) ⟨i.val / 128, by omega⟩ k) := rfl

/-- A block of 128 rows of codes. -/
abbrev RC : Shape := ⟨3, ![1, 128, 2048]⟩
/-- Its row of scales. -/
abbrev RS : Shape := ⟨3, ![1, 1, 2048]⟩
/-- The block dequantised. -/
abbrev RW : Shape := ⟨2, ![128, 2048]⟩

/-- A row block dequantised: each code times the scale at its column. -/
def rb (c : RC.Idx → EReal) (s : RS.Idx → EReal) : RW.Idx → EReal := fun x =>
  c (ix3 (0 : Fin 1) (x 0) (x 1)) * s (ix3 (0 : Fin 1) (0 : Fin 1) (x 1))

/-- Row block `n`, dequantised from the loads of its codes and of its row of scales, is that block of rows of the whole
    dequantised matrix. -/
theorem rb_piece (C : BC.Idx → EReal) (S : BS.Idx → EReal) (n o : ℕ) (ho : o = 128 * n) (hn : n < 8)
    (i1 : ∀ a, (![0, o, 0] : Fin 3 → ℕ) a + (![1, 128, 2048] : Fin 3 → ℕ) a ≤ BC.size a)
    (i2 : ∀ a, (![0, n, 0] : Fin 3 → ℕ) a + (![1, 1, 2048] : Fin 3 → ℕ) a ≤ BS.size a)
    (i3 : ∀ a, (![o, 0] : Fin 2 → ℕ) a + (![128, 2048] : Fin 2 → ℕ) a ≤ SW.size a)
    (x : (Rect.unit (s := SW) ![o, 0] ![128, 2048] i3).shape.Idx) :
    rb (View.ld (Val := Elt Ideal) (S := BC) (e' := .fp8e4m3) C (Rect.unit (s := BC) ![0, o, 0] ![1, 128, 2048] i1))
        (View.ld (Val := Elt Ideal) (S := BS) (e' := .bf16) S (Rect.unit (s := BS) ![0, n, 0] ![1, 1, 2048] i2)) x
      = dq C S ((Rect.unit (s := SW) ![o, 0] ![128, 2048] i3).emb x) := by
  have h0 : (x 0).val < 128 := (x 0).isLt
  have h1 : (x 1).val < 2048 := (x 1).isLt
  unfold rb dq
  have e0 : (((Rect.unit (s := SW) ![o, 0] ![128, 2048] i3).emb x) 0).val = o + (x 0).val := by
    show o + 1 * (x 0).val = _; omega
  have e1 : (((Rect.unit (s := SW) ![o, 0] ![128, 2048] i3).emb x) 1).val = (x 1).val := by
    show 0 + 1 * (x 1).val = _; omega
  refine congrArg₂ (· * ·) (congrArg C ?_) (congrArg S ?_)
  · funext a
    fin_cases a <;> apply Fin.ext <;> simp [LoadRect.idx, ix3, -Function.Embedding.coeFn_mk, e0, e1]
  · funext a
    fin_cases a <;> apply Fin.ext <;> simp [LoadRect.idx, ix3, e0, e1]
    omega

/-- The scales of all 64 matrices, each repeated over its 128 columns. -/
abbrev SR : Shape := ⟨3, ![64, 8, 2048]⟩

/-- The dequantised matrix `b`, from the codes and the scales repeated over their columns. -/
def wk (C : SC.Idx → EReal) (S : SR.Idx → EReal) (b : Fin 64) (i : Fin 1024) (k : Fin 2048) : EReal :=
  C (ix3 b i k) * S (ix3 b (⟨i.val / 128, by omega⟩ : Fin 8) k)

/-! ## The products, as functions of whole arrays -/

/-- The entries of an array by their three coordinates. -/
def xv {n₀ n₁ n₂ : ℕ} (X : (⟨3, ![n₀, n₁, n₂]⟩ : Shape).Idx → EReal) (b : Fin n₀) (r : Fin n₁) (k : Fin n₂) : EReal := X (ix3 b r k)

/-- The rows orthonormalised: `L⁻¹` times `yᵀ`. -/
def qv (Y : Fin 64 → Fin 104 → Fin 1024 → EReal) (L : Fin 64 → Fin 104 → Fin 104 → EReal)
    (b : Fin 64) (r : Fin 104) (i : Fin 1024) : EReal := ∑ j : Fin 104, L b r j * Y b j i

/-- `zᵀ = qᵀ (W_ft − W_base)`, the difference taken after the two products. -/
def zv (U V : Fin 64 → Fin 1024 → Fin 2048 → EReal)
    (Q : Fin 64 → Fin 104 → Fin 1024 → EReal) (b : Fin 64) (r : Fin 104) (k : Fin 2048) : EReal :=
  (∑ i : Fin 1024, Q b r i * U b i k) - ∑ i : Fin 1024, Q b r i * V b i k

/-- `yᵀ = xᵀ (W_ft − W_base)ᵀ`, the difference taken after the two products. -/
def yv (U V : Fin 64 → Fin 1024 → Fin 2048 → EReal)
    (X : Fin 64 → Fin 104 → Fin 2048 → EReal) (b : Fin 64) (r : Fin 104) (i : Fin 1024) : EReal :=
  (∑ k : Fin 2048, X b r k * U b i k) - ∑ k : Fin 2048, X b r k * V b i k

/-- The Gram matrix of the rows of `yᵀ`. -/
def gv (Y : Fin 64 → Fin 104 → Fin 1024 → EReal) (b : Fin 64) (r s : Fin 104) : EReal := ∑ i : Fin 1024, Y b r i * Y b s i

/-- A function of three coordinates as an array. -/
def arr3 {n₀ n₁ n₂ : ℕ} (f : Fin n₀ → Fin n₁ → Fin n₂ → EReal) : (⟨3, ![n₀, n₁, n₂]⟩ : Shape).Idx → EReal :=
  fun j => f (j 0) (j 1) (j 2)

/-! ## A scratch buffer read back -/

/-- A buffer written in pieces that are each a block of `G` and together cover it reads back, whole, as `G`. -/
theorem readCov_eq_of_pieces {Val : EltTy → Type} [∀ e, Nonempty (Val e)] {sig : RefSig} {κ : Kind} {sp : Space}
    {S : Shape} {e : EltTy} (v : View sig κ sp S e) (L : List (View.Piece Val S e)) {off : Fin S.rank → Nat}
    (inb : ∀ a, off a + S.size a ≤ S.size a) (G : S.Idx → Val e) (h0 : ∀ a, off a = 0)
    (h : View.PiecesOf G L) (hc : ∀ y, ∃ p ∈ L, y ∈ p.1.set) :
    v.readCov L (Rect.unit off S.size inb).toLoadRect = G := by
  rw [View.readCov_eq_canon_ld _ _ _ hc, View.ld_unit_zero (funext h0)]
  funext y
  have := View.canon_append_of_piecesOf G [] L h y (hc y)
  rwa [List.append_nil] at this

/-- The scratch buffer holding a dequantised matrix, written in eight row blocks of 128, read back whole. -/
theorem scratch_eq {sig : RefSig} {κ : Kind} {sp : Space} (v : View sig κ sp SW .bf16) (C : BC.Idx → EReal) (S : BS.Idx → EReal)
    (w0 : ∀ a, (![0, 0] : Fin 2 → ℕ) a + (![128, 2048] : Fin 2 → ℕ) a ≤ SW.size a)
    (c0 : ∀ a, (![0, 0, 0] : Fin 3 → ℕ) a + (![1, 128, 2048] : Fin 3 → ℕ) a ≤ BC.size a)
    (s0 : ∀ a, (![0, 0, 0] : Fin 3 → ℕ) a + (![1, 1, 2048] : Fin 3 → ℕ) a ≤ BS.size a)
    (w1 : ∀ a, (![128, 0] : Fin 2 → ℕ) a + (![128, 2048] : Fin 2 → ℕ) a ≤ SW.size a)
    (c1 : ∀ a, (![0, 128, 0] : Fin 3 → ℕ) a + (![1, 128, 2048] : Fin 3 → ℕ) a ≤ BC.size a)
    (s1 : ∀ a, (![0, 1, 0] : Fin 3 → ℕ) a + (![1, 1, 2048] : Fin 3 → ℕ) a ≤ BS.size a)
    (w2 : ∀ a, (![256, 0] : Fin 2 → ℕ) a + (![128, 2048] : Fin 2 → ℕ) a ≤ SW.size a)
    (c2 : ∀ a, (![0, 256, 0] : Fin 3 → ℕ) a + (![1, 128, 2048] : Fin 3 → ℕ) a ≤ BC.size a)
    (s2 : ∀ a, (![0, 2, 0] : Fin 3 → ℕ) a + (![1, 1, 2048] : Fin 3 → ℕ) a ≤ BS.size a)
    (w3 : ∀ a, (![384, 0] : Fin 2 → ℕ) a + (![128, 2048] : Fin 2 → ℕ) a ≤ SW.size a)
    (c3 : ∀ a, (![0, 384, 0] : Fin 3 → ℕ) a + (![1, 128, 2048] : Fin 3 → ℕ) a ≤ BC.size a)
    (s3 : ∀ a, (![0, 3, 0] : Fin 3 → ℕ) a + (![1, 1, 2048] : Fin 3 → ℕ) a ≤ BS.size a)
    (w4 : ∀ a, (![512, 0] : Fin 2 → ℕ) a + (![128, 2048] : Fin 2 → ℕ) a ≤ SW.size a)
    (c4 : ∀ a, (![0, 512, 0] : Fin 3 → ℕ) a + (![1, 128, 2048] : Fin 3 → ℕ) a ≤ BC.size a)
    (s4 : ∀ a, (![0, 4, 0] : Fin 3 → ℕ) a + (![1, 1, 2048] : Fin 3 → ℕ) a ≤ BS.size a)
    (w5 : ∀ a, (![640, 0] : Fin 2 → ℕ) a + (![128, 2048] : Fin 2 → ℕ) a ≤ SW.size a)
    (c5 : ∀ a, (![0, 640, 0] : Fin 3 → ℕ) a + (![1, 128, 2048] : Fin 3 → ℕ) a ≤ BC.size a)
    (s5 : ∀ a, (![0, 5, 0] : Fin 3 → ℕ) a + (![1, 1, 2048] : Fin 3 → ℕ) a ≤ BS.size a)
    (w6 : ∀ a, (![768, 0] : Fin 2 → ℕ) a + (![128, 2048] : Fin 2 → ℕ) a ≤ SW.size a)
    (c6 : ∀ a, (![0, 768, 0] : Fin 3 → ℕ) a + (![1, 128, 2048] : Fin 3 → ℕ) a ≤ BC.size a)
    (s6 : ∀ a, (![0, 6, 0] : Fin 3 → ℕ) a + (![1, 1, 2048] : Fin 3 → ℕ) a ≤ BS.size a)
    (w7 : ∀ a, (![896, 0] : Fin 2 → ℕ) a + (![128, 2048] : Fin 2 → ℕ) a ≤ SW.size a)
    (c7 : ∀ a, (![0, 896, 0] : Fin 3 → ℕ) a + (![1, 128, 2048] : Fin 3 → ℕ) a ≤ BC.size a)
    (s7 : ∀ a, (![0, 7, 0] : Fin 3 → ℕ) a + (![1, 1, 2048] : Fin 3 → ℕ) a ≤ BS.size a)
    (w : ∀ a, (![0, 0] : Fin 2 → ℕ) a + SW.size a ≤ SW.size a) :
    v.readCov (Val := Elt Ideal) [⟨Rect.unit (s := SW) ![896, 0] ![128, 2048] w7, rb (View.ld (Val := Elt Ideal) (S := BC) (e' := .fp8e4m3) C (Rect.unit (s := BC) ![0, 896, 0] ![1, 128, 2048] c7))
        (View.ld (Val := Elt Ideal) (S := BS) (e' := .bf16) S (Rect.unit (s := BS) ![0, 7, 0] ![1, 1, 2048] s7))⟩,
      ⟨Rect.unit (s := SW) ![768, 0] ![128, 2048] w6, rb (View.ld (Val := Elt Ideal) (S := BC) (e' := .fp8e4m3) C (Rect.unit (s := BC) ![0, 768, 0] ![1, 128, 2048] c6))
        (View.ld (Val := Elt Ideal) (S := BS) (e' := .bf16) S (Rect.unit (s := BS) ![0, 6, 0] ![1, 1, 2048] s6))⟩,
      ⟨Rect.unit (s := SW) ![640, 0] ![128, 2048] w5, rb (View.ld (Val := Elt Ideal) (S := BC) (e' := .fp8e4m3) C (Rect.unit (s := BC) ![0, 640, 0] ![1, 128, 2048] c5))
        (View.ld (Val := Elt Ideal) (S := BS) (e' := .bf16) S (Rect.unit (s := BS) ![0, 5, 0] ![1, 1, 2048] s5))⟩,
      ⟨Rect.unit (s := SW) ![512, 0] ![128, 2048] w4, rb (View.ld (Val := Elt Ideal) (S := BC) (e' := .fp8e4m3) C (Rect.unit (s := BC) ![0, 512, 0] ![1, 128, 2048] c4))
        (View.ld (Val := Elt Ideal) (S := BS) (e' := .bf16) S (Rect.unit (s := BS) ![0, 4, 0] ![1, 1, 2048] s4))⟩,
      ⟨Rect.unit (s := SW) ![384, 0] ![128, 2048] w3, rb (View.ld (Val := Elt Ideal) (S := BC) (e' := .fp8e4m3) C (Rect.unit (s := BC) ![0, 384, 0] ![1, 128, 2048] c3))
        (View.ld (Val := Elt Ideal) (S := BS) (e' := .bf16) S (Rect.unit (s := BS) ![0, 3, 0] ![1, 1, 2048] s3))⟩,
      ⟨Rect.unit (s := SW) ![256, 0] ![128, 2048] w2, rb (View.ld (Val := Elt Ideal) (S := BC) (e' := .fp8e4m3) C (Rect.unit (s := BC) ![0, 256, 0] ![1, 128, 2048] c2))
        (View.ld (Val := Elt Ideal) (S := BS) (e' := .bf16) S (Rect.unit (s := BS) ![0, 2, 0] ![1, 1, 2048] s2))⟩,
      ⟨Rect.unit (s := SW) ![128, 0] ![128, 2048] w1, rb (View.ld (Val := Elt Ideal) (S := BC) (e' := .fp8e4m3) C (Rect.unit (s := BC) ![0, 128, 0] ![1, 128, 2048] c1))
        (View.ld (Val := Elt Ideal) (S := BS) (e' := .bf16) S (Rect.unit (s := BS) ![0, 1, 0] ![1, 1, 2048] s1))⟩,
      ⟨Rect.unit (s := SW) ![0, 0] ![128, 2048] w0, rb (View.ld (Val := Elt Ideal) (S := BC) (e' := .fp8e4m3) C (Rect.unit (s := BC) ![0, 0, 0] ![1, 128, 2048] c0))
        (View.ld (Val := Elt Ideal) (S := BS) (e' := .bf16) S (Rect.unit (s := BS) ![0, 0, 0] ![1, 1, 2048] s0))⟩]
      (Rect.unit (s := SW) ![0, 0] ![1024, 2048] w).toLoadRect = dq C S :=
  readCov_eq_of_pieces (Val := Elt Ideal) v _ w (dq C S) (by decide) ⟨rb_piece C S 7 _ rfl (by decide) c7 s7 w7,
    rb_piece C S 6 _ rfl (by decide) c6 s6 w6,
    rb_piece C S 5 _ rfl (by decide) c5 s5 w5,
    rb_piece C S 4 _ rfl (by decide) c4 s4 w4,
    rb_piece C S 3 _ rfl (by decide) c3 s3 w3,
    rb_piece C S 2 _ rfl (by decide) c2 s2 w2,
    rb_piece C S 1 _ rfl (by decide) c1 s1 w1,
    rb_piece C S 0 _ rfl (by decide) c0 s0 w0, trivial⟩
    (View.cover_of_tiledL _ ![128, 2048] (by sl_kernel_rfl))

end Cert.Proof.Common
end
-- ==== Proof.Algebra.lean ====
/-
  The real arithmetic of one Cholesky-QR step, apart from any program: elimination without pivoting on a Gram matrix and
  the orthogonalisation it carries out. The kernel's way (the multipliers kept below the diagonal) and the textbook's
  (the Cholesky factor column by column, then the triangular solve) leave the same orthonormal vectors; and the pivots of
  the next step's Gram matrix are positive as soon as the first step's are.
-/
module

public import Mathlib.Analysis.Real.Sqrt
public import Mathlib.Data.Matrix.Mul
public import Mathlib.Tactic.Ring
public import Mathlib.Tactic.FieldSimp
public import Mathlib.Tactic.Linarith

@[expose] public section

noncomputable section

namespace Cert.Algebra

open Finset

/-- Elimination as the kernel does it: at step `t` every later row `i` loses `m = A i t / A t t` times row `t`, and keeps
    `-m` in column `t`. -/
def elim (g : ℕ → ℕ → ℝ) : ℕ → ℕ → ℕ → ℝ
  | 0 => g
  | t + 1 => fun i k =>
      if t < i then
        (if k = t then -(elim g t i t / elim g t t t) else elim g t i k - elim g t i t / elim g t t t * elim g t t k)
      else elim g t i k

/-- The pivots. -/
def piv (g : ℕ → ℕ → ℝ) (t : ℕ) : ℝ := elim g t t t

/-- The Cholesky factor, column by column. -/
def chol (g : ℕ → ℕ → ℝ) : ℕ → ℕ → ℕ → ℝ
  | 0 => fun _ _ => 0
  | j + 1 => fun i k =>
      if k = j ∧ j ≤ i then
        (g i k - ∑ s ∈ range j, chol g j i s * chol g j k s) / Real.sqrt (g j j - ∑ s ∈ range j, chol g j j s * chol g j j s)
      else chol g j i k

theorem elim_frozen (g : ℕ → ℕ → ℝ) (i k : ℕ) : ∀ t, i ≤ t → elim g t i k = elim g i i k := by
  intro t h
  induction t, h using Nat.le_induction with
  | base => rfl
  | succ t h ih => simp only [elim, if_neg (Nat.not_lt.2 h), ih]

variable {ι : Type*} [Fintype ι]

theorem dot_self_eq_zero {v : ι → ℝ} (h : v ⬝ᵥ v = 0) : v = 0 := by
  funext r
  have := (sum_eq_zero_iff_of_nonneg (fun r _ => mul_self_nonneg (v r))).1 h r (mem_univ r)
  simpa using this

theorem mulVec_sum' {κ : Type*} [Fintype κ] (D : Matrix ι κ ℝ) (s : Finset ℕ) (f : ℕ → κ → ℝ) :
    D.mulVec (∑ k ∈ s, f k) = ∑ k ∈ s, D.mulVec (f k) := by
  induction s using Finset.induction_on with
  | empty => simp
  | insert a s ha ih => rw [sum_insert ha, sum_insert ha, Matrix.mulVec_add, ih]

/-- The Gram matrix of a sequence of vectors. -/
def gram (y : ℕ → ι → ℝ) (i k : ℕ) : ℝ := y i ⬝ᵥ y k

/-- The orthogonalisation the elimination carries out: vector `i` after `t` steps. -/
def orth (y : ℕ → ι → ℝ) : ℕ → ℕ → ι → ℝ
  | 0 => y
  | t + 1 => fun i => orth y t i - (elim (gram y) t i t / elim (gram y) t t t) • orth y t t

/-- The orthonormal vectors. -/
def ortho (y : ℕ → ι → ℝ) (i : ℕ) : ι → ℝ := (Real.sqrt (piv (gram y) i))⁻¹ • orth y i i

variable (y : ℕ → ι → ℝ)

theorem elim_eq_dot : ∀ t i k, t ≤ i → t ≤ k → elim (gram y) t i k = orth y t i ⬝ᵥ y k
  | 0, _, _, _, _ => rfl
  | t + 1, i, k, hi, hk => by
    have h1 := elim_eq_dot t i k (by omega) (by omega)
    have h2 := elim_eq_dot t t k (le_refl _) (by omega)
    simp only [elim, orth, if_pos (show t < i by omega), if_neg (show ¬ k = t by omega), sub_dotProduct, smul_dotProduct, smul_eq_mul]
    rw [h1, h2]

theorem orth_eq_sum : ∀ t i, t ≤ i → orth y t i = y i + ∑ k ∈ range t, elim (gram y) t i k • y k
  | 0, _, _ => by simp [orth]
  | t + 1, i, hi => by
    have h1 := orth_eq_sum t i (by omega)
    have h2 := orth_eq_sum t t (le_refl _)
    have hs : ∑ k ∈ range t, elim (gram y) (t + 1) i k • y k
        = ∑ k ∈ range t, elim (gram y) t i k • y k
          - (elim (gram y) t i t / elim (gram y) t t t) • ∑ k ∈ range t, elim (gram y) t t k • y k := by
      rw [smul_sum, ← sum_sub_distrib]
      refine sum_congr rfl fun k hk => ?_
      have hk := mem_range.1 hk
      simp only [elim, if_pos (show t < i by omega), if_neg (show ¬ k = t by omega), sub_smul, smul_smul]
    rw [sum_range_succ, hs]
    simp only [orth]
    rw [h1, show elim (gram y) (t + 1) i t = -(elim (gram y) t i t / elim (gram y) t t t) by
      simp only [elim, if_pos (show t < i by omega), if_true]]
    conv_lhs => rw [h2]
    rw [smul_add, neg_smul]
    abel

theorem elim_symm (g : ℕ → ℕ → ℝ) (hg : ∀ i k, g i k = g k i) : ∀ t i k, t ≤ i → t ≤ k → elim g t i k = elim g t k i
  | 0, i, k, _, _ => hg i k
  | t + 1, i, k, hi, hk => by
    have h1 := elim_symm g hg t i k (by omega) (by omega)
    have h2 := elim_symm g hg t i t (by omega) (le_refl _)
    have h3 := elim_symm g hg t k t (by omega) (le_refl _)
    simp only [elim, if_pos (show t < i by omega), if_pos (show t < k by omega), if_neg (show ¬ k = t by omega), if_neg (show ¬ i = t by omega)]
    rw [h1, h2, h3]; ring

theorem gram_symm (i k : ℕ) : gram y i k = gram y k i := dotProduct_comm _ _

variable (n : ℕ)

theorem orth_dot_zero (hp : ∀ t, t < n → piv (gram y) t ≠ 0) : ∀ t i k, t ≤ n → t ≤ i → k < t → orth y t i ⬝ᵥ y k = 0
  | 0, _, _, _, _, h => absurd h (Nat.not_lt_zero _)
  | t + 1, i, k, ht, hi, hk => by
    simp only [orth, sub_dotProduct, smul_dotProduct, smul_eq_mul]
    rcases Nat.lt_succ_iff_lt_or_eq.1 hk with h | rfl
    · rw [orth_dot_zero hp t i k (by omega) (by omega) h, orth_dot_zero hp t t k (by omega) (le_refl _) h]; ring
    · rw [← elim_eq_dot y k i k (by omega) (le_refl _), ← elim_eq_dot y k k k (le_refl _) (le_refl _)]
      have := hp k (by omega)
      unfold piv at this
      field_simp
      ring

theorem orth_dot_orth_lt (hp : ∀ t, t < n → piv (gram y) t ≠ 0) (i j : ℕ) (hi : i ≤ n) (hj : j < i) : orth y i i ⬝ᵥ orth y j j = 0 := by
  rw [orth_eq_sum y j j (le_refl _), dotProduct_add, dotProduct_sum, orth_dot_zero y n hp i i j hi (le_refl _) hj, zero_add]
  refine sum_eq_zero fun k hk => ?_
  rw [dotProduct_smul, orth_dot_zero y n hp i i k hi (le_refl _) (by have := mem_range.1 hk; omega), smul_zero]

theorem orth_dot_self (hp : ∀ t, t < n → piv (gram y) t ≠ 0) (i : ℕ) (hi : i ≤ n) : orth y i i ⬝ᵥ orth y i i = piv (gram y) i := by
  conv_lhs => rhs; rw [orth_eq_sum y i i (le_refl _)]
  rw [dotProduct_add, dotProduct_sum, ← elim_eq_dot y i i i (le_refl _) (le_refl _)]
  rw [sum_eq_zero, add_zero]; · rfl
  intro k hk
  rw [dotProduct_smul, orth_dot_zero y n hp i i k hi (le_refl _) (mem_range.1 hk), smul_zero]

/-- The vectors are orthonormal. -/
theorem ortho_dot (hp : ∀ t, t < n → 0 < piv (gram y) t) (i j : ℕ) (hi : i < n) (hj : j < n) :
    ortho y i ⬝ᵥ ortho y j = if i = j then 1 else 0 := by
  have hp' : ∀ t, t < n → piv (gram y) t ≠ 0 := fun t ht => (hp t ht).ne'
  unfold ortho
  rw [smul_dotProduct, dotProduct_smul, smul_eq_mul, smul_eq_mul]
  rcases lt_trichotomy i j with h | rfl | h
  · rw [dotProduct_comm, orth_dot_orth_lt y n hp' j i (by omega) h, if_neg (by omega)]; ring
  · rw [orth_dot_self y n hp' i (by omega), if_pos rfl]
    have h0 := Real.sqrt_pos.2 (hp i hi)
    have h1 := Real.mul_self_sqrt (hp i hi).le
    field_simp
    linarith [h1, sq (Real.sqrt (piv (gram y) i))]
  · rw [orth_dot_orth_lt y n hp' i j (by omega) h, if_neg (by omega)]; ring

/-! ## The kernel's way -/

/-- Row `i` of what the kernel leaves, applied to the vectors. -/
theorem kernel_ortho (i : ℕ) (hi : i < n) :
    ∑ k ∈ range n, ((if k < i then elim (gram y) n i k else if k = i then 1 else 0) * (Real.sqrt (elim (gram y) n i i))⁻¹) • y k = ortho y i := by
  unfold ortho piv
  rw [orth_eq_sum y i i (le_refl _), elim_frozen _ i i n hi.le]
  have hsplit : range n = (range n).filter (fun k => k < i) ∪ (range n).filter (fun k => ¬ k < i) := (filter_union_filter_not_eq _ _).symm
  rw [← sum_filter_add_sum_filter_not (range n) (fun k => k < i)]
  rw [show (range n).filter (fun k => k < i) = range i by ext k; simp only [mem_filter, mem_range]; omega]
  rw [smul_add, add_comm, smul_sum]
  congr 1
  · rw [sum_eq_single i]
    · rw [if_neg (lt_irrefl _), if_pos rfl, one_mul]
    · intro k hk hne
      rw [if_neg (mem_filter.1 hk).2, if_neg hne, zero_mul, zero_smul]
    · intro h; exact absurd (mem_filter.2 ⟨mem_range.2 hi, lt_irrefl _⟩) h
  · refine sum_congr rfl fun k hk => ?_
    rw [if_pos (mem_range.1 hk), elim_frozen _ i k n hi.le, smul_smul, mul_comm]

/-! ## The textbook's way -/

theorem chol_upper (g : ℕ → ℕ → ℝ) : ∀ t i k, i < k → chol g t i k = 0
  | 0, _, _, _ => rfl
  | t + 1, i, k, h => by simp only [chol]; rw [if_neg (by omega), chol_upper g t i k h]

theorem chol_right (g : ℕ → ℕ → ℝ) : ∀ t i k, t ≤ k → chol g t i k = 0
  | 0, _, _, _ => rfl
  | t + 1, i, k, h => by simp only [chol]; rw [if_neg (by omega), chol_right g t i k (by omega)]

theorem chol_frozen (g : ℕ → ℕ → ℝ) (i k : ℕ) : ∀ t, k < t → chol g t i k = chol g (k + 1) i k
  | t + 1, h => by
    rcases Nat.lt_succ_iff_lt_or_eq.1 h with h' | rfl
    · rw [← chol_frozen g i k t h']; simp only [chol]; rw [if_neg (by omega)]
    · rfl

/-- After `t` columns the remainder is the elimination's. -/
theorem chol_rem (g : ℕ → ℕ → ℝ) (hg : ∀ i k, g i k = g k i) (hp : ∀ t, t < n → 0 < piv g t) : ∀ t i k, t ≤ n → t ≤ i → t ≤ k →
    g i k - ∑ s ∈ range t, chol g t i s * chol g t k s = elim g t i k
  | 0, _, _, _, _, _ => by simp [elim]
  | t + 1, i, k, ht, hi, hk => by
    have hd : g t t - ∑ s ∈ range t, chol g t t s * chol g t t s = elim g t t t := chol_rem g hg hp t t t (by omega) (le_refl _) (le_refl _)
    have hc : ∀ i, t ≤ i → chol g (t + 1) i t = elim g t i t / Real.sqrt (elim g t t t) := fun i hi => by
      simp only [chol]; rw [if_pos ⟨trivial, hi⟩, hd, chol_rem g hg hp t i t (by omega) hi (le_refl _)]
    have hs : ∑ s ∈ range t, chol g (t + 1) i s * chol g (t + 1) k s = ∑ s ∈ range t, chol g t i s * chol g t k s :=
      sum_congr rfl fun s hs => by
        have := mem_range.1 hs
        rw [chol_frozen g i s (t + 1) (by omega), chol_frozen g k s (t + 1) (by omega), chol_frozen g i s t this, chol_frozen g k s t this]
    rw [sum_range_succ, hs, hc i (by omega), hc k (by omega)]
    have h := chol_rem g hg hp t i k (by omega) (by omega) (by omega)
    have h1 := Real.mul_self_sqrt (hp t (by omega)).le
    have h0 := (Real.sqrt_pos.2 (hp t (by omega))).ne'
    have h0' := (hp t (by omega)).ne'
    unfold piv at h1 h0 h0'
    simp only [elim, if_pos (show t < i by omega), if_neg (show ¬ k = t by omega)]
    rw [← h, elim_symm g hg t t k (le_refl _) (by omega)]
    have : elim g t i t / Real.sqrt (elim g t t t) * (elim g t k t / Real.sqrt (elim g t t t)) = elim g t i t / elim g t t t * elim g t k t := by
      rw [div_mul_div_comm, h1]; ring
    rw [← this]; ring

theorem chol_col (g : ℕ → ℕ → ℝ) (hg : ∀ i k, g i k = g k i) (hp : ∀ t, t < n → 0 < piv g t) (t i : ℕ) (ht : t < n) (hi : t ≤ i) :
    chol g n i t = elim g t i t / Real.sqrt (piv g t) := by
  rw [chol_frozen g i t n ht]; simp only [chol]; rw [if_pos ⟨trivial, hi⟩, chol_rem n g hg hp t t t ht.le (le_refl _) (le_refl _),
    chol_rem n g hg hp t i t ht.le hi (le_refl _)]
  rfl

/-- The triangular solve's remainder after `t` columns. -/
theorem solve_rem (hp : ∀ t, t < n → 0 < piv (gram y) t) : ∀ t i, t ≤ n → t ≤ i →
    y i - ∑ k ∈ range t, chol (gram y) n i k • ortho y k = orth y t i
  | 0, _, _, _ => by simp [orth]
  | t + 1, i, ht, hi => by
    rw [sum_range_succ, ← sub_sub, solve_rem hp t i (by omega) (by omega), chol_col n (gram y) (gram_symm y) hp t i (by omega) (by omega)]
    simp only [orth, ortho, smul_smul]
    have h1 := Real.mul_self_sqrt (hp t (by omega)).le
    congr 2
    rw [← div_eq_mul_inv, div_div, h1]; rfl

/-- Dividing that by the diagonal gives the orthonormal vectors. -/
theorem solve_ortho (hp : ∀ t, t < n → 0 < piv (gram y) t) (j : ℕ) (hj : j < n) :
    (chol (gram y) n j j)⁻¹ • (y j - ∑ k ∈ range j, chol (gram y) n j k • ortho y k) = ortho y j := by
  rw [solve_rem y n hp j j hj.le (le_refl _), chol_col n (gram y) (gram_symm y) hp j j hj (le_refl _)]
  unfold ortho
  rw [show elim (gram y) j j j = piv (gram y) j from rfl, Real.div_sqrt]

/-! ## The next step's pivots -/

/-- The pivots are positive if no vector is a combination of the earlier ones. -/
theorem piv_pos (hind : ∀ (c : ℕ → ℝ) (t : ℕ), t < n → y t + ∑ k ∈ range t, c k • y k ≠ 0) : ∀ t, t < n → 0 < piv (gram y) t := by
  intro t
  induction t using Nat.strong_induction_on with
  | _ t ih =>
    intro ht
    have hp : ∀ s, s < t → piv (gram y) s ≠ 0 := fun s hs => (ih s hs (by omega)).ne'
    have h1 := orth_dot_self y t hp t (le_refl _)
    have h2 : orth y t t ≠ 0 := by rw [orth_eq_sum y t t (le_refl _)]; exact hind _ t ht
    rcases lt_or_eq_of_le (show 0 ≤ piv (gram y) t by
      rw [← h1]; exact sum_nonneg fun r _ => mul_self_nonneg _) with h | h
    · exact h
    · exact absurd (dot_self_eq_zero (h1.trans h.symm)) h2

variable {κ : Type*} [Fintype κ]

theorem ortho_mem (D : Matrix ι κ ℝ) (hy : ∀ k, ∃ w, y k = D.mulVec w) (i : ℕ) : ∃ w, ortho y i = D.mulVec w := by
  choose f hf using hy
  unfold ortho
  rw [orth_eq_sum y i i (le_refl _)]
  refine ⟨(Real.sqrt (piv (gram y) i))⁻¹ • (f i + ∑ k ∈ range i, elim (gram y) i i k • f k), ?_⟩
  rw [Matrix.mulVec_smul, Matrix.mulVec_add, mulVec_sum', ← hf i]
  congr 2
  exact sum_congr rfl fun k _ => by rw [Matrix.mulVec_smul, ← hf k]

/-- One power step keeps the pivots positive: `D Dᵀ` is injective on the range of `D`, where the orthonormal vectors lie. -/
theorem next_piv (D : Matrix ι κ ℝ) (q : ℕ → ι → ℝ) (hq : ∀ k, ∃ w, q k = D.mulVec w)
    (ho : ∀ i j, i < n → j < n → q i ⬝ᵥ q j = if i = j then 1 else 0) :
    ∀ t, t < n → 0 < piv (gram fun k => D.mulVec (D.transpose.mulVec (q k))) t := by
  refine piv_pos _ n fun c t ht h => ?_
  set v : ι → ℝ := q t + ∑ k ∈ range t, c k • q k with hv
  have h1 : D.mulVec (D.transpose.mulVec v) = 0 := by
    rw [← h, hv, Matrix.mulVec_add, Matrix.mulVec_add, mulVec_sum', mulVec_sum']
    congr 1
    exact sum_congr rfl fun k _ => by rw [Matrix.mulVec_smul, Matrix.mulVec_smul]
  have h2 : D.transpose.mulVec v = 0 := by
    apply dot_self_eq_zero
    rw [Matrix.dotProduct_mulVec, Matrix.vecMul_transpose, h1, zero_dotProduct]
  obtain ⟨w, hw⟩ : ∃ w, v = D.mulVec w := by
    choose f hf using hq
    refine ⟨f t + ∑ k ∈ range t, c k • f k, ?_⟩
    rw [Matrix.mulVec_add, mulVec_sum', ← hf t, hv]
    congr 1
    exact sum_congr rfl fun k _ => by rw [Matrix.mulVec_smul, ← hf k]
  have h3 : v = 0 := by
    apply dot_self_eq_zero
    conv_lhs => rhs; rw [hw]
    rw [Matrix.dotProduct_mulVec, ← Matrix.mulVec_transpose, h2, zero_dotProduct]
  have h4 : v ⬝ᵥ q t = 1 := by
    rw [hv, add_dotProduct, sum_dotProduct, ho t t ht ht, if_pos rfl, sum_eq_zero, add_zero]
    intro k hk
    have := mem_range.1 hk
    rw [smul_dotProduct, ho k t (by omega) ht, if_neg (by omega), smul_zero]
  rw [h3, zero_dotProduct] at h4
  exact zero_ne_one h4

end Cert.Algebra

end
-- ==== Proof.Reals.lean ====
/-
  Real arrays inside the extended reals: what sums, products, quotients and roots of finite entries are, the loop index
  against the positions of an array, and induction over the trips of a counted loop.
-/
module

public import Idealize.ShloMosaic.PureOps.Ideal
public import Idealize.ShloMosaic.Lib.Pipeline.ValueKit
public import Idealize.ShloMosaic.Lib.Pointwise
public import Idealize.ShloMosaic.Lib.Exec.Context

@[expose] public section

noncomputable section

namespace Cert.Reals

open Idealize.ShloMosaic

theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_real (x : ℝ) {y : ℝ} (h : y ≠ 0) : Ideal.div (x : EReal) (y : EReal) = ((x / y : ℝ) : EReal) := by
  rw [Ideal.div_coe h, ← EReal.coe_mul, mul_one_div]

theorem sqrt_real {x : ℝ} (h : 0 ≤ x) : Ideal.sqrt (x : EReal) = ((Real.sqrt x : ℝ) : EReal) := by
  rw [Ideal.sqrt_coe, if_neg (not_lt.2 h)]

theorem rsqrt_real {x : ℝ} (h : 0 < x) : Ideal.rsqrt (x : EReal) = (((Real.sqrt x)⁻¹ : ℝ) : EReal) := by
  rw [Ideal.rsqrt_coe, if_neg (not_lt.2 h.le), if_neg h.ne']

theorem toNat_iv {n t : ℕ} (hn : n ≤ 4096) (h : t < n) : (Scf.iv 0#32 1#32 t).toNat = t := by
  simp only [Scf.iv, BitVec.toNat_add, BitVec.toNat_mul, BitVec.toNat_ofNat]; omega

/-- The loop index at a position. -/
theorem eq_mask {k t : ℕ} (hk : k < 4096) (ht : t < 4096) :
    IntOp.cmpi .eq (BitVec.ofNat 32 k) (Scf.iv 0#32 1#32 t) = if k = t then 1#1 else 0#1 := by
  have e : (BitVec.ofNat 32 k == Scf.iv 0#32 1#32 t) = decide (k = t) := by
    rw [Bool.eq_iff_iff, beq_iff_eq, decide_eq_true_iff, BitVec.toNat_eq.symm.symm]
    rw [toNat_iv (le_refl _) ht, BitVec.toNat_ofNat]; omega
  simp only [IntOp.cmpi, e]
  by_cases h : k = t <;> simp [h]

theorem ge_mask {k t : ℕ} (hk : k < 4096) (ht : t < 4096) :
    IntOp.cmpi .sge (BitVec.ofNat 32 k) (Scf.iv 0#32 1#32 t) = if t ≤ k then 1#1 else 0#1 := by
  have e : BitVec.sle (Scf.iv 0#32 1#32 t) (BitVec.ofNat 32 k) = decide (t ≤ k) := by
    have h1 := toNat_iv (le_refl _) ht
    have h2 : (BitVec.ofNat 32 k).toNat = k := by rw [BitVec.toNat_ofNat]; omega
    rw [Bool.eq_iff_iff, decide_eq_true_iff, BitVec.sle_iff_toInt_le,
      BitVec.toInt_eq_toNat_of_lt (by omega), BitVec.toInt_eq_toNat_of_lt (by omega), h1, h2]
    omega
  simp only [IntOp.cmpi, e]
  by_cases h : t ≤ k <;> simp [h]

theorem andi_if (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem select_if {α : Type} (p : Prop) [Decidable p] (x y : α) :
    Scalar.select (if p then 1#1 else 0#1) x y = if p then x else y := by
  by_cases hp : p <;> simp [hp, Scalar.select]

/-- Induction over the trips of a counted loop. -/
theorem fold_inv {σ : Type} {n : ℕ} (g : Fin n → σ → σ) (init : σ) (P : ℕ → σ → Prop) (h0 : P 0 init)
    (hs : ∀ (k : Fin n) (x : σ), P k.val x → P (k.val + 1) (g k x)) : P n (Scf.fold g init) := by
  rw [Scf.fold_eq]
  have h : ∀ m, m ≤ n → P m (((List.finRange n).take m).foldl (fun acc k => g k acc) init) := by
    intro m
    induction m with
    | zero => intro _; simpa using h0
    | succ m ih =>
      intro hm
      rw [List.take_succ_eq_append_getElem (by simpa using hm), List.foldl_append]
      simpa using hs ⟨m, hm⟩ _ (ih (by omega))
  have e := h n (le_refl _)
  rwa [List.take_of_length_le (by simp)] at e

end Cert.Reals
end
-- ==== Proof.Stages.lean ====
/-
  The whole sketch over the reals: the difference of the two dequantised matrices, the three bases and the last product,
  as functions of the arguments; the pivots stay positive from one stage to the next; and the passage of sums of products
  from the extended reals to the reals.
-/
module

public import proofs.«01_k».proof.Proof.Common
public import proofs.«01_k».proof.Proof.Algebra
public import proofs.«01_k».proof.Proof.Reals

@[expose] public section

noncomputable section

namespace Cert.Stages

open Idealize.ShloMosaic Cert.Algebra Cert.Reals Cert.Proof.Common

/-- The scales as they are given: one per 128 × 128 block. -/
abbrev SG : Shape := ⟨3, ![64, 8, 16]⟩

/-- The test matrices. -/
abbrev SX : Shape := ⟨3, ![64, 2048, 104]⟩

/-- Every entry is a real number. -/
def IsReal {s : Shape} (x : s.Idx → EReal) : Prop := ∀ j, x j = ((x j).toReal : EReal)

/-- The dequantised matrix `b`, from codes and scales. -/
def wt (C : SC.Idx → EReal) (S : SG.Idx → EReal) (b : Fin 64) (i : Fin 1024) (k : Fin 2048) : EReal :=
  C (ix3 b i k) * S (ix3 b (⟨i.val / 128, by omega⟩ : Fin 8) (⟨k.val / 128, by omega⟩ : Fin 16))

/-- The same, over the reals. -/
def wr (C : SC.Idx → EReal) (S : SG.Idx → EReal) (b : Fin 64) : Matrix (Fin 1024) (Fin 2048) ℝ := fun i k => (wt C S b i k).toReal

theorem wt_real {C : SC.Idx → EReal} {S : SG.Idx → EReal} (hC : IsReal C) (hS : IsReal S) (b : Fin 64) (i : Fin 1024) (k : Fin 2048) :
    wt C S b i k = ((wr C S b i k : ℝ) : EReal) := by
  unfold wr wt
  rw [hC (ix3 b i k), hS (ix3 b _ _), ← EReal.coe_mul, EReal.toReal_coe]

/-- The test matrix's column `r`. -/
def om (X : SX.Idx → EReal) (b : Fin 64) (r : ℕ) (k : Fin 2048) : ℝ := if h : r < 104 then (X (ix3 b k ⟨r, h⟩)).toReal else 0

theorem om_real {X : SX.Idx → EReal} (hX : IsReal X) (b : Fin 64) (r : Fin 104) (k : Fin 2048) : X (ix3 b k r) = ((om X b r k : ℝ) : EReal) := by
  unfold om
  rw [dif_pos r.isLt]
  exact hX _

section
variable (D : Fin 64 → Matrix (Fin 1024) (Fin 2048) ℝ) (w : Fin 64 → ℕ → Fin 2048 → ℝ)

/-- The difference times some vectors. -/
def mul (b : Fin 64) (r : ℕ) : Fin 1024 → ℝ := (D b).mulVec (w b r)
/-- The transposed difference times some vectors. -/
def mulT (q : Fin 64 → ℕ → Fin 1024 → ℝ) (b : Fin 64) (r : ℕ) : Fin 2048 → ℝ := (D b).transpose.mulVec (q b r)
/-- Some vectors orthonormalised. -/
def orthoB (y : Fin 64 → ℕ → Fin 1024 → ℝ) (b : Fin 64) (r : ℕ) : Fin 1024 → ℝ := ortho (y b) r

def y0 : Fin 64 → ℕ → Fin 1024 → ℝ := mul D w
def q0 : Fin 64 → ℕ → Fin 1024 → ℝ := orthoB (y0 D w)
def y1 : Fin 64 → ℕ → Fin 1024 → ℝ := mul D (mulT D (q0 D w))
def q1 : Fin 64 → ℕ → Fin 1024 → ℝ := orthoB (y1 D w)
def y2 : Fin 64 → ℕ → Fin 1024 → ℝ := mul D (mulT D (q1 D w))
def q2 : Fin 64 → ℕ → Fin 1024 → ℝ := orthoB (y2 D w)
def bb : Fin 64 → ℕ → Fin 2048 → ℝ := mulT D (q2 D w)

/-- All 104 pivots are positive, in every matrix. -/
def Full (y : Fin 64 → ℕ → Fin 1024 → ℝ) : Prop := ∀ b t, t < 104 → 0 < piv (gram (y b)) t

theorem full_next (v : Fin 64 → ℕ → Fin 2048 → ℝ) (h : Full (mul D v)) : Full (mul D (mulT D (orthoB (mul D v)))) := fun b t ht =>
  next_piv 104 (D b) (fun k => ortho (mul D v b) k) (fun k => ortho_mem (D b) (y := mul D v b) (fun k => ⟨v b k, rfl⟩) k)
    (fun i j hi hj => ortho_dot (mul D v b) 104 (h b) i j hi hj) t ht

theorem full1 (h : Full (y0 D w)) : Full (y1 D w) := full_next D w h
theorem full2 (h : Full (y0 D w)) : Full (y2 D w) := full_next D _ (full1 D w h)

end

/-- A difference of two sums of products, over the reals. -/
theorem diff_real {n : ℕ} (u v x : Fin n → ℝ) :
    (∑ k, ((x k : ℝ) : EReal) * ((u k : ℝ) : EReal)) - ∑ k, ((x k : ℝ) : EReal) * ((v k : ℝ) : EReal) = ((∑ k, (u k - v k) * x k : ℝ) : EReal) := by
  simp only [← EReal.coe_mul, sum_coe, ← EReal.coe_sub]
  rw [← Finset.sum_sub_distrib]
  exact congrArg _ (Finset.sum_congr rfl fun k _ => by ring)

section
variable {U V : Fin 64 → Fin 1024 → Fin 2048 → EReal} {u v : Fin 64 → Matrix (Fin 1024) (Fin 2048) ℝ}
  (hU : ∀ b i k, U b i k = ((u b i k : ℝ) : EReal)) (hV : ∀ b i k, V b i k = ((v b i k : ℝ) : EReal))

include hU hV

theorem yv_real {X : Fin 64 → Fin 104 → Fin 2048 → EReal} {x : Fin 64 → ℕ → Fin 2048 → ℝ} (hX : ∀ b r k, X b r k = ((x b (Fin.val r) k : ℝ) : EReal))
    (b : Fin 64) (r : Fin 104) (i : Fin 1024) : yv U V X b r i = ((mul (fun b => u b - v b) x b r i : ℝ) : EReal) := by
  unfold yv
  simp only [hU, hV, hX]
  exact diff_real (u b i) (v b i) (x b r)

theorem zv_real {Q : Fin 64 → Fin 104 → Fin 1024 → EReal} {q : Fin 64 → ℕ → Fin 1024 → ℝ} (hQ : ∀ b r k, Q b r k = ((q b (Fin.val r) k : ℝ) : EReal))
    (b : Fin 64) (r : Fin 104) (k : Fin 2048) : zv U V Q b r k = ((mulT (fun b => u b - v b) q b r k : ℝ) : EReal) := by
  unfold zv
  simp only [hU, hV, hQ]
  exact diff_real (fun i => u b i k) (fun i => v b i k) (q b r)

end

theorem gv_real {Y : Fin 64 → Fin 104 → Fin 1024 → EReal} {y : Fin 64 → ℕ → Fin 1024 → ℝ} (hY : ∀ b r k, Y b r k = ((y b (Fin.val r) k : ℝ) : EReal))
    (b : Fin 64) (r s : Fin 104) : gv Y b r s = ((gram (y b) r s : ℝ) : EReal) := by
  unfold gv
  simp only [hY, ← EReal.coe_mul, sum_coe]
  rfl

end Cert.Stages

end
-- ==== Proof.HostReads.lean ====
/-
  What the host stretches of the kernel leave: the codes as given, the scales repeated over their columns, and the
  transposes between the calls.
-/
module

public import proofs.«01_k».proof.Proof.SketchIdeal.Run
public import proofs.«01_k».proof.Proof.Stages
public import Idealize.ShloMosaic.Lib.Pointwise
public import Idealize.ShloMosaic.Lib.Pipeline.ValueKit

@[expose] public section

noncomputable section

namespace Cert.HostReads

open Cert.SketchIdeal Cert.SketchIdeal.Gen Cert.SketchIdeal.Run
open Idealize.ShloMosaic Idealize.ShloMosaic.TcCoe Idealize.SL.Sem
open Cert.Stages Cert.Proof.Common

variable (m : (ℓ : Loc nD τ sig) → Buf (Elt Ideal) ℓ) (c : Dev nD)

theorem ft_codes : (W1 m c main_v0 : SC.Idx → EReal) = m ((c : Thread nD τ).loc main_arg0) := by
  unfold W1
  after_results
  rfl

theorem base_codes : (W1 m c main_v1 : SC.Idx → EReal) = m ((c : Thread nD τ).loc main_arg2) := by
  unfold W1
  after_results
  rfl

theorem ft_scales (b : Fin 64) (i : Fin 8) (k : Fin 2048) : (W1 m c main_v4 : SR.Idx → EReal) (ix3 b i k)
    = (m ((c : Thread nD τ).loc main_arg1) : SG.Idx → EReal) (ix3 b i (⟨k.val / 128, by omega⟩ : Fin 16)) := by
  unfold W1
  after_results
  pointwise
  rfl

theorem omega (b : Fin 64) (r : Fin 104) (k : Fin 2048) : (W1 m c main_v8 : (⟨3, ![64, 104, 2048]⟩ : Shape).Idx → EReal) (ix3 b r k)
    = (m ((c : Thread nD τ).loc main_arg4) : SX.Idx → EReal) (ix3 b k r) := by
  unfold W1
  after_results
  pointwise
  rfl

theorem base_scales (b : Fin 64) (i : Fin 8) (k : Fin 2048) : (W1 m c main_v7 : SR.Idx → EReal) (ix3 b i k)
    = (m ((c : Thread nD τ).loc main_arg3) : SG.Idx → EReal) (ix3 b i (⟨k.val / 128, by omega⟩ : Fin 16)) := by
  unfold W1
  after_results
  pointwise
  rfl

/-- The shapes between the calls: a Gram array by matrix, the same with the matrix last, and a basis both ways round. -/
abbrev SGm : Shape := ⟨3, ![64, 104, 104]⟩
abbrev SGt : Shape := ⟨3, ![104, 104, 64]⟩
abbrev SQt : Shape := ⟨3, ![64, 104, 1024]⟩
abbrev SQ : Shape := ⟨3, ![64, 1024, 104]⟩

theorem g0 (i k : Fin 104) (b : Fin 64) : (W3 m c main_v10 : SGt.Idx → EReal) (ix3 i k b)
    = (W2 m c main_v9_1 : SGm.Idx → EReal) (ix3 b i k) := by
  unfold W3
  after_results
  pointwise

theorem g1 (i k : Fin 104) (b : Fin 64) : (W7 m c main_v14 : SGt.Idx → EReal) (ix3 i k b)
    = (W6 m c main_v13_2 : SGm.Idx → EReal) (ix3 b i k) := by
  unfold W7
  after_results
  pointwise

theorem g2 (i k : Fin 104) (b : Fin 64) : (W11 m c main_v18 : SGt.Idx → EReal) (ix3 i k b)
    = (W10 m c main_v17_2 : SGm.Idx → EReal) (ix3 b i k) := by
  unfold W11
  after_results
  pointwise

theorem l0 (b : Fin 64) (i k : Fin 104) : (W5 m c main_v12 : SGm.Idx → EReal) (ix3 b i k)
    = (W4 m c main_v11 : SGt.Idx → EReal) (ix3 i k b) := by
  unfold W5
  after_results
  pointwise

theorem l1 (b : Fin 64) (i k : Fin 104) : (W9 m c main_v16 : SGm.Idx → EReal) (ix3 b i k)
    = (W8 m c main_v15 : SGt.Idx → EReal) (ix3 i k b) := by
  unfold W9
  after_results
  pointwise

theorem l2 (b : Fin 64) (i k : Fin 104) : (W13 m c main_v20 : SGm.Idx → EReal) (ix3 b i k)
    = (W12 m c main_v19 : SGt.Idx → EReal) (ix3 i k b) := by
  unfold W13
  after_results
  pointwise

theorem r2 (b : Fin 64) (i : Fin 1024) (r : Fin 104) : (W15 m c main_v22 : SQ.Idx → EReal) (ix3 b i r)
    = (W14 m c main_v21_0 : SQt.Idx → EReal) (ix3 b r i) := by
  unfold W15
  after_results
  pointwise

theorem r0 (b : Fin 64) (i : Fin 1024) (r : Fin 104) : (W15 m c main_v23 : SQ.Idx → EReal) (ix3 b i r)
    = (W14 m c main_v13_0 : SQt.Idx → EReal) (ix3 b r i) := by
  unfold W15
  after_results
  pointwise

theorem r1 (b : Fin 64) (i : Fin 1024) (r : Fin 104) : (W15 m c main_v24 : SQ.Idx → EReal) (ix3 b i r)
    = (W14 m c main_v17_0 : SQt.Idx → EReal) (ix3 b r i) := by
  unfold W15
  after_results
  pointwise

end Cert.HostReads

end
-- ==== Proof.InvRegions.lean ====
/-
  The three Cholesky calls over the reals: the array each leaves is the kernel's function of the array it reads.
-/
module

public import proofs.«01_k».proof.Proof.SketchIdeal.K1
public import proofs.«01_k».proof.Proof.SketchIdeal.K3
public import proofs.«01_k».proof.Proof.SketchIdeal.K5
public import Idealize.ShloMosaic.Lib.Pipeline.ValueKit
public import Idealize.ShloMosaic.Lib.Pointwise

@[expose] public section

noncomputable section

namespace Cert.InvRegions

open Cert.SketchIdeal Cert.SketchIdeal.Gen Cert.SketchIdeal.Own Cert.SketchIdeal.InvChol
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx1 : ∀ t : Fin cfg1.N, (win1_0.index t = ![0, 0, 0]) ∧ (win1_1.index t = ![0, 0, 0]) := by
  decide +kernel

theorem block1 (c : Dev nD) (t : Fin cfg1.N) : K1.iblk V c 0 t = V c main_v10 := by
  funext y
  obtain ⟨i, k, b, rfl⟩ : ∃ (i : Fin 104) (k : Fin 104) (b : Fin 64), y = ix3 i k b := ⟨y 0, y 1, y 2, by funext a; fin_cases a <;> rfl⟩
  blk_ext [K1.iblk, (idx1 t).1]

theorem out1 (c : Dev nD) :
    (K1.dat (Ix := Unit) (U := UR sig nD τ) (Lvl := ℕ) V (fun _ => 0) c).arrAt 1 cfg1.N = value (V c main_v10) := by
  refine (K1.dat (Ix := Unit) (U := UR sig nD τ) (Lvl := ℕ) V (fun _ => 0) c).arrAt_eq_of_covers 1 _ (by decide +kernel) fun t hf y => ?_
  blk_simp
  rw [K1.after_1, K1.outAt, block1]
  refine congrArg _ ?_
  obtain ⟨i, k, b, rfl⟩ : ∃ (i : Fin 104) (k : Fin 104) (b : Fin 64), y = ix3 i k b := ⟨y 0, y 1, y 2, by funext a; fin_cases a <;> rfl⟩
  exact Eq.symm (show ((cfg1.win 1).blk t).view.emb (ix3 i k b) = ix3 i k b from by blk_ext [(idx1 t).2])

theorem idx3 : ∀ t : Fin cfg3.N, (win3_0.index t = ![0, 0, 0]) ∧ (win3_1.index t = ![0, 0, 0]) := by
  decide +kernel

theorem block3 (c : Dev nD) (t : Fin cfg3.N) : K3.iblk V c 0 t = V c main_v14 := by
  funext y
  obtain ⟨i, k, b, rfl⟩ : ∃ (i : Fin 104) (k : Fin 104) (b : Fin 64), y = ix3 i k b := ⟨y 0, y 1, y 2, by funext a; fin_cases a <;> rfl⟩
  blk_ext [K3.iblk, (idx3 t).1]

theorem out3 (c : Dev nD) :
    (K3.dat (Ix := Unit) (U := UR sig nD τ) (Lvl := ℕ) V (fun _ => 0) c).arrAt 1 cfg3.N = value (V c main_v14) := by
  refine (K3.dat (Ix := Unit) (U := UR sig nD τ) (Lvl := ℕ) V (fun _ => 0) c).arrAt_eq_of_covers 1 _ (by decide +kernel) fun t hf y => ?_
  blk_simp
  rw [K3.after_1, K3.outAt, block3]
  refine congrArg _ ?_
  obtain ⟨i, k, b, rfl⟩ : ∃ (i : Fin 104) (k : Fin 104) (b : Fin 64), y = ix3 i k b := ⟨y 0, y 1, y 2, by funext a; fin_cases a <;> rfl⟩
  exact Eq.symm (show ((cfg3.win 1).blk t).view.emb (ix3 i k b) = ix3 i k b from by blk_ext [(idx3 t).2])

theorem idx5 : ∀ t : Fin cfg5.N, (win5_0.index t = ![0, 0, 0]) ∧ (win5_1.index t = ![0, 0, 0]) := by
  decide +kernel

theorem block5 (c : Dev nD) (t : Fin cfg5.N) : K5.iblk V c 0 t = V c main_v18 := by
  funext y
  obtain ⟨i, k, b, rfl⟩ : ∃ (i : Fin 104) (k : Fin 104) (b : Fin 64), y = ix3 i k b := ⟨y 0, y 1, y 2, by funext a; fin_cases a <;> rfl⟩
  blk_ext [K5.iblk, (idx5 t).1]

theorem out5 (c : Dev nD) :
    (K5.dat (Ix := Unit) (U := UR sig nD τ) (Lvl := ℕ) V (fun _ => 0) c).arrAt 1 cfg5.N = value (V c main_v18) := by
  refine (K5.dat (Ix := Unit) (U := UR sig nD τ) (Lvl := ℕ) V (fun _ => 0) c).arrAt_eq_of_covers 1 _ (by decide +kernel) fun t hf y => ?_
  blk_simp
  rw [K5.after_1, K5.outAt, block5]
  refine congrArg _ ?_
  obtain ⟨i, k, b, rfl⟩ : ∃ (i : Fin 104) (k : Fin 104) (b : Fin 64), y = ix3 i k b := ⟨y 0, y 1, y 2, by funext a; fin_cases a <;> rfl⟩
  exact Eq.symm (show ((cfg5.win 1).blk t).view.emb (ix3 i k b) = ix3 i k b from by blk_ext [(idx5 t).2])

end Cert.InvRegions

end
-- ==== Proof.InvValue.lean ====
/-
  The Cholesky kernel on real entries: what it leaves of a Gram array with positive pivots, entry by entry.
-/
module

public import proofs.«01_k».proof.Proof.SketchIdeal.InvChol
public import proofs.«01_k».proof.Proof.Algebra
public import proofs.«01_k».proof.Proof.Reals

@[expose] public section

noncomputable section

namespace Cert.InvValue

open Cert.SketchIdeal Cert.SketchIdeal.Gen Cert.SketchIdeal.InvChol Idealize.ShloMosaic Idealize.ShloMosaic.LaneScatter
open Cert.Algebra Cert.Reals

theorem row_apply (A : Vec Ideal S104x104x64 .f32) (r : ℕ) (h : r < 104) (k : Fin 104) (b : Fin 64) :
    row A r h (ix3 (0 : Fin 1) k b) = A (ix3 ⟨r, h⟩ k b) := by
  unfold row VecWindow.window
  refine congrArg A (funext fun a => Fin.ext ?_)
  fin_cases a <;> simp [ix3]

theorem elt_apply (A : Vec Ideal S104x104x64 .f32) (r k : ℕ) (h : r < 104) (h' : k < 104) (b : Fin 64) :
    elt A r k h h' (ix3 (0 : Fin 1) (0 : Fin 1) b) = A (ix3 ⟨r, h⟩ ⟨k, h'⟩ b) := by
  unfold elt VecWindow.window
  refine congrArg A (funext fun a => Fin.ext ?_)
  fin_cases a <;> simp [ix3]

theorem put_row (A : Vec Ideal S104x104x64 .f32) (r : ℕ) (w : Vec Ideal S1x104x64 .f32) (i k : Fin 104) (b : Fin 64) :
    VecWindow.put A ![r, 0, 0] S1x104x64.size w (ix3 i k b) = if i.val = r then w (ix3 (0 : Fin 1) k b) else A (ix3 i k b) := by
  unfold VecWindow.put
  by_cases e : i.val = r
  · subst e
    rw [if_pos rfl, dif_pos (by
      intro a
      fin_cases a
      · exact ⟨le_refl _, Nat.lt_succ_self _⟩
      · exact ⟨Nat.zero_le _, lt_of_lt_of_eq k.isLt (Nat.zero_add _).symm⟩
      · exact ⟨Nat.zero_le _, lt_of_lt_of_eq b.isLt (Nat.zero_add _).symm⟩)]
    refine congrArg w (funext fun a => Fin.ext ?_)
    fin_cases a
    · exact Nat.sub_self _
    · exact Nat.sub_zero _
    · exact Nat.sub_zero _
  · rw [if_neg e, dif_neg (fun hall => e (by have := hall 0; exact Nat.le_antisymm (Nat.lt_succ_iff.mp this.2) this.1))]

theorem put_elt (A : Vec Ideal S104x104x64 .f32) (r j : ℕ) (w : Vec Ideal S1x1x64 .f32) (i k : Fin 104) (b : Fin 64) :
    VecWindow.put A ![r, j, 0] S1x1x64.size w (ix3 i k b) = if i.val = r ∧ k.val = j then w (ix3 (0 : Fin 1) (0 : Fin 1) b) else A (ix3 i k b) := by
  unfold VecWindow.put
  by_cases e : i.val = r ∧ k.val = j
  · obtain ⟨rfl, rfl⟩ := e
    rw [if_pos ⟨rfl, rfl⟩, dif_pos (by
      intro a
      fin_cases a
      · exact ⟨le_refl _, Nat.lt_succ_self _⟩
      · exact ⟨le_refl _, Nat.lt_succ_self _⟩
      · exact ⟨Nat.zero_le _, lt_of_lt_of_eq b.isLt (Nat.zero_add _).symm⟩)]
    refine congrArg w (funext fun a => Fin.ext ?_)
    fin_cases a
    · exact Nat.sub_self _
    · exact Nat.sub_self _
    · exact Nat.sub_zero _
  · rw [if_neg e, dif_neg (fun hall => e ⟨by have := hall 0; exact Nat.le_antisymm (Nat.lt_succ_iff.mp this.2) this.1,
      by have := hall 1; exact Nat.le_antisymm (Nat.lt_succ_iff.mp this.2) this.1⟩)]

theorem pay5_apply (v9 v29 : Vec Ideal S1x104x64 .f32) (v13 v25 : Vec Ideal S1x1x64 .f32) (k : Fin 104) (b : Fin 64) :
    k1_pay5 v9 v13 v25 v29 (ix3 (0 : Fin 1) k b)
      = v29 (ix3 (0 : Fin 1) k b) - v25 (ix3 (0 : Fin 1) (0 : Fin 1) b) * Ideal.div 1 (v13 (ix3 (0 : Fin 1) (0 : Fin 1) b)) * v9 (ix3 (0 : Fin 1) k b) := by
  pointwise [k1_pay5, k1_pay4, k1_pay3, k1_pay2]

theorem pay6_apply (v13 v25 : Vec Ideal S1x1x64 .f32) (b : Fin 64) :
    k1_pay6 v13 v25 (ix3 (0 : Fin 1) (0 : Fin 1) b)
      = 0 - v25 (ix3 (0 : Fin 1) (0 : Fin 1) b) * Ideal.div 1 (v13 (ix3 (0 : Fin 1) (0 : Fin 1) b)) := by
  pointwise [k1_pay6, k1_pay4, k1_pay3]

theorem pay1_apply (v : Vec Ideal S104x104x64 .f32) (i k : Fin 104) (b : Fin 64) : k1_pay1 v (ix3 i k b) = v (ix3 i k b) := by
  pointwise [k1_pay1]

theorem pay10_apply (i : Fin k1_t4_loop.trips) (v10 : Vec Ideal S1x1x64 .f32) (v16 : Vec Ideal S1x104x64 .f32) (k : Fin 104) (b : Fin 64) :
    k1_pay10 i v10 v16 (ix3 (0 : Fin 1) k b)
      = Scalar.select (IntOp.cmpi .slt (BitVec.ofNat 32 k.val) (Scf.iv 0#32 1#32 i.val)) (v16 (ix3 (0 : Fin 1) k b))
          (Scalar.select (IntOp.cmpi .eq (BitVec.ofNat 32 k.val) (Scf.iv 0#32 1#32 i.val)) 1 0) * Ideal.rsqrt (v10 (ix3 (0 : Fin 1) (0 : Fin 1) b)) := by
  pointwise [k1_pay10]

variable (G : Fin 64 → ℕ → ℕ → ℝ)

/-- The array holds the elimination after `t` steps. -/
def Holds (t : ℕ) (A : Vec Ideal S104x104x64 .f32) : Prop :=
  ∀ (i k : Fin 104) (b : Fin 64), A (ix3 i k b) = ((elim (G b) t i k : ℝ) : EReal)

theorem div_one_real {p : ℝ} (h : p ≠ 0) : Ideal.div 1 (p : EReal) = ((1 / p : ℝ) : EReal) := by
  rw [← EReal.coe_one, div_real _ h]

theorem rowPut_pos (j : ℕ) (hj : j < 104) (v9 : Vec Ideal S1x104x64 .f32) (v13 : Vec Ideal S1x1x64 .f32) (n : ℕ) (A : Vec Ideal S104x104x64 .f32)
    (h : j + n + 1 < 104) : rowPut j hj v9 v13 n A
      = VecWindow.put (VecWindow.put A ![j + n + 1, 0, 0] S1x104x64.size (k1_pay5 v9 v13 (elt A (j + n + 1) j h hj) (row A (j + n + 1) h)))
        ![j + n + 1, j, 0] S1x1x64.size (k1_pay6 v13 (elt A (j + n + 1) j h hj)) := dif_pos h

theorem rowPut_neg (j : ℕ) (hj : j < 104) (v9 : Vec Ideal S1x104x64 .f32) (v13 : Vec Ideal S1x1x64 .f32) (n : ℕ) (A : Vec Ideal S104x104x64 .f32)
    (h : ¬ j + n + 1 < 104) : rowPut j hj v9 v13 n A = A := dif_neg h

/-- The rows below `j`, one after another. -/
theorem rows (hp : ∀ b t, t < 104 → 0 < piv (G b) t) (j : ℕ) (hj : j < 104) (A : Vec Ideal S104x104x64 .f32) (hA : Holds G j A) (n : ℕ)
    (i k : Fin 104) (b : Fin 64) :
    iter (rowPut j hj (row A j hj) (elt A j j hj hj)) n A (ix3 i k b)
      = ((if i.val ≤ j + n then elim (G b) (j + 1) i k else elim (G b) j i k : ℝ) : EReal) := by
  induction n generalizing i k b with
  | zero =>
    refine (hA i k b).trans ?_
    by_cases h : i.val ≤ j
    · rw [if_pos (by omega)]; simp only [elim]; rw [if_neg (by omega)]
    · rw [if_neg (by omega)]
  | succ n ih =>
    show rowPut j hj (row A j hj) (elt A j j hj hj) n (iter (rowPut j hj (row A j hj) (elt A j j hj hj)) n A) (ix3 i k b) = _
    by_cases hn : j + n + 1 < 104
    · rw [rowPut_pos j hj _ _ n _ hn, put_elt, put_row]
      have hne : elim (G b) j j j ≠ 0 := (hp b j hj).ne'
      by_cases e : i.val = j + n + 1
      · rw [if_pos (by omega : i.val ≤ j + (n + 1))]
        have ei : elim (G b) (j + 1) i k = if k.val = j then -(elim (G b) j i j / elim (G b) j j j) else elim (G b) j i k - elim (G b) j i j / elim (G b) j j j * elim (G b) j j k := by
          simp only [elim]; rw [if_pos (by omega)]
        rw [ei]
        have hi : (⟨j + n + 1, hn⟩ : Fin 104) = i := Fin.ext e.symm
        have hAe : ∀ k' : Fin 104, iter (rowPut j hj (row A j hj) (elt A j j hj hj)) n A (ix3 i k' b) = ((elim (G b) j i k' : ℝ) : EReal) := fun k' => by
          rw [ih i k' b, if_neg (by omega)]
        by_cases ek : k.val = j
        · rw [if_pos ⟨e, ek⟩, if_pos ek, pay6_apply, elt_apply, elt_apply, hi, hAe, hA]
          rw [div_one_real hne, ← EReal.coe_mul, ← EReal.coe_zero, ← EReal.coe_sub]
          congr 1
          show _ - elim (G b) j i j * _ = _
          ring
        · rw [if_neg (fun h => ek h.2), if_pos e, if_neg ek, pay5_apply, elt_apply, elt_apply, row_apply, row_apply, hi, hAe, hAe, hA, hA]
          rw [div_one_real hne, ← EReal.coe_mul, ← EReal.coe_mul, ← EReal.coe_sub]
          congr 1
          show _ - elim (G b) j i j * _ * elim (G b) j j k = _
          ring
      · rw [if_neg (fun h => e h.1), if_neg e, ih i k b]
        by_cases h : i.val ≤ j + n
        · rw [if_pos h, if_pos (by omega)]
        · rw [if_neg h, if_neg (by omega)]
    · rw [rowPut_neg j hj _ _ n _ hn, ih i k b, if_pos (by omega), if_pos (by omega)]

/-- One step of the elimination. -/
theorem step (hp : ∀ b t, t < 104 → 0 < piv (G b) t) (j : ℕ) (hj : j < 104) (A : Vec Ideal S104x104x64 .f32) (hA : Holds G j A) :
    Holds G (j + 1) (elimPut j A) := fun i k b => by
  unfold elimPut
  rw [dif_pos hj, rows G hp j hj A hA, if_pos (by omega)]

theorem steps (hp : ∀ b t, t < 104 → 0 < piv (G b) t) (A : Vec Ideal S104x104x64 .f32) (hA : Holds G 0 A) (n : ℕ) (hn : n ≤ 104) :
    Holds G n (iter elimPut n A) := by
  induction n with
  | zero => exact hA
  | succ n ih => exact step G hp n (by omega) _ (ih (by omega))

theorem lt_mask {k t : ℕ} (hk : k < 4096) (ht : t < 4096) :
    IntOp.cmpi .slt (BitVec.ofNat 32 k) (Scf.iv 0#32 1#32 t) = if k < t then 1#1 else 0#1 := by
  have e : BitVec.slt (BitVec.ofNat 32 k) (Scf.iv 0#32 1#32 t) = decide (k < t) := by
    have h1 := toNat_iv (le_refl _) ht
    have h2 : (BitVec.ofNat 32 k).toNat = k := by rw [BitVec.toNat_ofNat]; omega
    rw [Bool.eq_iff_iff, decide_eq_true_iff, BitVec.slt_iff_toInt_lt,
      BitVec.toInt_eq_toNat_of_lt (by omega), BitVec.toInt_eq_toNat_of_lt (by omega), h1, h2]
    omega
  simp only [IntOp.cmpi, e]
  by_cases h : k < t <;> simp [h]

/-- The kernel's output: row `i` of `L⁻¹`. -/
theorem value_apply (hp : ∀ b t, t < 104 → 0 < piv (G b) t) (A : Vec Ideal S104x104x64 .f32) (hA : Holds G 0 A) (i k : Fin 104) (b : Fin 64) :
    value A (ix3 i k b) = (((if k.val < i.val then elim (G b) 104 i k else if k.val = i.val then 1 else 0) * (Real.sqrt (elim (G b) 104 i i))⁻¹ : ℝ) : EReal) := by
  have h := steps G hp (k1_pay1 A) (fun i k b => (pay1_apply A i k b).trans (hA i k b)) 104 (le_refl _)
  have hi := i.isLt
  have hpos : 0 < elim (G b) 104 i i := by
    rw [elim_frozen (G b) i i 104 (by omega)]; exact hp b i hi
  show k1_pay10 ⟨i.val, lt_of_lt_of_eq hi trips4.symm⟩ (elt (iter elimPut 104 (k1_pay1 A)) i.val i.val hi hi)
    (row (iter elimPut 104 (k1_pay1 A)) i.val hi) (ix3 (0 : Fin 1) k b) = _
  refine (pay10_apply _ _ _ k b).trans ?_
  rw [row_apply, elt_apply, lt_mask (by omega) (by show i.val < _; omega), eq_mask (by omega) (by show i.val < _; omega), select_if, select_if]
  rw [h, h]
  rw [rsqrt_real hpos]
  show (if k.val < i.val then ((elim (G b) 104 i k : ℝ) : EReal) else if k.val = i.val then 1 else 0) * _ = _
  rw [EReal.coe_mul]
  congr 1
  split_ifs <;> simp

end Cert.InvValue
end
-- ==== Proof.Region0.lean ====
/-
  The first product launch over the reals, from any contents of the arrays it reads: at every grid point it dequantises one
  pair of matrices into its two scratch buffers, multiplies, and takes the Gram matrix of the result. Its two result arrays,
  as functions of the arrays it reads.
-/
module

public import proofs.«01_k».proof.Proof.Gen.Own.SketchIdeal.K0.Frame
public import proofs.«01_k».proof.Proof.Common

@[expose] public section

noncomputable section

namespace Cert.Region0

open Cert.SketchIdeal Cert.SketchIdeal.Gen Cert.SketchIdeal.Own Idealize.ShloMosaic Idealize.ShloMosaic.TcCoe Idealize.SL.Sem
open Idealize.ShloMosaic.Pipeline (Dat)
open Cert.Proof.Common

/-! ## The stores that dequantise -/

/-- Each store into the scratch buffer of the fine-tuned weights is its row block, dequantised. -/
theorem pays_ft (c : Vec Ideal S1x128x2048 .fp8e4m3) (s : Vec Ideal S1x1x2048 .bf16) :
    k0_pay5 c s = rb c s ∧ k0_pay6 c s = rb c s ∧ k0_pay7 c s = rb c s ∧ k0_pay8 c s = rb c s
    ∧ k0_pay9 c s = rb c s ∧ k0_pay10 c s = rb c s ∧ k0_pay12 (k0_pay11 c) s = rb c s ∧ k0_pay13 c s = rb c s := by
  refine ⟨?_, ?_, ?_, ?_, ?_, ?_, ?_, ?_⟩ <;> funext x <;>
    pointwise [k0_pay5, k0_pay6, k0_pay7, k0_pay8, k0_pay9, k0_pay10, k0_pay11, k0_pay12, k0_pay13, rb]

/-- Each store into the scratch buffer of the base weights is its row block, dequantised. -/
theorem pays_base (c : Vec Ideal S1x128x2048 .fp8e4m3) (s : Vec Ideal S1x1x2048 .bf16) :
    k0_pay14 c s = rb c s ∧ k0_pay16 (k0_pay15 c) s = rb c s ∧ k0_pay17 c s = rb c s ∧ k0_pay18 c s = rb c s
    ∧ k0_pay21 (k0_pay19 c) (k0_pay20 s) = rb c s ∧ k0_pay22 c s = rb c s ∧ k0_pay23 c s = rb c s ∧ k0_pay1 (k0_pay24 c s) = rb c s := by
  refine ⟨?_, ?_, ?_, ?_, ?_, ?_, ?_, ?_⟩ <;> funext x <;>
    pointwise [k0_pay1, k0_pay14, k0_pay15, k0_pay16, k0_pay17, k0_pay18, k0_pay19, k0_pay20, k0_pay21, k0_pay22, k0_pay23, k0_pay24, rb]

variable (V : (c : Dev nD) → (b : Ref sig .tc) → Buf (Elt Ideal) ((c : Thread nD τ).loc b))

/-- The dequantised fine-tuned matrix of point `t`. -/
def wf (c : Dev nD) (t : Fin cfg0.N) : SW.Idx → EReal := dq (K0.iblk V c 1 t) (K0.iblk V c 2 t)

/-- The dequantised base matrix of point `t`. -/
def wb (c : Dev nD) (t : Fin cfg0.N) : SW.Idx → EReal := dq (K0.iblk V c 3 t) (K0.iblk V c 4 t)

/-! ## A point's blocks are its matrices of the arguments -/

/-- Every window's block at point `t` is matrix `t` of its array. -/
theorem idx : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] :=
  (by decide +kernel : ∀ t : Fin grid0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0])

theorem ft_codes (c : Dev nD) (t : Fin cfg0.N) (i : Fin 1024) (k : Fin 2048) :
    K0.iblk V c 1 t (ix3 0 i k) = V c main_v0 (ix3 t i k) := by blk_ext [K0.iblk, idx t]

theorem base_codes (c : Dev nD) (t : Fin cfg0.N) (i : Fin 1024) (k : Fin 2048) :
    K0.iblk V c 3 t (ix3 0 i k) = V c main_v1 (ix3 t i k) := by blk_ext [K0.iblk, idx t]

theorem ft_scales (c : Dev nD) (t : Fin cfg0.N) (i : Fin 8) (k : Fin 2048) :
    K0.iblk V c 2 t (ix3 0 i k) = V c main_v4 (ix3 t i k) := by blk_ext [K0.iblk, idx t]

theorem base_scales (c : Dev nD) (t : Fin cfg0.N) (i : Fin 8) (k : Fin 2048) :
    K0.iblk V c 4 t (ix3 0 i k) = V c main_v7 (ix3 t i k) := by blk_ext [K0.iblk, idx t]

theorem wf_apply (c : Dev nD) (t : Fin cfg0.N) (i : Fin 1024) (k : Fin 2048) :
    wf V c t (ix2 i k) = wk (V c main_v0) (V c main_v4) t i k := by
  rw [wf, dq_apply, ft_codes, ft_scales]
  rfl

theorem wb_apply (c : Dev nD) (t : Fin cfg0.N) (i : Fin 1024) (k : Fin 2048) :
    wb V c t (ix2 i k) = wk (V c main_v1) (V c main_v7) t i k := by
  rw [wb, dq_apply, base_codes, base_scales]
  rfl

theorem x_block (c : Dev nD) (t : Fin cfg0.N) (r : Fin 104) (k : Fin 2048) :
    K0.iblk V c 0 t (ix3 0 r k) = V c main_v8 (ix3 t r k) := by blk_ext [K0.iblk, idx t]

/-! ## What a point computes -/

/-- The two products and their difference, at an index. -/
theorem y_apply (x : Vec Ideal S1x104x2048 .bf16) (u v : Vec Ideal S1024x2048 .bf16) (r : Fin 104) (i : Fin 1024) :
    k0_pay3 (F := Ideal) x u v (ix3 0 r i)
      = (∑ k, x (ix3 0 r k) * u (ix2 i k) : EReal) - ∑ k, x (ix3 0 r k) * v (ix2 i k) := by
  pointwise [k0_pay3, k0_pay2]

/-- The Gram matrix of that difference, at an index. -/
theorem g_apply (x : Vec Ideal S1x104x2048 .bf16) (u v : Vec Ideal S1024x2048 .bf16) (r s : Fin 104) :
    k0_pay4 (F := Ideal) x u v (ix3 0 r s)
      = (∑ i, k0_pay3 (F := Ideal) x u v (ix3 0 r i) * k0_pay3 (F := Ideal) x u v (ix3 0 s i) : EReal) := by
  pointwise [k0_pay4, k0_pay3, k0_pay2]

/-- What point `t` leaves in output window 5's buffer. -/
theorem point5 (c : Dev nD) (t : Fin cfg0.N) : (K0.outsAt0 (Ix := Unit) (U := UR sig nD τ) (Lvl := ℕ) Variants.none V c t).1 = k0_pay3 (F := Ideal) (K0.iblk V c 0 t) (wf V c t) (wb V c t) := by
  unfold K0.outsAt0
  dsimp only
  frame_out
  rw [(pays_ft _ _).1, (pays_ft _ _).2.1, (pays_ft _ _).2.2.1, (pays_ft _ _).2.2.2.1,
      (pays_ft _ _).2.2.2.2.1, (pays_ft _ _).2.2.2.2.2.1, (pays_ft _ _).2.2.2.2.2.2.1, (pays_ft _ _).2.2.2.2.2.2.2]
  rw [(pays_base _ _).1, (pays_base _ _).2.1, (pays_base _ _).2.2.1, (pays_base _ _).2.2.2.1,
      (pays_base _ _).2.2.2.2.1, (pays_base _ _).2.2.2.2.2.1, (pays_base _ _).2.2.2.2.2.2.1, (pays_base _ _).2.2.2.2.2.2.2]
  rw [scratch_eq, scratch_eq]
  rfl

/-- What point `t` leaves in output window 6's buffer. -/
theorem point6 (c : Dev nD) (t : Fin cfg0.N) : (K0.outsAt0 (Ix := Unit) (U := UR sig nD τ) (Lvl := ℕ) Variants.none V c t).2 = k0_pay4 (F := Ideal) (K0.iblk V c 0 t) (wf V c t) (wb V c t) := by
  unfold K0.outsAt0
  dsimp only
  frame_out
  rw [(pays_ft _ _).1, (pays_ft _ _).2.1, (pays_ft _ _).2.2.1, (pays_ft _ _).2.2.2.1,
      (pays_ft _ _).2.2.2.2.1, (pays_ft _ _).2.2.2.2.2.1, (pays_ft _ _).2.2.2.2.2.2.1, (pays_ft _ _).2.2.2.2.2.2.2]
  rw [(pays_base _ _).1, (pays_base _ _).2.1, (pays_base _ _).2.2.1, (pays_base _ _).2.2.2.1,
      (pays_base _ _).2.2.2.2.1, (pays_base _ _).2.2.2.2.2.1, (pays_base _ _).2.2.2.2.2.2.1, (pays_base _ _).2.2.2.2.2.2.2]
  rw [scratch_eq, scratch_eq]
  rfl

theorem pay5 (c : Dev nD) (t : Fin cfg0.N) (r : Fin 104) (i : Fin 1024) :
    k0_pay3 (F := Ideal) (K0.iblk V c 0 t) (wf V c t) (wb V c t) (ix3 0 r i) = yv (wk (V c main_v0) (V c main_v4)) (wk (V c main_v1) (V c main_v7)) (xv (V c main_v8)) t r i := by
  rw [y_apply]
  simp only [x_block, wf_apply, wb_apply]
  rfl

theorem pay6 (c : Dev nD) (t : Fin cfg0.N) (r s : Fin 104) :
    k0_pay4 (F := Ideal) (K0.iblk V c 0 t) (wf V c t) (wb V c t) (ix3 0 r s) = gv (yv (wk (V c main_v0) (V c main_v4)) (wk (V c main_v1) (V c main_v7)) (xv (V c main_v8))) t r s := by
  rw [g_apply]
  simp only [pay5]
  rfl

/-! ## The arrays after the run -/

/-- The first result: `yᵀ`. -/
theorem out5 (c : Dev nD) : ((K0.dat (Ix := Unit) (U := UR sig nD τ) (Lvl := ℕ) (F := Ideal) Variants.none V (fun _ => 0)) c).arrAt 5 cfg0.N = arr3 (yv (wk (V c main_v0) (V c main_v4)) (wk (V c main_v1) (V c main_v7)) (xv (V c main_v8))) := by
  refine ((K0.dat (Ix := Unit) (U := UR sig nD τ) (Lvl := ℕ) (F := Ideal) Variants.none V (fun _ => 0)) c).arrAt_eq_of_covers 5 _ (by decide +kernel) fun t hf y => ?_
  blk_simp
  rw [K0.after0_5, point5]
  obtain ⟨z, r, i, rfl⟩ : ∃ (z : Fin 1) (r : Fin 104) (i : Fin 1024), y = ix3 z r i :=
    ⟨y 0, y 1, y 2, by funext a; fin_cases a <;> rfl⟩
  obtain rfl : z = 0 := Subsingleton.elim _ _
  rw [show ((cfg0.win 5).blk t).view.emb (ix3 0 r i) = ix3 t r i from by blk_ext [idx t]]
  exact pay5 V c t r i

/-- The second result: the Gram matrix of `y`. -/
theorem out6 (c : Dev nD) : ((K0.dat (Ix := Unit) (U := UR sig nD τ) (Lvl := ℕ) (F := Ideal) Variants.none V (fun _ => 0)) c).arrAt 6 cfg0.N = arr3 (gv (yv (wk (V c main_v0) (V c main_v4)) (wk (V c main_v1) (V c main_v7)) (xv (V c main_v8)))) := by
  refine ((K0.dat (Ix := Unit) (U := UR sig nD τ) (Lvl := ℕ) (F := Ideal) Variants.none V (fun _ => 0)) c).arrAt_eq_of_covers 6 _ (by decide +kernel) fun t hf y => ?_
  blk_simp
  rw [K0.after0_6, point6]
  obtain ⟨z, r, i, rfl⟩ : ∃ (z : Fin 1) (r : Fin 104) (i : Fin 104), y = ix3 z r i :=
    ⟨y 0, y 1, y 2, by funext a; fin_cases a <;> rfl⟩
  obtain rfl : z = 0 := Subsingleton.elim _ _
  rw [show ((cfg0.win 6).blk t).view.emb (ix3 0 r i) = ix3 t r i from by blk_ext [idx t]]
  exact pay6 V c t r i

end Cert.Region0

end
-- ==== Proof.Region2.lean ====
/-
  The power step's launch (first) over the reals, from any contents of the arrays it reads: at every grid point it dequantises
  one pair of matrices, forms the orthonormal rows `q = L⁻¹ yᵀ`, multiplies them through the transposed difference and back
  through the difference, and takes the Gram matrix. Its three result arrays, as functions of the arrays it reads.
-/
module

public import proofs.«01_k».proof.Proof.Gen.Own.SketchIdeal.K2.Frame
public import proofs.«01_k».proof.Proof.Common

@[expose] public section

noncomputable section

namespace Cert.Region2

open Cert.SketchIdeal Cert.SketchIdeal.Gen Cert.SketchIdeal.Own Idealize.ShloMosaic Idealize.ShloMosaic.TcCoe Idealize.SL.Sem
open Idealize.ShloMosaic.Pipeline (Dat)
open Cert.Proof.Common

/-! ## The stores that dequantise -/

/-- Each store into the scratch buffer of the fine-tuned weights is its row block, dequantised. -/
theorem pays_ft (c : Vec Ideal S1x128x2048 .fp8e4m3) (s : Vec Ideal S1x1x2048 .bf16) :
    k2_pay2 c s = rb c s ∧ k2_pay3 c s = rb c s ∧ k2_pay4 c s = rb c s ∧ k2_pay5 c s = rb c s
    ∧ k2_pay6 c s = rb c s ∧ k2_pay7 c s = rb c s ∧ k2_pay9 (k2_pay8 c) s = rb c s ∧ k2_pay10 c s = rb c s := by
  refine ⟨?_, ?_, ?_, ?_, ?_, ?_, ?_, ?_⟩ <;> funext x <;>
    pointwise [k2_pay2, k2_pay3, k2_pay4, k2_pay5, k2_pay6, k2_pay7, k2_pay8, k2_pay9, k2_pay10, rb]

/-- Each store into the scratch buffer of the base weights is its row block, dequantised. -/
theorem pays_base (c : Vec Ideal S1x128x2048 .fp8e4m3) (s : Vec Ideal S1x1x2048 .bf16) :
    k2_pay11 c s = rb c s ∧ k2_pay13 (k2_pay12 c) s = rb c s ∧ k2_pay14 c s = rb c s ∧ k2_pay15 c s = rb c s
    ∧ k2_pay18 (k2_pay16 c) (k2_pay17 s) = rb c s ∧ k2_pay19 c s = rb c s ∧ k2_pay20 c s = rb c s ∧ k2_pay22 (k2_pay21 c s) = rb c s := by
  refine ⟨?_, ?_, ?_, ?_, ?_, ?_, ?_, ?_⟩ <;> funext x <;>
    pointwise [k2_pay11, k2_pay12, k2_pay13, k2_pay14, k2_pay15, k2_pay16, k2_pay17, k2_pay18, k2_pay19, k2_pay20, k2_pay21, k2_pay22, rb]

variable (V : (c : Dev nD) → (b : Ref sig .tc) → Buf (Elt Ideal) ((c : Thread nD τ).loc b))

/-- The dequantised fine-tuned matrix of point `t`. -/
def wf (c : Dev nD) (t : Fin cfg2.N) : SW.Idx → EReal := dq (K2.iblk V c 2 t) (K2.iblk V c 3 t)

/-- The dequantised base matrix of point `t`. -/
def wb (c : Dev nD) (t : Fin cfg2.N) : SW.Idx → EReal := dq (K2.iblk V c 4 t) (K2.iblk V c 5 t)

/-! ## A point's blocks are its matrices of the arguments -/

/-- Every window's block at point `t` is matrix `t` of its array. -/
theorem idx : ∀ t : Fin cfg2.N, win2_0.index t = ![t.val, 0, 0] ∧ win2_1.index t = ![t.val, 0, 0] ∧ win2_2.index t = ![t.val, 0, 0] ∧ win2_3.index t = ![t.val, 0, 0] ∧ win2_4.index t = ![t.val, 0, 0] ∧ win2_5.index t = ![t.val, 0, 0] ∧ win2_6.index t = ![t.val, 0, 0] ∧ win2_7.index t = ![t.val, 0, 0] ∧ win2_8.index t = ![t.val, 0, 0] :=
  (by decide +kernel : ∀ t : Fin grid2.N, win2_0.index t = ![t.val, 0, 0] ∧ win2_1.index t = ![t.val, 0, 0] ∧ win2_2.index t = ![t.val, 0, 0] ∧ win2_3.index t = ![t.val, 0, 0] ∧ win2_4.index t = ![t.val, 0, 0] ∧ win2_5.index t = ![t.val, 0, 0] ∧ win2_6.index t = ![t.val, 0, 0] ∧ win2_7.index t = ![t.val, 0, 0] ∧ win2_8.index t = ![t.val, 0, 0])

theorem ft_codes (c : Dev nD) (t : Fin cfg2.N) (i : Fin 1024) (k : Fin 2048) :
    K2.iblk V c 2 t (ix3 0 i k) = V c main_v0 (ix3 t i k) := by blk_ext [K2.iblk, idx t]

theorem base_codes (c : Dev nD) (t : Fin cfg2.N) (i : Fin 1024) (k : Fin 2048) :
    K2.iblk V c 4 t (ix3 0 i k) = V c main_v1 (ix3 t i k) := by blk_ext [K2.iblk, idx t]

theorem ft_scales (c : Dev nD) (t : Fin cfg2.N) (i : Fin 8) (k : Fin 2048) :
    K2.iblk V c 3 t (ix3 0 i k) = V c main_v4 (ix3 t i k) := by blk_ext [K2.iblk, idx t]

theorem base_scales (c : Dev nD) (t : Fin cfg2.N) (i : Fin 8) (k : Fin 2048) :
    K2.iblk V c 5 t (ix3 0 i k) = V c main_v7 (ix3 t i k) := by blk_ext [K2.iblk, idx t]

theorem wf_apply (c : Dev nD) (t : Fin cfg2.N) (i : Fin 1024) (k : Fin 2048) :
    wf V c t (ix2 i k) = wk (V c main_v0) (V c main_v4) t i k := by
  rw [wf, dq_apply, ft_codes, ft_scales]
  rfl

theorem wb_apply (c : Dev nD) (t : Fin cfg2.N) (i : Fin 1024) (k : Fin 2048) :
    wb V c t (ix2 i k) = wk (V c main_v1) (V c main_v7) t i k := by
  rw [wb, dq_apply, base_codes, base_scales]
  rfl

theorem y_block (c : Dev nD) (t : Fin cfg2.N) (j : Fin 104) (i : Fin 1024) :
    K2.iblk V c 0 t (ix3 0 j i) = V c main_v9_0 (ix3 t j i) := by blk_ext [K2.iblk, idx t]

theorem li_block (c : Dev nD) (t : Fin cfg2.N) (r j : Fin 104) :
    K2.iblk V c 1 t (ix3 0 r j) = V c main_v12 (ix3 t r j) := by blk_ext [K2.iblk, idx t]

/-! ## What a point computes -/

/-- `L⁻¹ yᵀ`, at an index. -/
theorem q_apply (l : Vec Ideal S1x104x104 .f32) (y : Vec Ideal S1x104x1024 .f32) (r : Fin 104) (i : Fin 1024) :
    k2_pay24 (F := Ideal) l y (ix3 0 r i) = (∑ j, l (ix3 0 r j) * y (ix3 0 j i) : EReal) := by
  pointwise [k2_pay24, k2_pay23]

/-- `q` back through the transposed difference and forward through the difference again, at an index. -/
theorem y_apply (l : Vec Ideal S1x104x104 .f32) (y : Vec Ideal S1x104x1024 .f32) (u v : Vec Ideal S1024x2048 .bf16) (r : Fin 104) (i : Fin 1024) :
    k2_pay26 (F := Ideal) l y u v u v (ix3 0 r i)
      = (∑ k, ((∑ i', k2_pay24 (F := Ideal) l y (ix3 0 r i') * u (ix2 i' k)) - ∑ i', k2_pay24 (F := Ideal) l y (ix3 0 r i') * v (ix2 i' k)) * u (ix2 i k) : EReal)
        - ∑ k, ((∑ i', k2_pay24 (F := Ideal) l y (ix3 0 r i') * u (ix2 i' k)) - ∑ i', k2_pay24 (F := Ideal) l y (ix3 0 r i') * v (ix2 i' k)) * v (ix2 i k) := by
  pointwise [k2_pay26, k2_pay25, k2_pay24, k2_pay23]

/-- The Gram matrix of that, at an index. -/
theorem g_apply (l : Vec Ideal S1x104x104 .f32) (y : Vec Ideal S1x104x1024 .f32) (u v : Vec Ideal S1024x2048 .bf16) (r s : Fin 104) :
    k2_pay1 (F := Ideal) (k2_pay27 l y u v u v) (ix3 0 r s)
      = (∑ i, k2_pay26 (F := Ideal) l y u v u v (ix3 0 r i) * k2_pay26 (F := Ideal) l y u v u v (ix3 0 s i) : EReal) := by
  pointwise [k2_pay1, k2_pay27, k2_pay26]

/-- What point `t` leaves in output window 6's buffer. -/
theorem point6 (c : Dev nD) (t : Fin cfg2.N) : (K2.outsAt2 (Ix := Unit) (U := UR sig nD τ) (Lvl := ℕ) Variants.none V c t).1 = k2_pay24 (F := Ideal) (K2.iblk V c 1 t) (K2.iblk V c 0 t) := by
  unfold K2.outsAt2
  dsimp only
  frame_out

/-- What point `t` leaves in output window 7's buffer. -/
theorem point7 (c : Dev nD) (t : Fin cfg2.N) : (K2.outsAt2 (Ix := Unit) (U := UR sig nD τ) (Lvl := ℕ) Variants.none V c t).2.1 = k2_pay26 (F := Ideal) (K2.iblk V c 1 t) (K2.iblk V c 0 t) (wf V c t) (wb V c t) (wf V c t) (wb V c t) := by
  unfold K2.outsAt2
  dsimp only
  frame_out
  rw [(pays_ft _ _).1, (pays_ft _ _).2.1, (pays_ft _ _).2.2.1, (pays_ft _ _).2.2.2.1,
      (pays_ft _ _).2.2.2.2.1, (pays_ft _ _).2.2.2.2.2.1, (pays_ft _ _).2.2.2.2.2.2.1, (pays_ft _ _).2.2.2.2.2.2.2]
  rw [(pays_base _ _).1, (pays_base _ _).2.1, (pays_base _ _).2.2.1, (pays_base _ _).2.2.2.1,
      (pays_base _ _).2.2.2.2.1, (pays_base _ _).2.2.2.2.2.1, (pays_base _ _).2.2.2.2.2.2.1, (pays_base _ _).2.2.2.2.2.2.2]
  simp only [scratch_eq]
  rfl

/-- What point `t` leaves in output window 8's buffer. -/
theorem point8 (c : Dev nD) (t : Fin cfg2.N) : (K2.outsAt2 (Ix := Unit) (U := UR sig nD τ) (Lvl := ℕ) Variants.none V c t).2.2 = k2_pay1 (F := Ideal) (k2_pay27 (K2.iblk V c 1 t) (K2.iblk V c 0 t) (wf V c t) (wb V c t) (wf V c t) (wb V c t)) := by
  unfold K2.outsAt2
  dsimp only
  frame_out
  rw [(pays_ft _ _).1, (pays_ft _ _).2.1, (pays_ft _ _).2.2.1, (pays_ft _ _).2.2.2.1,
      (pays_ft _ _).2.2.2.2.1, (pays_ft _ _).2.2.2.2.2.1, (pays_ft _ _).2.2.2.2.2.2.1, (pays_ft _ _).2.2.2.2.2.2.2]
  rw [(pays_base _ _).1, (pays_base _ _).2.1, (pays_base _ _).2.2.1, (pays_base _ _).2.2.2.1,
      (pays_base _ _).2.2.2.2.1, (pays_base _ _).2.2.2.2.2.1, (pays_base _ _).2.2.2.2.2.2.1, (pays_base _ _).2.2.2.2.2.2.2]
  simp only [scratch_eq]
  rfl

theorem pay6 (c : Dev nD) (t : Fin cfg2.N) (r : Fin 104) (i : Fin 1024) :
    k2_pay24 (F := Ideal) (K2.iblk V c 1 t) (K2.iblk V c 0 t) (ix3 0 r i) = qv (xv (V c main_v9_0)) (xv (V c main_v12)) t r i := by
  rw [q_apply]
  simp only [y_block, li_block]
  rfl

theorem pay7 (c : Dev nD) (t : Fin cfg2.N) (r : Fin 104) (i : Fin 1024) :
    k2_pay26 (F := Ideal) (K2.iblk V c 1 t) (K2.iblk V c 0 t) (wf V c t) (wb V c t) (wf V c t) (wb V c t) (ix3 0 r i) = yv (wk (V c main_v0) (V c main_v4)) (wk (V c main_v1) (V c main_v7)) (zv (wk (V c main_v0) (V c main_v4)) (wk (V c main_v1) (V c main_v7)) (qv (xv (V c main_v9_0)) (xv (V c main_v12)))) t r i := by
  rw [y_apply]
  simp only [pay6, wf_apply, wb_apply]
  rfl

theorem pay8 (c : Dev nD) (t : Fin cfg2.N) (r s : Fin 104) :
    k2_pay1 (F := Ideal) (k2_pay27 (K2.iblk V c 1 t) (K2.iblk V c 0 t) (wf V c t) (wb V c t) (wf V c t) (wb V c t)) (ix3 0 r s) = gv (yv (wk (V c main_v0) (V c main_v4)) (wk (V c main_v1) (V c main_v7)) (zv (wk (V c main_v0) (V c main_v4)) (wk (V c main_v1) (V c main_v7)) (qv (xv (V c main_v9_0)) (xv (V c main_v12))))) t r s := by
  rw [g_apply]
  simp only [pay7]
  rfl

/-! ## The arrays after the run -/

/-- The first result: `qᵀ`. -/
theorem out6 (c : Dev nD) : ((K2.dat (Ix := Unit) (U := UR sig nD τ) (Lvl := ℕ) (F := Ideal) Variants.none V (fun _ => 0)) c).arrAt 6 cfg2.N = arr3 (qv (xv (V c main_v9_0)) (xv (V c main_v12))) := by
  refine ((K2.dat (Ix := Unit) (U := UR sig nD τ) (Lvl := ℕ) (F := Ideal) Variants.none V (fun _ => 0)) c).arrAt_eq_of_covers 6 _ (by decide +kernel) fun t hf y => ?_
  blk_simp
  rw [K2.after2_6, point6]
  obtain ⟨z, r, i, rfl⟩ : ∃ (z : Fin 1) (r : Fin 104) (i : Fin 1024), y = ix3 z r i :=
    ⟨y 0, y 1, y 2, by funext a; fin_cases a <;> rfl⟩
  obtain rfl : z = 0 := Subsingleton.elim _ _
  rw [show ((cfg2.win 6).blk t).view.emb (ix3 0 r i) = ix3 t r i from by blk_ext [idx t]]
  exact pay6 V c t r i

/-- The second result: the next `yᵀ`. -/
theorem out7 (c : Dev nD) : ((K2.dat (Ix := Unit) (U := UR sig nD τ) (Lvl := ℕ) (F := Ideal) Variants.none V (fun _ => 0)) c).arrAt 7 cfg2.N = arr3 (yv (wk (V c main_v0) (V c main_v4)) (wk (V c main_v1) (V c main_v7)) (zv (wk (V c main_v0) (V c main_v4)) (wk (V c main_v1) (V c main_v7)) (qv (xv (V c main_v9_0)) (xv (V c main_v12))))) := by
  refine ((K2.dat (Ix := Unit) (U := UR sig nD τ) (Lvl := ℕ) (F := Ideal) Variants.none V (fun _ => 0)) c).arrAt_eq_of_covers 7 _ (by decide +kernel) fun t hf y => ?_
  blk_simp
  rw [K2.after2_7, point7]
  obtain ⟨z, r, i, rfl⟩ : ∃ (z : Fin 1) (r : Fin 104) (i : Fin 1024), y = ix3 z r i :=
    ⟨y 0, y 1, y 2, by funext a; fin_cases a <;> rfl⟩
  obtain rfl : z = 0 := Subsingleton.elim _ _
  rw [show ((cfg2.win 7).blk t).view.emb (ix3 0 r i) = ix3 t r i from by blk_ext [idx t]]
  exact pay7 V c t r i

/-- The third result: its Gram matrix. -/
theorem out8 (c : Dev nD) : ((K2.dat (Ix := Unit) (U := UR sig nD τ) (Lvl := ℕ) (F := Ideal) Variants.none V (fun _ => 0)) c).arrAt 8 cfg2.N = arr3 (gv (yv (wk (V c main_v0) (V c main_v4)) (wk (V c main_v1) (V c main_v7)) (zv (wk (V c main_v0) (V c main_v4)) (wk (V c main_v1) (V c main_v7)) (qv (xv (V c main_v9_0)) (xv (V c main_v12)))))) := by
  refine ((K2.dat (Ix := Unit) (U := UR sig nD τ) (Lvl := ℕ) (F := Ideal) Variants.none V (fun _ => 0)) c).arrAt_eq_of_covers 8 _ (by decide +kernel) fun t hf y => ?_
  blk_simp
  rw [K2.after2_8, point8]
  obtain ⟨z, r, i, rfl⟩ : ∃ (z : Fin 1) (r : Fin 104) (i : Fin 104), y = ix3 z r i :=
    ⟨y 0, y 1, y 2, by funext a; fin_cases a <;> rfl⟩
  obtain rfl : z = 0 := Subsingleton.elim _ _
  rw [show ((cfg2.win 8).blk t).view.emb (ix3 0 r i) = ix3 t r i from by blk_ext [idx t]]
  exact pay8 V c t r i

end Cert.Region2

end
-- ==== Proof.Region4.lean ====
/-
  The power step's launch (second) over the reals, from any contents of the arrays it reads: at every grid point it dequantises
  one pair of matrices, forms the orthonormal rows `q = L⁻¹ yᵀ`, multiplies them through the transposed difference and back
  through the difference, and takes the Gram matrix. Its three result arrays, as functions of the arrays it reads.
-/
module

public import proofs.«01_k».proof.Proof.Gen.Own.SketchIdeal.K4.Frame
public import proofs.«01_k».proof.Proof.Common

@[expose] public section

noncomputable section

namespace Cert.Region4

open Cert.SketchIdeal Cert.SketchIdeal.Gen Cert.SketchIdeal.Own Idealize.ShloMosaic Idealize.ShloMosaic.TcCoe Idealize.SL.Sem
open Idealize.ShloMosaic.Pipeline (Dat)
open Cert.Proof.Common

/-! ## The stores that dequantise -/

/-- Each store into the scratch buffer of the fine-tuned weights is its row block, dequantised. -/
theorem pays_ft (c : Vec Ideal S1x128x2048 .fp8e4m3) (s : Vec Ideal S1x1x2048 .bf16) :
    k4_pay2 c s = rb c s ∧ k4_pay3 c s = rb c s ∧ k4_pay4 c s = rb c s ∧ k4_pay5 c s = rb c s
    ∧ k4_pay6 c s = rb c s ∧ k4_pay7 c s = rb c s ∧ k4_pay9 (k4_pay8 c) s = rb c s ∧ k4_pay10 c s = rb c s := by
  refine ⟨?_, ?_, ?_, ?_, ?_, ?_, ?_, ?_⟩ <;> funext x <;>
    pointwise [k4_pay2, k4_pay3, k4_pay4, k4_pay5, k4_pay6, k4_pay7, k4_pay8, k4_pay9, k4_pay10, rb]

/-- Each store into the scratch buffer of the base weights is its row block, dequantised. -/
theorem pays_base (c : Vec Ideal S1x128x2048 .fp8e4m3) (s : Vec Ideal S1x1x2048 .bf16) :
    k4_pay11 c s = rb c s ∧ k4_pay13 (k4_pay12 c) s = rb c s ∧ k4_pay14 c s = rb c s ∧ k4_pay15 c s = rb c s
    ∧ k4_pay18 (k4_pay16 c) (k4_pay17 s) = rb c s ∧ k4_pay19 c s = rb c s ∧ k4_pay20 c s = rb c s ∧ k4_pay22 (k4_pay21 c s) = rb c s := by
  refine ⟨?_, ?_, ?_, ?_, ?_, ?_, ?_, ?_⟩ <;> funext x <;>
    pointwise [k4_pay11, k4_pay12, k4_pay13, k4_pay14, k4_pay15, k4_pay16, k4_pay17, k4_pay18, k4_pay19, k4_pay20, k4_pay21, k4_pay22, rb]

variable (V : (c : Dev nD) → (b : Ref sig .tc) → Buf (Elt Ideal) ((c : Thread nD τ).loc b))

/-- The dequantised fine-tuned matrix of point `t`. -/
def wf (c : Dev nD) (t : Fin cfg4.N) : SW.Idx → EReal := dq (K4.iblk V c 2 t) (K4.iblk V c 3 t)

/-- The dequantised base matrix of point `t`. -/
def wb (c : Dev nD) (t : Fin cfg4.N) : SW.Idx → EReal := dq (K4.iblk V c 4 t) (K4.iblk V c 5 t)

/-! ## A point's blocks are its matrices of the arguments -/

/-- Every window's block at point `t` is matrix `t` of its array. -/
theorem idx : ∀ t : Fin cfg4.N, win4_0.index t = ![t.val, 0, 0] ∧ win4_1.index t = ![t.val, 0, 0] ∧ win4_2.index t = ![t.val, 0, 0] ∧ win4_3.index t = ![t.val, 0, 0] ∧ win4_4.index t = ![t.val, 0, 0] ∧ win4_5.index t = ![t.val, 0, 0] ∧ win4_6.index t = ![t.val, 0, 0] ∧ win4_7.index t = ![t.val, 0, 0] ∧ win4_8.index t = ![t.val, 0, 0] :=
  (by decide +kernel : ∀ t : Fin grid4.N, win4_0.index t = ![t.val, 0, 0] ∧ win4_1.index t = ![t.val, 0, 0] ∧ win4_2.index t = ![t.val, 0, 0] ∧ win4_3.index t = ![t.val, 0, 0] ∧ win4_4.index t = ![t.val, 0, 0] ∧ win4_5.index t = ![t.val, 0, 0] ∧ win4_6.index t = ![t.val, 0, 0] ∧ win4_7.index t = ![t.val, 0, 0] ∧ win4_8.index t = ![t.val, 0, 0])

theorem ft_codes (c : Dev nD) (t : Fin cfg4.N) (i : Fin 1024) (k : Fin 2048) :
    K4.iblk V c 2 t (ix3 0 i k) = V c main_v0 (ix3 t i k) := by blk_ext [K4.iblk, idx t]

theorem base_codes (c : Dev nD) (t : Fin cfg4.N) (i : Fin 1024) (k : Fin 2048) :
    K4.iblk V c 4 t (ix3 0 i k) = V c main_v1 (ix3 t i k) := by blk_ext [K4.iblk, idx t]

theorem ft_scales (c : Dev nD) (t : Fin cfg4.N) (i : Fin 8) (k : Fin 2048) :
    K4.iblk V c 3 t (ix3 0 i k) = V c main_v4 (ix3 t i k) := by blk_ext [K4.iblk, idx t]

theorem base_scales (c : Dev nD) (t : Fin cfg4.N) (i : Fin 8) (k : Fin 2048) :
    K4.iblk V c 5 t (ix3 0 i k) = V c main_v7 (ix3 t i k) := by blk_ext [K4.iblk, idx t]

theorem wf_apply (c : Dev nD) (t : Fin cfg4.N) (i : Fin 1024) (k : Fin 2048) :
    wf V c t (ix2 i k) = wk (V c main_v0) (V c main_v4) t i k := by
  rw [wf, dq_apply, ft_codes, ft_scales]
  rfl

theorem wb_apply (c : Dev nD) (t : Fin cfg4.N) (i : Fin 1024) (k : Fin 2048) :
    wb V c t (ix2 i k) = wk (V c main_v1) (V c main_v7) t i k := by
  rw [wb, dq_apply, base_codes, base_scales]
  rfl

theorem y_block (c : Dev nD) (t : Fin cfg4.N) (j : Fin 104) (i : Fin 1024) :
    K4.iblk V c 0 t (ix3 0 j i) = V c main_v13_1 (ix3 t j i) := by blk_ext [K4.iblk, idx t]

theorem li_block (c : Dev nD) (t : Fin cfg4.N) (r j : Fin 104) :
    K4.iblk V c 1 t (ix3 0 r j) = V c main_v16 (ix3 t r j) := by blk_ext [K4.iblk, idx t]

/-! ## What a point computes -/

/-- `L⁻¹ yᵀ`, at an index. -/
theorem q_apply (l : Vec Ideal S1x104x104 .f32) (y : Vec Ideal S1x104x1024 .f32) (r : Fin 104) (i : Fin 1024) :
    k4_pay24 (F := Ideal) l y (ix3 0 r i) = (∑ j, l (ix3 0 r j) * y (ix3 0 j i) : EReal) := by
  pointwise [k4_pay24, k4_pay23]

/-- `q` back through the transposed difference and forward through the difference again, at an index. -/
theorem y_apply (l : Vec Ideal S1x104x104 .f32) (y : Vec Ideal S1x104x1024 .f32) (u v : Vec Ideal S1024x2048 .bf16) (r : Fin 104) (i : Fin 1024) :
    k4_pay26 (F := Ideal) l y u v u v (ix3 0 r i)
      = (∑ k, ((∑ i', k4_pay24 (F := Ideal) l y (ix3 0 r i') * u (ix2 i' k)) - ∑ i', k4_pay24 (F := Ideal) l y (ix3 0 r i') * v (ix2 i' k)) * u (ix2 i k) : EReal)
        - ∑ k, ((∑ i', k4_pay24 (F := Ideal) l y (ix3 0 r i') * u (ix2 i' k)) - ∑ i', k4_pay24 (F := Ideal) l y (ix3 0 r i') * v (ix2 i' k)) * v (ix2 i k) := by
  pointwise [k4_pay26, k4_pay25, k4_pay24, k4_pay23]

/-- The Gram matrix of that, at an index. -/
theorem g_apply (l : Vec Ideal S1x104x104 .f32) (y : Vec Ideal S1x104x1024 .f32) (u v : Vec Ideal S1024x2048 .bf16) (r s : Fin 104) :
    k4_pay1 (F := Ideal) (k4_pay27 l y u v u v) (ix3 0 r s)
      = (∑ i, k4_pay26 (F := Ideal) l y u v u v (ix3 0 r i) * k4_pay26 (F := Ideal) l y u v u v (ix3 0 s i) : EReal) := by
  pointwise [k4_pay1, k4_pay27, k4_pay26]

/-- What point `t` leaves in output window 6's buffer. -/
theorem point6 (c : Dev nD) (t : Fin cfg4.N) : (K4.outsAt4 (Ix := Unit) (U := UR sig nD τ) (Lvl := ℕ) Variants.none V c t).1 = k4_pay24 (F := Ideal) (K4.iblk V c 1 t) (K4.iblk V c 0 t) := by
  unfold K4.outsAt4
  dsimp only
  frame_out

/-- What point `t` leaves in output window 7's buffer. -/
theorem point7 (c : Dev nD) (t : Fin cfg4.N) : (K4.outsAt4 (Ix := Unit) (U := UR sig nD τ) (Lvl := ℕ) Variants.none V c t).2.1 = k4_pay26 (F := Ideal) (K4.iblk V c 1 t) (K4.iblk V c 0 t) (wf V c t) (wb V c t) (wf V c t) (wb V c t) := by
  unfold K4.outsAt4
  dsimp only
  frame_out
  rw [(pays_ft _ _).1, (pays_ft _ _).2.1, (pays_ft _ _).2.2.1, (pays_ft _ _).2.2.2.1,
      (pays_ft _ _).2.2.2.2.1, (pays_ft _ _).2.2.2.2.2.1, (pays_ft _ _).2.2.2.2.2.2.1, (pays_ft _ _).2.2.2.2.2.2.2]
  rw [(pays_base _ _).1, (pays_base _ _).2.1, (pays_base _ _).2.2.1, (pays_base _ _).2.2.2.1,
      (pays_base _ _).2.2.2.2.1, (pays_base _ _).2.2.2.2.2.1, (pays_base _ _).2.2.2.2.2.2.1, (pays_base _ _).2.2.2.2.2.2.2]
  simp only [scratch_eq]
  rfl

/-- What point `t` leaves in output window 8's buffer. -/
theorem point8 (c : Dev nD) (t : Fin cfg4.N) : (K4.outsAt4 (Ix := Unit) (U := UR sig nD τ) (Lvl := ℕ) Variants.none V c t).2.2 = k4_pay1 (F := Ideal) (k4_pay27 (K4.iblk V c 1 t) (K4.iblk V c 0 t) (wf V c t) (wb V c t) (wf V c t) (wb V c t)) := by
  unfold K4.outsAt4
  dsimp only
  frame_out
  rw [(pays_ft _ _).1, (pays_ft _ _).2.1, (pays_ft _ _).2.2.1, (pays_ft _ _).2.2.2.1,
      (pays_ft _ _).2.2.2.2.1, (pays_ft _ _).2.2.2.2.2.1, (pays_ft _ _).2.2.2.2.2.2.1, (pays_ft _ _).2.2.2.2.2.2.2]
  rw [(pays_base _ _).1, (pays_base _ _).2.1, (pays_base _ _).2.2.1, (pays_base _ _).2.2.2.1,
      (pays_base _ _).2.2.2.2.1, (pays_base _ _).2.2.2.2.2.1, (pays_base _ _).2.2.2.2.2.2.1, (pays_base _ _).2.2.2.2.2.2.2]
  simp only [scratch_eq]
  rfl

theorem pay6 (c : Dev nD) (t : Fin cfg4.N) (r : Fin 104) (i : Fin 1024) :
    k4_pay24 (F := Ideal) (K4.iblk V c 1 t) (K4.iblk V c 0 t) (ix3 0 r i) = qv (xv (V c main_v13_1)) (xv (V c main_v16)) t r i := by
  rw [q_apply]
  simp only [y_block, li_block]
  rfl

theorem pay7 (c : Dev nD) (t : Fin cfg4.N) (r : Fin 104) (i : Fin 1024) :
    k4_pay26 (F := Ideal) (K4.iblk V c 1 t) (K4.iblk V c 0 t) (wf V c t) (wb V c t) (wf V c t) (wb V c t) (ix3 0 r i) = yv (wk (V c main_v0) (V c main_v4)) (wk (V c main_v1) (V c main_v7)) (zv (wk (V c main_v0) (V c main_v4)) (wk (V c main_v1) (V c main_v7)) (qv (xv (V c main_v13_1)) (xv (V c main_v16)))) t r i := by
  rw [y_apply]
  simp only [pay6, wf_apply, wb_apply]
  rfl

theorem pay8 (c : Dev nD) (t : Fin cfg4.N) (r s : Fin 104) :
    k4_pay1 (F := Ideal) (k4_pay27 (K4.iblk V c 1 t) (K4.iblk V c 0 t) (wf V c t) (wb V c t) (wf V c t) (wb V c t)) (ix3 0 r s) = gv (yv (wk (V c main_v0) (V c main_v4)) (wk (V c main_v1) (V c main_v7)) (zv (wk (V c main_v0) (V c main_v4)) (wk (V c main_v1) (V c main_v7)) (qv (xv (V c main_v13_1)) (xv (V c main_v16))))) t r s := by
  rw [g_apply]
  simp only [pay7]
  rfl

/-! ## The arrays after the run -/

/-- The first result: `qᵀ`. -/
theorem out6 (c : Dev nD) : ((K4.dat (Ix := Unit) (U := UR sig nD τ) (Lvl := ℕ) (F := Ideal) Variants.none V (fun _ => 0)) c).arrAt 6 cfg4.N = arr3 (qv (xv (V c main_v13_1)) (xv (V c main_v16))) := by
  refine ((K4.dat (Ix := Unit) (U := UR sig nD τ) (Lvl := ℕ) (F := Ideal) Variants.none V (fun _ => 0)) c).arrAt_eq_of_covers 6 _ (by decide +kernel) fun t hf y => ?_
  blk_simp
  rw [K4.after4_6, point6]
  obtain ⟨z, r, i, rfl⟩ : ∃ (z : Fin 1) (r : Fin 104) (i : Fin 1024), y = ix3 z r i :=
    ⟨y 0, y 1, y 2, by funext a; fin_cases a <;> rfl⟩
  obtain rfl : z = 0 := Subsingleton.elim _ _
  rw [show ((cfg4.win 6).blk t).view.emb (ix3 0 r i) = ix3 t r i from by blk_ext [idx t]]
  exact pay6 V c t r i

/-- The second result: the next `yᵀ`. -/
theorem out7 (c : Dev nD) : ((K4.dat (Ix := Unit) (U := UR sig nD τ) (Lvl := ℕ) (F := Ideal) Variants.none V (fun _ => 0)) c).arrAt 7 cfg4.N = arr3 (yv (wk (V c main_v0) (V c main_v4)) (wk (V c main_v1) (V c main_v7)) (zv (wk (V c main_v0) (V c main_v4)) (wk (V c main_v1) (V c main_v7)) (qv (xv (V c main_v13_1)) (xv (V c main_v16))))) := by
  refine ((K4.dat (Ix := Unit) (U := UR sig nD τ) (Lvl := ℕ) (F := Ideal) Variants.none V (fun _ => 0)) c).arrAt_eq_of_covers 7 _ (by decide +kernel) fun t hf y => ?_
  blk_simp
  rw [K4.after4_7, point7]
  obtain ⟨z, r, i, rfl⟩ : ∃ (z : Fin 1) (r : Fin 104) (i : Fin 1024), y = ix3 z r i :=
    ⟨y 0, y 1, y 2, by funext a; fin_cases a <;> rfl⟩
  obtain rfl : z = 0 := Subsingleton.elim _ _
  rw [show ((cfg4.win 7).blk t).view.emb (ix3 0 r i) = ix3 t r i from by blk_ext [idx t]]
  exact pay7 V c t r i

/-- The third result: its Gram matrix. -/
theorem out8 (c : Dev nD) : ((K4.dat (Ix := Unit) (U := UR sig nD τ) (Lvl := ℕ) (F := Ideal) Variants.none V (fun _ => 0)) c).arrAt 8 cfg4.N = arr3 (gv (yv (wk (V c main_v0) (V c main_v4)) (wk (V c main_v1) (V c main_v7)) (zv (wk (V c main_v0) (V c main_v4)) (wk (V c main_v1) (V c main_v7)) (qv (xv (V c main_v13_1)) (xv (V c main_v16)))))) := by
  refine ((K4.dat (Ix := Unit) (U := UR sig nD τ) (Lvl := ℕ) (F := Ideal) Variants.none V (fun _ => 0)) c).arrAt_eq_of_covers 8 _ (by decide +kernel) fun t hf y => ?_
  blk_simp
  rw [K4.after4_8, point8]
  obtain ⟨z, r, i, rfl⟩ : ∃ (z : Fin 1) (r : Fin 104) (i : Fin 104), y = ix3 z r i :=
    ⟨y 0, y 1, y 2, by funext a; fin_cases a <;> rfl⟩
  obtain rfl : z = 0 := Subsingleton.elim _ _
  rw [show ((cfg4.win 8).blk t).view.emb (ix3 0 r i) = ix3 t r i from by blk_ext [idx t]]
  exact pay8 V c t r i

end Cert.Region4

end
-- ==== Proof.Region6.lean ====
/-
  The last product launch over the reals, from any contents of the arrays it reads: at every grid point it dequantises one
  pair of matrices, forms the orthonormal rows `q = L⁻¹ yᵀ` and multiplies them through the difference of the two matrices.
  Its two result arrays, as functions of the arrays it reads.
-/
module

public import proofs.«01_k».proof.Proof.Gen.Own.SketchIdeal.K6.Frame
public import proofs.«01_k».proof.Proof.Common

@[expose] public section

noncomputable section

namespace Cert.Region6

open Cert.SketchIdeal Cert.SketchIdeal.Gen Cert.SketchIdeal.Own Idealize.ShloMosaic Idealize.ShloMosaic.TcCoe Idealize.SL.Sem
open Idealize.ShloMosaic.Pipeline (Dat)
open Cert.Proof.Common

/-! ## The stores that dequantise -/

/-- Each store into the scratch buffer of the fine-tuned weights is its row block, dequantised. -/
theorem pays_ft (c : Vec Ideal S1x128x2048 .fp8e4m3) (s : Vec Ideal S1x1x2048 .bf16) :
    k6_pay5 c s = rb c s ∧ k6_pay6 c s = rb c s ∧ k6_pay7 c s = rb c s ∧ k6_pay8 c s = rb c s
    ∧ k6_pay9 c s = rb c s ∧ k6_pay10 c s = rb c s ∧ k6_pay12 (k6_pay11 c) s = rb c s ∧ k6_pay13 c s = rb c s := by
  refine ⟨?_, ?_, ?_, ?_, ?_, ?_, ?_, ?_⟩ <;> funext x <;>
    pointwise [k6_pay5, k6_pay6, k6_pay7, k6_pay8, k6_pay9, k6_pay10, k6_pay11, k6_pay12, k6_pay13, rb]

/-- Each store into the scratch buffer of the base weights is its row block, dequantised. -/
theorem pays_base (c : Vec Ideal S1x128x2048 .fp8e4m3) (s : Vec Ideal S1x1x2048 .bf16) :
    k6_pay14 c s = rb c s ∧ k6_pay16 (k6_pay15 c) s = rb c s ∧ k6_pay17 c s = rb c s ∧ k6_pay18 c s = rb c s
    ∧ k6_pay21 (k6_pay19 c) (k6_pay20 s) = rb c s ∧ k6_pay22 c s = rb c s ∧ k6_pay23 c s = rb c s ∧ k6_pay1 (k6_pay24 c s) = rb c s := by
  refine ⟨?_, ?_, ?_, ?_, ?_, ?_, ?_, ?_⟩ <;> funext x <;>
    pointwise [k6_pay1, k6_pay14, k6_pay15, k6_pay16, k6_pay17, k6_pay18, k6_pay19, k6_pay20, k6_pay21, k6_pay22, k6_pay23, k6_pay24, rb]

variable (V : (c : Dev nD) → (b : Ref sig .tc) → Buf (Elt Ideal) ((c : Thread nD τ).loc b))

/-- The dequantised fine-tuned matrix of point `t`. -/
def wf (c : Dev nD) (t : Fin cfg6.N) : SW.Idx → EReal := dq (K6.iblk V c 2 t) (K6.iblk V c 3 t)

/-- The dequantised base matrix of point `t`. -/
def wb (c : Dev nD) (t : Fin cfg6.N) : SW.Idx → EReal := dq (K6.iblk V c 4 t) (K6.iblk V c 5 t)

/-! ## A point's blocks are its matrices of the arguments -/

/-- Every window's block at point `t` is matrix `t` of its array. -/
theorem idx : ∀ t : Fin cfg6.N, win6_0.index t = ![t.val, 0, 0] ∧ win6_1.index t = ![t.val, 0, 0] ∧ win6_2.index t = ![t.val, 0, 0] ∧ win6_3.index t = ![t.val, 0, 0] ∧ win6_4.index t = ![t.val, 0, 0] ∧ win6_5.index t = ![t.val, 0, 0] ∧ win6_6.index t = ![t.val, 0, 0] ∧ win6_7.index t = ![t.val, 0, 0] :=
  (by decide +kernel : ∀ t : Fin grid6.N, win6_0.index t = ![t.val, 0, 0] ∧ win6_1.index t = ![t.val, 0, 0] ∧ win6_2.index t = ![t.val, 0, 0] ∧ win6_3.index t = ![t.val, 0, 0] ∧ win6_4.index t = ![t.val, 0, 0] ∧ win6_5.index t = ![t.val, 0, 0] ∧ win6_6.index t = ![t.val, 0, 0] ∧ win6_7.index t = ![t.val, 0, 0])

theorem ft_codes (c : Dev nD) (t : Fin cfg6.N) (i : Fin 1024) (k : Fin 2048) :
    K6.iblk V c 2 t (ix3 0 i k) = V c main_v0 (ix3 t i k) := by blk_ext [K6.iblk, idx t]

theorem base_codes (c : Dev nD) (t : Fin cfg6.N) (i : Fin 1024) (k : Fin 2048) :
    K6.iblk V c 4 t (ix3 0 i k) = V c main_v1 (ix3 t i k) := by blk_ext [K6.iblk, idx t]

theorem ft_scales (c : Dev nD) (t : Fin cfg6.N) (i : Fin 8) (k : Fin 2048) :
    K6.iblk V c 3 t (ix3 0 i k) = V c main_v4 (ix3 t i k) := by blk_ext [K6.iblk, idx t]

theorem base_scales (c : Dev nD) (t : Fin cfg6.N) (i : Fin 8) (k : Fin 2048) :
    K6.iblk V c 5 t (ix3 0 i k) = V c main_v7 (ix3 t i k) := by blk_ext [K6.iblk, idx t]

theorem wf_apply (c : Dev nD) (t : Fin cfg6.N) (i : Fin 1024) (k : Fin 2048) :
    wf V c t (ix2 i k) = wk (V c main_v0) (V c main_v4) t i k := by
  rw [wf, dq_apply, ft_codes, ft_scales]
  rfl

theorem wb_apply (c : Dev nD) (t : Fin cfg6.N) (i : Fin 1024) (k : Fin 2048) :
    wb V c t (ix2 i k) = wk (V c main_v1) (V c main_v7) t i k := by
  rw [wb, dq_apply, base_codes, base_scales]
  rfl

theorem y_block (c : Dev nD) (t : Fin cfg6.N) (j : Fin 104) (i : Fin 1024) :
    K6.iblk V c 0 t (ix3 0 j i) = V c main_v17_1 (ix3 t j i) := by blk_ext [K6.iblk, idx t]

theorem li_block (c : Dev nD) (t : Fin cfg6.N) (r j : Fin 104) :
    K6.iblk V c 1 t (ix3 0 r j) = V c main_v20 (ix3 t r j) := by blk_ext [K6.iblk, idx t]

/-! ## What a point computes -/

/-- `L⁻¹ yᵀ`, at an index. -/
theorem q_apply (l : Vec Ideal S1x104x104 .f32) (y : Vec Ideal S1x104x1024 .f32) (r : Fin 104) (i : Fin 1024) :
    k6_pay3 (F := Ideal) l y (ix3 0 r i) = (∑ j, l (ix3 0 r j) * y (ix3 0 j i) : EReal) := by
  pointwise [k6_pay3, k6_pay2]

/-- `qᵀ` through the difference, at an index. -/
theorem b_apply (l : Vec Ideal S1x104x104 .f32) (y : Vec Ideal S1x104x1024 .f32) (u v : Vec Ideal S1024x2048 .bf16) (r : Fin 104) (k : Fin 2048) :
    k6_pay4 (F := Ideal) l y u v (ix3 0 r k)
      = (∑ i, k6_pay3 (F := Ideal) l y (ix3 0 r i) * u (ix2 i k) : EReal) - ∑ i, k6_pay3 (F := Ideal) l y (ix3 0 r i) * v (ix2 i k) := by
  pointwise [k6_pay4, k6_pay3, k6_pay2]

/-- What point `t` leaves in output window 6's buffer. -/
theorem point6 (c : Dev nD) (t : Fin cfg6.N) : (K6.outsAt6 (Ix := Unit) (U := UR sig nD τ) (Lvl := ℕ) Variants.none V c t).1 = k6_pay3 (F := Ideal) (K6.iblk V c 1 t) (K6.iblk V c 0 t) := by
  unfold K6.outsAt6
  dsimp only
  frame_out

/-- What point `t` leaves in output window 7's buffer. -/
theorem point7 (c : Dev nD) (t : Fin cfg6.N) : (K6.outsAt6 (Ix := Unit) (U := UR sig nD τ) (Lvl := ℕ) Variants.none V c t).2 = k6_pay4 (F := Ideal) (K6.iblk V c 1 t) (K6.iblk V c 0 t) (wf V c t) (wb V c t) := by
  unfold K6.outsAt6
  dsimp only
  frame_out
  rw [(pays_ft _ _).1, (pays_ft _ _).2.1, (pays_ft _ _).2.2.1, (pays_ft _ _).2.2.2.1,
      (pays_ft _ _).2.2.2.2.1, (pays_ft _ _).2.2.2.2.2.1, (pays_ft _ _).2.2.2.2.2.2.1, (pays_ft _ _).2.2.2.2.2.2.2]
  rw [(pays_base _ _).1, (pays_base _ _).2.1, (pays_base _ _).2.2.1, (pays_base _ _).2.2.2.1,
      (pays_base _ _).2.2.2.2.1, (pays_base _ _).2.2.2.2.2.1, (pays_base _ _).2.2.2.2.2.2.1, (pays_base _ _).2.2.2.2.2.2.2]
  rw [scratch_eq, scratch_eq]
  rfl

theorem pay6 (c : Dev nD) (t : Fin cfg6.N) (r : Fin 104) (i : Fin 1024) :
    k6_pay3 (F := Ideal) (K6.iblk V c 1 t) (K6.iblk V c 0 t) (ix3 0 r i) = qv (xv (V c main_v17_1)) (xv (V c main_v20)) t r i := by
  rw [q_apply]
  simp only [y_block, li_block]
  rfl

theorem pay7 (c : Dev nD) (t : Fin cfg6.N) (r : Fin 104) (k : Fin 2048) :
    k6_pay4 (F := Ideal) (K6.iblk V c 1 t) (K6.iblk V c 0 t) (wf V c t) (wb V c t) (ix3 0 r k) = zv (wk (V c main_v0) (V c main_v4)) (wk (V c main_v1) (V c main_v7)) (qv (xv (V c main_v17_1)) (xv (V c main_v20))) t r k := by
  rw [b_apply]
  simp only [pay6, wf_apply, wb_apply]
  rfl

/-! ## The arrays after the run -/

/-- The first result: `qᵀ`. -/
theorem out6 (c : Dev nD) : ((K6.dat (Ix := Unit) (U := UR sig nD τ) (Lvl := ℕ) (F := Ideal) Variants.none V (fun _ => 0)) c).arrAt 6 cfg6.N = arr3 (qv (xv (V c main_v17_1)) (xv (V c main_v20))) := by
  refine ((K6.dat (Ix := Unit) (U := UR sig nD τ) (Lvl := ℕ) (F := Ideal) Variants.none V (fun _ => 0)) c).arrAt_eq_of_covers 6 _ (by decide +kernel) fun t hf y => ?_
  blk_simp
  rw [K6.after6_6, point6]
  obtain ⟨z, r, i, rfl⟩ : ∃ (z : Fin 1) (r : Fin 104) (i : Fin 1024), y = ix3 z r i :=
    ⟨y 0, y 1, y 2, by funext a; fin_cases a <;> rfl⟩
  obtain rfl : z = 0 := Subsingleton.elim _ _
  rw [show ((cfg6.win 6).blk t).view.emb (ix3 0 r i) = ix3 t r i from by blk_ext [idx t]]
  exact pay6 V c t r i

/-- The second result: `b`. -/
theorem out7 (c : Dev nD) : ((K6.dat (Ix := Unit) (U := UR sig nD τ) (Lvl := ℕ) (F := Ideal) Variants.none V (fun _ => 0)) c).arrAt 7 cfg6.N = arr3 (zv (wk (V c main_v0) (V c main_v4)) (wk (V c main_v1) (V c main_v7)) (qv (xv (V c main_v17_1)) (xv (V c main_v20)))) := by
  refine ((K6.dat (Ix := Unit) (U := UR sig nD τ) (Lvl := ℕ) (F := Ideal) Variants.none V (fun _ => 0)) c).arrAt_eq_of_covers 7 _ (by decide +kernel) fun t hf y => ?_
  blk_simp
  rw [K6.after6_7, point7]
  obtain ⟨z, r, i, rfl⟩ : ∃ (z : Fin 1) (r : Fin 104) (i : Fin 2048), y = ix3 z r i :=
    ⟨y 0, y 1, y 2, by funext a; fin_cases a <;> rfl⟩
  obtain rfl : z = 0 := Subsingleton.elim _ _
  rw [show ((cfg6.win 7).blk t).view.emb (ix3 0 r i) = ix3 t r i from by blk_ext [idx t]]
  exact pay7 V c t r i

end Cert.Region6

end
-- ==== Proof.KernelValue.lean ====
/-
  The kernel's four results over the reals, from finite arguments with a full-rank first product: the three orthonormal bases
  and the last product of Stages.lean.
-/
module

public import proofs.«01_k».proof.Proof.HostReads
public import proofs.«01_k».proof.Proof.InvRegions
public import proofs.«01_k».proof.Proof.InvValue
public import proofs.«01_k».proof.Proof.Region0
public import proofs.«01_k».proof.Proof.Region2
public import proofs.«01_k».proof.Proof.Region4
public import proofs.«01_k».proof.Proof.Region6

@[expose] public section

noncomputable section

namespace Cert.KernelValue

open Cert.SketchIdeal Cert.SketchIdeal.Gen Cert.SketchIdeal.Run
open Idealize.ShloMosaic Idealize.ShloMosaic.TcCoe Idealize.SL.Sem
open Cert.Stages Cert.Proof.Common Cert.HostReads Cert.Algebra Cert.Reals

/-- `L⁻¹` times the rows of `yᵀ`, with `L⁻¹` the kernel's: the rows orthonormalised. -/
theorem q_real {Y : Fin 64 → ℕ → Fin 1024 → ℝ} (hF : Full Y) {y : Fin 64 → Fin 104 → Fin 1024 → EReal}
    (hy : ∀ b r i, y b r i = ((Y b (Fin.val r) i : ℝ) : EReal)) {A : Vec Ideal S104x104x64 .f32}
    (hA : ∀ (i k : Fin 104) (b : Fin 64), A (ix3 i k b) = ((gram (Y b) i k : ℝ) : EReal)) {L : Fin 64 → Fin 104 → Fin 104 → EReal}
    (hL : ∀ b i k, L b i k = InvChol.value A (ix3 i k b)) (b : Fin 64) (r : Fin 104) (i : Fin 1024) :
    qv y L b r i = ((orthoB Y b r i : ℝ) : EReal) := by
  unfold qv
  simp only [hy, hL, Cert.InvValue.value_apply (fun b => gram (Y b)) hF A hA, ← EReal.coe_mul, sum_coe]
  refine congrArg _ ?_
  have e := congrFun (kernel_ortho (Y b) 104 r r.isLt) i
  rw [Finset.sum_apply, Finset.sum_range] at e
  exact e

variable (m : (ℓ : Loc nD τ sig) → Buf (Elt Ideal) ℓ) (c : Dev nD)

/-- The difference of the two dequantised matrices, from the arguments. -/
abbrev DD : Fin 64 → Matrix (Fin 1024) (Fin 2048) ℝ := fun b =>
  wr (m ((c : Thread nD τ).loc main_arg0)) (m ((c : Thread nD τ).loc main_arg1)) b - wr (m ((c : Thread nD τ).loc main_arg2)) (m ((c : Thread nD τ).loc main_arg3)) b

/-- The test matrices, from the arguments. -/
abbrev ww : Fin 64 → ℕ → Fin 2048 → ℝ := om (m ((c : Thread nD τ).loc main_arg4))

/-- The arguments are real and the first product has full rank. -/
structure Good : Prop where
  hC : IsReal (s := SC) (m ((c : Thread nD τ).loc main_arg0))
  hS : IsReal (s := SG) (m ((c : Thread nD τ).loc main_arg1))
  hC' : IsReal (s := SC) (m ((c : Thread nD τ).loc main_arg2))
  hS' : IsReal (s := SG) (m ((c : Thread nD τ).loc main_arg3))
  hX : IsReal (s := SX) (m ((c : Thread nD τ).loc main_arg4))
  full : Full (y0 (DD m c) (ww m c))

/-! ## The weights, the same at every call -/

theorem ft1 (h : Good m c) (b : Fin 64) (i : Fin 1024) (k : Fin 2048) : wk (W1 m c main_v0) (W1 m c main_v4) b i k
    = ((wr (m ((c : Thread nD τ).loc main_arg0)) (m ((c : Thread nD τ).loc main_arg1)) b i k : ℝ) : EReal) := by
  rw [← wt_real h.hC h.hS b i k]
  unfold wk wt
  rw [ft_codes, ft_scales]

theorem base1 (h : Good m c) (b : Fin 64) (i : Fin 1024) (k : Fin 2048) : wk (W1 m c main_v1) (W1 m c main_v7) b i k
    = ((wr (m ((c : Thread nD τ).loc main_arg2)) (m ((c : Thread nD τ).loc main_arg3)) b i k : ℝ) : EReal) := by
  rw [← wt_real h.hC' h.hS' b i k]
  unfold wk wt
  rw [base_codes, base_scales]

theorem ft5 (h : Good m c) (b : Fin 64) (i : Fin 1024) (k : Fin 2048) : wk (W5 m c main_v0) (W5 m c main_v4) b i k
    = ((wr (m ((c : Thread nD τ).loc main_arg0)) (m ((c : Thread nD τ).loc main_arg1)) b i k : ℝ) : EReal) := by
  rw [show W5 m c main_v0 = W1 m c main_v0 from (W5_of m c main_v0 (by decide)).trans ((W4_of m c main_v0 (by decide)).trans ((W3_of m c main_v0 (by decide)).trans ((W2_of m c main_v0 (by decide))))), show W5 m c main_v4 = W1 m c main_v4 from (W5_of m c main_v4 (by decide)).trans ((W4_of m c main_v4 (by decide)).trans ((W3_of m c main_v4 (by decide)).trans ((W2_of m c main_v4 (by decide)))))]
  exact ft1 m c h b i k

theorem base5 (h : Good m c) (b : Fin 64) (i : Fin 1024) (k : Fin 2048) : wk (W5 m c main_v1) (W5 m c main_v7) b i k
    = ((wr (m ((c : Thread nD τ).loc main_arg2)) (m ((c : Thread nD τ).loc main_arg3)) b i k : ℝ) : EReal) := by
  rw [show W5 m c main_v1 = W1 m c main_v1 from (W5_of m c main_v1 (by decide)).trans ((W4_of m c main_v1 (by decide)).trans ((W3_of m c main_v1 (by decide)).trans ((W2_of m c main_v1 (by decide))))), show W5 m c main_v7 = W1 m c main_v7 from (W5_of m c main_v7 (by decide)).trans ((W4_of m c main_v7 (by decide)).trans ((W3_of m c main_v7 (by decide)).trans ((W2_of m c main_v7 (by decide)))))]
  exact base1 m c h b i k

theorem ft9 (h : Good m c) (b : Fin 64) (i : Fin 1024) (k : Fin 2048) : wk (W9 m c main_v0) (W9 m c main_v4) b i k
    = ((wr (m ((c : Thread nD τ).loc main_arg0)) (m ((c : Thread nD τ).loc main_arg1)) b i k : ℝ) : EReal) := by
  rw [show W9 m c main_v0 = W1 m c main_v0 from (W9_of m c main_v0 (by decide)).trans ((W8_of m c main_v0 (by decide)).trans ((W7_of m c main_v0 (by decide)).trans ((W6_of m c main_v0 (by decide)).trans ((W5_of m c main_v0 (by decide)).trans ((W4_of m c main_v0 (by decide)).trans ((W3_of m c main_v0 (by decide)).trans ((W2_of m c main_v0 (by decide))))))))), show W9 m c main_v4 = W1 m c main_v4 from (W9_of m c main_v4 (by decide)).trans ((W8_of m c main_v4 (by decide)).trans ((W7_of m c main_v4 (by decide)).trans ((W6_of m c main_v4 (by decide)).trans ((W5_of m c main_v4 (by decide)).trans ((W4_of m c main_v4 (by decide)).trans ((W3_of m c main_v4 (by decide)).trans ((W2_of m c main_v4 (by decide)))))))))]
  exact ft1 m c h b i k

theorem base9 (h : Good m c) (b : Fin 64) (i : Fin 1024) (k : Fin 2048) : wk (W9 m c main_v1) (W9 m c main_v7) b i k
    = ((wr (m ((c : Thread nD τ).loc main_arg2)) (m ((c : Thread nD τ).loc main_arg3)) b i k : ℝ) : EReal) := by
  rw [show W9 m c main_v1 = W1 m c main_v1 from (W9_of m c main_v1 (by decide)).trans ((W8_of m c main_v1 (by decide)).trans ((W7_of m c main_v1 (by decide)).trans ((W6_of m c main_v1 (by decide)).trans ((W5_of m c main_v1 (by decide)).trans ((W4_of m c main_v1 (by decide)).trans ((W3_of m c main_v1 (by decide)).trans ((W2_of m c main_v1 (by decide))))))))), show W9 m c main_v7 = W1 m c main_v7 from (W9_of m c main_v7 (by decide)).trans ((W8_of m c main_v7 (by decide)).trans ((W7_of m c main_v7 (by decide)).trans ((W6_of m c main_v7 (by decide)).trans ((W5_of m c main_v7 (by decide)).trans ((W4_of m c main_v7 (by decide)).trans ((W3_of m c main_v7 (by decide)).trans ((W2_of m c main_v7 (by decide)))))))))]
  exact base1 m c h b i k

theorem ft13 (h : Good m c) (b : Fin 64) (i : Fin 1024) (k : Fin 2048) : wk (W13 m c main_v0) (W13 m c main_v4) b i k
    = ((wr (m ((c : Thread nD τ).loc main_arg0)) (m ((c : Thread nD τ).loc main_arg1)) b i k : ℝ) : EReal) := by
  rw [show W13 m c main_v0 = W1 m c main_v0 from (W13_of m c main_v0 (by decide)).trans ((W12_of m c main_v0 (by decide)).trans ((W11_of m c main_v0 (by decide)).trans ((W10_of m c main_v0 (by decide)).trans ((W9_of m c main_v0 (by decide)).trans ((W8_of m c main_v0 (by decide)).trans ((W7_of m c main_v0 (by decide)).trans ((W6_of m c main_v0 (by decide)).trans ((W5_of m c main_v0 (by decide)).trans ((W4_of m c main_v0 (by decide)).trans ((W3_of m c main_v0 (by decide)).trans ((W2_of m c main_v0 (by decide))))))))))))), show W13 m c main_v4 = W1 m c main_v4 from (W13_of m c main_v4 (by decide)).trans ((W12_of m c main_v4 (by decide)).trans ((W11_of m c main_v4 (by decide)).trans ((W10_of m c main_v4 (by decide)).trans ((W9_of m c main_v4 (by decide)).trans ((W8_of m c main_v4 (by decide)).trans ((W7_of m c main_v4 (by decide)).trans ((W6_of m c main_v4 (by decide)).trans ((W5_of m c main_v4 (by decide)).trans ((W4_of m c main_v4 (by decide)).trans ((W3_of m c main_v4 (by decide)).trans ((W2_of m c main_v4 (by decide)))))))))))))]
  exact ft1 m c h b i k

theorem base13 (h : Good m c) (b : Fin 64) (i : Fin 1024) (k : Fin 2048) : wk (W13 m c main_v1) (W13 m c main_v7) b i k
    = ((wr (m ((c : Thread nD τ).loc main_arg2)) (m ((c : Thread nD τ).loc main_arg3)) b i k : ℝ) : EReal) := by
  rw [show W13 m c main_v1 = W1 m c main_v1 from (W13_of m c main_v1 (by decide)).trans ((W12_of m c main_v1 (by decide)).trans ((W11_of m c main_v1 (by decide)).trans ((W10_of m c main_v1 (by decide)).trans ((W9_of m c main_v1 (by decide)).trans ((W8_of m c main_v1 (by decide)).trans ((W7_of m c main_v1 (by decide)).trans ((W6_of m c main_v1 (by decide)).trans ((W5_of m c main_v1 (by decide)).trans ((W4_of m c main_v1 (by decide)).trans ((W3_of m c main_v1 (by decide)).trans ((W2_of m c main_v1 (by decide))))))))))))), show W13 m c main_v7 = W1 m c main_v7 from (W13_of m c main_v7 (by decide)).trans ((W12_of m c main_v7 (by decide)).trans ((W11_of m c main_v7 (by decide)).trans ((W10_of m c main_v7 (by decide)).trans ((W9_of m c main_v7 (by decide)).trans ((W8_of m c main_v7 (by decide)).trans ((W7_of m c main_v7 (by decide)).trans ((W6_of m c main_v7 (by decide)).trans ((W5_of m c main_v7 (by decide)).trans ((W4_of m c main_v7 (by decide)).trans ((W3_of m c main_v7 (by decide)).trans ((W2_of m c main_v7 (by decide)))))))))))))]
  exact base1 m c h b i k

/-! ## The first product -/

theorem first (h : Good m c) (b : Fin 64) (r : Fin 104) (i : Fin 1024) :
    yv (wk (W1 m c main_v0) (W1 m c main_v4)) (wk (W1 m c main_v1) (W1 m c main_v7)) (xv (W1 m c main_v8)) b r i
      = ((y0 (DD m c) (ww m c) b r i : ℝ) : EReal) :=
  yv_real (ft1 m c h) (base1 m c h) (fun b r k => (omega m c b r k).trans (om_real h.hX b r k)) b r i

theorem y0_val (h : Good m c) (b : Fin 64) (r : Fin 104) (i : Fin 1024) :
    (W2 m c main_v9_0 : SQt.Idx → EReal) (ix3 b r i) = ((y0 (DD m c) (ww m c) b r i : ℝ) : EReal) := by
  refine (congrFun ((W2_main_v9_0 m c).trans (Region0.out5 (fun c b => W1 m c (Proc.devRef .tc b)) c)) (ix3 b r i)).trans ?_
  exact first m c h b r i

theorem g0_val (h : Good m c) (b : Fin 64) (r s : Fin 104) :
    (W2 m c main_v9_1 : SGm.Idx → EReal) (ix3 b r s) = ((gram (y0 (DD m c) (ww m c) b) r s : ℝ) : EReal) := by
  refine (congrFun ((W2_main_v9_1 m c).trans (Region0.out6 (fun c b => W1 m c (Proc.devRef .tc b)) c)) (ix3 b r s)).trans ?_
  exact gv_real (first m c h) b r s

/-! ## Basis 0 and what is multiplied by it -/

theorem basis0 (h : Good m c) (b : Fin 64) (r : Fin 104) (i : Fin 1024) :
    qv (xv (W5 m c main_v9_0)) (xv (W5 m c main_v12)) b r i = ((q0 (DD m c) (ww m c) b r i : ℝ) : EReal) := by
  refine q_real (Y := y0 (DD m c) (ww m c)) h.full (A := W3 m c main_v10) (fun b r i => ?_) (fun i k b => (g0 m c i k b).trans (g0_val m c h b i k)) (fun b i k => ?_) b r i
  · unfold xv
    rw [show W5 m c main_v9_0 = W2 m c main_v9_0 from (W5_of m c main_v9_0 (by decide)).trans ((W4_of m c main_v9_0 (by decide)).trans ((W3_of m c main_v9_0 (by decide))))]
    exact y0_val m c h b r i
  · refine (l0 m c b i k).trans (congrFun ?_ _)
    exact (W4_main_v11 m c).trans (InvRegions.out1 (fun c b => W3 m c (Proc.devRef .tc b)) c)

theorem q0_val (h : Good m c) (b : Fin 64) (r : Fin 104) (i : Fin 1024) :
    (W6 m c main_v13_0 : SQt.Idx → EReal) (ix3 b r i) = ((q0 (DD m c) (ww m c) b r i : ℝ) : EReal) := by
  refine (congrFun ((W6_main_v13_0 m c).trans (Region2.out6 (fun c b => W5 m c (Proc.devRef .tc b)) c)) (ix3 b r i)).trans ?_
  exact basis0 m c h b r i

theorem z0 (h : Good m c) (b : Fin 64) (r : Fin 104) (k : Fin 2048) :
    zv (wk (W5 m c main_v0) (W5 m c main_v4)) (wk (W5 m c main_v1) (W5 m c main_v7)) (qv (xv (W5 m c main_v9_0)) (xv (W5 m c main_v12))) b r k = ((mulT (DD m c) (q0 (DD m c) (ww m c)) b r k : ℝ) : EReal) :=
  zv_real (ft5 m c h) (base5 m c h) (basis0 m c h) b r k

theorem product1 (h : Good m c) (b : Fin 64) (r : Fin 104) (i : Fin 1024) :
    yv (wk (W5 m c main_v0) (W5 m c main_v4)) (wk (W5 m c main_v1) (W5 m c main_v7)) (zv (wk (W5 m c main_v0) (W5 m c main_v4)) (wk (W5 m c main_v1) (W5 m c main_v7)) (qv (xv (W5 m c main_v9_0)) (xv (W5 m c main_v12)))) b r i = ((y1 (DD m c) (ww m c) b r i : ℝ) : EReal) :=
  yv_real (ft5 m c h) (base5 m c h) (z0 m c h) b r i

theorem y1_val (h : Good m c) (b : Fin 64) (r : Fin 104) (i : Fin 1024) :
    (W6 m c main_v13_1 : SQt.Idx → EReal) (ix3 b r i) = ((y1 (DD m c) (ww m c) b r i : ℝ) : EReal) := by
  refine (congrFun ((W6_main_v13_1 m c).trans (Region2.out7 (fun c b => W5 m c (Proc.devRef .tc b)) c)) (ix3 b r i)).trans ?_
  exact product1 m c h b r i

theorem g1_val (h : Good m c) (b : Fin 64) (r s : Fin 104) :
    (W6 m c main_v13_2 : SGm.Idx → EReal) (ix3 b r s) = ((gram (y1 (DD m c) (ww m c) b) r s : ℝ) : EReal) := by
  refine (congrFun ((W6_main_v13_2 m c).trans (Region2.out8 (fun c b => W5 m c (Proc.devRef .tc b)) c)) (ix3 b r s)).trans ?_
  exact gv_real (product1 m c h) b r s

/-! ## Basis 1 and what is multiplied by it -/

theorem basis1 (h : Good m c) (b : Fin 64) (r : Fin 104) (i : Fin 1024) :
    qv (xv (W9 m c main_v13_1)) (xv (W9 m c main_v16)) b r i = ((q1 (DD m c) (ww m c) b r i : ℝ) : EReal) := by
  refine q_real (Y := y1 (DD m c) (ww m c)) (full1 _ _ h.full) (A := W7 m c main_v14) (fun b r i => ?_) (fun i k b => (g1 m c i k b).trans (g1_val m c h b i k)) (fun b i k => ?_) b r i
  · unfold xv
    rw [show W9 m c main_v13_1 = W6 m c main_v13_1 from (W9_of m c main_v13_1 (by decide)).trans ((W8_of m c main_v13_1 (by decide)).trans ((W7_of m c main_v13_1 (by decide))))]
    exact y1_val m c h b r i
  · refine (l1 m c b i k).trans (congrFun ?_ _)
    exact (W8_main_v15 m c).trans (InvRegions.out3 (fun c b => W7 m c (Proc.devRef .tc b)) c)

theorem q1_val (h : Good m c) (b : Fin 64) (r : Fin 104) (i : Fin 1024) :
    (W10 m c main_v17_0 : SQt.Idx → EReal) (ix3 b r i) = ((q1 (DD m c) (ww m c) b r i : ℝ) : EReal) := by
  refine (congrFun ((W10_main_v17_0 m c).trans (Region4.out6 (fun c b => W9 m c (Proc.devRef .tc b)) c)) (ix3 b r i)).trans ?_
  exact basis1 m c h b r i

theorem z1 (h : Good m c) (b : Fin 64) (r : Fin 104) (k : Fin 2048) :
    zv (wk (W9 m c main_v0) (W9 m c main_v4)) (wk (W9 m c main_v1) (W9 m c main_v7)) (qv (xv (W9 m c main_v13_1)) (xv (W9 m c main_v16))) b r k = ((mulT (DD m c) (q1 (DD m c) (ww m c)) b r k : ℝ) : EReal) :=
  zv_real (ft9 m c h) (base9 m c h) (basis1 m c h) b r k

theorem product2 (h : Good m c) (b : Fin 64) (r : Fin 104) (i : Fin 1024) :
    yv (wk (W9 m c main_v0) (W9 m c main_v4)) (wk (W9 m c main_v1) (W9 m c main_v7)) (zv (wk (W9 m c main_v0) (W9 m c main_v4)) (wk (W9 m c main_v1) (W9 m c main_v7)) (qv (xv (W9 m c main_v13_1)) (xv (W9 m c main_v16)))) b r i = ((y2 (DD m c) (ww m c) b r i : ℝ) : EReal) :=
  yv_real (ft9 m c h) (base9 m c h) (z1 m c h) b r i

theorem y2_val (h : Good m c) (b : Fin 64) (r : Fin 104) (i : Fin 1024) :
    (W10 m c main_v17_1 : SQt.Idx → EReal) (ix3 b r i) = ((y2 (DD m c) (ww m c) b r i : ℝ) : EReal) := by
  refine (congrFun ((W10_main_v17_1 m c).trans (Region4.out7 (fun c b => W9 m c (Proc.devRef .tc b)) c)) (ix3 b r i)).trans ?_
  exact product2 m c h b r i

theorem g2_val (h : Good m c) (b : Fin 64) (r s : Fin 104) :
    (W10 m c main_v17_2 : SGm.Idx → EReal) (ix3 b r s) = ((gram (y2 (DD m c) (ww m c) b) r s : ℝ) : EReal) := by
  refine (congrFun ((W10_main_v17_2 m c).trans (Region4.out8 (fun c b => W9 m c (Proc.devRef .tc b)) c)) (ix3 b r s)).trans ?_
  exact gv_real (product2 m c h) b r s

/-! ## Basis 2 and what is multiplied by it -/

theorem basis2 (h : Good m c) (b : Fin 64) (r : Fin 104) (i : Fin 1024) :
    qv (xv (W13 m c main_v17_1)) (xv (W13 m c main_v20)) b r i = ((q2 (DD m c) (ww m c) b r i : ℝ) : EReal) := by
  refine q_real (Y := y2 (DD m c) (ww m c)) (full2 _ _ h.full) (A := W11 m c main_v18) (fun b r i => ?_) (fun i k b => (g2 m c i k b).trans (g2_val m c h b i k)) (fun b i k => ?_) b r i
  · unfold xv
    rw [show W13 m c main_v17_1 = W10 m c main_v17_1 from (W13_of m c main_v17_1 (by decide)).trans ((W12_of m c main_v17_1 (by decide)).trans ((W11_of m c main_v17_1 (by decide))))]
    exact y2_val m c h b r i
  · refine (l2 m c b i k).trans (congrFun ?_ _)
    exact (W12_main_v19 m c).trans (InvRegions.out5 (fun c b => W11 m c (Proc.devRef .tc b)) c)

theorem q2_val (h : Good m c) (b : Fin 64) (r : Fin 104) (i : Fin 1024) :
    (W14 m c main_v21_0 : SQt.Idx → EReal) (ix3 b r i) = ((q2 (DD m c) (ww m c) b r i : ℝ) : EReal) := by
  refine (congrFun ((W14_main_v21_0 m c).trans (Region6.out6 (fun c b => W13 m c (Proc.devRef .tc b)) c)) (ix3 b r i)).trans ?_
  exact basis2 m c h b r i

theorem z2 (h : Good m c) (b : Fin 64) (r : Fin 104) (k : Fin 2048) :
    zv (wk (W13 m c main_v0) (W13 m c main_v4)) (wk (W13 m c main_v1) (W13 m c main_v7)) (qv (xv (W13 m c main_v17_1)) (xv (W13 m c main_v20))) b r k = ((mulT (DD m c) (q2 (DD m c) (ww m c)) b r k : ℝ) : EReal) :=
  zv_real (ft13 m c h) (base13 m c h) (basis2 m c h) b r k

theorem b_val (h : Good m c) (b : Fin 64) (r : Fin 104) (k : Fin 2048) :
    (W14 m c main_v21_1 : (⟨3, ![64, 104, 2048]⟩ : Shape).Idx → EReal) (ix3 b r k) = ((bb (DD m c) (ww m c) b r k : ℝ) : EReal) := by
  refine (congrFun ((W14_main_v21_1 m c).trans (Region6.out7 (fun c b => W13 m c (Proc.devRef .tc b)) c)) (ix3 b r k)).trans ?_
  exact z2 m c h b r k

/-! ## The four results -/

theorem res_b (h : Good m c) (b : Fin 64) (r : Fin 104) (k : Fin 2048) :
    (W15 m c main_v21_1 : (⟨3, ![64, 104, 2048]⟩ : Shape).Idx → EReal) (ix3 b r k) = ((bb (DD m c) (ww m c) b r k : ℝ) : EReal) := by
  rw [W15_of m c main_v21_1 (by decide)]
  exact b_val m c h b r k

theorem res_q2 (h : Good m c) (b : Fin 64) (i : Fin 1024) (r : Fin 104) :
    (W15 m c main_v22 : SQ.Idx → EReal) (ix3 b i r) = ((q2 (DD m c) (ww m c) b r i : ℝ) : EReal) :=
  (r2 m c b i r).trans (q2_val m c h b r i)

theorem res_q0 (h : Good m c) (b : Fin 64) (i : Fin 1024) (r : Fin 104) :
    (W15 m c main_v23 : SQ.Idx → EReal) (ix3 b i r) = ((q0 (DD m c) (ww m c) b r i : ℝ) : EReal) := by
  refine (r0 m c b i r).trans ?_
  rw [show W14 m c main_v13_0 = W6 m c main_v13_0 from (W14_of m c main_v13_0 (by decide)).trans ((W13_of m c main_v13_0 (by decide)).trans ((W12_of m c main_v13_0 (by decide)).trans ((W11_of m c main_v13_0 (by decide)).trans ((W10_of m c main_v13_0 (by decide)).trans ((W9_of m c main_v13_0 (by decide)).trans ((W8_of m c main_v13_0 (by decide)).trans ((W7_of m c main_v13_0 (by decide)))))))))]
  exact q0_val m c h b r i

theorem res_q1 (h : Good m c) (b : Fin 64) (i : Fin 1024) (r : Fin 104) :
    (W15 m c main_v24 : SQ.Idx → EReal) (ix3 b i r) = ((q1 (DD m c) (ww m c) b r i : ℝ) : EReal) := by
  refine (r1 m c b i r).trans ?_
  rw [show W14 m c main_v17_0 = W10 m c main_v17_0 from (W14_of m c main_v17_0 (by decide)).trans ((W13_of m c main_v17_0 (by decide)).trans ((W12_of m c main_v17_0 (by decide)).trans ((W11_of m c main_v17_0 (by decide)))))]
  exact q1_val m c h b r i

end Cert.KernelValue

end
-- ==== Proof.RefLoops.lean ====
/-
  The reference's two loops on real entries: the column-by-column Cholesky factorisation leaves the Cholesky factor, and
  the triangular solve leaves the orthonormal vectors.
-/
module

public import proofs.«01_k».proof.Proof.Gen.RefIdeal.Skeleton
public import proofs.«01_k».proof.Proof.Algebra
public import proofs.«01_k».proof.Proof.Reals

@[expose] public section

noncomputable section

namespace Cert.RefLoops

open Cert.RefIdeal Cert.RefIdeal.Gen Idealize.ShloMosaic Idealize.SL.Sem
open Cert.Algebra Cert.Reals

theorem trips : k0_t5_loop.trips = 104 := rfl

/-- One column of the factorisation. -/
def cstep (g : FVec Ideal S64x104x104 .f32) (t : Fin 104) (l : FVec Ideal S64x104x104 .f32) : FVec Ideal S64x104x104 .f32 :=
  k0_pay1 g (iota .tc S64x104x104 32 [1] iota_S64x104x104_d1_w32) (iota .tc S64x104x104 32 [2] iota_S64x104x104_d2_w32) 0#32 t l

/-- One column of the solve. -/
def sstep (y : FVec Ideal S64x1024x104 .f32) (l : FVec Ideal S64x104x104 .f32) (t : Fin 104) (q : FVec Ideal S64x1024x104 .f32) :
    FVec Ideal S64x1024x104 .f32 :=
  k0_pay3 y l t q

/-- A sum over 104 positions of terms that vanish from `t` on. -/
theorem sum_cut (f : ℕ → ℝ) (t : ℕ) (ht : t ≤ 104) (h : ∀ s, t ≤ s → f s = 0) : (∑ x : Fin 104, f x.val) = ∑ s ∈ Finset.range t, f s := by
  rw [← Finset.sum_range (fun s => f s)]
  symm
  refine Finset.sum_subset (fun s hs => by simp only [Finset.mem_range] at *; omega) fun s _ hs => h s ?_
  simpa using hs

/-- The diagonal entry picked by a mask. -/
theorem sum_diag (f : Fin 104 → Fin 104 → ℝ) (t : Fin 104) :
    (∑ x : Fin 104, ∑ z : Fin 104, if x.val = t.val ∧ z.val = t.val then ((f x z : ℝ) : EReal) else 0) = ((f t t : ℝ) : EReal) := by
  rw [Finset.sum_eq_single t, Finset.sum_eq_single t]
  · rw [if_pos ⟨rfl, rfl⟩]
  · intro z _ hz; rw [if_neg (fun h => hz (Fin.ext h.2))]
  · intro h; exact absurd (Finset.mem_univ _) h
  · intro x _ hx
    refine Finset.sum_eq_zero fun z _ => ?_
    rw [if_neg (fun h => hx (Fin.ext h.1))]
  · intro h; exact absurd (Finset.mem_univ _) h

variable (G : Fin 64 → ℕ → ℕ → ℝ)

theorem cstep_real (g : FVec Ideal S64x104x104 .f32) (hg : ∀ (b : Fin 64) (i k : Fin 104), g (ix3 b i k) = ((G b i k : ℝ) : EReal))
    (hs : ∀ b i k, G b i k = G b k i) (hp : ∀ b t, t < 104 → 0 < piv (G b) t) (t : Fin 104) (l : FVec Ideal S64x104x104 .f32)
    (hl : ∀ (b : Fin 64) (i k : Fin 104), l (ix3 b i k) = ((chol (G b) t.val i k : ℝ) : EReal)) (b : Fin 64) (i k : Fin 104) :
    cstep g t l (ix3 b i k) = ((chol (G b) (t.val + 1) i k : ℝ) : EReal) := by
  have e : cstep g t l (ix3 b i k) = Scalar.select (IntOp.andi (IntOp.cmpi .eq (BitVec.ofNat 32 k.val) (Scf.iv 0#32 1#32 t.val)) (IntOp.cmpi .sge (BitVec.ofNat 32 i.val) (Scf.iv 0#32 1#32 t.val)))
      (Ideal.div (g (ix3 b i k) - ∑ x, l (ix3 b i x) * l (ix3 b k x))
        (Ideal.sqrt (∑ x : Fin 104, ∑ z : Fin 104, Scalar.select (IntOp.andi (IntOp.cmpi .eq (BitVec.ofNat 32 x.val) (Scf.iv 0#32 1#32 t.val)) (IntOp.cmpi .eq (BitVec.ofNat 32 z.val) (Scf.iv 0#32 1#32 t.val)))
          (g (ix3 b x z) - ∑ w, l (ix3 b x w) * l (ix3 b z w)) 0))) (l (ix3 b i k)) := by
    unfold cstep
    pointwise [k0_pay1]
  have ht := t.isLt
  have m1 : ∀ x : Fin 104, IntOp.cmpi .eq (BitVec.ofNat 32 x.val) (Scf.iv 0#32 1#32 t.val) = if x.val = t.val then 1#1 else 0#1 :=
    fun x => eq_mask (by omega) (by omega)
  have m2 : ∀ x : Fin 104, IntOp.cmpi .sge (BitVec.ofNat 32 x.val) (Scf.iv 0#32 1#32 t.val) = if t.val ≤ x.val then 1#1 else 0#1 :=
    fun x => ge_mask (by omega) (by omega)
  rw [e]
  simp only [m1, m2, andi_if, select_if, hg, hl, ← EReal.coe_mul, sum_coe, ← EReal.coe_sub]
  have hc : ∀ i k : Fin 104, (∑ x : Fin 104, chol (G b) t.val i.val x.val * chol (G b) t.val k.val x.val)
      = ∑ s ∈ Finset.range t.val, chol (G b) t.val i s * chol (G b) t.val k s := fun i k =>
    sum_cut (fun s => chol (G b) t.val i s * chol (G b) t.val k s) t.val ht.le fun s h => by rw [chol_right _ _ _ _ h, zero_mul]
  rw [sum_diag (fun x z => G b x z - ∑ w : Fin 104, chol (G b) t.val x w * chol (G b) t.val z w) t]
  simp only [hc]
  have hd := chol_rem 104 (G b) (hs b) (hp b) t.val t.val t.val ht.le (le_refl _) (le_refl _)
  have hpos : 0 < G b t.val t.val - ∑ s ∈ Finset.range t.val, chol (G b) t.val t.val s * chol (G b) t.val t.val s := by
    rw [hd]; exact hp b t.val ht
  rw [sqrt_real hpos.le, div_real _ (Real.sqrt_pos.2 hpos).ne']
  simp only [chol]
  by_cases h : k.val = t.val ∧ t.val ≤ i.val
  · rw [if_pos h, if_pos h, h.1]
  · rw [if_neg h, if_neg h]

/-- The factorisation's loop. -/
theorem cfold (g : FVec Ideal S64x104x104 .f32) (hg : ∀ (b : Fin 64) (i k : Fin 104), g (ix3 b i k) = ((G b i k : ℝ) : EReal))
    (hs : ∀ b i k, G b i k = G b k i) (hp : ∀ b t, t < 104 → 0 < piv (G b) t) (z : FVec Ideal S64x104x104 .f32) (hz : ∀ j, z j = 0)
    (b : Fin 64) (i k : Fin 104) :
    Scf.fold (cstep g) z (ix3 b i k) = ((chol (G b) 104 i k : ℝ) : EReal) :=
  fold_inv (cstep g) z (fun t l => ∀ (b : Fin 64) (i k : Fin 104), l (ix3 b i k) = ((chol (G b) t i k : ℝ) : EReal))
    (fun b i k => (hz _).trans (by simp [chol])) (fun t l hl => cstep_real G g hg hs hp t l hl) b i k

variable (Y : Fin 64 → ℕ → Fin 1024 → ℝ)

theorem sstep_real (y : FVec Ideal S64x1024x104 .f32) (hy : ∀ (b : Fin 64) (m : Fin 1024) (r : Fin 104), y (ix3 b m r) = ((Y b r m : ℝ) : EReal))
    (hp : ∀ b t, t < 104 → 0 < piv (gram (Y b)) t) (l : FVec Ideal S64x104x104 .f32)
    (hl : ∀ (b : Fin 64) (i k : Fin 104), l (ix3 b i k) = ((chol (gram (Y b)) 104 i k : ℝ) : EReal)) (t : Fin 104) (q : FVec Ideal S64x1024x104 .f32)
    (hq : ∀ (b : Fin 64) (m : Fin 1024) (r : Fin 104), q (ix3 b m r) = (((if r.val < t.val then ortho (Y b) r m else 0) : ℝ) : EReal))
    (b : Fin 64) (m : Fin 1024) (r : Fin 104) :
    sstep y l t q (ix3 b m r) = (((if r.val < t.val + 1 then ortho (Y b) r m else 0) : ℝ) : EReal) := by
  have e : sstep y l t q (ix3 b m r) = Scalar.select (IntOp.cmpi .eq (BitVec.ofNat 32 r.val) (Scf.iv 0#32 1#32 t.val))
      (Ideal.div (y (ix3 b m r) - ∑ x, q (ix3 b m x) * l (ix3 b r x))
        (∑ x : Fin 104, ∑ z : Fin 104, Scalar.select (IntOp.andi (IntOp.cmpi .eq (BitVec.ofNat 32 x.val) (Scf.iv 0#32 1#32 t.val)) (IntOp.cmpi .eq (BitVec.ofNat 32 z.val) (Scf.iv 0#32 1#32 t.val)))
          (l (ix3 b x z)) 0)) (q (ix3 b m r)) := by
    unfold sstep
    pointwise [k0_pay3]
  have ht := t.isLt
  have m1 : ∀ x : Fin 104, IntOp.cmpi .eq (BitVec.ofNat 32 x.val) (Scf.iv 0#32 1#32 t.val) = if x.val = t.val then 1#1 else 0#1 :=
    fun x => eq_mask (by omega) (by omega)
  rw [e]
  simp only [m1, andi_if, select_if, hy, hl, hq, ← EReal.coe_mul, sum_coe, ← EReal.coe_sub]
  rw [sum_diag (fun x z => chol (gram (Y b)) 104 x z) t]
  by_cases h : r.val = t.val
  · obtain rfl : r = t := Fin.ext h
    have hc : (∑ x : Fin 104, (if x.val < r.val then ortho (Y b) x m else 0) * chol (gram (Y b)) 104 r x)
        = ∑ s ∈ Finset.range r.val, chol (gram (Y b)) 104 r s * ortho (Y b) s m := by
      rw [sum_cut (fun s => (if s < r.val then ortho (Y b) s m else 0) * chol (gram (Y b)) 104 r s) r.val ht.le
        fun s h => by rw [if_neg (by omega), zero_mul]]
      refine Finset.sum_congr rfl fun s hs => ?_
      rw [if_pos (Finset.mem_range.1 hs), mul_comm]
    have hcol := chol_col 104 (gram (Y b)) (gram_symm (Y b)) (hp b) r.val r.val ht (le_refl _)
    have hne : chol (gram (Y b)) 104 r.val r.val ≠ 0 := by
      have := hp b r.val ht
      rw [hcol]; exact (div_pos this (Real.sqrt_pos.2 this)).ne'
    have hso := congrFun (solve_ortho (Y b) 104 (hp b) r.val ht) m
    rw [if_pos rfl, if_pos (by omega), hc, div_real _ hne, ← hso]
    simp only [Pi.smul_apply, Pi.sub_apply, Finset.sum_apply, smul_eq_mul]
    rw [div_eq_inv_mul]
  · rw [if_neg h]
    by_cases h' : r.val < t.val
    · rw [if_pos h', if_pos (by omega)]
    · rw [if_neg h', if_neg (by omega)]

/-- The solve's loop. -/
theorem sfold (y : FVec Ideal S64x1024x104 .f32) (hy : ∀ (b : Fin 64) (m : Fin 1024) (r : Fin 104), y (ix3 b m r) = ((Y b r m : ℝ) : EReal))
    (hp : ∀ b t, t < 104 → 0 < piv (gram (Y b)) t) (l : FVec Ideal S64x104x104 .f32)
    (hl : ∀ (b : Fin 64) (i k : Fin 104), l (ix3 b i k) = ((chol (gram (Y b)) 104 i k : ℝ) : EReal))
    (z : FVec Ideal S64x1024x104 .f32) (hz : ∀ j, z j = 0) (b : Fin 64) (m : Fin 1024) (r : Fin 104) :
    Scf.fold (sstep y l) z (ix3 b m r) = ((ortho (Y b) r m : ℝ) : EReal) := by
  refine (fold_inv (sstep y l) z
    (fun t q => ∀ (b : Fin 64) (m : Fin 1024) (r : Fin 104), q (ix3 b m r) = (((if r.val < t then ortho (Y b) r m else 0) : ℝ) : EReal))
    (fun b m r => (hz _).trans (by simp)) (fun t q hq => sstep_real Y y hy hp l hl t q hq) b m r).trans ?_
  rw [if_pos r.isLt]

end Cert.RefLoops
end
-- ==== Proof.RefRun.lean ====
/-
  The reference's run: what its one grid point leaves in the four results, as the composition of its products,
  factorisations and solves.
-/
module

public import proofs.«01_k».proof.Proof.Gen.RefIdeal.Frame
public import proofs.«01_k».proof.Proof.RefLoops
public import Idealize.ShloMosaic.Lib.Pipeline.ValueKit
public import Idealize.ShloMosaic.Lib.Pointwise

@[expose] public section

noncomputable section

namespace Cert.RefRun

open Cert.RefIdeal Cert.RefIdeal.Gen Idealize.ShloMosaic Idealize.ShloMosaic.TcCoe Idealize.SL.Sem
open Idealize.ShloMosaic.Pipeline (Dat)
open Cert.RefLoops

/-- The Gram matrices of the columns of `y`. -/
def gramM (y : FVec Ideal S64x1024x104 .f32) : FVec Ideal S64x104x104 .f32 :=
  matmul dot_S64x1024x104_S64x1024x104_S64x104x104_1_1_2_2_0_0 (some .fp32) y y (constant S64x104x104 .f32 0x00000000#32)

/-- Their Cholesky factors. -/
def lower (y : FVec Ideal S64x1024x104 .f32) : FVec Ideal S64x104x104 .f32 := Scf.fold (cstep (gramM y)) k0_pay8

/-- The columns orthonormalised. -/
def cqr (y : FVec Ideal S64x1024x104 .f32) : FVec Ideal S64x1024x104 .f32 := Scf.fold (sstep y (lower y)) k0_pay10

variable (C : Vec Ideal S64x1024x2048 .fp8e4m3) (S : Vec Ideal S64x8x16 .f32) (C' : Vec Ideal S64x1024x2048 .fp8e4m3) (S' : Vec Ideal S64x8x16 .f32)
  (X : Vec Ideal S64x2048x104 .bf16)

/-- The three orthonormal bases in turn, and the last product. -/
def q0 : FVec Ideal S64x1024x104 .f32 := cqr (k0_pay7 C S C' S' X)
def q1 : FVec Ideal S64x1024x104 .f32 := cqr (k0_pay12 (k0_pay5 C S) (k0_pay5 C' S') (q0 C S C' S' X))
def q2 : FVec Ideal S64x1024x104 .f32 := cqr (k0_pay12 (k0_pay5 C S) (k0_pay5 C' S') (q1 C S C' S' X))
def bb : FVec Ideal S64x104x2048 .f32 := k0_pay4 (k0_pay5 C S) (k0_pay5 C' S') (q2 C S C' S' X)

section
variable (c : Dev nD) (a0 : Memref sig .tc .vmem S64x1024x2048 .fp8e4m3) (h0 : a0.IsWhole) (a1 : Memref sig .tc .vmem S64x8x16 .f32) (h1 : a1.IsWhole) (a2 : Memref sig .tc .vmem S64x1024x2048 .fp8e4m3) (h2 : a2.IsWhole) (a3 : Memref sig .tc .vmem S64x8x16 .f32) (h3 : a3.IsWhole) (a4 : Memref sig .tc .vmem S64x2048x104 .bf16) (h4 : a4.IsWhole) (a5 : Memref sig .tc .vmem S64x1024x104 .f32) (h5 : a5.IsWhole) (a6 : Memref sig .tc .vmem S64x104x2048 .f32) (h6 : a6.IsWhole) (a7 : Memref sig .tc .vmem S64x1024x104 .f32) (h7 : a7.IsWhole) (a8 : Memref sig .tc .vmem S64x1024x104 .f32) (h8 : a8.IsWhole)

theorem hz : (![0, 0, 0] : Fin 3 → ℕ) = fun _ => 0 := by funext a; fin_cases a <;> rfl

/-! ## The words of the run, one after another -/

theorem w_1 : kernelRun0_A.sl.r_1 c a0 h0 a1 h1 C S = k0_pay5 C S := by
  unfold kernelRun0_A.sl.r_1
  simp only [View.readAt_eq_ld, h0.read_unread, h1.read_unread]
  rw [View.ld_unit_zero hz, View.ld_unit_zero hz]

theorem w_2 : kernelRun0_A.sl.r_2 c a2 h2 a3 h3 C' S' = k0_pay5 C' S' := by
  unfold kernelRun0_A.sl.r_2
  simp only [View.readAt_eq_ld, h2.read_unread, h3.read_unread]
  rw [View.ld_unit_zero hz, View.ld_unit_zero hz]
  rfl

theorem w_3 : kernelRun0_A.sl.r_3 c a0 h0 a1 h1 a2 h2 a3 h3 a4 h4 C S C' S' X = k0_pay7 C S C' S' X := by
  unfold kernelRun0_A.sl.r_3
  simp only [View.readAt_eq_ld, h0.read_unread, h1.read_unread, h2.read_unread, h3.read_unread, h4.read_unread]
  rw [View.ld_unit_zero hz, View.ld_unit_zero hz, View.ld_unit_zero hz, View.ld_unit_zero hz, View.ld_unit_zero hz]

theorem w_0 : kernelRun0_A.sl.r c a0 h0 a1 h1 a2 h2 a3 h3 a4 h4 C S C' S' X = lower (k0_pay7 C S C' S' X) := by
  unfold kernelRun0_A.sl.r
  simp only [View.readAt_eq_ld, h0.read_unread, h1.read_unread, h2.read_unread, h3.read_unread, h4.read_unread]
  rw [View.ld_unit_zero hz, View.ld_unit_zero hz, View.ld_unit_zero hz, View.ld_unit_zero hz, View.ld_unit_zero hz]
  rfl

theorem w_4 : kernelRun0_A.sl.r_4 c a0 h0 a1 h1 a2 h2 a3 h3 a4 h4 C S C' S' X = q0 C S C' S' X := by
  unfold kernelRun0_A.sl.r_4
  rw [w_0, w_3]
  rfl

theorem w_5 : kernelRun0_A.sl.r_5 c a0 h0 a1 h1 a2 h2 a3 h3 a4 h4 C S C' S' X = lower (k0_pay12 (k0_pay5 C S) (k0_pay5 C' S') (q0 C S C' S' X)) := by
  unfold kernelRun0_A.sl.r_5
  rw [w_1, w_2, w_4]
  rfl

theorem w_6 : kernelRun0_A.sl.r_6 c a0 h0 a1 h1 a2 h2 a3 h3 a4 h4 C S C' S' X = q1 C S C' S' X := by
  unfold kernelRun0_A.sl.r_6
  rw [w_1, w_2, w_4, w_5]
  rfl

theorem w_7 : kernelRun0_A.sl.r_7 c a0 h0 a1 h1 a2 h2 a3 h3 a4 h4 C S C' S' X = k0_pay12 (k0_pay5 C S) (k0_pay5 C' S') (q1 C S C' S' X) := by
  unfold kernelRun0_A.sl.r_7
  rw [w_1, w_2, w_6]
  rfl

theorem w_8 : kernelRun0_A.sl.r_8 c a0 h0 a1 h1 a2 h2 a3 h3 a4 h4 C S C' S' X = gramM (k0_pay12 (k0_pay5 C S) (k0_pay5 C' S') (q1 C S C' S' X)) := by
  unfold kernelRun0_A.sl.r_8
  rw [w_1, w_2, w_6]
  rfl

theorem w_9 : kernelRun0_A.sl.r_9 c a0 h0 a1 h1 a2 h2 a3 h3 a4 h4 C S C' S' X = lower (k0_pay12 (k0_pay5 C S) (k0_pay5 C' S') (q1 C S C' S' X)) := by
  unfold kernelRun0_A.sl.r_9
  rw [w_8]
  rfl

theorem w_10 : kernelRun0_A.sl.r_10 c a0 h0 a1 h1 a2 h2 a3 h3 a4 h4 C S C' S' X = q2 C S C' S' X := by
  unfold kernelRun0_A.sl.r_10
  rw [w_7, w_9]
  rfl

/-! ## What is left in the four results -/

theorem gen7 : out0_A_7 c a0 h0 a1 h1 a2 h2 a3 h3 a4 h4 a5 h5 a6 h6 a7 h7 a8 h8 C S C' S' X = q0 C S C' S' X := by
  unfold out0_A_7
  rw [View.read_writes_junk_eq_canon]
  unfold kernelRun0_A
  dsimp only
  rw [View.canon_unit_zero hz, w_4]

theorem gen8 : out0_A_8 c a0 h0 a1 h1 a2 h2 a3 h3 a4 h4 a5 h5 a6 h6 a7 h7 a8 h8 C S C' S' X = q1 C S C' S' X := by
  unfold out0_A_8
  rw [View.read_writes_junk_eq_canon]
  unfold kernelRun0_A
  dsimp only
  rw [View.canon_unit_zero hz, w_6]

theorem gen5 : out0_A_5 c a0 h0 a1 h1 a2 h2 a3 h3 a4 h4 a5 h5 a6 h6 a7 h7 a8 h8 C S C' S' X = q2 C S C' S' X := by
  unfold out0_A_5
  rw [View.read_writes_junk_eq_canon]
  unfold kernelRun0_A
  dsimp only
  rw [View.canon_unit_zero hz, w_10]

theorem gen6 : out0_A_6 c a0 h0 a1 h1 a2 h2 a3 h3 a4 h4 a5 h5 a6 h6 a7 h7 a8 h8 C S C' S' X = bb C S C' S' X := by
  unfold out0_A_6
  rw [View.read_writes_junk_eq_canon]
  unfold kernelRun0_A
  dsimp only
  rw [View.canon_unit_zero hz, w_1, w_2, w_10]
  rfl

end

variable (m : (ℓ : Loc nD τ sig) → Buf (Elt Ideal) ℓ)

theorem point7 (c : Dev nD) (t : Fin cfg0.N) :
    (outsAt0 m c t).2.2.1 = q0 (iblk m c 0 t) (iblk m c 1 t) (iblk m c 2 t) (iblk m c 3 t) (iblk m c 4 t) := by
  unfold outsAt0
  dsimp only
  apply gen7

theorem point8 (c : Dev nD) (t : Fin cfg0.N) :
    (outsAt0 m c t).2.2.2 = q1 (iblk m c 0 t) (iblk m c 1 t) (iblk m c 2 t) (iblk m c 3 t) (iblk m c 4 t) := by
  unfold outsAt0
  dsimp only
  apply gen8

theorem point5 (c : Dev nD) (t : Fin cfg0.N) :
    (outsAt0 m c t).1 = q2 (iblk m c 0 t) (iblk m c 1 t) (iblk m c 2 t) (iblk m c 3 t) (iblk m c 4 t) := by
  unfold outsAt0
  dsimp only
  apply gen5

theorem point6 (c : Dev nD) (t : Fin cfg0.N) :
    (outsAt0 m c t).2.1 = bb (iblk m c 0 t) (iblk m c 1 t) (iblk m c 2 t) (iblk m c 3 t) (iblk m c 4 t) := by
  unfold outsAt0
  dsimp only
  apply gen6

end Cert.RefRun

end
-- ==== Proof.RefArrays.lean ====
/-
  The reference's four result arrays after its run, as functions of the five arguments: one grid point, so every window's
  block is its whole array.
-/
module

public import proofs.«01_k».proof.Proof.RefRun

@[expose] public section

set_option maxRecDepth 16384

noncomputable section

namespace Cert.RefArrays

open Cert.RefIdeal Cert.RefIdeal.Gen Idealize.ShloMosaic Idealize.ShloMosaic.TcCoe Idealize.SL.Sem
open Idealize.ShloMosaic.Pipeline (Dat)

variable (m : (ℓ : Loc nD τ sig) → Buf (Elt Ideal) ℓ) (g : Dev nD → PrngReg)

/-- The codes in the kernel's type are the arguments. -/
theorem codes_ft (c : Dev nD) : (V m c main_v0 : S64x1024x2048.Idx → EReal) = m ((c : Thread nD τ).loc main_arg0) := by
  unfold_abbrev_sides
  after_results
  rfl

theorem codes_base (c : Dev nD) : (V m c main_v1 : S64x1024x2048.Idx → EReal) = m ((c : Thread nD τ).loc main_arg2) := by
  unfold_abbrev_sides
  after_results
  rfl

theorem idx0 : ∀ t : Fin cfg0.N, win0_0.index t = ![0, 0, 0] := by decide +kernel

theorem idx1 : ∀ t : Fin cfg0.N, win0_1.index t = ![0, 0, 0] := by decide +kernel

theorem idx2 : ∀ t : Fin cfg0.N, win0_2.index t = ![0, 0, 0] := by decide +kernel

theorem idx3 : ∀ t : Fin cfg0.N, win0_3.index t = ![0, 0, 0] := by decide +kernel

theorem idx4 : ∀ t : Fin cfg0.N, win0_4.index t = ![0, 0, 0] := by decide +kernel

theorem idx5 : ∀ t : Fin cfg0.N, win0_5.index t = ![0, 0, 0] := by decide +kernel

theorem idx6 : ∀ t : Fin cfg0.N, win0_6.index t = ![0, 0, 0] := by decide +kernel

theorem idx7 : ∀ t : Fin cfg0.N, win0_7.index t = ![0, 0, 0] := by decide +kernel

theorem idx8 : ∀ t : Fin cfg0.N, win0_8.index t = ![0, 0, 0] := by decide +kernel

theorem block0 (c : Dev nD) (t : Fin cfg0.N) : iblk m c 0 t = V m c main_v0 := by
  funext y
  obtain ⟨i, j, k, rfl⟩ : ∃ (i : Fin 64) (j : Fin 1024) (k : Fin 2048), y = ix3 i j k := ⟨y 0, y 1, y 2, by funext a; fin_cases a <;> rfl⟩
  blk_ext [iblk, idx0 t]

theorem block1 (c : Dev nD) (t : Fin cfg0.N) : iblk m c 1 t = V m c main_arg1 := by
  funext y
  obtain ⟨i, j, k, rfl⟩ : ∃ (i : Fin 64) (j : Fin 8) (k : Fin 16), y = ix3 i j k := ⟨y 0, y 1, y 2, by funext a; fin_cases a <;> rfl⟩
  blk_ext [iblk, idx1 t]

theorem block2 (c : Dev nD) (t : Fin cfg0.N) : iblk m c 2 t = V m c main_v1 := by
  funext y
  obtain ⟨i, j, k, rfl⟩ : ∃ (i : Fin 64) (j : Fin 1024) (k : Fin 2048), y = ix3 i j k := ⟨y 0, y 1, y 2, by funext a; fin_cases a <;> rfl⟩
  blk_ext [iblk, idx2 t]

theorem block3 (c : Dev nD) (t : Fin cfg0.N) : iblk m c 3 t = V m c main_arg3 := by
  funext y
  obtain ⟨i, j, k, rfl⟩ : ∃ (i : Fin 64) (j : Fin 8) (k : Fin 16), y = ix3 i j k := ⟨y 0, y 1, y 2, by funext a; fin_cases a <;> rfl⟩
  blk_ext [iblk, idx3 t]

theorem block4 (c : Dev nD) (t : Fin cfg0.N) : iblk m c 4 t = V m c main_arg4 := by
  funext y
  obtain ⟨i, j, k, rfl⟩ : ∃ (i : Fin 64) (j : Fin 2048) (k : Fin 104), y = ix3 i j k := ⟨y 0, y 1, y 2, by funext a; fin_cases a <;> rfl⟩
  blk_ext [iblk, idx4 t]

theorem out5 (c : Dev nD) : (dats m 0 c).arrAt 5 cfg0.N = RefRun.q2 (V m c main_v0) (V m c main_arg1) (V m c main_v1) (V m c main_arg3) (V m c main_arg4) := by
  refine (dats m 0 c).arrAt_eq_of_covers 5 _ (by decide +kernel) fun t hf y => ?_
  blk_simp
  rw [after0_5, RefRun.point5, block0, block1, block2, block3, block4]
  refine congrArg _ ?_
  obtain ⟨i, j, k, rfl⟩ : ∃ (i : Fin 64) (j : Fin 1024) (k : Fin 104), y = ix3 i j k := ⟨y 0, y 1, y 2, by funext a; fin_cases a <;> rfl⟩
  exact Eq.symm (show ((cfg0.win 5).blk t).view.emb (ix3 i j k) = ix3 i j k from by blk_ext [idx5 t])

theorem out6 (c : Dev nD) : (dats m 0 c).arrAt 6 cfg0.N = RefRun.bb (V m c main_v0) (V m c main_arg1) (V m c main_v1) (V m c main_arg3) (V m c main_arg4) := by
  refine (dats m 0 c).arrAt_eq_of_covers 6 _ (by decide +kernel) fun t hf y => ?_
  blk_simp
  rw [after0_6, RefRun.point6, block0, block1, block2, block3, block4]
  refine congrArg _ ?_
  obtain ⟨i, j, k, rfl⟩ : ∃ (i : Fin 64) (j : Fin 104) (k : Fin 2048), y = ix3 i j k := ⟨y 0, y 1, y 2, by funext a; fin_cases a <;> rfl⟩
  exact Eq.symm (show ((cfg0.win 6).blk t).view.emb (ix3 i j k) = ix3 i j k from by blk_ext [idx6 t])

theorem out7 (c : Dev nD) : (dats m 0 c).arrAt 7 cfg0.N = RefRun.q0 (V m c main_v0) (V m c main_arg1) (V m c main_v1) (V m c main_arg3) (V m c main_arg4) := by
  refine (dats m 0 c).arrAt_eq_of_covers 7 _ (by decide +kernel) fun t hf y => ?_
  blk_simp
  rw [after0_7, RefRun.point7, block0, block1, block2, block3, block4]
  refine congrArg _ ?_
  obtain ⟨i, j, k, rfl⟩ : ∃ (i : Fin 64) (j : Fin 1024) (k : Fin 104), y = ix3 i j k := ⟨y 0, y 1, y 2, by funext a; fin_cases a <;> rfl⟩
  exact Eq.symm (show ((cfg0.win 7).blk t).view.emb (ix3 i j k) = ix3 i j k from by blk_ext [idx7 t])

theorem out8 (c : Dev nD) : (dats m 0 c).arrAt 8 cfg0.N = RefRun.q1 (V m c main_v0) (V m c main_arg1) (V m c main_v1) (V m c main_arg3) (V m c main_arg4) := by
  refine (dats m 0 c).arrAt_eq_of_covers 8 _ (by decide +kernel) fun t hf y => ?_
  blk_simp
  rw [after0_8, RefRun.point8, block0, block1, block2, block3, block4]
  refine congrArg _ ?_
  obtain ⟨i, j, k, rfl⟩ : ∃ (i : Fin 64) (j : Fin 1024) (k : Fin 104), y = ix3 i j k := ⟨y 0, y 1, y 2, by funext a; fin_cases a <;> rfl⟩
  exact Eq.symm (show ((cfg0.win 8).blk t).view.emb (ix3 i j k) = ix3 i j k from by blk_ext [idx8 t])

/-- The reference's run, its results named. -/
theorem run : θ_run (defs (F := Ideal)) (onTc main) ⟨m, fun _ => 0, g⟩ fun r => ∀ c : Dev nD,
      r.2.mem ((c : Thread nD τ).loc main_v2_0) = RefRun.q2 (V m c main_v0) (V m c main_arg1) (V m c main_v1) (V m c main_arg3) (V m c main_arg4)
      ∧ r.2.mem ((c : Thread nD τ).loc main_v2_1) = RefRun.bb (V m c main_v0) (V m c main_arg1) (V m c main_v1) (V m c main_arg3) (V m c main_arg4)
      ∧ r.2.mem ((c : Thread nD τ).loc main_v2_2) = RefRun.q0 (V m c main_v0) (V m c main_arg1) (V m c main_v1) (V m c main_arg3) (V m c main_arg4)
      ∧ r.2.mem ((c : Thread nD τ).loc main_v2_3) = RefRun.q1 (V m c main_v0) (V m c main_arg1) (V m c main_v1) (V m c main_arg3) (V m c main_arg4)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (θ_run_and (run_main m g) (unchanged m g))
  exact ⟨((h.1 c).1 5).trans (out5 m c), ((h.1 c).1 6).trans (out6 m c), ((h.1 c).1 7).trans (out7 m c), ((h.1 c).1 8).trans (out8 m c), h.2 c⟩

end Cert.RefArrays

end
-- ==== Proof.RefValue.lean ====
/-
  The reference's four results over the reals, from finite arguments with a full-rank first product: the same bases and the
  same product as the kernel's.
-/
module

public import proofs.«01_k».proof.Proof.RefRun
public import proofs.«01_k».proof.Proof.Stages

@[expose] public section

noncomputable section

namespace Cert.RefValue

open Cert.RefIdeal Cert.RefIdeal.Gen Idealize.ShloMosaic Idealize.ShloMosaic.TcCoe Idealize.SL.Sem
open Cert.Stages Cert.Algebra Cert.Reals Cert.RefLoops Cert.RefRun

/-! ## The products -/

/-- A dequantised entry: the code times its block's scale. -/
theorem pay5_apply (C : Vec Ideal S64x1024x2048 .fp8e4m3) (S : Vec Ideal S64x8x16 .f32) (b : Fin 64) (i : Fin 1024) (k : Fin 2048) :
    k0_pay5 C S (ix3 b i k) = wt C S b i k := by
  pointwise [k0_pay5, wt]

/-- A difference of two sums of products, the matrices' entries first. -/
theorem diff_real' {n : ℕ} (u v x : Fin n → ℝ) :
    (∑ k, ((u k : ℝ) : EReal) * ((x k : ℝ) : EReal)) - ∑ k, ((v k : ℝ) : EReal) * ((x k : ℝ) : EReal) = ((∑ k, (u k - v k) * x k : ℝ) : EReal) := by
  rw [← diff_real u v x]
  exact congrArg₂ (· - ·) (Finset.sum_congr rfl fun _ _ => mul_comm _ _) (Finset.sum_congr rfl fun _ _ => mul_comm _ _)

section
variable {U V : FVec Ideal S64x1024x2048 .bf16} {u v : Fin 64 → Matrix (Fin 1024) (Fin 2048) ℝ}
  (hU : ∀ (b : Fin 64) (i : Fin 1024) (k : Fin 2048), U (ix3 b i k) = ((u b i k : ℝ) : EReal))
  (hV : ∀ (b : Fin 64) (i : Fin 1024) (k : Fin 2048), V (ix3 b i k) = ((v b i k : ℝ) : EReal))
  {Q : FVec Ideal S64x1024x104 .f32} {q : Fin 64 → ℕ → Fin 1024 → ℝ}
  (hQ : ∀ (b : Fin 64) (i : Fin 1024) (r : Fin 104), Q (ix3 b i r) = ((q b r i : ℝ) : EReal))

include hU hV hQ

/-- The transposed difference times a basis. -/
theorem pay4_real (b : Fin 64) (r : Fin 104) (k : Fin 2048) : k0_pay4 U V Q (ix3 b r k) = ((mulT (fun b => u b - v b) q b r k : ℝ) : EReal) := by
  have e : k0_pay4 U V Q (ix3 b r k) = (∑ i : Fin 1024, Q (ix3 b i r) * U (ix3 b i k)) - ∑ i : Fin 1024, Q (ix3 b i r) * V (ix3 b i k) := by
    pointwise [k0_pay4]
  rw [e]
  simp only [hU, hV, hQ]
  exact diff_real (fun i => u b i k) (fun i => v b i k) (q b r)

/-- The difference times the transposed difference times a basis. -/
theorem pay12_real (b : Fin 64) (i : Fin 1024) (r : Fin 104) :
    k0_pay12 U V Q (ix3 b i r) = ((mul (fun b => u b - v b) (mulT (fun b => u b - v b) q) b r i : ℝ) : EReal) := by
  have e : k0_pay12 U V Q (ix3 b i r)
      = (∑ k : Fin 2048, U (ix3 b i k) * ((∑ i : Fin 1024, U (ix3 b i k) * Q (ix3 b i r)) - ∑ i : Fin 1024, V (ix3 b i k) * Q (ix3 b i r)))
        - ∑ k : Fin 2048, V (ix3 b i k) * ((∑ i : Fin 1024, U (ix3 b i k) * Q (ix3 b i r)) - ∑ i : Fin 1024, V (ix3 b i k) * Q (ix3 b i r)) := by
    pointwise [k0_pay12]
  rw [e]
  simp only [hU, hV, hQ]
  simp only [fun k => diff_real' (fun i => u b i k) (fun i => v b i k) (q b r)]
  exact diff_real' (u b i) (v b i) (fun k => mulT (fun b => u b - v b) q b r k)

end

/-- The first product. -/
theorem pay7_real {C C' : Vec Ideal S64x1024x2048 .fp8e4m3} {S S' : Vec Ideal S64x8x16 .f32} {X : Vec Ideal S64x2048x104 .bf16}
    (hC : IsReal C) (hS : IsReal S) (hC' : IsReal C') (hS' : IsReal S') (hX : IsReal X) (b : Fin 64) (i : Fin 1024) (r : Fin 104) :
    k0_pay7 C S C' S' X (ix3 b i r) = ((y0 (fun b => wr C S b - wr C' S' b) (om X) b r i : ℝ) : EReal) := by
  have e : k0_pay7 C S C' S' X (ix3 b i r) = (∑ k : Fin 2048, wt C S b i k * X (ix3 b k r)) - ∑ k : Fin 2048, wt C' S' b i k * X (ix3 b k r) := by
    pointwise [k0_pay7, k0_pay5, k0_pay6, wt]
  rw [e]
  simp only [wt_real hC hS, wt_real hC' hS', om_real hX]
  exact diff_real' (wr C S b i) (wr C' S' b i) (om X b r)

/-! ## Orthonormalising -/

theorem zero8 (j) : (k0_pay8 (F := Ideal)) j = 0 := by
  pointwise [k0_pay8]

theorem zero10 (j) : (k0_pay10 (F := Ideal)) j = 0 := by
  pointwise [k0_pay10]

section
variable {y : FVec Ideal S64x1024x104 .f32} {Y : Fin 64 → ℕ → Fin 1024 → ℝ}
  (hy : ∀ (b : Fin 64) (i : Fin 1024) (r : Fin 104), y (ix3 b i r) = ((Y b r i : ℝ) : EReal))

include hy

theorem gram_real (b : Fin 64) (r s : Fin 104) : gramM y (ix3 b r s) = ((gram (Y b) r s : ℝ) : EReal) := by
  have e : gramM y (ix3 b r s) = ∑ i : Fin 1024, y (ix3 b i r) * y (ix3 b i s) := by
    pointwise [gramM]
  rw [e]
  simp only [hy, ← EReal.coe_mul, sum_coe]
  rfl

theorem cqr_real (hF : Full Y) (b : Fin 64) (i : Fin 1024) (r : Fin 104) : cqr y (ix3 b i r) = ((orthoB Y b r i : ℝ) : EReal) := by
  unfold cqr lower
  exact sfold Y y hy hF _ (fun b i k => cfold (fun b => gram (Y b)) _ (gram_real hy) (fun b i k => gram_symm (Y b) i k) hF _ zero8 b i k) _ zero10 b i r

end

/-! ## The results -/

section
variable {C C' : Vec Ideal S64x1024x2048 .fp8e4m3} {S S' : Vec Ideal S64x8x16 .f32} {X : Vec Ideal S64x2048x104 .bf16}
    (hC : IsReal C) (hS : IsReal S) (hC' : IsReal C') (hS' : IsReal S') (hX : IsReal X)
    (hF : Full (y0 (fun b => wr C S b - wr C' S' b) (om X)))

include hC hS hC' hS' hX hF

theorem q0_real (b : Fin 64) (i : Fin 1024) (r : Fin 104) :
    RefRun.q0 C S C' S' X (ix3 b i r) = ((Stages.q0 (fun b => wr C S b - wr C' S' b) (om X) b r i : ℝ) : EReal) :=
  cqr_real (pay7_real hC hS hC' hS' hX) hF b i r

theorem q1_real (b : Fin 64) (i : Fin 1024) (r : Fin 104) :
    RefRun.q1 C S C' S' X (ix3 b i r) = ((Stages.q1 (fun b => wr C S b - wr C' S' b) (om X) b r i : ℝ) : EReal) :=
  cqr_real (pay12_real (fun b i k => (pay5_apply C S b i k).trans (wt_real hC hS b i k)) (fun b i k => (pay5_apply C' S' b i k).trans (wt_real hC' hS' b i k))
    (q0_real hC hS hC' hS' hX hF)) (full1 _ _ hF) b i r

theorem q2_real (b : Fin 64) (i : Fin 1024) (r : Fin 104) :
    RefRun.q2 C S C' S' X (ix3 b i r) = ((Stages.q2 (fun b => wr C S b - wr C' S' b) (om X) b r i : ℝ) : EReal) :=
  cqr_real (pay12_real (fun b i k => (pay5_apply C S b i k).trans (wt_real hC hS b i k)) (fun b i k => (pay5_apply C' S' b i k).trans (wt_real hC' hS' b i k))
    (q1_real hC hS hC' hS' hX hF)) (full2 _ _ hF) b i r

theorem bb_real (b : Fin 64) (r : Fin 104) (k : Fin 2048) :
    RefRun.bb C S C' S' X (ix3 b r k) = ((Stages.bb (fun b => wr C S b - wr C' S' b) (om X) b r k : ℝ) : EReal) :=
  pay4_real (fun b i k => (pay5_apply C S b i k).trans (wt_real hC hS b i k)) (fun b i k => (pay5_apply C' S' b i k).trans (wt_real hC' hS' b i k))
    (q2_real hC hS hC' hS' hX hF) b r k

end

end Cert.RefValue

end
-- ==== Proof.PreRank.lean ====
/-
  What the precondition says: every argument is real, and the Gram matrices of the first product have 104 positive pivots.
-/
module

public import proofs.«01_k».proof.Proof.Gen.Pre_full_rank
public import proofs.«01_k».proof.Proof.Stages
public import Idealize.ShloMosaic.Lib.Pointwise
public import Idealize.ShloMosaic.Lib.Pipeline.ValueKit

@[expose] public section

noncomputable section

namespace Cert.PreRank

open Cert.Pre_full_rank Idealize.ShloMosaic Cert.Algebra Cert.Reals Cert.Stages Cert.Proof.Common

theorem one_bit (p : Prop) [Decidable p] (h : (BitVec.ofBool (decide p)) = 1#1) : p := by
  by_contra hp
  simp [hp] at h

theorem andi_one (x y : BitVec 1) (h : IntOp.andi x y = 1#1) : x = 1#1 ∧ y = 1#1 := by
  unfold IntOp.andi at h
  revert x y
  decide

/-- A number whose absolute value is below another is real. -/
theorem real_of_abs {φ : FTy} (x c : Ideal φ) (h : FloatOps.absf x < c) : (x : EReal) = ((EReal.toReal x : ℝ) : EReal) := by
  have h' : max (x : EReal) (-x) < (c : EReal) := h
  refine (EReal.coe_toReal ?_ ?_).symm
  · rintro rfl
    exact absurd (lt_of_le_of_lt (le_max_left _ _) h') (not_lt.2 le_top)
  · rintro rfl
    exact absurd (lt_of_le_of_lt (le_max_right _ _) h') (not_lt.2 (by rw [EReal.neg_bot]; exact le_top))

theorem finite_real (x : FVec Ideal S64x1024x2048 .f32) (h : fn_finite (F := Ideal) x = fun _ => 1#1) : IsReal x := by
  intro j
  have e := congrFun h j
  pointwise [fn_finite] at e
  exact real_of_abs (x j) _ (one_bit _ e)

theorem finite0_real (x : FVec Ideal S64x8x16 .f32) (h : fn_finite_0 (F := Ideal) x = fun _ => 1#1) : IsReal x := by
  intro j
  have e := congrFun h j
  pointwise [fn_finite_0] at e
  exact real_of_abs (x j) _ (one_bit _ e)

theorem finite1_real (x : FVec Ideal S64x2048x104 .bf16) (h : fn_finite_1 (F := Ideal) x = fun _ => 1#1) : IsReal x := by
  intro j
  have e := congrFun h j
  pointwise [fn_finite_1] at e
  exact real_of_abs (x j) _ (one_bit _ e)

/-! ## The elimination -/

/-- One step of the elimination and the test of its pivot. -/
def step (p : FVec Ideal S64x104x104 .f32 × IVec S64x1x1 1) : FVec Ideal S64x104x104 .f32 × IVec S64x1x1 1 := fn_eliminate (F := Ideal) p.1 p.2

/-- Eight of them. -/
def step8 (p : FVec Ideal S64x104x104 .f32 × IVec S64x1x1 1) : FVec Ideal S64x104x104 .f32 × IVec S64x1x1 1 := fn_eliminate8 (F := Ideal) p.1 p.2

theorem step8_eq : step8 = step^[8] := rfl

/-- The test before any step. -/
def ok0 : IVec S64x1x1 1 := broadcastInDim S64x1x1 ![] Facts.bcast_S_S64x1x1 (constantI S_ 1 1#1)

theorem step_ok (p : FVec Ideal S64x104x104 .f32 × IVec S64x1x1 1) (h : (step p).2 = fun _ => 1#1) :
    p.2 = (fun _ => 1#1) ∧ ∀ b : Fin 64, (0 : EReal) < p.1 (ix3 b 0 0) := by
  have key : ∀ b : Fin 64, p.2 (ix3 b 0 0) = 1#1 ∧ (0 : EReal) < p.1 (ix3 b 0 0) := fun b => by
    have e := congrFun h (ix3 b 0 0)
    pointwise [step, fn_eliminate] at e
    have e' := andi_one _ _ e
    exact ⟨e'.1, one_bit _ e'.2⟩
  refine ⟨funext fun j => ?_, fun b => (key b).2⟩
  have ej : j = ix3 (j 0) 0 0 := by
    funext a
    fin_cases a
    · rfl
    · exact Subsingleton.elim (α := Fin 1) _ _
    · exact Subsingleton.elim (α := Fin 1) _ _
  rw [ej]
  exact (key (j 0)).1

theorem step_apply (p : FVec Ideal S64x104x104 .f32 × IVec S64x1x1 1) (b : Fin 64) (i k : Fin 104) (hi : i.val < 103) (hk : k.val < 103) :
    (step p).1 (ix3 b i k) = p.1 (ix3 b ⟨1 + i.val, by omega⟩ ⟨1 + k.val, by omega⟩)
      - Ideal.div (p.1 (ix3 b ⟨1 + i.val, by omega⟩ 0)) (p.1 (ix3 b 0 0)) * p.1 (ix3 b 0 ⟨1 + k.val, by omega⟩) := by
  pointwise [step, fn_eliminate, fn_pad]
  rw [dif_pos ⟨hi, hk⟩]

/-- When every test succeeds, the elimination ran over the reals with positive pivots. -/
theorem pivots (G : Fin 64 → ℕ → ℕ → ℝ) (g : FVec Ideal S64x104x104 .f32) (ok : IVec S64x1x1 1)
    (hg : ∀ (b : Fin 64) (i k : Fin 104), g (ix3 b i k) = ((G b i k : ℝ) : EReal)) (h : (step^[104] (g, ok)).2 = fun _ => 1#1) (b : Fin 64) (t : ℕ)
    (ht : t < 104) : 0 < piv (G b) t := by
  have hok : ∀ n, n ≤ 104 → (step^[104 - n] (g, ok)).2 = fun _ => 1#1 := by
    intro n
    induction n with
    | zero => exact fun _ => h
    | succ n ih =>
      intro hn
      have e := ih (by omega)
      rw [show 104 - n = (104 - (n + 1)) + 1 by omega, Function.iterate_succ_apply'] at e
      exact (step_ok _ e).1
  have hpos : ∀ n, n < 104 → ∀ b : Fin 64, (0 : EReal) < (step^[n] (g, ok)).1 (ix3 b 0 0) := by
    intro n hn
    have e := hok (104 - (n + 1)) (by omega)
    rw [show 104 - (104 - (n + 1)) = n + 1 by omega, Function.iterate_succ_apply'] at e
    exact (step_ok _ e).2
  have hval : ∀ n, n < 104 → ∀ (b : Fin 64) (i k : Fin 104), n + i.val < 104 → n + k.val < 104 →
      (step^[n] (g, ok)).1 (ix3 b i k) = ((elim (G b) n (n + i.val) (n + k.val) : ℝ) : EReal) := by
    intro n
    induction n with
    | zero =>
      intro _ b i k _ _
      rw [Nat.zero_add, Nat.zero_add]
      exact hg b i k
    | succ n ih =>
      intro hn b i k hi hk
      have ihn := ih (by omega) b
      have hp := hpos n (by omega) b
      have h00 := ihn 0 0 (by simpa using (by omega : n < 104)) (by simpa using (by omega : n < 104))
      have h1 := ihn ⟨1 + i.val, by omega⟩ ⟨1 + k.val, by omega⟩ (by show n + (1 + i.val) < 104; omega) (by show n + (1 + k.val) < 104; omega)
      have h2 := ihn ⟨1 + i.val, by omega⟩ 0 (by show n + (1 + i.val) < 104; omega) (by simpa using (by omega : n < 104))
      have h3 := ihn 0 ⟨1 + k.val, by omega⟩ (by simpa using (by omega : n < 104)) (by show n + (1 + k.val) < 104; omega)
      have e0 : n + (0 : Fin 104).val = n := rfl
      rw [e0] at h00 h2 h3
      rw [h00] at hp
      have hp' : 0 < elim (G b) n n n := EReal.coe_pos.1 hp
      rw [Function.iterate_succ_apply', step_apply _ b i k (by omega) (by omega), h1, h2, h3, h00, div_real _ hp'.ne', ← EReal.coe_mul, ← EReal.coe_sub]
      refine congrArg _ ?_
      show elim (G b) n (n + (1 + i.val)) (n + (1 + k.val)) - elim (G b) n (n + (1 + i.val)) n / elim (G b) n n n * elim (G b) n n (n + (1 + k.val)) = _
      rw [show n + 1 + i.val = n + (1 + i.val) by omega, show n + 1 + k.val = n + (1 + k.val) by omega]
      show _ = if n < n + (1 + i.val) then _ else _
      rw [if_pos (by omega), if_neg (by omega)]
  have e := hpos t ht b
  rw [hval t ht b 0 0 (by simpa using ht) (by simpa using ht)] at e
  exact EReal.coe_pos.1 e

/-! ## The precondition -/

variable (C : FVec Ideal S64x1024x2048 .f32) (S : FVec Ideal S64x8x16 .f32) (C' : FVec Ideal S64x1024x2048 .f32) (S' : FVec Ideal S64x8x16 .f32)
  (X : FVec Ideal S64x2048x104 .bf16)

theorem fn_ok : (fn (F := Ideal) C S C' S' X).2.2.2.2.2 = (step8^[13] (fn_gram0 (F := Ideal) C S C' S' X, ok0)).2 := rfl

theorem gram_apply (hC : IsReal C) (hS : IsReal S) (hC' : IsReal C') (hS' : IsReal S') (hX : IsReal X) (b : Fin 64) (r s : Fin 104) :
    fn_gram0 (F := Ideal) C S C' S' X (ix3 b r s) = ((gram (y0 (fun b => wr C S b - wr C' S' b) (om X) b) r s : ℝ) : EReal) := by
  have e : fn_gram0 (F := Ideal) C S C' S' X (ix3 b r s)
      = (∑ i : Fin 1024, ((∑ k : Fin 2048, wt C S b i k * X (ix3 b k r)) - ∑ k : Fin 2048, wt C' S' b i k * X (ix3 b k r))
          * ((∑ k : Fin 2048, wt C S b i k * X (ix3 b k s)) - ∑ k : Fin 2048, wt C' S' b i k * X (ix3 b k s)) : EReal) := by
    pointwise [fn_gram0, wt]
  rw [e]
  simp only [mul_comm (wt _ _ _ _ _)]
  exact Cert.Stages.gv_real (Y := yv (wt C S) (wt C' S') fun b r k => X (ix3 b k r)) (yv_real (wt_real hC hS) (wt_real hC' hS') (om_real hX)) b r s

theorem full (hC : IsReal C) (hS : IsReal S) (hC' : IsReal C') (hS' : IsReal S') (hX : IsReal X)
    (h : (fn (F := Ideal) C S C' S' X).2.2.2.2.2 = fun _ => 1#1) : Full (y0 (fun b => wr C S b - wr C' S' b) (om X)) := by
  rw [fn_ok, step8_eq, ← Function.iterate_mul] at h
  exact fun b t ht => pivots (fun b => gram (y0 (fun b => wr C S b - wr C' S' b) (om X) b)) _ _ (gram_apply C S C' S' X hC hS hC' hS' hX) h b t ht

end Cert.PreRank

end
-- ==== Proof.Calls.Common.lean ====
/-
  What the product launches share: the dequantised weights, as one launch's point holds them in its
  scratch buffer and as functions of the whole arrays, and how a scratch buffer written row block by row block reads
  back.
-/
module

public import Idealize.ShloMosaic.PureOps.Ideal
public import Idealize.ShloMosaic.Lib.Pipeline.ValueKit
public import Idealize.ShloMosaic.Lib.Pipeline.ReadBack
public import Idealize.ShloMosaic.Lib.Pointwise
public import Idealize.ShloMosaic.Lib.Ring

@[expose] public section

noncomputable section

namespace Cert.Proof.Calls.Common

open Idealize.ShloMosaic

/-- The weight matrices' codes, all 64 of them. -/
abbrev SC : Shape := ⟨3, ![64, 1024, 2048]⟩
/-- Their scales, one per 128 × 128 block. -/
abbrev SS : Shape := ⟨3, ![64, 8, 16]⟩
/-- One matrix's codes, as a grid point's block. -/
abbrev BC : Shape := ⟨3, ![1, 1024, 2048]⟩
/-- One matrix's scales, each repeated over its 128 columns, as a grid point's block. -/
abbrev BS : Shape := ⟨3, ![1, 8, 2048]⟩
/-- One dequantised matrix. -/
abbrev SW : Shape := ⟨2, ![1024, 2048]⟩

/-- The dequantised matrix of one grid point: each code times the scale of its block of rows at its column. -/
def dq (C : BC.Idx → EReal) (S : BS.Idx → EReal) : SW.Idx → EReal := fun y =>
  C (ix3 (0 : Fin 1) (y 0) (y 1)) * S (ix3 (0 : Fin 1) ⟨(y 0).val / 128, by have := (y 0).isLt; change (y 0).val < 1024 at this; omega⟩ (y 1))

theorem dq_apply (C : BC.Idx → EReal) (S : BS.Idx → EReal) (i : Fin 1024) (k : Fin 2048) :
    dq C S (ix2 i k) = C (ix3 (0 : Fin 1) i k) * S (ix3 (0 : Fin 1) ⟨i.val / 128, by omega⟩ k) := rfl

/-- A block of 128 rows of codes. -/
abbrev RC : Shape := ⟨3, ![1, 128, 2048]⟩
/-- Its row of scales. -/
abbrev RS : Shape := ⟨3, ![1, 1, 2048]⟩
/-- The block dequantised. -/
abbrev RW : Shape := ⟨2, ![128, 2048]⟩

/-- A row block dequantised: each code times the scale at its column. -/
def rb (c : RC.Idx → EReal) (s : RS.Idx → EReal) : RW.Idx → EReal := fun x =>
  c (ix3 (0 : Fin 1) (x 0) (x 1)) * s (ix3 (0 : Fin 1) (0 : Fin 1) (x 1))

/-- Row block `n`, dequantised from the loads of its codes and of its row of scales, is that block of rows of the whole
    dequantised matrix. -/
theorem rb_piece (C : BC.Idx → EReal) (S : BS.Idx → EReal) (n o : ℕ) (ho : o = 128 * n) (hn : n < 8)
    (i1 : ∀ a, (![0, o, 0] : Fin 3 → ℕ) a + (![1, 128, 2048] : Fin 3 → ℕ) a ≤ BC.size a)
    (i2 : ∀ a, (![0, n, 0] : Fin 3 → ℕ) a + (![1, 1, 2048] : Fin 3 → ℕ) a ≤ BS.size a)
    (i3 : ∀ a, (![o, 0] : Fin 2 → ℕ) a + (![128, 2048] : Fin 2 → ℕ) a ≤ SW.size a)
    (x : (Rect.unit (s := SW) ![o, 0] ![128, 2048] i3).shape.Idx) :
    rb (View.ld (Val := Elt Ideal) (S := BC) (e' := .fp8e4m3) C (Rect.unit (s := BC) ![0, o, 0] ![1, 128, 2048] i1))
        (View.ld (Val := Elt Ideal) (S := BS) (e' := .bf16) S (Rect.unit (s := BS) ![0, n, 0] ![1, 1, 2048] i2)) x
      = dq C S ((Rect.unit (s := SW) ![o, 0] ![128, 2048] i3).emb x) := by
  have h0 : (x 0).val < 128 := (x 0).isLt
  have h1 : (x 1).val < 2048 := (x 1).isLt
  unfold rb dq
  have e0 : (((Rect.unit (s := SW) ![o, 0] ![128, 2048] i3).emb x) 0).val = o + (x 0).val := by
    show o + 1 * (x 0).val = _; omega
  have e1 : (((Rect.unit (s := SW) ![o, 0] ![128, 2048] i3).emb x) 1).val = (x 1).val := by
    show 0 + 1 * (x 1).val = _; omega
  refine congrArg₂ (· * ·) (congrArg C ?_) (congrArg S ?_)
  · funext a
    fin_cases a <;> apply Fin.ext <;> simp [LoadRect.idx, ix3, -Function.Embedding.coeFn_mk, e0, e1]
  · funext a
    fin_cases a <;> apply Fin.ext <;> simp [LoadRect.idx, ix3, e0, e1]
    omega

/-- The dequantised matrix `b` of the whole arrays: each code times the scale of its 128 × 128 block. -/
def wt (C : SC.Idx → EReal) (S : SS.Idx → EReal) (b : Fin 64) (i : Fin 1024) (k : Fin 2048) : EReal :=
  C (ix3 b i k) * S (ix3 b (⟨i.val / 128, by omega⟩ : Fin 8) (⟨k.val / 128, by omega⟩ : Fin 16))

/-! ## The products, as functions of whole arrays -/

/-- The right-hand side of the sketch's first product: the argument `[64, 2048, 104]` seen with its columns as rows. -/
def xv (X : (⟨3, ![64, 2048, 104]⟩ : Shape).Idx → EReal) (b : Fin 64) (r : Fin 104) (k : Fin 2048) : EReal := X (ix3 b k r)

/-- The rows orthonormalised: `L⁻¹` times `yᵀ`. -/
def qv (Y : (⟨3, ![64, 104, 1024]⟩ : Shape).Idx → EReal) (L : (⟨3, ![64, 104, 104]⟩ : Shape).Idx → EReal)
    (b : Fin 64) (r : Fin 104) (i : Fin 1024) : EReal := ∑ j : Fin 104, L (ix3 b r j) * Y (ix3 b j i)

/-- `zᵀ = qᵀ (W_ft − W_base)`, the difference taken after the two products. -/
def zv (Cf : SC.Idx → EReal) (Sf : SS.Idx → EReal) (Cb : SC.Idx → EReal) (Sb : SS.Idx → EReal)
    (Q : Fin 64 → Fin 104 → Fin 1024 → EReal) (b : Fin 64) (r : Fin 104) (k : Fin 2048) : EReal :=
  (∑ i : Fin 1024, Q b r i * wt Cf Sf b i k) - ∑ i : Fin 1024, Q b r i * wt Cb Sb b i k

/-- `yᵀ = xᵀ (W_ft − W_base)ᵀ`, the difference taken after the two products. -/
def yv (Cf : SC.Idx → EReal) (Sf : SS.Idx → EReal) (Cb : SC.Idx → EReal) (Sb : SS.Idx → EReal)
    (X : Fin 64 → Fin 104 → Fin 2048 → EReal) (b : Fin 64) (r : Fin 104) (i : Fin 1024) : EReal :=
  (∑ k : Fin 2048, X b r k * wt Cf Sf b i k) - ∑ k : Fin 2048, X b r k * wt Cb Sb b i k

/-- The Gram matrix of the rows of `yᵀ`. -/
def gv (Y : Fin 64 → Fin 104 → Fin 1024 → EReal) (b : Fin 64) (r s : Fin 104) : EReal := ∑ i : Fin 1024, Y b r i * Y b s i

/-- A function of three coordinates as an array. -/
def arr3 {n₀ n₁ n₂ : ℕ} (f : Fin n₀ → Fin n₁ → Fin n₂ → EReal) : (⟨3, ![n₀, n₁, n₂]⟩ : Shape).Idx → EReal :=
  fun j => f (j 0) (j 1) (j 2)

/-! ## A scratch buffer read back -/

/-- A buffer written in pieces that are each a block of `G` and together cover it reads back, whole, as `G`. -/
theorem readCov_eq_of_pieces {Val : EltTy → Type} [∀ e, Nonempty (Val e)] {sig : RefSig} {κ : Kind} {sp : Space}
    {S : Shape} {e : EltTy} (v : View sig κ sp S e) (L : List (View.Piece Val S e)) {off : Fin S.rank → Nat}
    (inb : ∀ a, off a + S.size a ≤ S.size a) (G : S.Idx → Val e) (h0 : ∀ a, off a = 0)
    (h : View.PiecesOf G L) (hc : ∀ y, ∃ p ∈ L, y ∈ p.1.set) :
    v.readCov L (Rect.unit off S.size inb).toLoadRect = G := by
  rw [View.readCov_eq_canon_ld _ _ _ hc, View.ld_unit_zero (funext h0)]
  funext y
  have := View.canon_append_of_piecesOf G [] L h y (hc y)
  rwa [List.append_nil] at this

/-- The scratch buffer holding a dequantised matrix, written in eight row blocks of 128, read back whole. -/
theorem scratch_eq {sig : RefSig} {κ : Kind} {sp : Space} (v : View sig κ sp SW .bf16) (C : BC.Idx → EReal) (S : BS.Idx → EReal)
    (w0 : ∀ a, (![0, 0] : Fin 2 → ℕ) a + (![128, 2048] : Fin 2 → ℕ) a ≤ SW.size a)
    (c0 : ∀ a, (![0, 0, 0] : Fin 3 → ℕ) a + (![1, 128, 2048] : Fin 3 → ℕ) a ≤ BC.size a)
    (s0 : ∀ a, (![0, 0, 0] : Fin 3 → ℕ) a + (![1, 1, 2048] : Fin 3 → ℕ) a ≤ BS.size a)
    (w1 : ∀ a, (![128, 0] : Fin 2 → ℕ) a + (![128, 2048] : Fin 2 → ℕ) a ≤ SW.size a)
    (c1 : ∀ a, (![0, 128, 0] : Fin 3 → ℕ) a + (![1, 128, 2048] : Fin 3 → ℕ) a ≤ BC.size a)
    (s1 : ∀ a, (![0, 1, 0] : Fin 3 → ℕ) a + (![1, 1, 2048] : Fin 3 → ℕ) a ≤ BS.size a)
    (w2 : ∀ a, (![256, 0] : Fin 2 → ℕ) a + (![128, 2048] : Fin 2 → ℕ) a ≤ SW.size a)
    (c2 : ∀ a, (![0, 256, 0] : Fin 3 → ℕ) a + (![1, 128, 2048] : Fin 3 → ℕ) a ≤ BC.size a)
    (s2 : ∀ a, (![0, 2, 0] : Fin 3 → ℕ) a + (![1, 1, 2048] : Fin 3 → ℕ) a ≤ BS.size a)
    (w3 : ∀ a, (![384, 0] : Fin 2 → ℕ) a + (![128, 2048] : Fin 2 → ℕ) a ≤ SW.size a)
    (c3 : ∀ a, (![0, 384, 0] : Fin 3 → ℕ) a + (![1, 128, 2048] : Fin 3 → ℕ) a ≤ BC.size a)
    (s3 : ∀ a, (![0, 3, 0] : Fin 3 → ℕ) a + (![1, 1, 2048] : Fin 3 → ℕ) a ≤ BS.size a)
    (w4 : ∀ a, (![512, 0] : Fin 2 → ℕ) a + (![128, 2048] : Fin 2 → ℕ) a ≤ SW.size a)
    (c4 : ∀ a, (![0, 512, 0] : Fin 3 → ℕ) a + (![1, 128, 2048] : Fin 3 → ℕ) a ≤ BC.size a)
    (s4 : ∀ a, (![0, 4, 0] : Fin 3 → ℕ) a + (![1, 1, 2048] : Fin 3 → ℕ) a ≤ BS.size a)
    (w5 : ∀ a, (![640, 0] : Fin 2 → ℕ) a + (![128, 2048] : Fin 2 → ℕ) a ≤ SW.size a)
    (c5 : ∀ a, (![0, 640, 0] : Fin 3 → ℕ) a + (![1, 128, 2048] : Fin 3 → ℕ) a ≤ BC.size a)
    (s5 : ∀ a, (![0, 5, 0] : Fin 3 → ℕ) a + (![1, 1, 2048] : Fin 3 → ℕ) a ≤ BS.size a)
    (w6 : ∀ a, (![768, 0] : Fin 2 → ℕ) a + (![128, 2048] : Fin 2 → ℕ) a ≤ SW.size a)
    (c6 : ∀ a, (![0, 768, 0] : Fin 3 → ℕ) a + (![1, 128, 2048] : Fin 3 → ℕ) a ≤ BC.size a)
    (s6 : ∀ a, (![0, 6, 0] : Fin 3 → ℕ) a + (![1, 1, 2048] : Fin 3 → ℕ) a ≤ BS.size a)
    (w7 : ∀ a, (![896, 0] : Fin 2 → ℕ) a + (![128, 2048] : Fin 2 → ℕ) a ≤ SW.size a)
    (c7 : ∀ a, (![0, 896, 0] : Fin 3 → ℕ) a + (![1, 128, 2048] : Fin 3 → ℕ) a ≤ BC.size a)
    (s7 : ∀ a, (![0, 7, 0] : Fin 3 → ℕ) a + (![1, 1, 2048] : Fin 3 → ℕ) a ≤ BS.size a)
    (w : ∀ a, (![0, 0] : Fin 2 → ℕ) a + SW.size a ≤ SW.size a) :
    v.readCov (Val := Elt Ideal) [⟨Rect.unit (s := SW) ![896, 0] ![128, 2048] w7, rb (View.ld (Val := Elt Ideal) (S := BC) (e' := .fp8e4m3) C (Rect.unit (s := BC) ![0, 896, 0] ![1, 128, 2048] c7))
        (View.ld (Val := Elt Ideal) (S := BS) (e' := .bf16) S (Rect.unit (s := BS) ![0, 7, 0] ![1, 1, 2048] s7))⟩,
      ⟨Rect.unit (s := SW) ![768, 0] ![128, 2048] w6, rb (View.ld (Val := Elt Ideal) (S := BC) (e' := .fp8e4m3) C (Rect.unit (s := BC) ![0, 768, 0] ![1, 128, 2048] c6))
        (View.ld (Val := Elt Ideal) (S := BS) (e' := .bf16) S (Rect.unit (s := BS) ![0, 6, 0] ![1, 1, 2048] s6))⟩,
      ⟨Rect.unit (s := SW) ![640, 0] ![128, 2048] w5, rb (View.ld (Val := Elt Ideal) (S := BC) (e' := .fp8e4m3) C (Rect.unit (s := BC) ![0, 640, 0] ![1, 128, 2048] c5))
        (View.ld (Val := Elt Ideal) (S := BS) (e' := .bf16) S (Rect.unit (s := BS) ![0, 5, 0] ![1, 1, 2048] s5))⟩,
      ⟨Rect.unit (s := SW) ![512, 0] ![128, 2048] w4, rb (View.ld (Val := Elt Ideal) (S := BC) (e' := .fp8e4m3) C (Rect.unit (s := BC) ![0, 512, 0] ![1, 128, 2048] c4))
        (View.ld (Val := Elt Ideal) (S := BS) (e' := .bf16) S (Rect.unit (s := BS) ![0, 4, 0] ![1, 1, 2048] s4))⟩,
      ⟨Rect.unit (s := SW) ![384, 0] ![128, 2048] w3, rb (View.ld (Val := Elt Ideal) (S := BC) (e' := .fp8e4m3) C (Rect.unit (s := BC) ![0, 384, 0] ![1, 128, 2048] c3))
        (View.ld (Val := Elt Ideal) (S := BS) (e' := .bf16) S (Rect.unit (s := BS) ![0, 3, 0] ![1, 1, 2048] s3))⟩,
      ⟨Rect.unit (s := SW) ![256, 0] ![128, 2048] w2, rb (View.ld (Val := Elt Ideal) (S := BC) (e' := .fp8e4m3) C (Rect.unit (s := BC) ![0, 256, 0] ![1, 128, 2048] c2))
        (View.ld (Val := Elt Ideal) (S := BS) (e' := .bf16) S (Rect.unit (s := BS) ![0, 2, 0] ![1, 1, 2048] s2))⟩,
      ⟨Rect.unit (s := SW) ![128, 0] ![128, 2048] w1, rb (View.ld (Val := Elt Ideal) (S := BC) (e' := .fp8e4m3) C (Rect.unit (s := BC) ![0, 128, 0] ![1, 128, 2048] c1))
        (View.ld (Val := Elt Ideal) (S := BS) (e' := .bf16) S (Rect.unit (s := BS) ![0, 1, 0] ![1, 1, 2048] s1))⟩,
      ⟨Rect.unit (s := SW) ![0, 0] ![128, 2048] w0, rb (View.ld (Val := Elt Ideal) (S := BC) (e' := .fp8e4m3) C (Rect.unit (s := BC) ![0, 0, 0] ![1, 128, 2048] c0))
        (View.ld (Val := Elt Ideal) (S := BS) (e' := .bf16) S (Rect.unit (s := BS) ![0, 0, 0] ![1, 1, 2048] s0))⟩]
      (Rect.unit (s := SW) ![0, 0] ![1024, 2048] w).toLoadRect = dq C S :=
  readCov_eq_of_pieces (Val := Elt Ideal) v _ w (dq C S) (by decide) ⟨rb_piece C S 7 _ rfl (by decide) c7 s7 w7,
    rb_piece C S 6 _ rfl (by decide) c6 s6 w6,
    rb_piece C S 5 _ rfl (by decide) c5 s5 w5,
    rb_piece C S 4 _ rfl (by decide) c4 s4 w4,
    rb_piece C S 3 _ rfl (by decide) c3 s3 w3,
    rb_piece C S 2 _ rfl (by decide) c2 s2 w2,
    rb_piece C S 1 _ rfl (by decide) c1 s1 w1,
    rb_piece C S 0 _ rfl (by decide) c0 s0 w0, trivial⟩
    (View.cover_of_tiledL _ ![128, 2048] (by sl_kernel_rfl))

end Cert.Proof.Calls.Common
end
-- ==== Proof.Calls.First.lean ====
/-
  The first product launch over the reals: at every grid point it dequantises one pair of matrices into its two scratch
  buffers, multiplies, and takes the Gram matrix of the result. Its two result arrays after the run, as functions of the
  arguments (`run`).
-/
module

public import proofs.«01_k».proof.Defs
public import proofs.«01_k».proof.Proof.Gen.FirstIdeal.Value
public import proofs.«01_k».proof.Proof.Calls.Common

@[expose] public section

noncomputable section

namespace Cert.Proof.Calls.First

open Cert.FirstIdeal Cert.FirstIdeal.Gen Idealize.ShloMosaic Idealize.ShloMosaic.TcCoe Idealize.SL.Sem
open Idealize.ShloMosaic.Pipeline (Dat)
open Cert.Proof.Calls.Common

/-! ## The stores that dequantise -/

/-- Each store into the scratch buffer of the fine-tuned weights is its row block, dequantised. -/
theorem pays_ft (c : Vec Ideal S1x128x2048 .fp8e4m3) (s : Vec Ideal S1x1x2048 .bf16) :
    k0_pay5 c s = rb c s ∧ k0_pay6 c s = rb c s ∧ k0_pay7 c s = rb c s ∧ k0_pay8 c s = rb c s
    ∧ k0_pay9 c s = rb c s ∧ k0_pay10 c s = rb c s ∧ k0_pay12 (k0_pay11 c) s = rb c s ∧ k0_pay13 c s = rb c s := by
  refine ⟨?_, ?_, ?_, ?_, ?_, ?_, ?_, ?_⟩ <;> funext x <;>
    pointwise [k0_pay5, k0_pay6, k0_pay7, k0_pay8, k0_pay9, k0_pay10, k0_pay11, k0_pay12, k0_pay13, rb]

/-- Each store into the scratch buffer of the base weights is its row block, dequantised. -/
theorem pays_base (c : Vec Ideal S1x128x2048 .fp8e4m3) (s : Vec Ideal S1x1x2048 .bf16) :
    k0_pay14 c s = rb c s ∧ k0_pay16 (k0_pay15 c) s = rb c s ∧ k0_pay17 c s = rb c s ∧ k0_pay18 c s = rb c s
    ∧ k0_pay21 (k0_pay19 c) (k0_pay20 s) = rb c s ∧ k0_pay22 c s = rb c s ∧ k0_pay23 c s = rb c s ∧ k0_pay1 (k0_pay24 c s) = rb c s := by
  refine ⟨?_, ?_, ?_, ?_, ?_, ?_, ?_, ?_⟩ <;> funext x <;>
    pointwise [k0_pay1, k0_pay14, k0_pay15, k0_pay16, k0_pay17, k0_pay18, k0_pay19, k0_pay20, k0_pay21, k0_pay22, k0_pay23, k0_pay24, rb]

variable (m : (ℓ : Loc nD τ sig) → Buf (Elt Ideal) ℓ) (ρ : Dev nD → PrngReg)

/-- The dequantised fine-tuned matrix of point `t`. -/
def wf (c : Dev nD) (t : Fin cfg0.N) : SW.Idx → EReal := dq (iblk m c 1 t) (iblk m c 2 t)

/-- The dequantised base matrix of point `t`. -/
def wb (c : Dev nD) (t : Fin cfg0.N) : SW.Idx → EReal := dq (iblk m c 3 t) (iblk m c 4 t)

/-! ## A point's blocks are its matrices of the arguments -/

/-- Every window's block at point `t` is matrix `t` of its array. -/
theorem idx : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] :=
  (by decide +kernel : ∀ t : Fin grid0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0])

theorem ft_codes (c : Dev nD) (t : Fin cfg0.N) (i : Fin 1024) (k : Fin 2048) :
    iblk m c 1 t (ix3 0 i k) = m ((c : Thread nD τ).loc main_arg0) (ix3 t i k) := by blk_ext [iblk, V, idx t]

theorem base_codes (c : Dev nD) (t : Fin cfg0.N) (i : Fin 1024) (k : Fin 2048) :
    iblk m c 3 t (ix3 0 i k) = m ((c : Thread nD τ).loc main_arg2) (ix3 t i k) := by blk_ext [iblk, V, idx t]

theorem ft_scales (c : Dev nD) (t : Fin cfg0.N) (i : Fin 8) (k : Fin 2048) :
    iblk m c 2 t (ix3 0 i k) = m ((c : Thread nD τ).loc main_arg1) (ix3 t i (⟨k.val / 128, by omega⟩ : Fin 16)) := by
  blk_point [iblk, V, idx t]

theorem base_scales (c : Dev nD) (t : Fin cfg0.N) (i : Fin 8) (k : Fin 2048) :
    iblk m c 4 t (ix3 0 i k) = m ((c : Thread nD τ).loc main_arg3) (ix3 t i (⟨k.val / 128, by omega⟩ : Fin 16)) := by
  blk_point [iblk, V, idx t]

theorem wf_apply (c : Dev nD) (t : Fin cfg0.N) (i : Fin 1024) (k : Fin 2048) :
    wf m c t (ix2 i k) = wt (m ((c : Thread nD τ).loc main_arg0)) (m ((c : Thread nD τ).loc main_arg1)) t i k := by
  rw [wf, dq_apply, ft_codes, ft_scales]
  rfl

theorem wb_apply (c : Dev nD) (t : Fin cfg0.N) (i : Fin 1024) (k : Fin 2048) :
    wb m c t (ix2 i k) = wt (m ((c : Thread nD τ).loc main_arg2)) (m ((c : Thread nD τ).loc main_arg3)) t i k := by
  rw [wb, dq_apply, base_codes, base_scales]
  rfl

theorem x_block (c : Dev nD) (t : Fin cfg0.N) (r : Fin 104) (k : Fin 2048) :
    iblk m c 0 t (ix3 0 r k) = xv (m ((c : Thread nD τ).loc main_arg4)) t r k := by
  unfold xv
  blk_point [iblk, V, idx t]

/-! ## What a point computes -/

/-- The two products and their difference, at an index. -/
theorem y_apply (x : Vec Ideal S1x104x2048 .bf16) (u v : Vec Ideal S1024x2048 .bf16) (r : Fin 104) (i : Fin 1024) :
    k0_pay3 (F := Ideal) x u v (ix3 0 r i)
      = (∑ k, x (ix3 0 r k) * u (ix2 i k) : EReal) - ∑ k, x (ix3 0 r k) * v (ix2 i k) := by
  pointwise [k0_pay3, k0_pay2]

/-- The Gram matrix of that difference, at an index. -/
theorem g_apply (x : Vec Ideal S1x104x2048 .bf16) (u v : Vec Ideal S1024x2048 .bf16) (r s : Fin 104) :
    k0_pay4 (F := Ideal) x u v (ix3 0 r s)
      = (∑ i, k0_pay3 (F := Ideal) x u v (ix3 0 r i) * k0_pay3 (F := Ideal) x u v (ix3 0 s i) : EReal) := by
  pointwise [k0_pay4, k0_pay3, k0_pay2]

/-- What point `t` leaves in output window 5's buffer. -/
theorem point5 (c : Dev nD) (t : Fin cfg0.N) : (outsAt0 m c t).1 = k0_pay3 (F := Ideal) (iblk m c 0 t) (wf m c t) (wb m c t) := by
  unfold outsAt0
  dsimp only
  frame_out
  rw [(pays_ft _ _).1, (pays_ft _ _).2.1, (pays_ft _ _).2.2.1, (pays_ft _ _).2.2.2.1,
      (pays_ft _ _).2.2.2.2.1, (pays_ft _ _).2.2.2.2.2.1, (pays_ft _ _).2.2.2.2.2.2.1, (pays_ft _ _).2.2.2.2.2.2.2]
  rw [(pays_base _ _).1, (pays_base _ _).2.1, (pays_base _ _).2.2.1, (pays_base _ _).2.2.2.1,
      (pays_base _ _).2.2.2.2.1, (pays_base _ _).2.2.2.2.2.1, (pays_base _ _).2.2.2.2.2.2.1, (pays_base _ _).2.2.2.2.2.2.2]
  rw [scratch_eq, scratch_eq]
  rfl

/-- What point `t` leaves in output window 6's buffer. -/
theorem point6 (c : Dev nD) (t : Fin cfg0.N) : (outsAt0 m c t).2 = k0_pay4 (F := Ideal) (iblk m c 0 t) (wf m c t) (wb m c t) := by
  unfold outsAt0
  dsimp only
  frame_out
  rw [(pays_ft _ _).1, (pays_ft _ _).2.1, (pays_ft _ _).2.2.1, (pays_ft _ _).2.2.2.1,
      (pays_ft _ _).2.2.2.2.1, (pays_ft _ _).2.2.2.2.2.1, (pays_ft _ _).2.2.2.2.2.2.1, (pays_ft _ _).2.2.2.2.2.2.2]
  rw [(pays_base _ _).1, (pays_base _ _).2.1, (pays_base _ _).2.2.1, (pays_base _ _).2.2.2.1,
      (pays_base _ _).2.2.2.2.1, (pays_base _ _).2.2.2.2.2.1, (pays_base _ _).2.2.2.2.2.2.1, (pays_base _ _).2.2.2.2.2.2.2]
  rw [scratch_eq, scratch_eq]
  rfl

theorem pay5 (c : Dev nD) (t : Fin cfg0.N) (r : Fin 104) (i : Fin 1024) :
    k0_pay3 (F := Ideal) (iblk m c 0 t) (wf m c t) (wb m c t) (ix3 0 r i) = yv (m ((c : Thread nD τ).loc main_arg0)) (m ((c : Thread nD τ).loc main_arg1)) (m ((c : Thread nD τ).loc main_arg2)) (m ((c : Thread nD τ).loc main_arg3)) (xv (m ((c : Thread nD τ).loc main_arg4))) t r i := by
  rw [y_apply]
  simp only [x_block, wf_apply, wb_apply]
  rfl

theorem pay6 (c : Dev nD) (t : Fin cfg0.N) (r s : Fin 104) :
    k0_pay4 (F := Ideal) (iblk m c 0 t) (wf m c t) (wb m c t) (ix3 0 r s) = gv (yv (m ((c : Thread nD τ).loc main_arg0)) (m ((c : Thread nD τ).loc main_arg1)) (m ((c : Thread nD τ).loc main_arg2)) (m ((c : Thread nD τ).loc main_arg3)) (xv (m ((c : Thread nD τ).loc main_arg4)))) t r s := by
  rw [g_apply]
  simp only [pay5]
  rfl

/-! ## The arrays after the run -/

/-- The first result: `yᵀ`. -/
theorem out5 (c : Dev nD) : (dats m 0 c).arrAt 5 cfg0.N = arr3 (yv (m ((c : Thread nD τ).loc main_arg0)) (m ((c : Thread nD τ).loc main_arg1)) (m ((c : Thread nD τ).loc main_arg2)) (m ((c : Thread nD τ).loc main_arg3)) (xv (m ((c : Thread nD τ).loc main_arg4)))) := by
  refine (dats m 0 c).arrAt_eq_of_covers 5 _ (by decide +kernel) fun t hf y => ?_
  blk_simp
  rw [after0_5, point5]
  obtain ⟨z, r, i, rfl⟩ : ∃ (z : Fin 1) (r : Fin 104) (i : Fin 1024), y = ix3 z r i :=
    ⟨y 0, y 1, y 2, by funext a; fin_cases a <;> rfl⟩
  obtain rfl : z = 0 := Subsingleton.elim _ _
  rw [show ((cfg0.win 5).blk t).view.emb (ix3 0 r i) = ix3 t r i from by blk_ext [idx t]]
  exact pay5 m c t r i

/-- The second result: the Gram matrix of `y`. -/
theorem out6 (c : Dev nD) : (dats m 0 c).arrAt 6 cfg0.N = arr3 (gv (yv (m ((c : Thread nD τ).loc main_arg0)) (m ((c : Thread nD τ).loc main_arg1)) (m ((c : Thread nD τ).loc main_arg2)) (m ((c : Thread nD τ).loc main_arg3)) (xv (m ((c : Thread nD τ).loc main_arg4))))) := by
  refine (dats m 0 c).arrAt_eq_of_covers 6 _ (by decide +kernel) fun t hf y => ?_
  blk_simp
  rw [after0_6, point6]
  obtain ⟨z, r, i, rfl⟩ : ∃ (z : Fin 1) (r : Fin 104) (i : Fin 104), y = ix3 z r i :=
    ⟨y 0, y 1, y 2, by funext a; fin_cases a <;> rfl⟩
  obtain rfl : z = 0 := Subsingleton.elim _ _
  rw [show ((cfg0.win 6).blk t).view.emb (ix3 0 r i) = ix3 t r i from by blk_ext [idx t]]
  exact pay6 m c t r i

/-- The run: the two results as functions of the arguments, the arguments unchanged. -/
theorem run : θ_run (defs (F := Ideal)) (onTc (τ := τ) (main (F := Ideal))) ⟨m, fun _ => 0, ρ⟩ fun r => ∀ c : Dev nD,
      r.2.mem ((c : Thread nD τ).loc main_v7_0) = arr3 (yv (m ((c : Thread nD τ).loc main_arg0)) (m ((c : Thread nD τ).loc main_arg1)) (m ((c : Thread nD τ).loc main_arg2)) (m ((c : Thread nD τ).loc main_arg3)) (xv (m ((c : Thread nD τ).loc main_arg4))))
      ∧ r.2.mem ((c : Thread nD τ).loc main_v7_1) = arr3 (gv (yv (m ((c : Thread nD τ).loc main_arg0)) (m ((c : Thread nD τ).loc main_arg1)) (m ((c : Thread nD τ).loc main_arg2)) (m ((c : Thread nD τ).loc main_arg3)) (xv (m ((c : Thread nD τ).loc main_arg4)))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (out5 m c), (h c).2.1.trans (out6 m c), (h c).2.2⟩)
    (Cert.FirstIdeal.Value.run_blocks (F := Ideal) m ρ)

end Cert.Proof.Calls.First

end
-- ==== Proof.Calls.FirstRef.lean ====
/-
  The reference of the first launch, read at an index: the whole-array products over whole dequantised arrays are the same
  sums, with the factors in the other order.
-/
module

public import proofs.«01_k».proof.Defs
public import proofs.«01_k».proof.Proof.Gen.FirstRefIdeal.Value
public import proofs.«01_k».proof.Proof.Calls.Common

@[expose] public section

noncomputable section

namespace Cert.Proof.Calls.FirstRef

open Cert.FirstRefIdeal Cert.FirstRefIdeal.Gen Idealize.ShloMosaic Idealize.ShloMosaic.TcCoe Idealize.SL.Sem
open Cert.Proof.Calls.Common

variable (cf : Vec Ideal S64x1024x2048 .fp8e4m3) (sf : Vec Ideal S64x8x16 .f32)
variable (cb : Vec Ideal S64x1024x2048 .fp8e4m3) (sb : Vec Ideal S64x8x16 .f32)
variable (x : Vec Ideal S64x2048x104 .bf16)

/-- `y`, at an index. -/
theorem y_apply (b : Fin 64) (i : Fin 1024) (r : Fin 104) :
    k0_pay1 cf sf cb sb x (ix3 b i r) = yv cf sf cb sb (xv x) b r i := by
  pointwise [k0_pay1, yv, xv, wt]
  refine congrArg₂ (· - ·) ?_ ?_ <;> exact Finset.sum_congr rfl fun _ _ => mul_comm _ _

/-- The first result. -/
theorem res5 : Cert.FirstRefIdeal.Value.G5 cf sf cb sb x = arr3 (yv cf sf cb sb (xv x)) := by
  funext j
  obtain ⟨b, r, i, rfl⟩ : ∃ (b : Fin 64) (r : Fin 104) (i : Fin 1024), j = ix3 b r i :=
    ⟨j 0, j 1, j 2, by funext a; fin_cases a <;> rfl⟩
  refine Eq.trans ?_ (y_apply cf sf cb sb x b i r)
  unfold Cert.FirstRefIdeal.Value.G5
  pointwise [k0_pay2]

/-- The second result. -/
theorem res6 : Cert.FirstRefIdeal.Value.G6 cf sf cb sb x = arr3 (gv (yv cf sf cb sb (xv x))) := by
  funext j
  obtain ⟨b, r, s, rfl⟩ : ∃ (b : Fin 64) (r : Fin 104) (s : Fin 104), j = ix3 b r s :=
    ⟨j 0, j 1, j 2, by funext a; fin_cases a <;> rfl⟩
  have h : Cert.FirstRefIdeal.Value.G6 cf sf cb sb x (ix3 b r s)
      = (∑ i, k0_pay1 cf sf cb sb x (ix3 b i r) * k0_pay1 cf sf cb sb x (ix3 b i s) : EReal) := by
    unfold Cert.FirstRefIdeal.Value.G6
    pointwise [k0_pay3]
  rw [h]
  simp only [y_apply]
  rfl

end Cert.Proof.Calls.FirstRef

end
-- ==== Proof.Calls.Power.lean ====
/-
  The power step's launch over the reals: at every grid point it dequantises one pair of matrices, forms the orthonormal
  rows `q = L⁻¹ yᵀ`, multiplies them through the transposed difference and back through the difference, and takes the Gram
  matrix. Its three result arrays after the run, as functions of the arguments (`run`).
-/
module

public import proofs.«01_k».proof.Defs
public import proofs.«01_k».proof.Proof.Gen.PowerIdeal.Value
public import proofs.«01_k».proof.Proof.Calls.Common

@[expose] public section

noncomputable section

namespace Cert.Proof.Calls.Power

open Cert.PowerIdeal Cert.PowerIdeal.Gen Idealize.ShloMosaic Idealize.ShloMosaic.TcCoe Idealize.SL.Sem
open Idealize.ShloMosaic.Pipeline (Dat)
open Cert.Proof.Calls.Common

/-! ## The stores that dequantise -/

/-- Each store into the scratch buffer of the fine-tuned weights is its row block, dequantised. -/
theorem pays_ft (c : Vec Ideal S1x128x2048 .fp8e4m3) (s : Vec Ideal S1x1x2048 .bf16) :
    k0_pay2 c s = rb c s ∧ k0_pay3 c s = rb c s ∧ k0_pay4 c s = rb c s ∧ k0_pay5 c s = rb c s
    ∧ k0_pay6 c s = rb c s ∧ k0_pay7 c s = rb c s ∧ k0_pay9 (k0_pay8 c) s = rb c s ∧ k0_pay10 c s = rb c s := by
  refine ⟨?_, ?_, ?_, ?_, ?_, ?_, ?_, ?_⟩ <;> funext x <;>
    pointwise [k0_pay2, k0_pay3, k0_pay4, k0_pay5, k0_pay6, k0_pay7, k0_pay8, k0_pay9, k0_pay10, rb]

/-- Each store into the scratch buffer of the base weights is its row block, dequantised. -/
theorem pays_base (c : Vec Ideal S1x128x2048 .fp8e4m3) (s : Vec Ideal S1x1x2048 .bf16) :
    k0_pay11 c s = rb c s ∧ k0_pay13 (k0_pay12 c) s = rb c s ∧ k0_pay14 c s = rb c s ∧ k0_pay15 c s = rb c s
    ∧ k0_pay18 (k0_pay16 c) (k0_pay17 s) = rb c s ∧ k0_pay19 c s = rb c s ∧ k0_pay20 c s = rb c s ∧ k0_pay22 (k0_pay21 c s) = rb c s := by
  refine ⟨?_, ?_, ?_, ?_, ?_, ?_, ?_, ?_⟩ <;> funext x <;>
    pointwise [k0_pay11, k0_pay12, k0_pay13, k0_pay14, k0_pay15, k0_pay16, k0_pay17, k0_pay18, k0_pay19, k0_pay20, k0_pay21, k0_pay22, rb]

variable (m : (ℓ : Loc nD τ sig) → Buf (Elt Ideal) ℓ) (ρ : Dev nD → PrngReg)

/-- The dequantised fine-tuned matrix of point `t`. -/
def wf (c : Dev nD) (t : Fin cfg0.N) : SW.Idx → EReal := dq (iblk m c 2 t) (iblk m c 3 t)

/-- The dequantised base matrix of point `t`. -/
def wb (c : Dev nD) (t : Fin cfg0.N) : SW.Idx → EReal := dq (iblk m c 4 t) (iblk m c 5 t)

/-! ## A point's blocks are its matrices of the arguments -/

/-- Every window's block at point `t` is matrix `t` of its array. -/
theorem idx : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] ∧ win0_8.index t = ![t.val, 0, 0] :=
  (by decide +kernel : ∀ t : Fin grid0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] ∧ win0_8.index t = ![t.val, 0, 0])

theorem ft_codes (c : Dev nD) (t : Fin cfg0.N) (i : Fin 1024) (k : Fin 2048) :
    iblk m c 2 t (ix3 0 i k) = m ((c : Thread nD τ).loc main_arg0) (ix3 t i k) := by blk_ext [iblk, V, idx t]

theorem base_codes (c : Dev nD) (t : Fin cfg0.N) (i : Fin 1024) (k : Fin 2048) :
    iblk m c 4 t (ix3 0 i k) = m ((c : Thread nD τ).loc main_arg2) (ix3 t i k) := by blk_ext [iblk, V, idx t]

theorem ft_scales (c : Dev nD) (t : Fin cfg0.N) (i : Fin 8) (k : Fin 2048) :
    iblk m c 3 t (ix3 0 i k) = m ((c : Thread nD τ).loc main_arg1) (ix3 t i (⟨k.val / 128, by omega⟩ : Fin 16)) := by
  blk_point [iblk, V, idx t]

theorem base_scales (c : Dev nD) (t : Fin cfg0.N) (i : Fin 8) (k : Fin 2048) :
    iblk m c 5 t (ix3 0 i k) = m ((c : Thread nD τ).loc main_arg3) (ix3 t i (⟨k.val / 128, by omega⟩ : Fin 16)) := by
  blk_point [iblk, V, idx t]

theorem wf_apply (c : Dev nD) (t : Fin cfg0.N) (i : Fin 1024) (k : Fin 2048) :
    wf m c t (ix2 i k) = wt (m ((c : Thread nD τ).loc main_arg0)) (m ((c : Thread nD τ).loc main_arg1)) t i k := by
  rw [wf, dq_apply, ft_codes, ft_scales]
  rfl

theorem wb_apply (c : Dev nD) (t : Fin cfg0.N) (i : Fin 1024) (k : Fin 2048) :
    wb m c t (ix2 i k) = wt (m ((c : Thread nD τ).loc main_arg2)) (m ((c : Thread nD τ).loc main_arg3)) t i k := by
  rw [wb, dq_apply, base_codes, base_scales]
  rfl

theorem y_block (c : Dev nD) (t : Fin cfg0.N) (j : Fin 104) (i : Fin 1024) :
    iblk m c 0 t (ix3 0 j i) = m ((c : Thread nD τ).loc main_arg4) (ix3 t j i) := by blk_ext [iblk, V, idx t]

theorem li_block (c : Dev nD) (t : Fin cfg0.N) (r j : Fin 104) :
    iblk m c 1 t (ix3 0 r j) = m ((c : Thread nD τ).loc main_arg5) (ix3 t r j) := by blk_ext [iblk, V, idx t]

/-! ## What a point computes -/

/-- `L⁻¹ yᵀ`, at an index. -/
theorem q_apply (l : Vec Ideal S1x104x104 .f32) (y : Vec Ideal S1x104x1024 .f32) (r : Fin 104) (i : Fin 1024) :
    k0_pay24 (F := Ideal) l y (ix3 0 r i) = (∑ j, l (ix3 0 r j) * y (ix3 0 j i) : EReal) := by
  pointwise [k0_pay24, k0_pay23]

/-- `q` back through the transposed difference and forward through the difference again, at an index. -/
theorem y_apply (l : Vec Ideal S1x104x104 .f32) (y : Vec Ideal S1x104x1024 .f32) (u v : Vec Ideal S1024x2048 .bf16) (r : Fin 104) (i : Fin 1024) :
    k0_pay26 (F := Ideal) l y u v u v (ix3 0 r i)
      = (∑ k, ((∑ i', k0_pay24 (F := Ideal) l y (ix3 0 r i') * u (ix2 i' k)) - ∑ i', k0_pay24 (F := Ideal) l y (ix3 0 r i') * v (ix2 i' k)) * u (ix2 i k) : EReal)
        - ∑ k, ((∑ i', k0_pay24 (F := Ideal) l y (ix3 0 r i') * u (ix2 i' k)) - ∑ i', k0_pay24 (F := Ideal) l y (ix3 0 r i') * v (ix2 i' k)) * v (ix2 i k) := by
  pointwise [k0_pay26, k0_pay25, k0_pay24, k0_pay23]

/-- The Gram matrix of that, at an index. -/
theorem g_apply (l : Vec Ideal S1x104x104 .f32) (y : Vec Ideal S1x104x1024 .f32) (u v : Vec Ideal S1024x2048 .bf16) (r s : Fin 104) :
    k0_pay1 (F := Ideal) (k0_pay27 l y u v u v) (ix3 0 r s)
      = (∑ i, k0_pay26 (F := Ideal) l y u v u v (ix3 0 r i) * k0_pay26 (F := Ideal) l y u v u v (ix3 0 s i) : EReal) := by
  pointwise [k0_pay1, k0_pay27, k0_pay26]

/-- What point `t` leaves in output window 6's buffer. -/
theorem point6 (c : Dev nD) (t : Fin cfg0.N) : (outsAt0 m c t).1 = k0_pay24 (F := Ideal) (iblk m c 1 t) (iblk m c 0 t) := by
  unfold outsAt0
  dsimp only
  frame_out

/-- What point `t` leaves in output window 7's buffer. -/
theorem point7 (c : Dev nD) (t : Fin cfg0.N) : (outsAt0 m c t).2.1 = k0_pay26 (F := Ideal) (iblk m c 1 t) (iblk m c 0 t) (wf m c t) (wb m c t) (wf m c t) (wb m c t) := by
  unfold outsAt0
  dsimp only
  frame_out
  rw [(pays_ft _ _).1, (pays_ft _ _).2.1, (pays_ft _ _).2.2.1, (pays_ft _ _).2.2.2.1,
      (pays_ft _ _).2.2.2.2.1, (pays_ft _ _).2.2.2.2.2.1, (pays_ft _ _).2.2.2.2.2.2.1, (pays_ft _ _).2.2.2.2.2.2.2]
  rw [(pays_base _ _).1, (pays_base _ _).2.1, (pays_base _ _).2.2.1, (pays_base _ _).2.2.2.1,
      (pays_base _ _).2.2.2.2.1, (pays_base _ _).2.2.2.2.2.1, (pays_base _ _).2.2.2.2.2.2.1, (pays_base _ _).2.2.2.2.2.2.2]
  simp only [scratch_eq]
  rfl

/-- What point `t` leaves in output window 8's buffer. -/
theorem point8 (c : Dev nD) (t : Fin cfg0.N) : (outsAt0 m c t).2.2 = k0_pay1 (F := Ideal) (k0_pay27 (iblk m c 1 t) (iblk m c 0 t) (wf m c t) (wb m c t) (wf m c t) (wb m c t)) := by
  unfold outsAt0
  dsimp only
  frame_out
  rw [(pays_ft _ _).1, (pays_ft _ _).2.1, (pays_ft _ _).2.2.1, (pays_ft _ _).2.2.2.1,
      (pays_ft _ _).2.2.2.2.1, (pays_ft _ _).2.2.2.2.2.1, (pays_ft _ _).2.2.2.2.2.2.1, (pays_ft _ _).2.2.2.2.2.2.2]
  rw [(pays_base _ _).1, (pays_base _ _).2.1, (pays_base _ _).2.2.1, (pays_base _ _).2.2.2.1,
      (pays_base _ _).2.2.2.2.1, (pays_base _ _).2.2.2.2.2.1, (pays_base _ _).2.2.2.2.2.2.1, (pays_base _ _).2.2.2.2.2.2.2]
  simp only [scratch_eq]
  rfl

theorem pay6 (c : Dev nD) (t : Fin cfg0.N) (r : Fin 104) (i : Fin 1024) :
    k0_pay24 (F := Ideal) (iblk m c 1 t) (iblk m c 0 t) (ix3 0 r i) = qv (m ((c : Thread nD τ).loc main_arg4)) (m ((c : Thread nD τ).loc main_arg5)) t r i := by
  rw [q_apply]
  simp only [y_block, li_block]
  rfl

theorem pay7 (c : Dev nD) (t : Fin cfg0.N) (r : Fin 104) (i : Fin 1024) :
    k0_pay26 (F := Ideal) (iblk m c 1 t) (iblk m c 0 t) (wf m c t) (wb m c t) (wf m c t) (wb m c t) (ix3 0 r i) = yv (m ((c : Thread nD τ).loc main_arg0)) (m ((c : Thread nD τ).loc main_arg1)) (m ((c : Thread nD τ).loc main_arg2)) (m ((c : Thread nD τ).loc main_arg3)) (zv (m ((c : Thread nD τ).loc main_arg0)) (m ((c : Thread nD τ).loc main_arg1)) (m ((c : Thread nD τ).loc main_arg2)) (m ((c : Thread nD τ).loc main_arg3)) (qv (m ((c : Thread nD τ).loc main_arg4)) (m ((c : Thread nD τ).loc main_arg5)))) t r i := by
  rw [y_apply]
  simp only [pay6, wf_apply, wb_apply]
  rfl

theorem pay8 (c : Dev nD) (t : Fin cfg0.N) (r s : Fin 104) :
    k0_pay1 (F := Ideal) (k0_pay27 (iblk m c 1 t) (iblk m c 0 t) (wf m c t) (wb m c t) (wf m c t) (wb m c t)) (ix3 0 r s) = gv (yv (m ((c : Thread nD τ).loc main_arg0)) (m ((c : Thread nD τ).loc main_arg1)) (m ((c : Thread nD τ).loc main_arg2)) (m ((c : Thread nD τ).loc main_arg3)) (zv (m ((c : Thread nD τ).loc main_arg0)) (m ((c : Thread nD τ).loc main_arg1)) (m ((c : Thread nD τ).loc main_arg2)) (m ((c : Thread nD τ).loc main_arg3)) (qv (m ((c : Thread nD τ).loc main_arg4)) (m ((c : Thread nD τ).loc main_arg5))))) t r s := by
  rw [g_apply]
  simp only [pay7]
  rfl

/-! ## The arrays after the run -/

/-- The first result: `qᵀ`. -/
theorem out6 (c : Dev nD) : (dats m 0 c).arrAt 6 cfg0.N = arr3 (qv (m ((c : Thread nD τ).loc main_arg4)) (m ((c : Thread nD τ).loc main_arg5))) := by
  refine (dats m 0 c).arrAt_eq_of_covers 6 _ (by decide +kernel) fun t hf y => ?_
  blk_simp
  rw [after0_6, point6]
  obtain ⟨z, r, i, rfl⟩ : ∃ (z : Fin 1) (r : Fin 104) (i : Fin 1024), y = ix3 z r i :=
    ⟨y 0, y 1, y 2, by funext a; fin_cases a <;> rfl⟩
  obtain rfl : z = 0 := Subsingleton.elim _ _
  rw [show ((cfg0.win 6).blk t).view.emb (ix3 0 r i) = ix3 t r i from by blk_ext [idx t]]
  exact pay6 m c t r i

/-- The second result: the next `yᵀ`. -/
theorem out7 (c : Dev nD) : (dats m 0 c).arrAt 7 cfg0.N = arr3 (yv (m ((c : Thread nD τ).loc main_arg0)) (m ((c : Thread nD τ).loc main_arg1)) (m ((c : Thread nD τ).loc main_arg2)) (m ((c : Thread nD τ).loc main_arg3)) (zv (m ((c : Thread nD τ).loc main_arg0)) (m ((c : Thread nD τ).loc main_arg1)) (m ((c : Thread nD τ).loc main_arg2)) (m ((c : Thread nD τ).loc main_arg3)) (qv (m ((c : Thread nD τ).loc main_arg4)) (m ((c : Thread nD τ).loc main_arg5))))) := by
  refine (dats m 0 c).arrAt_eq_of_covers 7 _ (by decide +kernel) fun t hf y => ?_
  blk_simp
  rw [after0_7, point7]
  obtain ⟨z, r, i, rfl⟩ : ∃ (z : Fin 1) (r : Fin 104) (i : Fin 1024), y = ix3 z r i :=
    ⟨y 0, y 1, y 2, by funext a; fin_cases a <;> rfl⟩
  obtain rfl : z = 0 := Subsingleton.elim _ _
  rw [show ((cfg0.win 7).blk t).view.emb (ix3 0 r i) = ix3 t r i from by blk_ext [idx t]]
  exact pay7 m c t r i

/-- The third result: its Gram matrix. -/
theorem out8 (c : Dev nD) : (dats m 0 c).arrAt 8 cfg0.N = arr3 (gv (yv (m ((c : Thread nD τ).loc main_arg0)) (m ((c : Thread nD τ).loc main_arg1)) (m ((c : Thread nD τ).loc main_arg2)) (m ((c : Thread nD τ).loc main_arg3)) (zv (m ((c : Thread nD τ).loc main_arg0)) (m ((c : Thread nD τ).loc main_arg1)) (m ((c : Thread nD τ).loc main_arg2)) (m ((c : Thread nD τ).loc main_arg3)) (qv (m ((c : Thread nD τ).loc main_arg4)) (m ((c : Thread nD τ).loc main_arg5)))))) := by
  refine (dats m 0 c).arrAt_eq_of_covers 8 _ (by decide +kernel) fun t hf y => ?_
  blk_simp
  rw [after0_8, point8]
  obtain ⟨z, r, i, rfl⟩ : ∃ (z : Fin 1) (r : Fin 104) (i : Fin 104), y = ix3 z r i :=
    ⟨y 0, y 1, y 2, by funext a; fin_cases a <;> rfl⟩
  obtain rfl : z = 0 := Subsingleton.elim _ _
  rw [show ((cfg0.win 8).blk t).view.emb (ix3 0 r i) = ix3 t r i from by blk_ext [idx t]]
  exact pay8 m c t r i

/-- The run: the results as functions of the arguments, the arguments unchanged. -/
theorem run : θ_run (defs (F := Ideal)) (onTc (τ := τ) (main (F := Ideal))) ⟨m, fun _ => 0, ρ⟩ fun r => ∀ c : Dev nD,
      r.2.mem ((c : Thread nD τ).loc main_v6_0) = arr3 (qv (m ((c : Thread nD τ).loc main_arg4)) (m ((c : Thread nD τ).loc main_arg5)))
      ∧ r.2.mem ((c : Thread nD τ).loc main_v6_1) = arr3 (yv (m ((c : Thread nD τ).loc main_arg0)) (m ((c : Thread nD τ).loc main_arg1)) (m ((c : Thread nD τ).loc main_arg2)) (m ((c : Thread nD τ).loc main_arg3)) (zv (m ((c : Thread nD τ).loc main_arg0)) (m ((c : Thread nD τ).loc main_arg1)) (m ((c : Thread nD τ).loc main_arg2)) (m ((c : Thread nD τ).loc main_arg3)) (qv (m ((c : Thread nD τ).loc main_arg4)) (m ((c : Thread nD τ).loc main_arg5)))))
      ∧ r.2.mem ((c : Thread nD τ).loc main_v6_2) = arr3 (gv (yv (m ((c : Thread nD τ).loc main_arg0)) (m ((c : Thread nD τ).loc main_arg1)) (m ((c : Thread nD τ).loc main_arg2)) (m ((c : Thread nD τ).loc main_arg3)) (zv (m ((c : Thread nD τ).loc main_arg0)) (m ((c : Thread nD τ).loc main_arg1)) (m ((c : Thread nD τ).loc main_arg2)) (m ((c : Thread nD τ).loc main_arg3)) (qv (m ((c : Thread nD τ).loc main_arg4)) (m ((c : Thread nD τ).loc main_arg5))))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (out6 m c), (h c).2.1.trans (out7 m c), (h c).2.2.1.trans (out8 m c), (h c).2.2.2⟩)
    (Cert.PowerIdeal.Value.run_blocks (F := Ideal) m ρ)

end Cert.Proof.Calls.Power

end
-- ==== Proof.Calls.PowerRef.lean ====
/-
  The reference of the power step, read at an index: the same sums as the launch's, with some factors in the other
  order.
-/
module

public import proofs.«01_k».proof.Defs
public import proofs.«01_k».proof.Proof.Gen.PowerRefIdeal.Value
public import proofs.«01_k».proof.Proof.Calls.Common

@[expose] public section

noncomputable section

namespace Cert.Proof.Calls.PowerRef

open Cert.PowerRefIdeal Cert.PowerRefIdeal.Gen Idealize.ShloMosaic Idealize.ShloMosaic.TcCoe Idealize.SL.Sem
open Cert.Proof.Calls.Common

variable (cf : Vec Ideal S64x1024x2048 .fp8e4m3) (sf : Vec Ideal S64x8x16 .f32)
variable (cb : Vec Ideal S64x1024x2048 .fp8e4m3) (sb : Vec Ideal S64x8x16 .f32)
variable (y : Vec Ideal S64x104x1024 .f32) (l : Vec Ideal S64x104x104 .f32)

/-- `q`, at an index. -/
theorem q_apply (b : Fin 64) (i : Fin 1024) (r : Fin 104) : k0_pay2 y l (ix3 b i r) = qv y l b r i := by
  pointwise [k0_pay2, qv]
  exact Finset.sum_congr rfl fun _ _ => mul_comm _ _

/-- The next `y`, at an index. -/
theorem y_apply (b : Fin 64) (i : Fin 1024) (r : Fin 104) :
    k0_pay3 cf sf cb sb y l (ix3 b i r) = yv cf sf cb sb (zv cf sf cb sb (qv y l)) b r i := by
  have h : k0_pay3 cf sf cb sb y l (ix3 b i r)
      = (∑ k, wt cf sf b i k * ((∑ i', wt cf sf b i' k * k0_pay2 y l (ix3 b i' r)) - ∑ i', wt cb sb b i' k * k0_pay2 y l (ix3 b i' r)) : EReal)
        - ∑ k, wt cb sb b i k * ((∑ i', wt cf sf b i' k * k0_pay2 y l (ix3 b i' r)) - ∑ i', wt cb sb b i' k * k0_pay2 y l (ix3 b i' r)) := by
    pointwise [k0_pay3, k0_pay2, wt]
  rw [h]
  simp only [q_apply]
  simp only [mul_comm (wt _ _ _ _ _)]
  rfl

/-- The first result. -/
theorem res6 : Cert.PowerRefIdeal.Value.G6 cf sf cb sb y l = arr3 (qv y l) := by
  funext j
  obtain ⟨b, r, i, rfl⟩ : ∃ (b : Fin 64) (r : Fin 104) (i : Fin 1024), j = ix3 b r i :=
    ⟨j 0, j 1, j 2, by funext a; fin_cases a <;> rfl⟩
  refine Eq.trans ?_ (q_apply y l b i r)
  unfold Cert.PowerRefIdeal.Value.G6
  pointwise [k0_pay4]

/-- The second result. -/
theorem res7 : Cert.PowerRefIdeal.Value.G7 cf sf cb sb y l = arr3 (yv cf sf cb sb (zv cf sf cb sb (qv y l))) := by
  funext j
  obtain ⟨b, r, i, rfl⟩ : ∃ (b : Fin 64) (r : Fin 104) (i : Fin 1024), j = ix3 b r i :=
    ⟨j 0, j 1, j 2, by funext a; fin_cases a <;> rfl⟩
  refine Eq.trans ?_ (y_apply cf sf cb sb y l b i r)
  unfold Cert.PowerRefIdeal.Value.G7
  pointwise [k0_pay5]

/-- The third result. -/
theorem res8 : Cert.PowerRefIdeal.Value.G8 cf sf cb sb y l = arr3 (gv (yv cf sf cb sb (zv cf sf cb sb (qv y l)))) := by
  funext j
  obtain ⟨b, r, s, rfl⟩ : ∃ (b : Fin 64) (r : Fin 104) (s : Fin 104), j = ix3 b r s :=
    ⟨j 0, j 1, j 2, by funext a; fin_cases a <;> rfl⟩
  have h : Cert.PowerRefIdeal.Value.G8 cf sf cb sb y l (ix3 b r s)
      = (∑ i, k0_pay3 cf sf cb sb y l (ix3 b i r) * k0_pay3 cf sf cb sb y l (ix3 b i s) : EReal) := by
    unfold Cert.PowerRefIdeal.Value.G8
    pointwise [k0_pay1]
  rw [h]
  simp only [y_apply]
  rfl

end Cert.Proof.Calls.PowerRef

end
-- ==== Proof.Calls.Last.lean ====
/-
  The last product launch over the reals: at every grid point it dequantises one pair of matrices, forms the orthonormal
  rows `q = L⁻¹ yᵀ` and multiplies them through the difference of the two matrices. Its two result arrays after the run, as
  functions of the arguments (`run`).
-/
module

public import proofs.«01_k».proof.Defs
public import proofs.«01_k».proof.Proof.Gen.LastIdeal.Value
public import proofs.«01_k».proof.Proof.Calls.Common

@[expose] public section

noncomputable section

namespace Cert.Proof.Calls.Last

open Cert.LastIdeal Cert.LastIdeal.Gen Idealize.ShloMosaic Idealize.ShloMosaic.TcCoe Idealize.SL.Sem
open Idealize.ShloMosaic.Pipeline (Dat)
open Cert.Proof.Calls.Common

/-! ## The stores that dequantise -/

/-- Each store into the scratch buffer of the fine-tuned weights is its row block, dequantised. -/
theorem pays_ft (c : Vec Ideal S1x128x2048 .fp8e4m3) (s : Vec Ideal S1x1x2048 .bf16) :
    k0_pay5 c s = rb c s ∧ k0_pay6 c s = rb c s ∧ k0_pay7 c s = rb c s ∧ k0_pay8 c s = rb c s
    ∧ k0_pay9 c s = rb c s ∧ k0_pay10 c s = rb c s ∧ k0_pay12 (k0_pay11 c) s = rb c s ∧ k0_pay13 c s = rb c s := by
  refine ⟨?_, ?_, ?_, ?_, ?_, ?_, ?_, ?_⟩ <;> funext x <;>
    pointwise [k0_pay5, k0_pay6, k0_pay7, k0_pay8, k0_pay9, k0_pay10, k0_pay11, k0_pay12, k0_pay13, rb]

/-- Each store into the scratch buffer of the base weights is its row block, dequantised. -/
theorem pays_base (c : Vec Ideal S1x128x2048 .fp8e4m3) (s : Vec Ideal S1x1x2048 .bf16) :
    k0_pay14 c s = rb c s ∧ k0_pay16 (k0_pay15 c) s = rb c s ∧ k0_pay17 c s = rb c s ∧ k0_pay18 c s = rb c s
    ∧ k0_pay21 (k0_pay19 c) (k0_pay20 s) = rb c s ∧ k0_pay22 c s = rb c s ∧ k0_pay23 c s = rb c s ∧ k0_pay1 (k0_pay24 c s) = rb c s := by
  refine ⟨?_, ?_, ?_, ?_, ?_, ?_, ?_, ?_⟩ <;> funext x <;>
    pointwise [k0_pay1, k0_pay14, k0_pay15, k0_pay16, k0_pay17, k0_pay18, k0_pay19, k0_pay20, k0_pay21, k0_pay22, k0_pay23, k0_pay24, rb]

variable (m : (ℓ : Loc nD τ sig) → Buf (Elt Ideal) ℓ) (ρ : Dev nD → PrngReg)

/-- The dequantised fine-tuned matrix of point `t`. -/
def wf (c : Dev nD) (t : Fin cfg0.N) : SW.Idx → EReal := dq (iblk m c 2 t) (iblk m c 3 t)

/-- The dequantised base matrix of point `t`. -/
def wb (c : Dev nD) (t : Fin cfg0.N) : SW.Idx → EReal := dq (iblk m c 4 t) (iblk m c 5 t)

/-! ## A point's blocks are its matrices of the arguments -/

/-- Every window's block at point `t` is matrix `t` of its array. -/
theorem idx : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] :=
  (by decide +kernel : ∀ t : Fin grid0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0])

theorem ft_codes (c : Dev nD) (t : Fin cfg0.N) (i : Fin 1024) (k : Fin 2048) :
    iblk m c 2 t (ix3 0 i k) = m ((c : Thread nD τ).loc main_arg0) (ix3 t i k) := by blk_ext [iblk, V, idx t]

theorem base_codes (c : Dev nD) (t : Fin cfg0.N) (i : Fin 1024) (k : Fin 2048) :
    iblk m c 4 t (ix3 0 i k) = m ((c : Thread nD τ).loc main_arg2) (ix3 t i k) := by blk_ext [iblk, V, idx t]

theorem ft_scales (c : Dev nD) (t : Fin cfg0.N) (i : Fin 8) (k : Fin 2048) :
    iblk m c 3 t (ix3 0 i k) = m ((c : Thread nD τ).loc main_arg1) (ix3 t i (⟨k.val / 128, by omega⟩ : Fin 16)) := by
  blk_point [iblk, V, idx t]

theorem base_scales (c : Dev nD) (t : Fin cfg0.N) (i : Fin 8) (k : Fin 2048) :
    iblk m c 5 t (ix3 0 i k) = m ((c : Thread nD τ).loc main_arg3) (ix3 t i (⟨k.val / 128, by omega⟩ : Fin 16)) := by
  blk_point [iblk, V, idx t]

theorem wf_apply (c : Dev nD) (t : Fin cfg0.N) (i : Fin 1024) (k : Fin 2048) :
    wf m c t (ix2 i k) = wt (m ((c : Thread nD τ).loc main_arg0)) (m ((c : Thread nD τ).loc main_arg1)) t i k := by
  rw [wf, dq_apply, ft_codes, ft_scales]
  rfl

theorem wb_apply (c : Dev nD) (t : Fin cfg0.N) (i : Fin 1024) (k : Fin 2048) :
    wb m c t (ix2 i k) = wt (m ((c : Thread nD τ).loc main_arg2)) (m ((c : Thread nD τ).loc main_arg3)) t i k := by
  rw [wb, dq_apply, base_codes, base_scales]
  rfl

theorem y_block (c : Dev nD) (t : Fin cfg0.N) (j : Fin 104) (i : Fin 1024) :
    iblk m c 0 t (ix3 0 j i) = m ((c : Thread nD τ).loc main_arg4) (ix3 t j i) := by blk_ext [iblk, V, idx t]

theorem li_block (c : Dev nD) (t : Fin cfg0.N) (r j : Fin 104) :
    iblk m c 1 t (ix3 0 r j) = m ((c : Thread nD τ).loc main_arg5) (ix3 t r j) := by blk_ext [iblk, V, idx t]

/-! ## What a point computes -/

/-- `L⁻¹ yᵀ`, at an index. -/
theorem q_apply (l : Vec Ideal S1x104x104 .f32) (y : Vec Ideal S1x104x1024 .f32) (r : Fin 104) (i : Fin 1024) :
    k0_pay3 (F := Ideal) l y (ix3 0 r i) = (∑ j, l (ix3 0 r j) * y (ix3 0 j i) : EReal) := by
  pointwise [k0_pay3, k0_pay2]

/-- `qᵀ` through the difference, at an index. -/
theorem b_apply (l : Vec Ideal S1x104x104 .f32) (y : Vec Ideal S1x104x1024 .f32) (u v : Vec Ideal S1024x2048 .bf16) (r : Fin 104) (k : Fin 2048) :
    k0_pay4 (F := Ideal) l y u v (ix3 0 r k)
      = (∑ i, k0_pay3 (F := Ideal) l y (ix3 0 r i) * u (ix2 i k) : EReal) - ∑ i, k0_pay3 (F := Ideal) l y (ix3 0 r i) * v (ix2 i k) := by
  pointwise [k0_pay4, k0_pay3, k0_pay2]

/-- What point `t` leaves in output window 6's buffer. -/
theorem point6 (c : Dev nD) (t : Fin cfg0.N) : (outsAt0 m c t).1 = k0_pay3 (F := Ideal) (iblk m c 1 t) (iblk m c 0 t) := by
  unfold outsAt0
  dsimp only
  frame_out

/-- What point `t` leaves in output window 7's buffer. -/
theorem point7 (c : Dev nD) (t : Fin cfg0.N) : (outsAt0 m c t).2 = k0_pay4 (F := Ideal) (iblk m c 1 t) (iblk m c 0 t) (wf m c t) (wb m c t) := by
  unfold outsAt0
  dsimp only
  frame_out
  rw [(pays_ft _ _).1, (pays_ft _ _).2.1, (pays_ft _ _).2.2.1, (pays_ft _ _).2.2.2.1,
      (pays_ft _ _).2.2.2.2.1, (pays_ft _ _).2.2.2.2.2.1, (pays_ft _ _).2.2.2.2.2.2.1, (pays_ft _ _).2.2.2.2.2.2.2]
  rw [(pays_base _ _).1, (pays_base _ _).2.1, (pays_base _ _).2.2.1, (pays_base _ _).2.2.2.1,
      (pays_base _ _).2.2.2.2.1, (pays_base _ _).2.2.2.2.2.1, (pays_base _ _).2.2.2.2.2.2.1, (pays_base _ _).2.2.2.2.2.2.2]
  rw [scratch_eq, scratch_eq]
  rfl

theorem pay6 (c : Dev nD) (t : Fin cfg0.N) (r : Fin 104) (i : Fin 1024) :
    k0_pay3 (F := Ideal) (iblk m c 1 t) (iblk m c 0 t) (ix3 0 r i) = qv (m ((c : Thread nD τ).loc main_arg4)) (m ((c : Thread nD τ).loc main_arg5)) t r i := by
  rw [q_apply]
  simp only [y_block, li_block]
  rfl

theorem pay7 (c : Dev nD) (t : Fin cfg0.N) (r : Fin 104) (k : Fin 2048) :
    k0_pay4 (F := Ideal) (iblk m c 1 t) (iblk m c 0 t) (wf m c t) (wb m c t) (ix3 0 r k) = zv (m ((c : Thread nD τ).loc main_arg0)) (m ((c : Thread nD τ).loc main_arg1)) (m ((c : Thread nD τ).loc main_arg2)) (m ((c : Thread nD τ).loc main_arg3)) (qv (m ((c : Thread nD τ).loc main_arg4)) (m ((c : Thread nD τ).loc main_arg5))) t r k := by
  rw [b_apply]
  simp only [pay6, wf_apply, wb_apply]
  rfl

/-! ## The arrays after the run -/

/-- The first result: `qᵀ`. -/
theorem out6 (c : Dev nD) : (dats m 0 c).arrAt 6 cfg0.N = arr3 (qv (m ((c : Thread nD τ).loc main_arg4)) (m ((c : Thread nD τ).loc main_arg5))) := by
  refine (dats m 0 c).arrAt_eq_of_covers 6 _ (by decide +kernel) fun t hf y => ?_
  blk_simp
  rw [after0_6, point6]
  obtain ⟨z, r, i, rfl⟩ : ∃ (z : Fin 1) (r : Fin 104) (i : Fin 1024), y = ix3 z r i :=
    ⟨y 0, y 1, y 2, by funext a; fin_cases a <;> rfl⟩
  obtain rfl : z = 0 := Subsingleton.elim _ _
  rw [show ((cfg0.win 6).blk t).view.emb (ix3 0 r i) = ix3 t r i from by blk_ext [idx t]]
  exact pay6 m c t r i

/-- The second result: `b`. -/
theorem out7 (c : Dev nD) : (dats m 0 c).arrAt 7 cfg0.N = arr3 (zv (m ((c : Thread nD τ).loc main_arg0)) (m ((c : Thread nD τ).loc main_arg1)) (m ((c : Thread nD τ).loc main_arg2)) (m ((c : Thread nD τ).loc main_arg3)) (qv (m ((c : Thread nD τ).loc main_arg4)) (m ((c : Thread nD τ).loc main_arg5)))) := by
  refine (dats m 0 c).arrAt_eq_of_covers 7 _ (by decide +kernel) fun t hf y => ?_
  blk_simp
  rw [after0_7, point7]
  obtain ⟨z, r, i, rfl⟩ : ∃ (z : Fin 1) (r : Fin 104) (i : Fin 2048), y = ix3 z r i :=
    ⟨y 0, y 1, y 2, by funext a; fin_cases a <;> rfl⟩
  obtain rfl : z = 0 := Subsingleton.elim _ _
  rw [show ((cfg0.win 7).blk t).view.emb (ix3 0 r i) = ix3 t r i from by blk_ext [idx t]]
  exact pay7 m c t r i

/-- The run: the results as functions of the arguments, the arguments unchanged. -/
theorem run : θ_run (defs (F := Ideal)) (onTc (τ := τ) (main (F := Ideal))) ⟨m, fun _ => 0, ρ⟩ fun r => ∀ c : Dev nD,
      r.2.mem ((c : Thread nD τ).loc main_v6_0) = arr3 (qv (m ((c : Thread nD τ).loc main_arg4)) (m ((c : Thread nD τ).loc main_arg5)))
      ∧ r.2.mem ((c : Thread nD τ).loc main_v6_1) = arr3 (zv (m ((c : Thread nD τ).loc main_arg0)) (m ((c : Thread nD τ).loc main_arg1)) (m ((c : Thread nD τ).loc main_arg2)) (m ((c : Thread nD τ).loc main_arg3)) (qv (m ((c : Thread nD τ).loc main_arg4)) (m ((c : Thread nD τ).loc main_arg5))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (out6 m c), (h c).2.1.trans (out7 m c), (h c).2.2⟩)
    (Cert.LastIdeal.Value.run_blocks (F := Ideal) m ρ)

end Cert.Proof.Calls.Last

end
-- ==== Proof.Calls.LastRef.lean ====
/-
  The reference of the last launch, read at an index: the same sums as the launch's, with some factors in the other
  order.
-/
module

public import proofs.«01_k».proof.Defs
public import proofs.«01_k».proof.Proof.Gen.LastRefIdeal.Value
public import proofs.«01_k».proof.Proof.Calls.Common

@[expose] public section

noncomputable section

namespace Cert.Proof.Calls.LastRef

open Cert.LastRefIdeal Cert.LastRefIdeal.Gen Idealize.ShloMosaic Idealize.ShloMosaic.TcCoe Idealize.SL.Sem
open Cert.Proof.Calls.Common

variable (cf : Vec Ideal S64x1024x2048 .fp8e4m3) (sf : Vec Ideal S64x8x16 .f32)
variable (cb : Vec Ideal S64x1024x2048 .fp8e4m3) (sb : Vec Ideal S64x8x16 .f32)
variable (y : Vec Ideal S64x104x1024 .f32) (l : Vec Ideal S64x104x104 .f32)

/-- `q`, at an index. -/
theorem q_apply (b : Fin 64) (i : Fin 1024) (r : Fin 104) : k0_pay1 y l (ix3 b i r) = qv y l b r i := by
  pointwise [k0_pay1, qv]
  exact Finset.sum_congr rfl fun _ _ => mul_comm _ _

/-- The first result. -/
theorem res6 : Cert.LastRefIdeal.Value.G6 cf sf cb sb y l = arr3 (qv y l) := by
  funext j
  obtain ⟨b, r, i, rfl⟩ : ∃ (b : Fin 64) (r : Fin 104) (i : Fin 1024), j = ix3 b r i :=
    ⟨j 0, j 1, j 2, by funext a; fin_cases a <;> rfl⟩
  refine Eq.trans ?_ (q_apply y l b i r)
  unfold Cert.LastRefIdeal.Value.G6
  pointwise [k0_pay2]

/-- The second result. -/
theorem res7 : Cert.LastRefIdeal.Value.G7 cf sf cb sb y l = arr3 (zv cf sf cb sb (qv y l)) := by
  funext j
  obtain ⟨b, r, k, rfl⟩ : ∃ (b : Fin 64) (r : Fin 104) (k : Fin 2048), j = ix3 b r k :=
    ⟨j 0, j 1, j 2, by funext a; fin_cases a <;> rfl⟩
  have h : Cert.LastRefIdeal.Value.G7 cf sf cb sb y l (ix3 b r k)
      = (∑ i, k0_pay1 y l (ix3 b i r) * wt cf sf b i k : EReal) - ∑ i, k0_pay1 y l (ix3 b i r) * wt cb sb b i k := by
    unfold Cert.LastRefIdeal.Value.G7
    pointwise [k0_pay3, k0_pay1, wt]
  rw [h]
  simp only [q_apply]
  rfl

end Cert.Proof.Calls.LastRef

end
-- ==== Proof.Calls.Claims.lean ====
/-
  The three product launches taken one by one, each against its own reference: equal results from all equal arguments.
-/
module

public import proofs.«01_k».proof.Defs
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstRefIdeal
public import proofs.«01_k».proof.Proof.Gen.FirstRefIdeal.Skeleton
public import proofs.«01_k».proof.Proof.Gen.FirstRefIdeal.Launch
public import proofs.«01_k».proof.Proof.Gen.FirstRefIdeal.Points
public import proofs.«01_k».proof.Proof.Gen.FirstRefIdeal.Frame
public import proofs.«01_k».proof.Proof.Gen.Power
public import proofs.«01_k».proof.Proof.Gen.Power.Skeleton
public import proofs.«01_k».proof.Proof.Gen.Power.Launch
public import proofs.«01_k».proof.Proof.Gen.Power.Points
public import proofs.«01_k».proof.Proof.Gen.Power.Frame
public import proofs.«01_k».proof.Proof.Gen.PowerIdeal
public import proofs.«01_k».proof.Proof.Gen.PowerIdeal.Skeleton
public import proofs.«01_k».proof.Proof.Gen.PowerIdeal.Launch
public import proofs.«01_k».proof.Proof.Gen.PowerIdeal.Points
public import proofs.«01_k».proof.Proof.Gen.PowerIdeal.Frame
public import proofs.«01_k».proof.Proof.Gen.PowerRefIdeal
public import proofs.«01_k».proof.Proof.Gen.PowerRefIdeal.Skeleton
public import proofs.«01_k».proof.Proof.Gen.PowerRefIdeal.Launch
public import proofs.«01_k».proof.Proof.Gen.PowerRefIdeal.Points
public import proofs.«01_k».proof.Proof.Gen.PowerRefIdeal.Frame
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.LastRefIdeal.Skeleton
public import proofs.«01_k».proof.Proof.Gen.LastRefIdeal.Launch
public import proofs.«01_k».proof.Proof.Gen.LastRefIdeal.Points
public import proofs.«01_k».proof.Proof.Gen.LastRefIdeal.Frame
public import proofs.«01_k».proof.Proof.Gen.FirstIdeal.Value
public import proofs.«01_k».proof.Proof.Gen.FirstRefIdeal.Value
public import proofs.«01_k».proof.Proof.Gen.PowerIdeal.Value
public import proofs.«01_k».proof.Proof.Gen.PowerRefIdeal.Value
public import proofs.«01_k».proof.Proof.Gen.LastIdeal.Value
public import proofs.«01_k».proof.Proof.Gen.LastRefIdeal.Value
public import proofs.«01_k».proof.Proof.Calls.First
public import proofs.«01_k».proof.Proof.Calls.FirstRef
public import proofs.«01_k».proof.Proof.Calls.Power
public import proofs.«01_k».proof.Proof.Calls.PowerRef
public import proofs.«01_k».proof.Proof.Calls.Last
public import proofs.«01_k».proof.Proof.Calls.LastRef
public import Idealize.ShloMosaic.Adequacy
public import Idealize.ShloMosaic.Init

@[expose] public section

noncomputable section

namespace Cert.Proof.Calls

open Idealize.ShloMosaic Idealize.SL.Sem

/-- The `First` launch and its reference, from equal arguments, end with equal results. -/
theorem algebraic_First : Cert.algebraic_FirstIdeal_FirstRefIdeal (hFirstIdeal := Cert.FirstIdeal.Gen.facts)
    (hFirstRefIdeal := Cert.FirstRefIdeal.Gen.facts) := by
  intro m g m' g' _ hargs
  refine ⟨fun c => _, fun c => _, First.run m g, ?_⟩
  refine (θ_run (Cert.FirstRefIdeal.defs (F := Ideal)) _ _).mono (fun r h c => ?_) (Cert.FirstRefIdeal.Value.run (F := Ideal) m' g')
  have hc := h c
  rw [FirstRef.res5, FirstRef.res6] at hc
  obtain ⟨h0, h1, hr⟩ := hc
  refine ⟨h0.trans ?_, h1.trans ?_, hr⟩ <;> simp only [(hargs c).1, (hargs c).2.1, (hargs c).2.2.1, (hargs c).2.2.2.1, (hargs c).2.2.2.2]

/-- The `Power` launch and its reference, from equal arguments, end with equal results. -/
theorem algebraic_Power : Cert.algebraic_PowerIdeal_PowerRefIdeal (hPowerIdeal := Cert.PowerIdeal.Gen.facts)
    (hPowerRefIdeal := Cert.PowerRefIdeal.Gen.facts) := by
  intro m g m' g' _ hargs
  refine ⟨fun c => _, fun c => _, fun c => _, Power.run m g, ?_⟩
  refine (θ_run (Cert.PowerRefIdeal.defs (F := Ideal)) _ _).mono (fun r h c => ?_) (Cert.PowerRefIdeal.Value.run (F := Ideal) m' g')
  have hc := h c
  rw [PowerRef.res6, PowerRef.res7, PowerRef.res8] at hc
  obtain ⟨h0, h1, h2, hr⟩ := hc
  refine ⟨h0.trans ?_, h1.trans ?_, h2.trans ?_, hr⟩ <;> simp only [(hargs c).1, (hargs c).2.1, (hargs c).2.2.1, (hargs c).2.2.2.1, (hargs c).2.2.2.2.1, (hargs c).2.2.2.2.2]

/-- The `Last` launch and its reference, from equal arguments, end with equal results. -/
theorem algebraic_Last : Cert.algebraic_LastIdeal_LastRefIdeal (hLastIdeal := Cert.LastIdeal.Gen.facts)
    (hLastRefIdeal := Cert.LastRefIdeal.Gen.facts) := by
  intro m g m' g' _ hargs
  refine ⟨fun c => _, fun c => _, Last.run m g, ?_⟩
  refine (θ_run (Cert.LastRefIdeal.defs (F := Ideal)) _ _).mono (fun r h c => ?_) (Cert.LastRefIdeal.Value.run (F := Ideal) m' g')
  have hc := h c
  rw [LastRef.res6, LastRef.res7] at hc
  obtain ⟨h0, h1, hr⟩ := hc
  refine ⟨h0.trans ?_, h1.trans ?_, hr⟩ <;> simp only [(hargs c).1, (hargs c).2.1, (hargs c).2.2.1, (hargs c).2.2.2.1, (hargs c).2.2.2.2.1, (hargs c).2.2.2.2.2]

end Cert.Proof.Calls

end
-- ==== Proof.lean ====
module

public import proofs.«01_k».proof.Defs
public import proofs.«01_k».proof.Proof.Gen.Sketch
public import proofs.«01_k».proof.Proof.Gen.Sketch.Skeleton
public import proofs.«01_k».proof.Proof.Gen.Sketch.Loops
public import proofs.«01_k».proof.Proof.Gen.Sketch.Launch
public import proofs.«01_k».proof.Proof.Gen.Sketch.Regions
public import proofs.«01_k».proof.Proof.Gen.Sketch.Points
public import proofs.«01_k».proof.Proof.Gen.SketchIdeal
public import proofs.«01_k».proof.Proof.Gen.SketchIdeal.Skeleton
public import proofs.«01_k».proof.Proof.Gen.SketchIdeal.Loops
public import proofs.«01_k».proof.Proof.Gen.SketchIdeal.Launch
public import proofs.«01_k».proof.Proof.Gen.SketchIdeal.Regions
public import proofs.«01_k».proof.Proof.Gen.SketchIdeal.Points
public import proofs.«01_k».proof.Proof.Gen.RefIdeal
public import proofs.«01_k».proof.Proof.Gen.RefIdeal.Skeleton
public import proofs.«01_k».proof.Proof.Gen.RefIdeal.Loops
public import proofs.«01_k».proof.Proof.Gen.RefIdeal.Launch
public import proofs.«01_k».proof.Proof.Gen.RefIdeal.Points
public import proofs.«01_k».proof.Proof.Gen.RefIdeal.Frame
public import proofs.«01_k».proof.Proof.Gen.Own.Sketch.K0.Frame
public import proofs.«01_k».proof.Proof.Gen.Own.Sketch.K2.Frame
public import proofs.«01_k».proof.Proof.Gen.Own.Sketch.K4.Frame
public import proofs.«01_k».proof.Proof.Gen.Own.Sketch.K6.Frame
public import proofs.«01_k».proof.Proof.Gen.Own.SketchIdeal.K0.Frame
public import proofs.«01_k».proof.Proof.Gen.Own.SketchIdeal.K2.Frame
public import proofs.«01_k».proof.Proof.Gen.Own.SketchIdeal.K4.Frame
public import proofs.«01_k».proof.Proof.Gen.Own.SketchIdeal.K6.Frame
public import proofs.«01_k».proof.Proof.Sketch.Run
public import proofs.«01_k».proof.Proof.KernelValue
public import proofs.«01_k».proof.Proof.RefArrays
public import proofs.«01_k».proof.Proof.RefValue
public import proofs.«01_k».proof.Proof.PreRank
public import proofs.«01_k».proof.Proof.Calls.Claims
public import Idealize.ShloMosaic.Adequacy
public import Idealize.ShloMosaic.Init

@[expose] public section

noncomputable section

namespace Cert.Proof

open Idealize.ShloMosaic Idealize.SL.Sem
open Cert.Stages (IsReal Full SG SX)
open Cert.Proof.Common (SC)

/-- What the precondition says of the arguments: they are real and the first product has full rank. -/
theorem good (m : (ℓ : Loc Cert.SketchIdeal.nD Cert.SketchIdeal.τ Cert.SketchIdeal.sig) → Buf (Elt Ideal) ℓ)
    (h : Cert.Pre_SketchIdeal_full_rank (hPre_full_rank := Cert.Pre_full_rank.Gen.facts) m)
    (c : Dev Cert.SketchIdeal.nD) : Cert.KernelValue.Good m c := by
  letI := Cert.Pre_full_rank.Gen.facts
  obtain ⟨h0, h1, h2, h3, h4, h5⟩ := h c
  have r0 := Cert.PreRank.finite_real _ h0
  have r1 := Cert.PreRank.finite0_real _ h1
  have r2 := Cert.PreRank.finite_real _ h2
  have r3 := Cert.PreRank.finite0_real _ h3
  have r4 := Cert.PreRank.finite1_real _ h4
  exact ⟨r0, r1, r2, r3, r4, Cert.PreRank.full _ _ _ _ _ r0 r1 r2 r3 r4 h5⟩

section
variable (m : (ℓ : Loc Cert.SketchIdeal.nD Cert.SketchIdeal.τ Cert.SketchIdeal.sig) → Buf (Elt Ideal) ℓ) (c : Dev Cert.SketchIdeal.nD)
  (h : Cert.KernelValue.Good m c)
include h

/-- The two programs' results are the same array. -/
theorem same_q2 : Cert.RefRun.q2 (m ((c.tc : Thread Cert.SketchIdeal.nD Cert.SketchIdeal.τ).loc Cert.SketchIdeal.main_arg0)) (m ((c.tc : Thread Cert.SketchIdeal.nD Cert.SketchIdeal.τ).loc Cert.SketchIdeal.main_arg1)) (m ((c.tc : Thread Cert.SketchIdeal.nD Cert.SketchIdeal.τ).loc Cert.SketchIdeal.main_arg2)) (m ((c.tc : Thread Cert.SketchIdeal.nD Cert.SketchIdeal.τ).loc Cert.SketchIdeal.main_arg3)) (m ((c.tc : Thread Cert.SketchIdeal.nD Cert.SketchIdeal.τ).loc Cert.SketchIdeal.main_arg4))
    = Cert.SketchIdeal.Run.W15 m c (Proc.devRef .tc Cert.SketchIdeal.main_v22) := by
  funext y
  obtain ⟨i, j, k, rfl⟩ : ∃ (i : Fin 64) (j : Fin 1024) (k : Fin 104), y = ix3 i j k := ⟨y 0, y 1, y 2, by funext a; fin_cases a <;> rfl⟩
  exact (Cert.RefValue.q2_real h.hC h.hS h.hC' h.hS' h.hX h.full i j k).trans (Cert.KernelValue.res_q2 m c h i j k).symm

/-- The two programs' results are the same array. -/
theorem same_b : Cert.RefRun.bb (m ((c.tc : Thread Cert.SketchIdeal.nD Cert.SketchIdeal.τ).loc Cert.SketchIdeal.main_arg0)) (m ((c.tc : Thread Cert.SketchIdeal.nD Cert.SketchIdeal.τ).loc Cert.SketchIdeal.main_arg1)) (m ((c.tc : Thread Cert.SketchIdeal.nD Cert.SketchIdeal.τ).loc Cert.SketchIdeal.main_arg2)) (m ((c.tc : Thread Cert.SketchIdeal.nD Cert.SketchIdeal.τ).loc Cert.SketchIdeal.main_arg3)) (m ((c.tc : Thread Cert.SketchIdeal.nD Cert.SketchIdeal.τ).loc Cert.SketchIdeal.main_arg4))
    = Cert.SketchIdeal.Run.W15 m c (Proc.devRef .tc Cert.SketchIdeal.main_v21_1) := by
  funext y
  obtain ⟨i, j, k, rfl⟩ : ∃ (i : Fin 64) (j : Fin 104) (k : Fin 2048), y = ix3 i j k := ⟨y 0, y 1, y 2, by funext a; fin_cases a <;> rfl⟩
  exact (Cert.RefValue.bb_real h.hC h.hS h.hC' h.hS' h.hX h.full i j k).trans (Cert.KernelValue.res_b m c h i j k).symm

/-- The two programs' results are the same array. -/
theorem same_q0 : Cert.RefRun.q0 (m ((c.tc : Thread Cert.SketchIdeal.nD Cert.SketchIdeal.τ).loc Cert.SketchIdeal.main_arg0)) (m ((c.tc : Thread Cert.SketchIdeal.nD Cert.SketchIdeal.τ).loc Cert.SketchIdeal.main_arg1)) (m ((c.tc : Thread Cert.SketchIdeal.nD Cert.SketchIdeal.τ).loc Cert.SketchIdeal.main_arg2)) (m ((c.tc : Thread Cert.SketchIdeal.nD Cert.SketchIdeal.τ).loc Cert.SketchIdeal.main_arg3)) (m ((c.tc : Thread Cert.SketchIdeal.nD Cert.SketchIdeal.τ).loc Cert.SketchIdeal.main_arg4))
    = Cert.SketchIdeal.Run.W15 m c (Proc.devRef .tc Cert.SketchIdeal.main_v23) := by
  funext y
  obtain ⟨i, j, k, rfl⟩ : ∃ (i : Fin 64) (j : Fin 1024) (k : Fin 104), y = ix3 i j k := ⟨y 0, y 1, y 2, by funext a; fin_cases a <;> rfl⟩
  exact (Cert.RefValue.q0_real h.hC h.hS h.hC' h.hS' h.hX h.full i j k).trans (Cert.KernelValue.res_q0 m c h i j k).symm

/-- The two programs' results are the same array. -/
theorem same_q1 : Cert.RefRun.q1 (m ((c.tc : Thread Cert.SketchIdeal.nD Cert.SketchIdeal.τ).loc Cert.SketchIdeal.main_arg0)) (m ((c.tc : Thread Cert.SketchIdeal.nD Cert.SketchIdeal.τ).loc Cert.SketchIdeal.main_arg1)) (m ((c.tc : Thread Cert.SketchIdeal.nD Cert.SketchIdeal.τ).loc Cert.SketchIdeal.main_arg2)) (m ((c.tc : Thread Cert.SketchIdeal.nD Cert.SketchIdeal.τ).loc Cert.SketchIdeal.main_arg3)) (m ((c.tc : Thread Cert.SketchIdeal.nD Cert.SketchIdeal.τ).loc Cert.SketchIdeal.main_arg4))
    = Cert.SketchIdeal.Run.W15 m c (Proc.devRef .tc Cert.SketchIdeal.main_v24) := by
  funext y
  obtain ⟨i, j, k, rfl⟩ : ∃ (i : Fin 64) (j : Fin 1024) (k : Fin 104), y = ix3 i j k := ⟨y 0, y 1, y 2, by funext a; fin_cases a <;> rfl⟩
  exact (Cert.RefValue.q1_real h.hC h.hS h.hC' h.hS' h.hX h.full i j k).trans (Cert.KernelValue.res_q1 m c h i j k).symm

end

/-- The kernel and its reference, from equal arguments that meet the precondition, end with equal results. -/
theorem algebraic : Cert.algebraic_SketchIdeal_RefIdeal_pre_full_rank (hSketchIdeal := Cert.SketchIdeal.Gen.facts)
    (hRefIdeal := Cert.RefIdeal.Gen.facts) (hPre_full_rank := Cert.Pre_full_rank.Gen.facts) := by
  intro m g m' g' hpre hargs
  refine ⟨fun c => _, fun c => _, fun c => _, fun c => _,
    (θ_run (Cert.SketchIdeal.defs (F := Ideal)) _ _).mono (fun r h c => ⟨(h.1 c).2.1, (h.1 c).2.2.1, (h.1 c).2.2.2.1, (h.1 c).2.2.2.2, (h.1 c).1⟩)
      (Cert.SketchIdeal.Run.run (F := Ideal) m g), ?_⟩
  refine (θ_run (Cert.RefIdeal.defs (F := Ideal)) _ _).mono (fun r h c => ?_) (Cert.RefArrays.run m' g')
  obtain ⟨a0, a1, a2, a3, a4⟩ := hargs c
  obtain ⟨h0, h1, h2, h3, hr⟩ := h c
  have e0 := (Cert.RefArrays.codes_ft m' c).trans a0
  have e1 := (Cert.RefIdeal.Gen.V_main_arg1 m' c).trans a1
  have e2 := (Cert.RefArrays.codes_base m' c).trans a2
  have e3 := (Cert.RefIdeal.Gen.V_main_arg3 m' c).trans a3
  have e4 := (Cert.RefIdeal.Gen.V_main_arg4 m' c).trans a4
  have hg := good m hpre c
  refine ⟨h0.trans ?_, h1.trans ?_, h2.trans ?_, h3.trans ?_, hr⟩ <;> rw [e0, e1, e2, e3, e4]
  · exact same_q2 m c hg
  · exact same_b m c hg
  · exact same_q0 m c hg
  · exact same_q1 m c hg

theorem claim : Cert.Claim :=
  ⟨Cert.Sketch.Gen.facts, Cert.SketchIdeal.Gen.facts, Cert.RefIdeal.Gen.facts,
    Cert.First.Gen.facts, Cert.FirstIdeal.Gen.facts, Cert.FirstRefIdeal.Gen.facts, Cert.Power.Gen.facts, Cert.PowerIdeal.Gen.facts, Cert.PowerRefIdeal.Gen.facts, Cert.Last.Gen.facts, Cert.LastIdeal.Gen.facts, Cert.LastRefIdeal.Gen.facts,
    Cert.Pre_full_rank.Gen.facts,
    fun m ρ _ => (θ_run _ _ _).mono (fun _ h => ⟨fun c => (h.1 c).1, h.2⟩) (Cert.Sketch.Run.run m ρ),
    fun m ρ _ => (θ_run _ _ _).mono (fun _ h => ⟨fun c => (h.1 c).1, h.2⟩) (Cert.SketchIdeal.Run.run m ρ),
    fun m ρ _ => (θ_run _ _ _).mono (fun _ h => ⟨fun c => (h.1 c).1, h.2⟩) (Cert.SketchIdeal.Run.run m ρ),
    fun m ρ _ => Cert.RefIdeal.Gen.frame m ρ, fun m ρ _ => Cert.RefIdeal.Gen.frame m ρ,
    fun m ρ _ => Cert.First.Gen.frame m ρ,
    fun m ρ _ => Cert.FirstIdeal.Gen.frame m ρ,
    fun m ρ _ => Cert.FirstRefIdeal.Gen.frame m ρ,
    fun m ρ _ => Cert.Power.Gen.frame m ρ,
    fun m ρ _ => Cert.PowerIdeal.Gen.frame m ρ,
    fun m ρ _ => Cert.PowerRefIdeal.Gen.frame m ρ,
    fun m ρ _ => Cert.Last.Gen.frame m ρ,
    fun m ρ _ => Cert.LastIdeal.Gen.frame m ρ,
    fun m ρ _ => Cert.LastRefIdeal.Gen.frame m ρ,
    trivial, algebraic, trivial, Calls.algebraic_First, trivial, Calls.algebraic_Power, trivial, Calls.algebraic_Last⟩

end Cert.Proof

end
